-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_swiglu [hPre_finite_swiglu : Cert.Pre_finite_swiglu.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_swiglu.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite_swiglu.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite_swiglu.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite_swiglu.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2.1 = (fun _ => 1#1)
    ∧ (Cert.Pre_finite_swiglu.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2.2.1 = (fun _ => 1#1)
    ∧ (Cert.Pre_finite_swiglu.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_swiglu [hPre_finite_swiglu : Cert.Pre_finite_swiglu.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_swiglu.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite_swiglu.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite_swiglu.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite_swiglu.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2.1 = (fun _ => 1#1)
    ∧ (Cert.Pre_finite_swiglu.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2.2.1 = (fun _ => 1#1)
    ∧ (Cert.Pre_finite_swiglu.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_swiglu [hKernel2Ideal : Cert.Kernel2Ideal.Facts] [hPre_finite_swiglu : Cert.Pre_finite_swiglu.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_swiglu m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_swiglu [hReference2Ideal : Cert.Reference2Ideal.Facts] [hPre_finite_swiglu : Cert.Pre_finite_swiglu.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_swiglu m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4)
      ∧ r.2.mem ((c.tc : Thread Cert.Kernel33.nD Cert.Kernel33.τ).loc Cert.Kernel33.main_arg5) = m ((c.tc : Thread Cert.Kernel33.nD Cert.Kernel33.τ).loc Cert.Kernel33.main_arg5)
      ∧ r.2.mem ((c.tc : Thread Cert.Kernel33.nD Cert.Kernel33.τ).loc Cert.Kernel33.main_arg6) = m ((c.tc : Thread Cert.Kernel33.nD Cert.Kernel33.τ).loc Cert.Kernel33.main_arg6)
      ∧ r.2.mem ((c.tc : Thread Cert.Kernel33.nD Cert.Kernel33.τ).loc Cert.Kernel33.main_arg7) = m ((c.tc : Thread Cert.Kernel33.nD Cert.Kernel33.τ).loc Cert.Kernel33.main_arg7)
      ∧ r.2.mem ((c.tc : Thread Cert.Kernel33.nD Cert.Kernel33.τ).loc Cert.Kernel33.main_arg8) = m ((c.tc : Thread Cert.Kernel33.nD Cert.Kernel33.τ).loc Cert.Kernel33.main_arg8))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
      ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
      ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6)
      ∧ r.2.mem ((c.tc : Thread Cert.Kernel33Ideal.nD Cert.Kernel33Ideal.τ).loc Cert.Kernel33Ideal.main_arg7) = m ((c.tc : Thread Cert.Kernel33Ideal.nD Cert.Kernel33Ideal.τ).loc Cert.Kernel33Ideal.main_arg7)
      ∧ r.2.mem ((c.tc : Thread Cert.Kernel33Ideal.nD Cert.Kernel33Ideal.τ).loc Cert.Kernel33Ideal.main_arg8) = m ((c.tc : Thread Cert.Kernel33Ideal.nD Cert.Kernel33Ideal.τ).loc Cert.Kernel33Ideal.main_arg8))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4)
      ∧ r.2.mem ((c.tc : Thread Cert.Reference33Ideal.nD Cert.Reference33Ideal.τ).loc Cert.Reference33Ideal.main_arg5) = m ((c.tc : Thread Cert.Reference33Ideal.nD Cert.Reference33Ideal.τ).loc Cert.Reference33Ideal.main_arg5)
      ∧ r.2.mem ((c.tc : Thread Cert.Reference33Ideal.nD Cert.Reference33Ideal.τ).loc Cert.Reference33Ideal.main_arg6) = m ((c.tc : Thread Cert.Reference33Ideal.nD Cert.Reference33Ideal.τ).loc Cert.Reference33Ideal.main_arg6)
      ∧ r.2.mem ((c.tc : Thread Cert.Reference33Ideal.nD Cert.Reference33Ideal.τ).loc Cert.Reference33Ideal.main_arg7) = m ((c.tc : Thread Cert.Reference33Ideal.nD Cert.Reference33Ideal.τ).loc Cert.Reference33Ideal.main_arg7)
      ∧ r.2.mem ((c.tc : Thread Cert.Reference33Ideal.nD Cert.Reference33Ideal.τ).loc Cert.Reference33Ideal.main_arg8) = m ((c.tc : Thread Cert.Reference33Ideal.nD Cert.Reference33Ideal.τ).loc Cert.Reference33Ideal.main_arg8))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def preserves_Kernel_KernelIdeal : Prop :=
  True

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_swiglu [hKernel2Ideal : Cert.Kernel2Ideal.Facts] [hReference2Ideal : Cert.Reference2Ideal.Facts] [hPre_finite_swiglu : Cert.Pre_finite_swiglu.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_swiglu m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v81) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_v80) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_v55) = v2 c
          ∧ r.2.mem ((c.tc : Thread Cert.Reference4Ideal.nD Cert.Reference4Ideal.τ).loc Cert.Reference4Ideal.main_v56) = v3 c
          ∧ r.2.mem ((c.tc : Thread Cert.Reference4Ideal.nD Cert.Reference4Ideal.τ).loc Cert.Reference4Ideal.main_v52) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v10) = v1 c
          ∧ r.2.mem ((c.tc : Thread Cert.Reference5Ideal.nD Cert.Reference5Ideal.τ).loc Cert.Reference5Ideal.main_v11) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v41) = v0 c
          ∧ r.2.mem ((c.tc : Thread Cert.Reference6Ideal.nD Cert.Reference6Ideal.τ).loc Cert.Reference6Ideal.main_v63) = v1 c
          ∧ r.2.mem ((c.tc : Thread Cert.Reference6Ideal.nD Cert.Reference6Ideal.τ).loc Cert.Reference6Ideal.main_v62) = v2 c
          ∧ r.2.mem ((c.tc : Thread Cert.Reference6Ideal.nD Cert.Reference6Ideal.τ).loc Cert.Reference6Ideal.main_v31) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v43) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_v42) = v2 c
          ∧ r.2.mem ((c.tc : Thread Cert.Reference7Ideal.nD Cert.Reference7Ideal.τ).loc Cert.Reference7Ideal.main_v58) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v6) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_v26) = v1 c
          ∧ r.2.mem ((c.tc : Thread Cert.Reference26Ideal.nD Cert.Reference26Ideal.τ).loc Cert.Reference26Ideal.main_v7) = v2 c
          ∧ r.2.mem ((c.tc : Thread Cert.Reference26Ideal.nD Cert.Reference26Ideal.τ).loc Cert.Reference26Ideal.main_v13) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_v26) = v1 c
          ∧ r.2.mem ((c.tc : Thread Cert.Reference27Ideal.nD Cert.Reference27Ideal.τ).loc Cert.Reference27Ideal.main_v7) = v2 c
          ∧ r.2.mem ((c.tc : Thread Cert.Reference27Ideal.nD Cert.Reference27Ideal.τ).loc Cert.Reference27Ideal.main_v13) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v2) = v0 c
          ∧ r.2.mem ((c.tc : Thread Cert.Reference28Ideal.nD Cert.Reference28Ideal.τ).loc Cert.Reference28Ideal.main_v26) = v1 c
          ∧ r.2.mem ((c.tc : Thread Cert.Reference28Ideal.nD Cert.Reference28Ideal.τ).loc Cert.Reference28Ideal.main_v7) = v2 c
          ∧ r.2.mem ((c.tc : Thread Cert.Reference28Ideal.nD Cert.Reference28Ideal.τ).loc Cert.Reference28Ideal.main_v13) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_v26) = v1 c
          ∧ r.2.mem ((c.tc : Thread Cert.Reference29Ideal.nD Cert.Reference29Ideal.τ).loc Cert.Reference29Ideal.main_v7) = v2 c
          ∧ r.2.mem ((c.tc : Thread Cert.Reference29Ideal.nD Cert.Reference29Ideal.τ).loc Cert.Reference29Ideal.main_v13) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_v26) = v1 c
          ∧ r.2.mem ((c.tc : Thread Cert.Reference30Ideal.nD Cert.Reference30Ideal.τ).loc Cert.Reference30Ideal.main_v7) = v2 c
          ∧ r.2.mem ((c.tc : Thread Cert.Reference30Ideal.nD Cert.Reference30Ideal.τ).loc Cert.Reference30Ideal.main_v13) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v2) = v0 c
          ∧ r.2.mem ((c.tc : Thread Cert.Reference31Ideal.nD Cert.Reference31Ideal.τ).loc Cert.Reference31Ideal.main_v26) = v1 c
          ∧ r.2.mem ((c.tc : Thread Cert.Reference31Ideal.nD Cert.Reference31Ideal.τ).loc Cert.Reference31Ideal.main_v7) = v2 c
          ∧ r.2.mem ((c.tc : Thread Cert.Reference31Ideal.nD Cert.Reference31Ideal.τ).loc Cert.Reference31Ideal.main_v13) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v2) = v0 c
          ∧ r.2.mem ((c.tc : Thread Cert.Reference32Ideal.nD Cert.Reference32Ideal.τ).loc Cert.Reference32Ideal.main_v26) = v1 c
          ∧ r.2.mem ((c.tc : Thread Cert.Reference32Ideal.nD Cert.Reference32Ideal.τ).loc Cert.Reference32Ideal.main_v7) = v2 c
          ∧ r.2.mem ((c.tc : Thread Cert.Reference32Ideal.nD Cert.Reference32Ideal.τ).loc Cert.Reference32Ideal.main_v13) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)
      ∧ m' ((c.tc : Thread Cert.Reference33Ideal.nD Cert.Reference33Ideal.τ).loc Cert.Reference33Ideal.main_arg5) = m ((c.tc : Thread Cert.Kernel33Ideal.nD Cert.Kernel33Ideal.τ).loc Cert.Kernel33Ideal.main_arg5)
      ∧ m' ((c.tc : Thread Cert.Reference33Ideal.nD Cert.Reference33Ideal.τ).loc Cert.Reference33Ideal.main_arg6) = m ((c.tc : Thread Cert.Kernel33Ideal.nD Cert.Kernel33Ideal.τ).loc Cert.Kernel33Ideal.main_arg6)
      ∧ m' ((c.tc : Thread Cert.Reference33Ideal.nD Cert.Reference33Ideal.τ).loc Cert.Reference33Ideal.main_arg7) = m ((c.tc : Thread Cert.Kernel33Ideal.nD Cert.Kernel33Ideal.τ).loc Cert.Kernel33Ideal.main_arg7)
      ∧ m' ((c.tc : Thread Cert.Reference33Ideal.nD Cert.Reference33Ideal.τ).loc Cert.Reference33Ideal.main_arg8) = m ((c.tc : Thread Cert.Kernel33Ideal.nD Cert.Kernel33Ideal.τ).loc Cert.Kernel33Ideal.main_arg8)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
          ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
          ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6)
          ∧ r.2.mem ((c.tc : Thread Cert.Kernel33Ideal.nD Cert.Kernel33Ideal.τ).loc Cert.Kernel33Ideal.main_arg7) = m ((c.tc : Thread Cert.Kernel33Ideal.nD Cert.Kernel33Ideal.τ).loc Cert.Kernel33Ideal.main_arg7)
          ∧ r.2.mem ((c.tc : Thread Cert.Kernel33Ideal.nD Cert.Kernel33Ideal.τ).loc Cert.Kernel33Ideal.main_arg8) = m ((c.tc : Thread Cert.Kernel33Ideal.nD Cert.Kernel33Ideal.τ).loc Cert.Kernel33Ideal.main_arg8))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v52) = v0 c
          ∧ r.2.mem ((c.tc : Thread Cert.Reference33Ideal.nD Cert.Reference33Ideal.τ).loc Cert.Reference33Ideal.main_v51) = v1 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4)
          ∧ r.2.mem ((c.tc : Thread Cert.Reference33Ideal.nD Cert.Reference33Ideal.τ).loc Cert.Reference33Ideal.main_arg5) = m' ((c.tc : Thread Cert.Reference33Ideal.nD Cert.Reference33Ideal.τ).loc Cert.Reference33Ideal.main_arg5)
          ∧ r.2.mem ((c.tc : Thread Cert.Reference33Ideal.nD Cert.Reference33Ideal.τ).loc Cert.Reference33Ideal.main_arg6) = m' ((c.tc : Thread Cert.Reference33Ideal.nD Cert.Reference33Ideal.τ).loc Cert.Reference33Ideal.main_arg6)
          ∧ r.2.mem ((c.tc : Thread Cert.Reference33Ideal.nD Cert.Reference33Ideal.τ).loc Cert.Reference33Ideal.main_arg7) = m' ((c.tc : Thread Cert.Reference33Ideal.nD Cert.Reference33Ideal.τ).loc Cert.Reference33Ideal.main_arg7)
          ∧ r.2.mem ((c.tc : Thread Cert.Reference33Ideal.nD Cert.Reference33Ideal.τ).loc Cert.Reference33Ideal.main_arg8) = m' ((c.tc : Thread Cert.Reference33Ideal.nD Cert.Reference33Ideal.τ).loc Cert.Reference33Ideal.main_arg8))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)) (v4 : (c : Dev Cert.Kernel34Ideal.nD) → Buf (Elt Ideal) ((c.tc : Thread Cert.Kernel34Ideal.nD Cert.Kernel34Ideal.τ).loc Cert.Kernel34Ideal.main_v0_4)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_v0_4) = v4 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v1) = v0 c
          ∧ r.2.mem ((c.tc : Thread Cert.Reference34Ideal.nD Cert.Reference34Ideal.τ).loc Cert.Reference34Ideal.main_v25) = v1 c
          ∧ r.2.mem ((c.tc : Thread Cert.Reference34Ideal.nD Cert.Reference34Ideal.τ).loc Cert.Reference34Ideal.main_v6) = v2 c
          ∧ r.2.mem ((c.tc : Thread Cert.Reference34Ideal.nD Cert.Reference34Ideal.τ).loc Cert.Reference34Ideal.main_v12) = v3 c
          ∧ r.2.mem ((c.tc : Thread Cert.Reference34Ideal.nD Cert.Reference34Ideal.τ).loc Cert.Reference34Ideal.main_v31) = v4 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v14) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v14) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v19) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v26) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hPre_finite_queries_keys : Cert.Pre_finite_queries_keys.Facts) (hPre_finite_swiglu : Cert.Pre_finite_swiglu.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Kernel2 (hKernel2 := hKernel2)
    ∧ quiescent_Kernel2Ideal (hKernel2Ideal := hKernel2Ideal)
    ∧ quiescent_Kernel2Ideal_pre_finite_swiglu (hKernel2Ideal := hKernel2Ideal) (hPre_finite_swiglu := hPre_finite_swiglu)
    ∧ quiescent_Reference2Ideal (hReference2Ideal := hReference2Ideal)
    ∧ quiescent_Reference2Ideal_pre_finite_swiglu (hReference2Ideal := hReference2Ideal) (hPre_finite_swiglu := hPre_finite_swiglu)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Kernel2_Kernel2Ideal
    ∧ algebraic_Kernel2Ideal_Reference2Ideal_pre_finite_swiglu (hKernel2Ideal := hKernel2Ideal) (hReference2Ideal := hReference2Ideal) (hPre_finite_swiglu := hPre_finite_swiglu)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
-- ==== Pre_finite_queries_keys.lean ====
abbrev S4x2048x2048 : Shape := ⟨3, ![4, 2048, 2048]⟩
abbrev S4x256x1024 : Shape := ⟨3, ![4, 256, 1024]⟩
abbrev S4x2048x512 : Shape := ⟨3, ![4, 2048, 512]⟩
abbrev S4x256x512 : Shape := ⟨3, ![4, 256, 512]⟩
abbrev S_ : Shape := ⟨0, ![]⟩

class Facts : Prop where
  slices_S4x2048x2048_S4x2048x512_0_0_1536 : S4x2048x2048.Slices ![0, 0, 1536] S4x2048x512
  bitsLt_bf16_f32 : FTy.bits .bf16 < FTy.bits .f32
  slices_S4x256x1024_S4x256x512_0_0_0 : S4x256x1024.Slices ![0, 0, 0] S4x256x512
  bcast_S_S4x2048x512 : S_.BroadcastsInDim S4x2048x512 (![] : Fin 0 → Fin S4x2048x512.rank)
  bcast_S_S4x256x512 : S_.BroadcastsInDim S4x256x512 (![] : Fin 0 → Fin S4x256x512.rank)

variable [Facts]

def fn {F : FTy → Type} [FloatOps F] (main_arg0 : FVec F S4x2048x2048 .bf16) (main_arg1 : FVec F S4x256x1024 .bf16) (main_arg2 : FVec F S4x2048x512 .bf16) (main_arg3 : FVec F S4x2048x2048 .bf16) : IVec S4x2048x512 1 × IVec S4x2048x512 1 × IVec S4x256x512 1 × IVec S4x256x512 1 :=
  let main_v0 : FVec F S4x2048x512 .bf16 := (extractStridedSlice S4x2048x512 ![0, 0, 1536] · slices_S4x2048x2048_S4x2048x512_0_0_1536) main_arg0
  let main_v1 : FVec F S4x2048x512 .f32 := (extf .f32 · bitsLt_bf16_f32) main_v0
  let main_v2 : FVec F S4x256x512 .bf16 := (extractStridedSlice S4x256x512 ![0, 0, 0] · slices_S4x256x1024_S4x256x512_0_0_0) main_arg1
  let main_v3 : FVec F S4x256x512 .f32 := (extf .f32 · bitsLt_bf16_f32) main_v2
  let main_cst : FVec F S_ .f32 := constant S_ .f32 0xFF800000#32
  let main_v4 : FVec F S4x2048x512 .f32 := broadcastInDim S4x2048x512 ![] bcast_S_S4x2048x512 main_cst
  let main_v5 : IVec S4x2048x512 1 := cmpf .ogt main_v1 main_v4
  let main_cst_0 : FVec F S_ .f32 := constant S_ .f32 0x7F800000#32
  let main_v6 : FVec F S4x2048x512 .f32 := broadcastInDim S4x2048x512 ![] bcast_S_S4x2048x512 main_cst_0
  let main_v7 : IVec S4x2048x512 1 := cmpf .olt main_v1 main_v6
  let main_cst_1 : FVec F S_ .f32 := constant S_ .f32 0xFF800000#32
  let main_v8 : FVec F S4x256x512 .f32 := broadcastInDim S4x256x512 ![] bcast_S_S4x256x512 main_cst_1
  let main_v9 : IVec S4x256x512 1 := cmpf .ogt main_v3 main_v8
  let main_cst_2 : FVec F S_ .f32 := constant S_ .f32 0x7F800000#32
  let main_v10 : FVec F S4x256x512 .f32 := broadcastInDim S4x256x512 ![] bcast_S_S4x256x512 main_cst_2
  let main_v11 : IVec S4x256x512 1 := cmpf .olt main_v3 main_v10
  (main_v5, main_v7, main_v9, main_v11)
-- ==== Pre_finite_swiglu.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .bf16) (main_arg1 : FVec F S2816x1024 .bf16) (main_arg2 : FVec F S8192x2816 .bf16) (main_arg3 : FVec F S8192x2816 .bf16) : IVec S8192x1024 1 × IVec S8192x1024 1 × IVec S2816x1024 1 × IVec S2816x1024 1 × IVec S8192x2816 1 × IVec S8192x2816 1 :=
  let main_v0 : FVec F S8192x1024 .f32 := (extf .f32 · bitsLt_bf16_f32) main_arg0
  let main_v1 : FVec F S2816x1024 .f32 := (extf .f32 · bitsLt_bf16_f32) main_arg1
  let main_v2 : FVec F S8192x2816 .f32 := (extf .f32 · bitsLt_bf16_f32) main_arg3
  let main_cst : FVec F S_ .f32 := constant S_ .f32 0xFF800000#32
  let main_v3 : FVec F S8192x1024 .f32 := broadcastInDim S8192x1024 ![] bcast_S_S8192x1024 main_cst
  let main_v4 : IVec S8192x1024 1 := cmpf .ogt main_v0 main_v3
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v0 main_v5
  let main_cst_1 : FVec F S_ .f32 := constant S_ .f32 0xFF800000#32
  let main_v7 : FVec F S2816x1024 .f32 := broadcastInDim S2816x1024 ![] bcast_S_S2816x1024 main_cst_1
  let main_v8 : IVec S2816x1024 1 := cmpf .ogt main_v1 main_v7
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v1 main_v9
  let main_cst_3 : FVec F S_ .f32 := constant S_ .f32 0xFF800000#32
  let main_v11 : FVec F S8192x2816 .f32 := broadcastInDim S8192x2816 ![] bcast_S_S8192x2816 main_cst_3
  let main_v12 : IVec S8192x2816 1 := cmpf .ogt main_v2 main_v11
  let main_cst_4 : FVec F S_ .f32 := constant S_ .f32 0x7F800000#32
  let main_v13 : FVec F S8192x2816 .f32 := broadcastInDim S8192x2816 ![] bcast_S_S8192x2816 main_cst_4
  let main_v14 : IVec S8192x2816 1 := cmpf .olt main_v2 main_v13
  (main_v4, main_v6, main_v8, main_v10, main_v12, main_v14)
-- ==== Kernel.lean ====
abbrev S4x2048x2048 : Shape := ⟨3, ![4, 2048, 2048]⟩
abbrev S4x256x1024 : Shape := ⟨3, ![4, 256, 1024]⟩
abbrev S4x2048x512 : Shape := ⟨3, ![4, 2048, 512]⟩
abbrev S4x256x512 : Shape := ⟨3, ![4, 256, 512]⟩
abbrev S1x2048x128 : Shape := ⟨3, ![1, 2048, 128]⟩
abbrev S1x256x128 : Shape := ⟨3, ![1, 256, 128]⟩
abbrev S256x128 : Shape := ⟨2, ![256, 128]⟩
abbrev S2048x128 : Shape := ⟨2, ![2048, 128]⟩
abbrev S2048x256 : Shape := ⟨2, ![2048, 256]⟩
abbrev S2048 : Shape := ⟨1, ![2048]⟩
abbrev S2048x1 : Shape := ⟨2, ![2048, 1]⟩

abbrev nBuf : Space → Nat
  | .hbm => 7
  | .vmem => 14
  | .smem => 0
  | _ => 0

abbrev bufTy : (tb : Table) → Fin (tcTables nBuf tb) → BufTy
  | .hbm, ⟨0, _⟩ => ⟨S4x2048x2048, .bf16⟩
  | .hbm, ⟨1, _⟩ => ⟨S4x256x1024, .bf16⟩
  | .hbm, ⟨2, _⟩ => ⟨S4x2048x512, .bf16⟩
  | .hbm, ⟨3, _⟩ => ⟨S4x2048x2048, .bf16⟩
  | .hbm, ⟨4, _⟩ => ⟨S4x2048x2048, .bf16⟩
  | .hbm, ⟨5, _⟩ => ⟨S4x256x512, .bf16⟩
  | .hbm, ⟨6, _⟩ => ⟨S4x256x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x256x128, .bf16⟩
  | .local _ .vmem, ⟨13, _⟩ => ⟨S1x256x128, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  let c2048_i32 : BitVec 32 := 2048#32
  let v5 : BitVec 32 := Scalar.muli c0_i32 c2048_i32
  v5
def k0_off1 : Fin 3 → Nat :=
  let c0_5 : Index := 0#32
  let c0_i32 : BitVec 32 := 0#32
  let c2048_i32 : BitVec 32 := 2048#32
  let v5 : BitVec 32 := Scalar.muli c0_i32 c2048_i32
  let v6 : BitVec 32 := v5
  let v7 : Index := Scalar.indexCast v6
  let c0_6 : Index := 0#32
  ![0, v7.toNat, 0]
def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x2048x2048 : Shape := ⟨3, ![4, 2048, 2048]⟩
abbrev S4x256x1024 : Shape := ⟨3, ![4, 256, 1024]⟩
abbrev S4x2048x512 : Shape := ⟨3, ![4, 2048, 512]⟩
abbrev S4x2048x4x128 : Shape := ⟨4, ![4, 2048, 4, 128]⟩
abbrev S4x256x512 : Shape := ⟨3, ![4, 256, 512]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x4x128x256 : Shape := ⟨4, ![4, 4, 128, 256]⟩
abbrev S4x4x256x128 : Shape := ⟨4, ![4, 4, 256, 128]⟩
abbrev S4x4x2048x128 : Shape := ⟨4, ![4, 4, 2048, 128]⟩
abbrev S4x2048x1536 : Shape := ⟨3, ![4, 2048, 1536]⟩

abbrev nBuf : Space → Nat
  | .hbm => 92
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x256x1024, .bf16⟩
  | .hbm, ⟨2, _⟩ => ⟨S4x2048x512, .bf16⟩
  | .hbm, ⟨3, _⟩ => ⟨S4x2048x2048, .bf16⟩
  | .hbm, ⟨4, _⟩ => ⟨S4x2048x512, .bf16⟩
  | .hbm, ⟨5, _⟩ => ⟨S4x2048x512, .f32⟩
  | .hbm, ⟨6, _⟩ => ⟨S4x2048x4x128, .f32⟩
  | .hbm, ⟨7, _⟩ => ⟨S4x256x512, .bf16⟩
  | .hbm, ⟨8, _⟩ => ⟨S4x256x512, .f32⟩
  | .hbm, ⟨9, _⟩ => ⟨S4x256x4x128, .f32⟩
  | .hbm, ⟨10, _⟩ => ⟨S4x256x512, .bf16⟩
  | .hbm, ⟨11, _⟩ => ⟨S4x256x512, .f32⟩
  | .hbm, ⟨12, _⟩ => ⟨S4x256x4x128, .f32⟩
  | .hbm, ⟨13, _⟩ => ⟨S4x2048x512, .f32⟩
  | .hbm, ⟨14, _⟩ => ⟨S4x2048x4x128, .f32⟩
  | .hbm, ⟨15, _⟩ => ⟨S4x4x2048x256, .f32⟩
  | .hbm, ⟨16, _⟩ => ⟨S_, .f32⟩
  | .hbm, ⟨17, _⟩ => ⟨S4x4x2048x256, .f32⟩
  | .hbm, ⟨18, _⟩ => ⟨S4x4x2048x256, .f32⟩
  | .hbm, ⟨19, _⟩ => ⟨S_, .f32⟩
  | .hbm, ⟨20, _⟩ => ⟨S4x4x2048, .f32⟩
  | .hbm, ⟨21, _⟩ => ⟨S4x4x2048x1, .f32⟩
  | .hbm, ⟨22, _⟩ => ⟨S4x4x2048x256, .f32⟩
  | .hbm, ⟨23, _⟩ => ⟨S4x4x2048x256, .i1⟩
  | .hbm, ⟨24, _⟩ => ⟨S4x4x2048x256, .f32⟩
  | .hbm, ⟨25, _⟩ => ⟨S_, .f32⟩
  | .hbm, ⟨26, _⟩ => ⟨S4x4x2048, .f32⟩
  | .hbm, ⟨27, _⟩ => ⟨S_, .f32⟩
  | .hbm, ⟨28, _⟩ => ⟨S4x4x2048, .f32⟩
  | .hbm, ⟨29, _⟩ => ⟨S4x4x2048, .f32⟩
  | .hbm, ⟨30, _⟩ => ⟨S_, .f32⟩
  | .hbm, ⟨31, _⟩ => ⟨S4x4x2048, .f32⟩
  | .hbm, ⟨32, _⟩ => ⟨S4x4x2048, .i1⟩
  | .hbm, ⟨33, _⟩ => ⟨S_, .f32⟩
  | .hbm, ⟨34, _⟩ => ⟨S4x4x2048, .f32⟩
  | .hbm, ⟨35, _⟩ => ⟨S4x4x2048, .i1⟩
  | .hbm, ⟨36, _⟩ => ⟨S_, .f32⟩
  | .hbm, ⟨37, _⟩ => ⟨S4x4x2048, .f32⟩
  | .hbm, ⟨38, _⟩ => ⟨S_, .f32⟩
  | .hbm, ⟨39, _⟩ => ⟨S4x4x2048, .f32⟩
  | .hbm, ⟨40, _⟩ => ⟨S_, .f32⟩
  | .hbm, ⟨41, _⟩ => ⟨S4x4x2048, .f32⟩
  | .hbm, ⟨42, _⟩ => ⟨S4x4x2048, .f32⟩
  | .hbm, ⟨43, _⟩ => ⟨S4x4x2048, .f32⟩
  | .hbm, ⟨44, _⟩ => ⟨S4x4x2048x1, .f32⟩
  | .hbm, ⟨45, _⟩ => ⟨S4x4x2048x256, .f32⟩
  | .hbm, ⟨46, _⟩ => ⟨S4x4x2048x256, .f32⟩
  | .hbm, ⟨47, _⟩ => ⟨S4x4x2048x256, .f32⟩
  | .hbm, ⟨48, _⟩ => ⟨S_, .f32⟩
  | .hbm, ⟨49, _⟩ => ⟨S4x4x2048, .f32⟩
  | .hbm, ⟨50, _⟩ => ⟨S4x4x2048x1, .f32⟩
  | .hbm, ⟨51, _⟩ => ⟨S4x4x2048x256, .f32⟩
  | .hbm, ⟨52, _⟩ => ⟨S4x4x2048x256, .f32⟩
  | .hbm, ⟨53, _⟩ => ⟨S4x4x2048x1, .f32⟩
  | .hbm, ⟨54, _⟩ => ⟨S_, .f32⟩
  | .hbm, ⟨55, _⟩ => ⟨S4x4x2048x1, .f32⟩
  | .hbm, ⟨56, _⟩ => ⟨S4x4x2048x1, .f32⟩
  | .hbm, ⟨57, _⟩ => ⟨S4x4x128x2048, .f32⟩
  | .hbm, ⟨58, _⟩ => ⟨S4x2048x4x128, .f32⟩
  | .hbm, ⟨59, _⟩ => ⟨S4x4x128x2048, .f32⟩
  | .hbm, ⟨60, _⟩ => ⟨S4x4x2048x256, .f32⟩
  | .hbm, ⟨61, _⟩ => ⟨S4x4x128x256, .f32⟩
  | .hbm, ⟨62, _⟩ => ⟨S4x256x4x128, .f32⟩
  | .hbm, ⟨63, _⟩ => ⟨S4x4x2048x256, .f32⟩
  | .hbm, ⟨64, _⟩ => ⟨S4x4x2048x256, .f32⟩
  | .hbm, ⟨65, _⟩ => ⟨S4x4x2048x256, .f32⟩
  | .hbm, ⟨66, _⟩ => ⟨S_, .f32⟩
  | .hbm, ⟨67, _⟩ => ⟨S4x4x2048, .f32⟩
  | .hbm, ⟨68, _⟩ => ⟨S4x4x2048x1, .f32⟩
  | .hbm, ⟨69, _⟩ => ⟨S4x4x2048x1, .f32⟩
  | .hbm, ⟨70, _⟩ => ⟨S4x4x2048x256, .f32⟩
  | .hbm, ⟨71, _⟩ => ⟨S4x4x2048x256, .f32⟩
  | .hbm, ⟨72, _⟩ => ⟨S_, .f32⟩
  | .hbm, ⟨73, _⟩ => ⟨S4x4x2048, .f32⟩
  | .hbm, ⟨74, _⟩ => ⟨S4x4x2048x256, .f32⟩
  | .hbm, ⟨75, _⟩ => ⟨S4x4x2048x256, .f32⟩
  | .hbm, ⟨76, _⟩ => ⟨S4x4x2048x256, .f32⟩
  | .hbm, ⟨77, _⟩ => ⟨S_, .f32⟩
  | .hbm, ⟨78, _⟩ => ⟨S4x4x2048x256, .f32⟩
  | .hbm, ⟨79, _⟩ => ⟨S4x4x2048x256, .f32⟩
  | .hbm, ⟨80, _⟩ => ⟨S4x4x256x128, .f32⟩
  | .hbm, ⟨81, _⟩ => ⟨S4x256x4x128, .f32⟩
  | .hbm, ⟨82, _⟩ => ⟨S4x4x2048x128, .f32⟩
  | .hbm, ⟨83, _⟩ => ⟨S4x2048x4x128, .f32⟩
  | .hbm, ⟨84, _⟩ => ⟨S4x2048x1536, .bf16⟩
  | .hbm, ⟨85, _⟩ => ⟨S4x2048x512, .f32⟩
  | .hbm, ⟨86, _⟩ => ⟨S4x2048x512, .bf16⟩
  | .hbm, ⟨87, _⟩ => ⟨S4x2048x2048, .bf16⟩
  | .hbm, ⟨88, _⟩ => ⟨S4x256x512, .f32⟩
  | .hbm, ⟨89, _⟩ => ⟨S4x256x512, .bf16⟩
  | .hbm, ⟨90, _⟩ => ⟨S4x256x512, .f32⟩
  | .hbm, ⟨91, _⟩ => ⟨S4x256x512, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Kernel2.lean ====
abbrev S8192x1024 : Shape := ⟨2, ![8192, 1024]⟩
abbrev S2816x1024 : Shape := ⟨2, ![2816, 1024]⟩
abbrev S8192x2816 : Shape := ⟨2, ![8192, 2816]⟩
abbrev S8192x5632 : Shape := ⟨2, ![8192, 5632]⟩
abbrev S256x1024 : Shape := ⟨2, ![256, 1024]⟩
abbrev S256x2816 : Shape := ⟨2, ![256, 2816]⟩
abbrev S256x5632 : Shape := ⟨2, ![256, 5632]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x5632, .bf16⟩
  | .local _ .vmem, ⟨8, _⟩ => ⟨S256x5632, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x1024 : Shape := ⟨2, ![8192, 1024]⟩
abbrev S2816x1024 : Shape := ⟨2, ![2816, 1024]⟩
abbrev S8192x2816 : Shape := ⟨2, ![8192, 2816]⟩
abbrev S8192x5632 : Shape := ⟨2, ![8192, 5632]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S2816x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x5632, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x5632, .f32⟩
  | .hbm, ⟨37, _⟩ => ⟨S8192x5632, .f32⟩
  | .hbm, ⟨38, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩

abbrev nD : Nat := 1
abbrev τ : Topo := Topo.v7x

variable {F : FTy → Type} [FloatOps F]
-- ==== Kernel3.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S512x2816 : Shape := ⟨2, ![512, 2816]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S1x1024, .f32⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference3Ideal.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 107
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1024x5632, .f32⟩
  | .hbm, ⟨29, _⟩ => ⟨S8192x5632, .f32⟩
  | .hbm, ⟨30, _⟩ => ⟨S8192x5632, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S1x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x1024, .f32⟩
  | .hbm, ⟨93, _⟩ => ⟨S8192x1024, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S1x1024, .f32⟩
  | .hbm, ⟨106, _⟩ => ⟨S8192x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_15 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]
-- ==== Kernel4.lean ====
abbrev S8192x1024 : Shape := ⟨2, ![8192, 1024]⟩
abbrev S1024x1024 : Shape := ⟨2, ![1024, 1024]⟩
abbrev S8192x3072 : Shape := ⟨2, ![8192, 3072]⟩
abbrev S1x3072 : Shape := ⟨2, ![1, 3072]⟩
abbrev S512x1024 : Shape := ⟨2, ![512, 1024]⟩
abbrev S512x3072 : Shape := ⟨2, ![512, 3072]⟩
abbrev S1x1024 : Shape := ⟨2, ![1, 1024]⟩
abbrev S1024 : Shape := ⟨1, ![1024]⟩

abbrev nBuf : Space → Nat
  | .hbm => 12
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x3072, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S1x3072, .f32⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x3072, .bf16⟩
  | .hbm, ⟨11, _⟩ => ⟨S1x3072, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x3072, .bf16⟩
  | .local _ .vmem, ⟨4, _⟩ => ⟨S512x3072, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x3072, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x3072, .bf16⟩
  | .local _ .vmem, ⟨19, _⟩ => ⟨S512x3072, .bf16⟩
  | .local _ .vmem, ⟨20, _⟩ => ⟨S1x3072, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference4Ideal.lean ====
abbrev S8192x1024 : Shape := ⟨2, ![8192, 1024]⟩
abbrev S1024x1024 : Shape := ⟨2, ![1024, 1024]⟩
abbrev S8192x3072 : Shape := ⟨2, ![8192, 3072]⟩
abbrev S1x3072 : Shape := ⟨2, ![1, 3072]⟩
abbrev S3072 : Shape := ⟨1, ![3072]⟩
abbrev S_ : Shape := ⟨0, ![]⟩
abbrev S8192x3x1024 : Shape := ⟨3, ![8192, 3, 1024]⟩
abbrev S8192x1x1024 : Shape := ⟨3, ![8192, 1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x3072, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S1x3072, .f32⟩
  | .hbm, ⟨7, _⟩ => ⟨S8192x3072, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S3072, .f32⟩
  | .hbm, ⟨12, _⟩ => ⟨S1x3072, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S_, .f32⟩
  | .hbm, ⟨18, _⟩ => ⟨S8192x3072, .f32⟩
  | .hbm, ⟨19, _⟩ => ⟨S8192x3072, .f32⟩
  | .hbm, ⟨20, _⟩ => ⟨S_, .f32⟩
  | .hbm, ⟨21, _⟩ => ⟨S8192x3072, .f32⟩
  | .hbm, ⟨22, _⟩ => ⟨S8192x3072, .f32⟩
  | .hbm, ⟨23, _⟩ => ⟨S_, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S8192x3x1024, .f32⟩
  | .hbm, ⟨28, _⟩ => ⟨S8192x1x1024, .f32⟩
  | .hbm, ⟨29, _⟩ => ⟨S8192x1024, .f32⟩
  | .hbm, ⟨30, _⟩ => ⟨S8192x1024, .f32⟩
  | .hbm, ⟨31, _⟩ => ⟨S8192x1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S1024x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1x1024, .f32⟩
  | .hbm, ⟨46, _⟩ => ⟨S_, .f32⟩
  | .hbm, ⟨47, _⟩ => ⟨S8192x3x1024, .f32⟩
  | .hbm, ⟨48, _⟩ => ⟨S8192x1024, .f32⟩
  | .hbm, ⟨49, _⟩ => ⟨S8192x1024, .f32⟩
  | .hbm, ⟨50, _⟩ => ⟨S8192x1x1024, .f32⟩
  | .hbm, ⟨51, _⟩ => ⟨S_, .f32⟩
  | .hbm, ⟨52, _⟩ => ⟨S8192x3x1024, .f32⟩
  | .hbm, ⟨53, _⟩ => ⟨S8192x3x1024, .f32⟩
  | .hbm, ⟨54, _⟩ => ⟨S8192x1024, .f32⟩
  | .hbm, ⟨55, _⟩ => ⟨S8192x1024, .f32⟩
  | .hbm, ⟨56, _⟩ => ⟨S8192x1x1024, .f32⟩
  | .hbm, ⟨57, _⟩ => ⟨S_, .f32⟩
  | .hbm, ⟨58, _⟩ => ⟨S8192x3x1024, .f32⟩
  | .hbm, ⟨59, _⟩ => ⟨S8192x3x1024, .f32⟩
  | .hbm, ⟨60, _⟩ => ⟨S8192x3072, .f32⟩
  | .hbm, ⟨61, _⟩ => ⟨S8192x3072, .f32⟩
  | .hbm, ⟨62, _⟩ => ⟨S_, .f32⟩
  | .hbm, ⟨63, _⟩ => ⟨S3072, .f32⟩
  | .hbm, ⟨64, _⟩ => ⟨S1x3072, .f32⟩
  | .hbm, ⟨65, _⟩ => ⟨S_, .f32⟩
  | .hbm, ⟨66, _⟩ => ⟨S3072, .f32⟩
  | .hbm, ⟨67, _⟩ => ⟨S1x3072, .f32⟩
  | .hbm, ⟨68, _⟩ => ⟨S8192x1024, .bf16⟩
  | .hbm, ⟨69, _⟩ => ⟨S8192x1024, .bf16⟩
  | .hbm, ⟨70, _⟩ => ⟨S8192x1024, .bf16⟩
  | .hbm, ⟨71, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== Kernel5.lean ====
abbrev S8192x1024 : Shape := ⟨2, ![8192, 1024]⟩
abbrev S1024x5632 : Shape := ⟨2, ![1024, 5632]⟩
abbrev S8192x2816 : Shape := ⟨2, ![8192, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .bf16⟩
  | .hbm, ⟨19, _⟩ => ⟨S8192x2816, .f32⟩
  | .hbm, ⟨20, _⟩ => ⟨S8192x2816, .bf16⟩
  | .hbm, ⟨21, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel6.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference6Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 89
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S8192x1024, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S1x1024, .f32⟩
  | .hbm, ⟨88, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_cst_12 : Ref sig .tc := ⟨.hbm, 53, rfl⟩
abbrev main_v35 : Ref sig .tc := ⟨.hbm, 54, rfl⟩
abbrev main_v36 : Ref sig .tc := ⟨.hbm, 55, rfl⟩
abbrev main_cst_13 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_17 : Ref sig .tc := ⟨.hbm, 77, rfl⟩
abbrev main_v54 : Ref sig .tc := ⟨.hbm, 78, rfl⟩
abbrev main_v55 : Ref sig .tc := ⟨.hbm, 79, rfl⟩
abbrev main_cst_18 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== Kernel7.lean ====
abbrev S8192x3072 : Shape := ⟨2, ![8192, 3072]⟩
abbrev S8192x1024 : Shape := ⟨2, ![8192, 1024]⟩
abbrev S1x3072 : Shape := ⟨2, ![1, 3072]⟩
abbrev S1024x1024 : Shape := ⟨2, ![1024, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 22
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S1x3072, .f32⟩
  | .hbm, ⟨5, _⟩ => ⟨S1024x1024, .bf16⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S8192x1024, .bf16⟩
  | .hbm, ⟨10, _⟩ => ⟨S8192x1024, .f32⟩
  | .hbm, ⟨11, _⟩ => ⟨S8192x1024, .f32⟩
  | .hbm, ⟨12, _⟩ => ⟨S8192x1024, .bf16⟩
  | .local _ .vmem, ⟨0, _⟩ => ⟨S512x3072, .bf16⟩
  | .local _ .vmem, ⟨1, _⟩ => ⟨S512x3072, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x3072, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference7Ideal.lean ====
abbrev S8192x3072 : Shape := ⟨2, ![8192, 3072]⟩
abbrev S8192x1024 : Shape := ⟨2, ![8192, 1024]⟩
abbrev S1x3072 : Shape := ⟨2, ![1, 3072]⟩
abbrev S1024x1024 : Shape := ⟨2, ![1024, 1024]⟩
abbrev S1x1024 : Shape := ⟨2, ![1, 1024]⟩
abbrev S3072 : Shape := ⟨1, ![3072]⟩
abbrev S_ : Shape := ⟨0, ![]⟩
abbrev S8192x3x1024 : Shape := ⟨3, ![8192, 3, 1024]⟩
abbrev S8192x1x1024 : Shape := ⟨3, ![8192, 1, 1024]⟩
abbrev S1024 : Shape := ⟨1, ![1024]⟩
abbrev S8192 : Shape := ⟨1, ![8192]⟩
abbrev S8192x1 : Shape := ⟨2, ![8192, 1]⟩

abbrev nBuf : Space → Nat
  | .hbm => 76
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S1x3072, .f32⟩
  | .hbm, ⟨5, _⟩ => ⟨S1024x1024, .bf16⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S8192x3072, .f32⟩
  | .hbm, ⟨10, _⟩ => ⟨S3072, .f32⟩
  | .hbm, ⟨11, _⟩ => ⟨S1x3072, .f32⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S_, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S8192x3x1024, .f32⟩
  | .hbm, ⟨23, _⟩ => ⟨S8192x1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1024x1024, .f32⟩
  | .hbm, ⟨38, _⟩ => ⟨S8192x1024, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Kernel8.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8192x1024 : Shape := ⟨2, ![8192, 1024]⟩
abbrev S1024x2304 : Shape := ⟨2, ![1024, 2304]⟩
abbrev S8192x2304 : Shape := ⟨2, ![8192, 2304]⟩
abbrev S1024x1024 : Shape := ⟨2, ![1024, 1024]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2304, .bf16⟩
  | .hbm, ⟨2, _⟩ => ⟨S8192x2304, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x1152, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x2304 : Shape := ⟨2, ![1024, 2304]⟩
abbrev S8192x2304 : Shape := ⟨2, ![8192, 2304]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2304, .bf16⟩
  | .hbm, ⟨2, _⟩ => ⟨S8192x1024, .f32⟩
  | .hbm, ⟨3, _⟩ => ⟨S1024x2304, .f32⟩
  | .hbm, ⟨4, _⟩ => ⟨S8192x2304, .f32⟩
  | .hbm, ⟨5, _⟩ => ⟨S8192x2304, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | .hbm, ⟨5, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .bf16⟩
  | .local _ .vmem, ⟨4, _⟩ => ⟨S1024x1024, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x256, .f32⟩
  | .hbm, ⟨3, _⟩ => ⟨S256x1024, .f32⟩
  | .hbm, ⟨4, _⟩ => ⟨S8192x1024, .f32⟩
  | .hbm, ⟨5, _⟩ => ⟨S8192x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | .hbm, ⟨8, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S8192x1024 : Shape := ⟨2, ![8192, 1024]⟩
abbrev S256x1024 : Shape := ⟨2, ![256, 1024]⟩
abbrev S8192x256 : Shape := ⟨2, ![8192, 256]⟩
abbrev S1024x1024 : Shape := ⟨2, ![1024, 1024]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S8192x256, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .bf16⟩
  | .local _ .vmem, ⟨4, _⟩ => ⟨S1024x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S256x1024 : Shape := ⟨2, ![256, 1024]⟩
abbrev S_ : Shape := ⟨0, ![]⟩
abbrev S8192x256 : Shape := ⟨2, ![8192, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S_, .f32⟩
  | .hbm, ⟨3, _⟩ => ⟨S8192x256, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S8192x256, .f32⟩
  | .hbm, ⟨8, _⟩ => ⟨S8192x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel21.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel22.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel23.lean ====
abbrev S8192x1024 : Shape := ⟨2, ![8192, 1024]⟩
abbrev S8192x2304 : Shape := ⟨2, ![8192, 2304]⟩
abbrev S1024x2304 : Shape := ⟨2, ![1024, 2304]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S1024x2304, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x1024 : Shape := ⟨2, ![8192, 1024]⟩
abbrev S8192x2304 : Shape := ⟨2, ![8192, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S_, .f32⟩
  | .hbm, ⟨3, _⟩ => ⟨S1024x2304, .f32⟩
  | .hbm, ⟨4, _⟩ => ⟨S8192x1024, .f32⟩
  | .hbm, ⟨5, _⟩ => ⟨S8192x2304, .f32⟩
  | .hbm, ⟨6, _⟩ => ⟨S8192x2304, .f32⟩
  | .hbm, ⟨7, _⟩ => ⟨S2304x1024, .f32⟩
  | .hbm, ⟨8, _⟩ => ⟨S1024x2304, .f32⟩
  | .hbm, ⟨9, _⟩ => ⟨S1024x2304, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel24.lean ====
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference24Ideal.lean ====
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S_, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel25.lean ====
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference25Ideal.lean ====
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S_, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel26.lean ====
abbrev S8x1024x544 : Shape := ⟨3, ![8, 1024, 544]⟩
abbrev S1x1024x544 : Shape := ⟨3, ![1, 1024, 544]⟩
abbrev S8x256x544 : Shape := ⟨3, ![8, 256, 544]⟩
abbrev S1x256x544 : Shape := ⟨3, ![1, 256, 544]⟩
abbrev S256x544 : Shape := ⟨2, ![256, 544]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x544, .bf16⟩
  | .hbm, ⟨1, _⟩ => ⟨S1x1024x544, .f32⟩
  | .hbm, ⟨2, _⟩ => ⟨S1x1024x544, .f32⟩
  | .hbm, ⟨3, _⟩ => ⟨S1x1024x544, .f32⟩
  | .hbm, ⟨4, _⟩ => ⟨S1x1024x544, .f32⟩
  | .hbm, ⟨5, _⟩ => ⟨S1x1024x544, .f32⟩
  | .hbm, ⟨6, _⟩ => ⟨S1x1024x544, .f32⟩
  | .hbm, ⟨7, _⟩ => ⟨S1x1024x544, .f32⟩
  | .local _ .vmem, ⟨0, _⟩ => ⟨S8x256x544, .bf16⟩
  | .local _ .vmem, ⟨1, _⟩ => ⟨S8x256x544, .bf16⟩
  | .local _ .vmem, ⟨2, _⟩ => ⟨S1x256x544, .f32⟩
  | .local _ .vmem, ⟨3, _⟩ => ⟨S1x256x544, .f32⟩
  | .local _ .vmem, ⟨4, _⟩ => ⟨S1x256x544, .f32⟩
  | .local _ .vmem, ⟨5, _⟩ => ⟨S1x256x544, .f32⟩
  | .local _ .vmem, ⟨6, _⟩ => ⟨S1x256x544, .f32⟩
  | .local _ .vmem, ⟨7, _⟩ => ⟨S1x256x544, .f32⟩
  | .local _ .vmem, ⟨8, _⟩ => ⟨S1x256x544, .f32⟩
  | .local _ .vmem, ⟨9, _⟩ => ⟨S1x256x544, .f32⟩
  | .local _ .vmem, ⟨10, _⟩ => ⟨S1x256x544, .f32⟩
  | .local _ .vmem, ⟨11, _⟩ => ⟨S1x256x544, .f32⟩
  | .local _ .vmem, ⟨12, _⟩ => ⟨S1x256x544, .f32⟩
  | .local _ .vmem, ⟨13, _⟩ => ⟨S1x256x544, .f32⟩
  | .local _ .vmem, ⟨14, _⟩ => ⟨S1x256x544, .f32⟩
  | .local _ .vmem, ⟨15, _⟩ => ⟨S1x256x544, .f32⟩
  | _, _ => ⟨S8x1024x544, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x544 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x544 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x544 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S8x1024x544 : Shape := ⟨3, ![8, 1024, 544]⟩
abbrev S1x1024x544 : Shape := ⟨3, ![1, 1024, 544]⟩
abbrev S_ : Shape := ⟨0, ![]⟩
abbrev S1024x544 : Shape := ⟨2, ![1024, 544]⟩

abbrev nBuf : Space → Nat
  | .hbm => 41
  | .vmem => 0
  | .smem => 0
  | _ => 0

abbrev bufTy : (tb : Table) → Fin (tcTables nBuf tb) → BufTy
  | .hbm, ⟨0, _⟩ => ⟨S8x1024x544, .bf16⟩
  | .hbm, ⟨1, _⟩ => ⟨S1x1024x544, .f32⟩
  | .hbm, ⟨2, _⟩ => ⟨S1x1024x544, .f32⟩
  | .hbm, ⟨3, _⟩ => ⟨S1x1024x544, .f32⟩
  | .hbm, ⟨4, _⟩ => ⟨S8x1024x544, .f32⟩
  | .hbm, ⟨5, _⟩ => ⟨S_, .f32⟩
  | .hbm, ⟨6, _⟩ => ⟨S1024x544, .f32⟩
  | .hbm, ⟨7, _⟩ => ⟨S1x1024x544, .f32⟩
  | .hbm, ⟨8, _⟩ => ⟨S_, .f32⟩
  | .hbm, ⟨9, _⟩ => ⟨S1x1024x544, .f32⟩
  | .hbm, ⟨10, _⟩ => ⟨S1x1024x544, .f32⟩
  | .hbm, ⟨11, _⟩ => ⟨S_, .f32⟩
  | .hbm, ⟨12, _⟩ => ⟨S1x1024x544, .f32⟩
  | .hbm, ⟨13, _⟩ => ⟨S1x1024x544, .f32⟩
  | .hbm, ⟨14, _⟩ => ⟨S1x1024x544, .f32⟩
  | .hbm, ⟨15, _⟩ => ⟨S_, .f32⟩
  | .hbm, ⟨16, _⟩ => ⟨S1x1024x544, .f32⟩
  | .hbm, ⟨17, _⟩ => ⟨S1x1024x544, .f32⟩
  | .hbm, ⟨18, _⟩ => ⟨S1x1024x544, .f32⟩
  | .hbm, ⟨19, _⟩ => ⟨S_, .f32⟩
  | .hbm, ⟨20, _⟩ => ⟨S1x1024x544, .f32⟩
  | .hbm, ⟨21, _⟩ => ⟨S1x1024x544, .f32⟩
  | .hbm, ⟨22, _⟩ => ⟨S1x1024x544, .f32⟩
  | .hbm, ⟨23, _⟩ => ⟨S_, .f32⟩
  | .hbm, ⟨24, _⟩ => ⟨S1x1024x544, .f32⟩
  | .hbm, ⟨25, _⟩ => ⟨S1x1024x544, .f32⟩
  | .hbm, ⟨26, _⟩ => ⟨S_, .f32⟩
  | .hbm, ⟨27, _⟩ => ⟨S1x1024x544, .f32⟩
  | .hbm, ⟨28, _⟩ => ⟨S1x1024x544, .f32⟩
  | .hbm, ⟨29, _⟩ => ⟨S1x1024x544, .f32⟩
  | .hbm, ⟨30, _⟩ => ⟨S_, .f32⟩
  | .hbm, ⟨31, _⟩ => ⟨S1x1024x544, .f32⟩
  | .hbm, ⟨32, _⟩ => ⟨S1x1024x544, .f32⟩
  | .hbm, ⟨33, _⟩ => ⟨S1x1024x544, .f32⟩
  | .hbm, ⟨34, _⟩ => ⟨S_, .f32⟩
  | .hbm, ⟨35, _⟩ => ⟨S1x1024x544, .f32⟩
  | .hbm, ⟨36, _⟩ => ⟨S1x1024x544, .f32⟩
  | .hbm, ⟨37, _⟩ => ⟨S1x1024x544, .f32⟩
  | .hbm, ⟨38, _⟩ => ⟨S_, .f32⟩
  | .hbm, ⟨39, _⟩ => ⟨S1x1024x544, .f32⟩
  | .hbm, ⟨40, _⟩ => ⟨S1x1024x544, .f32⟩
  | _, _ => ⟨S8x1024x544, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel27.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference27Ideal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel28.lean ====
abbrev S8x512x128 : Shape := ⟨3, ![8, 512, 128]⟩
abbrev S1x512x128 : Shape := ⟨3, ![1, 512, 128]⟩
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .bf16⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S1x512x128, .f32⟩
  | .hbm, ⟨5, _⟩ => ⟨S1x512x128, .f32⟩
  | .hbm, ⟨6, _⟩ => ⟨S1x512x128, .f32⟩
  | .hbm, ⟨7, _⟩ => ⟨S1x512x128, .f32⟩
  | .local _ .vmem, ⟨0, _⟩ => ⟨S8x256x128, .bf16⟩
  | .local _ .vmem, ⟨1, _⟩ => ⟨S8x256x128, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference28Ideal.lean ====
abbrev S8x512x128 : Shape := ⟨3, ![8, 512, 128]⟩
abbrev S1x512x128 : Shape := ⟨3, ![1, 512, 128]⟩
abbrev S_ : Shape := ⟨0, ![]⟩
abbrev S512x128 : Shape := ⟨2, ![512, 128]⟩

abbrev nBuf : Space → Nat
  | .hbm => 41
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S1x512x128, .f32⟩
  | .hbm, ⟨8, _⟩ => ⟨S_, .f32⟩
  | .hbm, ⟨9, _⟩ => ⟨S1x512x128, .f32⟩
  | .hbm, ⟨10, _⟩ => ⟨S1x512x128, .f32⟩
  | .hbm, ⟨11, _⟩ => ⟨S_, .f32⟩
  | .hbm, ⟨12, _⟩ => ⟨S1x512x128, .f32⟩
  | .hbm, ⟨13, _⟩ => ⟨S1x512x128, .f32⟩
  | .hbm, ⟨14, _⟩ => ⟨S1x512x128, .f32⟩
  | .hbm, ⟨15, _⟩ => ⟨S_, .f32⟩
  | .hbm, ⟨16, _⟩ => ⟨S1x512x128, .f32⟩
  | .hbm, ⟨17, _⟩ => ⟨S1x512x128, .f32⟩
  | .hbm, ⟨18, _⟩ => ⟨S1x512x128, .f32⟩
  | .hbm, ⟨19, _⟩ => ⟨S_, .f32⟩
  | .hbm, ⟨20, _⟩ => ⟨S1x512x128, .f32⟩
  | .hbm, ⟨21, _⟩ => ⟨S1x512x128, .f32⟩
  | .hbm, ⟨22, _⟩ => ⟨S1x512x128, .f32⟩
  | .hbm, ⟨23, _⟩ => ⟨S_, .f32⟩
  | .hbm, ⟨24, _⟩ => ⟨S1x512x128, .f32⟩
  | .hbm, ⟨25, _⟩ => ⟨S1x512x128, .f32⟩
  | .hbm, ⟨26, _⟩ => ⟨S_, .f32⟩
  | .hbm, ⟨27, _⟩ => ⟨S1x512x128, .f32⟩
  | .hbm, ⟨28, _⟩ => ⟨S1x512x128, .f32⟩
  | .hbm, ⟨29, _⟩ => ⟨S1x512x128, .f32⟩
  | .hbm, ⟨30, _⟩ => ⟨S_, .f32⟩
  | .hbm, ⟨31, _⟩ => ⟨S1x512x128, .f32⟩
  | .hbm, ⟨32, _⟩ => ⟨S1x512x128, .f32⟩
  | .hbm, ⟨33, _⟩ => ⟨S1x512x128, .f32⟩
  | .hbm, ⟨34, _⟩ => ⟨S_, .f32⟩
  | .hbm, ⟨35, _⟩ => ⟨S1x512x128, .f32⟩
  | .hbm, ⟨36, _⟩ => ⟨S1x512x128, .f32⟩
  | .hbm, ⟨37, _⟩ => ⟨S1x512x128, .f32⟩
  | .hbm, ⟨38, _⟩ => ⟨S_, .f32⟩
  | .hbm, ⟨39, _⟩ => ⟨S1x512x128, .f32⟩
  | .hbm, ⟨40, _⟩ => ⟨S1x512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel29.lean ====
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x256x128, .bf16⟩
  | .hbm, ⟨1, _⟩ => ⟨S1x256x128, .f32⟩
  | .hbm, ⟨2, _⟩ => ⟨S1x256x128, .f32⟩
  | .hbm, ⟨3, _⟩ => ⟨S1x256x128, .f32⟩
  | .hbm, ⟨4, _⟩ => ⟨S1x256x128, .f32⟩
  | .hbm, ⟨5, _⟩ => ⟨S1x256x128, .f32⟩
  | .hbm, ⟨6, _⟩ => ⟨S1x256x128, .f32⟩
  | .hbm, ⟨7, _⟩ => ⟨S1x256x128, .f32⟩
  | .local _ .vmem, ⟨0, _⟩ => ⟨S8x256x128, .bf16⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference29Ideal.lean ====
abbrev S8x256x128 : Shape := ⟨3, ![8, 256, 128]⟩
abbrev S1x256x128 : Shape := ⟨3, ![1, 256, 128]⟩
abbrev S_ : Shape := ⟨0, ![]⟩
abbrev S256x128 : Shape := ⟨2, ![256, 128]⟩

abbrev nBuf : Space → Nat
  | .hbm => 41
  | .vmem => 0
  | .smem => 0
  | _ => 0

abbrev bufTy : (tb : Table) → Fin (tcTables nBuf tb) → BufTy
  | .hbm, ⟨0, _⟩ => ⟨S8x256x128, .bf16⟩
  | .hbm, ⟨1, _⟩ => ⟨S1x256x128, .f32⟩
  | .hbm, ⟨2, _⟩ => ⟨S1x256x128, .f32⟩
  | .hbm, ⟨3, _⟩ => ⟨S1x256x128, .f32⟩
  | .hbm, ⟨4, _⟩ => ⟨S8x256x128, .f32⟩
  | .hbm, ⟨5, _⟩ => ⟨S_, .f32⟩
  | .hbm, ⟨6, _⟩ => ⟨S256x128, .f32⟩
  | .hbm, ⟨7, _⟩ => ⟨S1x256x128, .f32⟩
  | .hbm, ⟨8, _⟩ => ⟨S_, .f32⟩
  | .hbm, ⟨9, _⟩ => ⟨S1x256x128, .f32⟩
  | .hbm, ⟨10, _⟩ => ⟨S1x256x128, .f32⟩
  | .hbm, ⟨11, _⟩ => ⟨S_, .f32⟩
  | .hbm, ⟨12, _⟩ => ⟨S1x256x128, .f32⟩
  | .hbm, ⟨13, _⟩ => ⟨S1x256x128, .f32⟩
  | .hbm, ⟨14, _⟩ => ⟨S1x256x128, .f32⟩
  | .hbm, ⟨15, _⟩ => ⟨S_, .f32⟩
  | .hbm, ⟨16, _⟩ => ⟨S1x256x128, .f32⟩
  | .hbm, ⟨17, _⟩ => ⟨S1x256x128, .f32⟩
  | .hbm, ⟨18, _⟩ => ⟨S1x256x128, .f32⟩
  | .hbm, ⟨19, _⟩ => ⟨S_, .f32⟩
  | .hbm, ⟨20, _⟩ => ⟨S1x256x128, .f32⟩
  | .hbm, ⟨21, _⟩ => ⟨S1x256x128, .f32⟩
  | .hbm, ⟨22, _⟩ => ⟨S1x256x128, .f32⟩
  | .hbm, ⟨23, _⟩ => ⟨S_, .f32⟩
  | .hbm, ⟨24, _⟩ => ⟨S1x256x128, .f32⟩
  | .hbm, ⟨25, _⟩ => ⟨S1x256x128, .f32⟩
  | .hbm, ⟨26, _⟩ => ⟨S_, .f32⟩
  | .hbm, ⟨27, _⟩ => ⟨S1x256x128, .f32⟩
  | .hbm, ⟨28, _⟩ => ⟨S1x256x128, .f32⟩
  | .hbm, ⟨29, _⟩ => ⟨S1x256x128, .f32⟩
  | .hbm, ⟨30, _⟩ => ⟨S_, .f32⟩
  | .hbm, ⟨31, _⟩ => ⟨S1x256x128, .f32⟩
  | .hbm, ⟨32, _⟩ => ⟨S1x256x128, .f32⟩
  | .hbm, ⟨33, _⟩ => ⟨S1x256x128, .f32⟩
  | .hbm, ⟨34, _⟩ => ⟨S_, .f32⟩
  | .hbm, ⟨35, _⟩ => ⟨S1x256x128, .f32⟩
  | .hbm, ⟨36, _⟩ => ⟨S1x256x128, .f32⟩
  | .hbm, ⟨37, _⟩ => ⟨S1x256x128, .f32⟩
  | .hbm, ⟨38, _⟩ => ⟨S_, .f32⟩
  | .hbm, ⟨39, _⟩ => ⟨S1x256x128, .f32⟩
  | .hbm, ⟨40, _⟩ => ⟨S1x256x128, .f32⟩
  | _, _ => ⟨S8x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel30.lean ====
abbrev S8x1024x384 : Shape := ⟨3, ![8, 1024, 384]⟩
abbrev S1x1024x384 : Shape := ⟨3, ![1, 1024, 384]⟩
abbrev S8x256x384 : Shape := ⟨3, ![8, 256, 384]⟩
abbrev S1x256x384 : Shape := ⟨3, ![1, 256, 384]⟩
abbrev S256x384 : Shape := ⟨2, ![256, 384]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x384, .bf16⟩
  | .hbm, ⟨1, _⟩ => ⟨S1x1024x384, .f32⟩
  | .hbm, ⟨2, _⟩ => ⟨S1x1024x384, .f32⟩
  | .hbm, ⟨3, _⟩ => ⟨S1x1024x384, .f32⟩
  | .hbm, ⟨4, _⟩ => ⟨S1x1024x384, .f32⟩
  | .hbm, ⟨5, _⟩ => ⟨S1x1024x384, .f32⟩
  | .hbm, ⟨6, _⟩ => ⟨S1x1024x384, .f32⟩
  | .hbm, ⟨7, _⟩ => ⟨S1x1024x384, .f32⟩
  | .local _ .vmem, ⟨0, _⟩ => ⟨S8x256x384, .bf16⟩
  | .local _ .vmem, ⟨1, _⟩ => ⟨S8x256x384, .bf16⟩
  | .local _ .vmem, ⟨2, _⟩ => ⟨S1x256x384, .f32⟩
  | .local _ .vmem, ⟨3, _⟩ => ⟨S1x256x384, .f32⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference30Ideal.lean ====
abbrev S8x1024x384 : Shape := ⟨3, ![8, 1024, 384]⟩
abbrev S1x1024x384 : Shape := ⟨3, ![1, 1024, 384]⟩
abbrev S_ : Shape := ⟨0, ![]⟩
abbrev S1024x384 : Shape := ⟨2, ![1024, 384]⟩

abbrev nBuf : Space → Nat
  | .hbm => 41
  | .vmem => 0
  | .smem => 0
  | _ => 0

abbrev bufTy : (tb : Table) → Fin (tcTables nBuf tb) → BufTy
  | .hbm, ⟨0, _⟩ => ⟨S8x1024x384, .bf16⟩
  | .hbm, ⟨1, _⟩ => ⟨S1x1024x384, .f32⟩
  | .hbm, ⟨2, _⟩ => ⟨S1x1024x384, .f32⟩
  | .hbm, ⟨3, _⟩ => ⟨S1x1024x384, .f32⟩
  | .hbm, ⟨4, _⟩ => ⟨S8x1024x384, .f32⟩
  | .hbm, ⟨5, _⟩ => ⟨S_, .f32⟩
  | .hbm, ⟨6, _⟩ => ⟨S1024x384, .f32⟩
  | .hbm, ⟨7, _⟩ => ⟨S1x1024x384, .f32⟩
  | .hbm, ⟨8, _⟩ => ⟨S_, .f32⟩
  | .hbm, ⟨9, _⟩ => ⟨S1x1024x384, .f32⟩
  | .hbm, ⟨10, _⟩ => ⟨S1x1024x384, .f32⟩
  | .hbm, ⟨11, _⟩ => ⟨S_, .f32⟩
  | .hbm, ⟨12, _⟩ => ⟨S1x1024x384, .f32⟩
  | .hbm, ⟨13, _⟩ => ⟨S1x1024x384, .f32⟩
  | .hbm, ⟨14, _⟩ => ⟨S1x1024x384, .f32⟩
  | .hbm, ⟨15, _⟩ => ⟨S_, .f32⟩
  | .hbm, ⟨16, _⟩ => ⟨S1x1024x384, .f32⟩
  | .hbm, ⟨17, _⟩ => ⟨S1x1024x384, .f32⟩
  | .hbm, ⟨18, _⟩ => ⟨S1x1024x384, .f32⟩
  | .hbm, ⟨19, _⟩ => ⟨S_, .f32⟩
  | .hbm, ⟨20, _⟩ => ⟨S1x1024x384, .f32⟩
  | .hbm, ⟨21, _⟩ => ⟨S1x1024x384, .f32⟩
  | .hbm, ⟨22, _⟩ => ⟨S1x1024x384, .f32⟩
  | .hbm, ⟨23, _⟩ => ⟨S_, .f32⟩
  | .hbm, ⟨24, _⟩ => ⟨S1x1024x384, .f32⟩
  | .hbm, ⟨25, _⟩ => ⟨S1x1024x384, .f32⟩
  | .hbm, ⟨26, _⟩ => ⟨S_, .f32⟩
  | .hbm, ⟨27, _⟩ => ⟨S1x1024x384, .f32⟩
  | .hbm, ⟨28, _⟩ => ⟨S1x1024x384, .f32⟩
  | .hbm, ⟨29, _⟩ => ⟨S1x1024x384, .f32⟩
  | .hbm, ⟨30, _⟩ => ⟨S_, .f32⟩
  | .hbm, ⟨31, _⟩ => ⟨S1x1024x384, .f32⟩
  | .hbm, ⟨32, _⟩ => ⟨S1x1024x384, .f32⟩
  | .hbm, ⟨33, _⟩ => ⟨S1x1024x384, .f32⟩
  | .hbm, ⟨34, _⟩ => ⟨S_, .f32⟩
  | .hbm, ⟨35, _⟩ => ⟨S1x1024x384, .f32⟩
  | .hbm, ⟨36, _⟩ => ⟨S1x1024x384, .f32⟩
  | .hbm, ⟨37, _⟩ => ⟨S1x1024x384, .f32⟩
  | .hbm, ⟨38, _⟩ => ⟨S_, .f32⟩
  | .hbm, ⟨39, _⟩ => ⟨S1x1024x384, .f32⟩
  | .hbm, ⟨40, _⟩ => ⟨S1x1024x384, .f32⟩
  | _, _ => ⟨S8x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel31.lean ====
abbrev S8x1024x704 : Shape := ⟨3, ![8, 1024, 704]⟩
abbrev S1x1024x704 : Shape := ⟨3, ![1, 1024, 704]⟩
abbrev S8x256x704 : Shape := ⟨3, ![8, 256, 704]⟩
abbrev S1x256x704 : Shape := ⟨3, ![1, 256, 704]⟩
abbrev S256x704 : Shape := ⟨2, ![256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S1x1024x704, .f32⟩
  | .hbm, ⟨6, _⟩ => ⟨S1x1024x704, .f32⟩
  | .hbm, ⟨7, _⟩ => ⟨S1x1024x704, .f32⟩
  | .local _ .vmem, ⟨0, _⟩ => ⟨S8x256x704, .bf16⟩
  | .local _ .vmem, ⟨1, _⟩ => ⟨S8x256x704, .bf16⟩
  | .local _ .vmem, ⟨2, _⟩ => ⟨S1x256x704, .f32⟩
  | .local _ .vmem, ⟨3, _⟩ => ⟨S1x256x704, .f32⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference31Ideal.lean ====
abbrev S8x1024x704 : Shape := ⟨3, ![8, 1024, 704]⟩
abbrev S1x1024x704 : Shape := ⟨3, ![1, 1024, 704]⟩
abbrev S_ : Shape := ⟨0, ![]⟩
abbrev S1024x704 : Shape := ⟨2, ![1024, 704]⟩

abbrev nBuf : Space → Nat
  | .hbm => 41
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S1x1024x704, .f32⟩
  | .hbm, ⟨8, _⟩ => ⟨S_, .f32⟩
  | .hbm, ⟨9, _⟩ => ⟨S1x1024x704, .f32⟩
  | .hbm, ⟨10, _⟩ => ⟨S1x1024x704, .f32⟩
  | .hbm, ⟨11, _⟩ => ⟨S_, .f32⟩
  | .hbm, ⟨12, _⟩ => ⟨S1x1024x704, .f32⟩
  | .hbm, ⟨13, _⟩ => ⟨S1x1024x704, .f32⟩
  | .hbm, ⟨14, _⟩ => ⟨S1x1024x704, .f32⟩
  | .hbm, ⟨15, _⟩ => ⟨S_, .f32⟩
  | .hbm, ⟨16, _⟩ => ⟨S1x1024x704, .f32⟩
  | .hbm, ⟨17, _⟩ => ⟨S1x1024x704, .f32⟩
  | .hbm, ⟨18, _⟩ => ⟨S1x1024x704, .f32⟩
  | .hbm, ⟨19, _⟩ => ⟨S_, .f32⟩
  | .hbm, ⟨20, _⟩ => ⟨S1x1024x704, .f32⟩
  | .hbm, ⟨21, _⟩ => ⟨S1x1024x704, .f32⟩
  | .hbm, ⟨22, _⟩ => ⟨S1x1024x704, .f32⟩
  | .hbm, ⟨23, _⟩ => ⟨S_, .f32⟩
  | .hbm, ⟨24, _⟩ => ⟨S1x1024x704, .f32⟩
  | .hbm, ⟨25, _⟩ => ⟨S1x1024x704, .f32⟩
  | .hbm, ⟨26, _⟩ => ⟨S_, .f32⟩
  | .hbm, ⟨27, _⟩ => ⟨S1x1024x704, .f32⟩
  | .hbm, ⟨28, _⟩ => ⟨S1x1024x704, .f32⟩
  | .hbm, ⟨29, _⟩ => ⟨S1x1024x704, .f32⟩
  | .hbm, ⟨30, _⟩ => ⟨S_, .f32⟩
  | .hbm, ⟨31, _⟩ => ⟨S1x1024x704, .f32⟩
  | .hbm, ⟨32, _⟩ => ⟨S1x1024x704, .f32⟩
  | .hbm, ⟨33, _⟩ => ⟨S1x1024x704, .f32⟩
  | .hbm, ⟨34, _⟩ => ⟨S_, .f32⟩
  | .hbm, ⟨35, _⟩ => ⟨S1x1024x704, .f32⟩
  | .hbm, ⟨36, _⟩ => ⟨S1x1024x704, .f32⟩
  | .hbm, ⟨37, _⟩ => ⟨S1x1024x704, .f32⟩
  | .hbm, ⟨38, _⟩ => ⟨S_, .f32⟩
  | .hbm, ⟨39, _⟩ => ⟨S1x1024x704, .f32⟩
  | .hbm, ⟨40, _⟩ => ⟨S1x1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel32.lean ====
abbrev S8x352x1024 : Shape := ⟨3, ![8, 352, 1024]⟩
abbrev S1x352x1024 : Shape := ⟨3, ![1, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference32Ideal.lean ====
abbrev S8x352x1024 : Shape := ⟨3, ![8, 352, 1024]⟩
abbrev S1x352x1024 : Shape := ⟨3, ![1, 352, 1024]⟩
abbrev S_ : Shape := ⟨0, ![]⟩
abbrev S352x1024 : Shape := ⟨2, ![352, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S1x352x1024, .f32⟩
  | .hbm, ⟨8, _⟩ => ⟨S_, .f32⟩
  | .hbm, ⟨9, _⟩ => ⟨S1x352x1024, .f32⟩
  | .hbm, ⟨10, _⟩ => ⟨S1x352x1024, .f32⟩
  | .hbm, ⟨11, _⟩ => ⟨S_, .f32⟩
  | .hbm, ⟨12, _⟩ => ⟨S1x352x1024, .f32⟩
  | .hbm, ⟨13, _⟩ => ⟨S1x352x1024, .f32⟩
  | .hbm, ⟨14, _⟩ => ⟨S1x352x1024, .f32⟩
  | .hbm, ⟨15, _⟩ => ⟨S_, .f32⟩
  | .hbm, ⟨16, _⟩ => ⟨S1x352x1024, .f32⟩
  | .hbm, ⟨17, _⟩ => ⟨S1x352x1024, .f32⟩
  | .hbm, ⟨18, _⟩ => ⟨S1x352x1024, .f32⟩
  | .hbm, ⟨19, _⟩ => ⟨S_, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S_, .f32⟩
  | .hbm, ⟨24, _⟩ => ⟨S1x352x1024, .f32⟩
  | .hbm, ⟨25, _⟩ => ⟨S1x352x1024, .f32⟩
  | .hbm, ⟨26, _⟩ => ⟨S_, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S_, .f32⟩
  | .hbm, ⟨31, _⟩ => ⟨S1x352x1024, .f32⟩
  | .hbm, ⟨32, _⟩ => ⟨S1x352x1024, .f32⟩
  | .hbm, ⟨33, _⟩ => ⟨S1x352x1024, .f32⟩
  | .hbm, ⟨34, _⟩ => ⟨S_, .f32⟩
  | .hbm, ⟨35, _⟩ => ⟨S1x352x1024, .f32⟩
  | .hbm, ⟨36, _⟩ => ⟨S1x352x1024, .f32⟩
  | .hbm, ⟨37, _⟩ => ⟨S1x352x1024, .f32⟩
  | .hbm, ⟨38, _⟩ => ⟨S_, .f32⟩
  | .hbm, ⟨39, _⟩ => ⟨S1x352x1024, .f32⟩
  | .hbm, ⟨40, _⟩ => ⟨S1x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel33.lean ====
abbrev S8192x3072 : Shape := ⟨2, ![8192, 3072]⟩
abbrev S1024x3072 : Shape := ⟨2, ![1024, 3072]⟩
abbrev S8192x2048 : Shape := ⟨2, ![8192, 2048]⟩
abbrev S1024x2048 : Shape := ⟨2, ![1024, 2048]⟩
abbrev S8192x2304 : Shape := ⟨2, ![8192, 2304]⟩
abbrev S1024x2304 : Shape := ⟨2, ![1024, 2304]⟩
abbrev S8192x1024 : Shape := ⟨2, ![8192, 1024]⟩
abbrev S1x1024 : Shape := ⟨2, ![1, 1024]⟩
abbrev S1024x1024 : Shape := ⟨2, ![1024, 1024]⟩
abbrev S1024x768 : Shape := ⟨2, ![1024, 768]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 21
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x2048, .bf16⟩
  | .hbm, ⟨3, _⟩ => ⟨S1024x2048, .bf16⟩
  | .hbm, ⟨4, _⟩ => ⟨S8192x2304, .bf16⟩
  | .hbm, ⟨5, _⟩ => ⟨S1024x2304, .bf16⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1x1024, .f32⟩
  | .local _ .vmem, ⟨20, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![8, 8], ![false, false]⟩

def k0_cond6 (i : grid0.Coords) : BitVec 1 :=
  let arg1 : BitVec 32 := BitVec.ofNat 32 (i 1).val
  let c7_i32_9 : BitVec 32 := 7#32
  let v23 : BitVec 1 := Scalar.cmpi .eq arg1 c7_i32_9
  let v24 : BitVec 32 := Scalar.extui v23
  let c0_i32_10 : BitVec 32 := 0#32
  let v25 : BitVec 1 := Scalar.cmpi .ne v24 c0_i32_10
  v25

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference33Ideal.lean ====
abbrev S8192x3072 : Shape := ⟨2, ![8192, 3072]⟩
abbrev S1024x3072 : Shape := ⟨2, ![1024, 3072]⟩
abbrev S8192x2048 : Shape := ⟨2, ![8192, 2048]⟩
abbrev S1024x2048 : Shape := ⟨2, ![1024, 2048]⟩
abbrev S8192x2304 : Shape := ⟨2, ![8192, 2304]⟩
abbrev S1024x2304 : Shape := ⟨2, ![1024, 2304]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x2048, .bf16⟩
  | .hbm, ⟨3, _⟩ => ⟨S1024x2048, .bf16⟩
  | .hbm, ⟨4, _⟩ => ⟨S8192x2304, .bf16⟩
  | .hbm, ⟨5, _⟩ => ⟨S1024x2304, .bf16⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1024x3072, .f32⟩
  | .hbm, ⟨31, _⟩ => ⟨S8192x3072, .f32⟩
  | .hbm, ⟨32, _⟩ => ⟨S1024x2048, .f32⟩
  | .hbm, ⟨33, _⟩ => ⟨S8192x2048, .f32⟩
  | .hbm, ⟨34, _⟩ => ⟨S1024x2304, .f32⟩
  | .hbm, ⟨35, _⟩ => ⟨S8192x2304, .f32⟩
  | .hbm, ⟨36, _⟩ => ⟨S8192x3072, .f32⟩
  | .hbm, ⟨37, _⟩ => ⟨S8192x2048, .f32⟩
  | .hbm, ⟨38, _⟩ => ⟨S8192x2304, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S1x1024, .f32⟩
  | .hbm, ⟨70, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel34.lean ====
abbrev S8x16x1024 : Shape := ⟨3, ![8, 16, 1024]⟩
abbrev S8x1024 : Shape := ⟨2, ![8, 1024]⟩
abbrev S8x128 : Shape := ⟨2, ![8, 128]⟩
abbrev S1x16x1024 : Shape := ⟨3, ![1, 16, 1024]⟩
abbrev S16x1024 : Shape := ⟨2, ![16, 1024]⟩
abbrev S1x1024 : Shape := ⟨2, ![1, 1024]⟩
abbrev S1 : Shape := ⟨1, ![1]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S8x16x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x128, .f32⟩
  | .local _ .vmem, ⟨0, _⟩ => ⟨S8x16x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x128, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference34Ideal.lean ====
abbrev S8x16x1024 : Shape := ⟨3, ![8, 16, 1024]⟩
abbrev S8x1024 : Shape := ⟨2, ![8, 1024]⟩
abbrev S_ : Shape := ⟨0, ![]⟩
abbrev S16x1024 : Shape := ⟨2, ![16, 1024]⟩
abbrev S1x1024 : Shape := ⟨2, ![1, 1024]⟩
abbrev S1024 : Shape := ⟨1, ![1024]⟩
abbrev S8x128 : Shape := ⟨2, ![8, 128]⟩

abbrev nBuf : Space → Nat
  | .hbm => 49
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S16x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S_, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S_, .f32⟩
  | .hbm, ⟨19, _⟩ => ⟨S8x1024, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S_, .f32⟩
  | .hbm, ⟨30, _⟩ => ⟨S8x1024, .f32⟩
  | .hbm, ⟨31, _⟩ => ⟨S8x1024, .f32⟩
  | .hbm, ⟨32, _⟩ => ⟨S8x1024, .f32⟩
  | .hbm, ⟨33, _⟩ => ⟨S_, .f32⟩
  | .hbm, ⟨34, _⟩ => ⟨S8x1024, .f32⟩
  | .hbm, ⟨35, _⟩ => ⟨S8x1024, .f32⟩
  | .hbm, ⟨36, _⟩ => ⟨S8x1024, .f32⟩
  | .hbm, ⟨37, _⟩ => ⟨S_, .f32⟩
  | .hbm, ⟨38, _⟩ => ⟨S8x1024, .f32⟩
  | .hbm, ⟨39, _⟩ => ⟨S8x1024, .f32⟩
  | .hbm, ⟨40, _⟩ => ⟨S1x1024, .f32⟩
  | .hbm, ⟨41, _⟩ => ⟨S1024, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8x128, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_cst_11 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel35.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference35Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel36.lean ====
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference36Ideal.lean ====
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S1024x1 : Shape := ⟨2, ![1024, 1]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S1024x1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel37.lean ====
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference37Ideal.lean ====
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S1024x1 : Shape := ⟨2, ![1024, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S_, .f32⟩
  | .hbm, ⟨3, _⟩ => ⟨S1x1024, .f32⟩
  | .hbm, ⟨4, _⟩ => ⟨S1024, .f32⟩
  | .hbm, ⟨5, _⟩ => ⟨S1024x1024, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x1024, .f32⟩
  | .hbm, ⟨17, _⟩ => ⟨S1024x1024, .f32⟩
  | .hbm, ⟨18, _⟩ => ⟨S1x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S_, .f32⟩
  | .hbm, ⟨26, _⟩ => ⟨S1024, .f32⟩
  | .hbm, ⟨27, _⟩ => ⟨S1x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel38.lean ====
abbrev S4x2048x2048 : Shape := ⟨3, ![4, 2048, 2048]⟩
abbrev S4x256x1024 : Shape := ⟨3, ![4, 256, 1024]⟩
abbrev S4x2048x512 : Shape := ⟨3, ![4, 2048, 512]⟩
abbrev S1x2048x128 : Shape := ⟨3, ![1, 2048, 128]⟩
abbrev S1x256x128 : Shape := ⟨3, ![1, 256, 128]⟩
abbrev S256x128 : Shape := ⟨2, ![256, 128]⟩
abbrev S2048x128 : Shape := ⟨2, ![2048, 128]⟩
abbrev S2048x256 : Shape := ⟨2, ![2048, 256]⟩
abbrev S2048 : Shape := ⟨1, ![2048]⟩
abbrev S2048x1 : Shape := ⟨2, ![2048, 1]⟩

abbrev nBuf : Space → Nat
  | .hbm => 3
  | .vmem => 8
  | .smem => 0
  | _ => 0

abbrev bufTy : (tb : Table) → Fin (tcTables nBuf tb) → BufTy
  | .hbm, ⟨0, _⟩ => ⟨S4x2048x2048, .bf16⟩
  | .hbm, ⟨1, _⟩ => ⟨S4x256x1024, .bf16⟩
  | .hbm, ⟨2, _⟩ => ⟨S4x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x2048x128, .bf16⟩
  | .local _ .vmem, ⟨7, _⟩ => ⟨S1x2048x128, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  let c2048_i32 : BitVec 32 := 2048#32
  let v4 : BitVec 32 := Scalar.muli c0_i32 c2048_i32
  v4
def k0_off1 : Fin 3 → Nat :=
  let c0_5 : Index := 0#32
  let c0_i32 : BitVec 32 := 0#32
  let c2048_i32 : BitVec 32 := 2048#32
  let v4 : BitVec 32 := Scalar.muli c0_i32 c2048_i32
  let v5 : BitVec 32 := v4
  let v6 : Index := Scalar.indexCast v5
  let c0_6 : Index := 0#32
  ![0, v6.toNat, 0]
def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference38Ideal.lean ====
abbrev S4x2048x2048 : Shape := ⟨3, ![4, 2048, 2048]⟩
abbrev S4x256x1024 : Shape := ⟨3, ![4, 256, 1024]⟩
abbrev S4x2048x512 : Shape := ⟨3, ![4, 2048, 512]⟩
abbrev S4x2048x4x128 : Shape := ⟨4, ![4, 2048, 4, 128]⟩
abbrev S4x256x512 : Shape := ⟨3, ![4, 256, 512]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x256x1024, .bf16⟩
  | .hbm, ⟨2, _⟩ => ⟨S4x2048x512, .bf16⟩
  | .hbm, ⟨3, _⟩ => ⟨S4x2048x512, .f32⟩
  | .hbm, ⟨4, _⟩ => ⟨S4x2048x4x128, .f32⟩
  | .hbm, ⟨5, _⟩ => ⟨S4x256x512, .bf16⟩
  | .hbm, ⟨6, _⟩ => ⟨S4x256x512, .f32⟩
  | .hbm, ⟨7, _⟩ => ⟨S4x256x4x128, .f32⟩
  | .hbm, ⟨8, _⟩ => ⟨S4x256x512, .bf16⟩
  | .hbm, ⟨9, _⟩ => ⟨S4x256x512, .f32⟩
  | .hbm, ⟨10, _⟩ => ⟨S4x256x4x128, .f32⟩
  | .hbm, ⟨11, _⟩ => ⟨S4x4x2048x256, .f32⟩
  | .hbm, ⟨12, _⟩ => ⟨S_, .f32⟩
  | .hbm, ⟨13, _⟩ => ⟨S4x4x2048x256, .f32⟩
  | .hbm, ⟨14, _⟩ => ⟨S4x4x2048x256, .f32⟩
  | .hbm, ⟨15, _⟩ => ⟨S_, .f32⟩
  | .hbm, ⟨16, _⟩ => ⟨S4x4x2048, .f32⟩
  | .hbm, ⟨17, _⟩ => ⟨S_, .f32⟩
  | .hbm, ⟨18, _⟩ => ⟨S4x4x2048, .f32⟩
  | .hbm, ⟨19, _⟩ => ⟨S4x4x2048, .f32⟩
  | .hbm, ⟨20, _⟩ => ⟨S4x4x2048x1, .f32⟩
  | .hbm, ⟨21, _⟩ => ⟨S4x4x2048x256, .f32⟩
  | .hbm, ⟨22, _⟩ => ⟨S4x4x2048x256, .f32⟩
  | .hbm, ⟨23, _⟩ => ⟨S4x4x2048x256, .f32⟩
  | .hbm, ⟨24, _⟩ => ⟨S_, .f32⟩
  | .hbm, ⟨25, _⟩ => ⟨S4x4x2048, .f32⟩
  | .hbm, ⟨26, _⟩ => ⟨S4x4x2048x1, .f32⟩
  | .hbm, ⟨27, _⟩ => ⟨S4x4x2048x256, .f32⟩
  | .hbm, ⟨28, _⟩ => ⟨S4x4x2048x256, .f32⟩
  | .hbm, ⟨29, _⟩ => ⟨S4x4x128x2048, .f32⟩
  | .hbm, ⟨30, _⟩ => ⟨S4x2048x4x128, .f32⟩
  | .hbm, ⟨31, _⟩ => ⟨S4x2048x512, .f32⟩
  | .hbm, ⟨32, _⟩ => ⟨S4x2048x512, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Proof.MemSpec.lean ====
/-
  The gradient of the memory cross-attention, element by element over the extended reals: the scores, the softmax rows,
  and the two spellings of the gradient of a softmax row (the kernel's and the reference's), with the proof that they
  agree on finite scores. Nothing here mentions a program.
-/
module

public import Idealize.ShloMosaic.PureOps.Ideal
public import Idealize.ShloMosaic.Lib.Pointwise

@[expose] public section

noncomputable section

namespace Cert.Mem

open Idealize.ShloMosaic

/-! ## One softmax row -/

/-- The largest entry of a row (the fold starts at `−∞`). -/
def rowMax {n : ℕ} (s : Fin n → EReal) : EReal := Finset.fold max ⊥ s Finset.univ

/-- The row's exponentials, shifted by its largest entry. -/
def rowExp {n : ℕ} (s : Fin n → EReal) (j : Fin n) : EReal := Ideal.exp (s j - rowMax s)

/-- The sum of the row's exponentials. -/
def rowSum {n : ℕ} (s : Fin n → EReal) : EReal := ∑ j, rowExp s j

/-- The softmax of a row. -/
def rowP {n : ℕ} (s : Fin n → EReal) (j : Fin n) : EReal := Ideal.div (rowExp s j) (rowSum s)

/-- The gradient of a softmax row as the kernel computes it: `p (dp − Σ p dp) κ`. -/
def rowDs {n : ℕ} (κ : EReal) (s dp : Fin n → EReal) (j : Fin n) : EReal :=
  rowP s j * (dp j - ∑ k, rowP s k * dp k) * κ

/-- The gradient of a softmax row as differentiating the quotient `e / Σ e` gives it. -/
def rowDsR {n : ℕ} (κ : EReal) (s dp : Fin n → EReal) (j : Fin n) : EReal :=
  (Ideal.div (dp j) (rowSum s) + -∑ k, dp k * Ideal.div 1 (rowSum s * rowSum s) * rowExp s k) * rowExp s j * κ

/-- The largest entry of a row is above every entry. -/
theorem le_rowMax {n : ℕ} (s : Fin n → EReal) (j : Fin n) : s j ≤ rowMax s :=
  (Finset.le_fold_max (s j)).mpr (.inr ⟨j, Finset.mem_univ j, le_rfl⟩)

/-- A row of finite entries, not empty, has a finite largest entry, attained. -/
theorem exists_rowMax {n : ℕ} (s : Fin n → EReal) (j₀ : Fin n) (hb : ∀ j, s j ≠ ⊥) : ∃ j, rowMax s = s j := by
  have h : rowMax s ≤ Finset.univ.sup s := by
    refine (Finset.fold_max_le _).mpr ⟨bot_le, fun j hj => Finset.le_sup hj⟩
  obtain ⟨j, -, hj⟩ := Finset.exists_mem_eq_sup Finset.univ ⟨j₀, Finset.mem_univ j₀⟩ s
  exact ⟨j, le_antisymm (h.trans hj.le) (le_rowMax s j)⟩

/-- On finite scores every exponential of the row is a real number, none negative. -/
theorem rowExp_real {n : ℕ} (s : Fin n → EReal) (hb : ∀ j, s j ≠ ⊥) (ht : ∀ j, s j ≠ ⊤) (j : Fin n) :
    ∃ r : ℝ, 0 < r ∧ rowExp s j = (r : EReal) := by
  obtain ⟨i, hi⟩ := exists_rowMax s j hb
  unfold rowExp
  rw [hi]
  lift s j to ℝ using ⟨ht j, hb j⟩ with a
  lift s i to ℝ using ⟨ht i, hb i⟩ with b
  refine ⟨Real.exp (a - b), Real.exp_pos _, ?_⟩
  rw [← EReal.coe_sub]
  rfl

/-- On finite scores the sum of the exponentials is a positive real number. -/
theorem rowSum_real {n : ℕ} (s : Fin n → EReal) (j₀ : Fin n) (hb : ∀ j, s j ≠ ⊥) (ht : ∀ j, s j ≠ ⊤) :
    ∃ r : ℝ, 0 < r ∧ rowSum s = (r : EReal) := by
  choose e he hs using rowExp_real s hb ht
  refine ⟨∑ j, e j, Finset.sum_pos (fun j _ => he j) ⟨j₀, Finset.mem_univ j₀⟩, ?_⟩
  unfold rowSum
  simp only [hs]
  exact (map_sum (⟨⟨Real.toEReal, EReal.coe_zero⟩, EReal.coe_add⟩ : ℝ →+ EReal) e Finset.univ).symm

/-- A real factor moves in and out of a sum of extended reals when it is positive. -/
theorem coe_mul_sum {n : ℕ} (r : ℝ) (hr : 0 < r) (f : Fin n → EReal) : (r : EReal) * ∑ k, f k = ∑ k, (r : EReal) * f k := by
  classical
  induction (Finset.univ : Finset (Fin n)) using Finset.induction_on with
  | empty => simp
  | insert a t ha ih =>
    rw [Finset.sum_insert ha, Finset.sum_insert ha, ← ih,
      EReal.left_distrib_of_nonneg_of_ne_top (EReal.coe_nonneg.mpr hr.le) (EReal.coe_ne_top r)]

/-- The quotient by a positive real number is the product with its inverse. -/
theorem div_coe (x : EReal) (d : ℝ) (hd : 0 < d) : Ideal.div x (d : EReal) = ((d⁻¹ : ℝ) : EReal) * x := by
  unfold Ideal.div
  rw [if_neg (by exact_mod_cast hd.ne'), ← EReal.coe_inv, mul_comm]

/-- THE EQUATION OF THE ROWS: on finite scores the two spellings of the gradient of a softmax row agree, whatever the
    incoming gradient is (infinite entries included). -/
theorem rowDs_eq {n : ℕ} (κ : EReal) (s dp : Fin n → EReal) (hb : ∀ j, s j ≠ ⊥) (ht : ∀ j, s j ≠ ⊤) (j : Fin n) :
    rowDs κ s dp j = rowDsR κ s dp j := by
  obtain ⟨d, hd, hD⟩ := rowSum_real s j hb ht
  choose e he hs using rowExp_real s hb ht
  have hi : 0 < d⁻¹ := inv_pos.mpr hd
  unfold rowDs rowDsR rowP
  rw [hD, ← EReal.coe_mul, div_coe 1 _ (mul_pos hd hd), div_coe _ _ hd, div_coe _ _ hd, mul_one]
  congr 1
  have h1 : ∀ k, Ideal.div (rowExp s k) (d : EReal) * dp k = ((d⁻¹ : ℝ) : EReal) * ((e k : EReal) * dp k) := fun k => by
    rw [div_coe _ _ hd, hs, mul_assoc]
  have h2 : ∀ k, dp k * (((d * d)⁻¹ : ℝ) : EReal) * rowExp s k
      = ((d⁻¹ : ℝ) : EReal) * (((d⁻¹ : ℝ) : EReal) * ((e k : EReal) * dp k)) := fun k => by
    rw [hs, mul_inv, EReal.coe_mul]; ac_rfl
  simp only [h1, h2]
  rw [← coe_mul_sum _ hi, ← coe_mul_sum _ hi, ← coe_mul_sum _ hi]
  rw [sub_eq_add_neg]
  generalize ((d⁻¹ : ℝ) : EReal) * ∑ k, (e k : EReal) * dp k = X
  rw [← mul_neg, ← EReal.left_distrib_of_nonneg_of_ne_top (EReal.coe_nonneg.mpr hi.le) (EReal.coe_ne_top _), mul_assoc,
    mul_assoc, mul_comm (rowExp s j)]

/-! ## The arrays -/

abbrev S4x2048x2048 : Shape := ⟨3, ![4, 2048, 2048]⟩
abbrev S4x256x1024 : Shape := ⟨3, ![4, 256, 1024]⟩
abbrev S4x2048x512 : Shape := ⟨3, ![4, 2048, 512]⟩
abbrev S4x256x512 : Shape := ⟨3, ![4, 256, 512]⟩

/-- The scale of the scores, the constant both programs hold: `128 ^ (-1/2)` as an f32 number. -/
abbrev scale : EReal := Ideal.ofBits .f32 0x3DB504F3#32

/-- The score of query `i` and memory entry `j` in head `h` of batch `b`. -/
def score (A : S4x2048x2048.Idx → EReal) (B : S4x256x1024.Idx → EReal)
    (b h : Fin 4) (i : Fin 2048) (j : Fin 256) : EReal :=
  (∑ d : Fin 128, A (ix3 b i ⟨1536 + 128 * h + d, by omega⟩) * B (ix3 b j ⟨128 * h + d, by omega⟩)) * scale

/-- The gradient with respect to the softmax weight of query `i` and memory entry `j`. -/
def dweight (B : S4x256x1024.Idx → EReal) (C : S4x2048x512.Idx → EReal)
    (b h : Fin 4) (i : Fin 2048) (j : Fin 256) : EReal :=
  ∑ d : Fin 128, C (ix3 b i ⟨128 * h + d, by omega⟩) * B (ix3 b j ⟨512 + 128 * h + d, by omega⟩)

/-- The gradient of the queries at batch `b`, query `i`, head `h`, lane `d`, from the gradient `ds` of the scores. -/
def dq (ds : Fin 4 → Fin 4 → Fin 2048 → Fin 256 → EReal) (B : S4x256x1024.Idx → EReal)
    (b h : Fin 4) (i : Fin 2048) (d : Fin 128) : EReal :=
  ∑ j : Fin 256, ds b h i j * B (ix3 b j ⟨128 * h + d, by omega⟩)

/-- The gradient of the keys. -/
def dk (ds : Fin 4 → Fin 4 → Fin 2048 → Fin 256 → EReal) (A : S4x2048x2048.Idx → EReal)
    (b h : Fin 4) (j : Fin 256) (d : Fin 128) : EReal :=
  ∑ i : Fin 2048, ds b h i j * A (ix3 b i ⟨1536 + 128 * h + d, by omega⟩)

/-- The gradient of the values. -/
def dv (p : Fin 4 → Fin 4 → Fin 2048 → Fin 256 → EReal) (C : S4x2048x512.Idx → EReal)
    (b h : Fin 4) (j : Fin 256) (d : Fin 128) : EReal :=
  ∑ i : Fin 2048, p b h i j * C (ix3 b i ⟨128 * h + d, by omega⟩)

/-- The softmax weights. -/
def weights (A : S4x2048x2048.Idx → EReal) (B : S4x256x1024.Idx → EReal)
    (b h : Fin 4) (i : Fin 2048) (j : Fin 256) : EReal := rowP (score A B b h i) j

/-- The gradient of the scores, as the kernel spells it. -/
def dscores (A : S4x2048x2048.Idx → EReal) (B : S4x256x1024.Idx → EReal)
    (C : S4x2048x512.Idx → EReal) (b h : Fin 4) (i : Fin 2048) (j : Fin 256) : EReal :=
  rowDs scale (score A B b h i) (dweight B C b h i) j
/-- The head of a lane of the packed head axis. -/
def hd (k : Fin 512) : Fin 4 := ⟨k.val / 128, by omega⟩
/-- The lane of a lane of the packed head axis within its head. -/
def ln (k : Fin 512) : Fin 128 := ⟨k.val % 128, by omega⟩

/-- The gradient of the keys, whole. -/
def resK (A : S4x2048x2048.Idx → EReal) (B : S4x256x1024.Idx → EReal) (C : S4x2048x512.Idx → EReal) : S4x256x512.Idx → EReal := fun i =>
  dk (dscores A B C) A (i 0) (hd (i 2)) (i 1) (ln (i 2))

/-- The gradient of the values, whole. -/
def resV (A : S4x2048x2048.Idx → EReal) (B : S4x256x1024.Idx → EReal) (C : S4x2048x512.Idx → EReal) : S4x256x512.Idx → EReal := fun i =>
  dv (weights A B) C (i 0) (hd (i 2)) (i 1) (ln (i 2))

/-- A column of the queries in the packed projection, counted from the first of them. -/
def qcol (k : Fin 2048) : Fin 512 := ⟨(k.val - 1536) % 512, Nat.mod_lt _ (by decide)⟩

/-- The gradient of the packed projection: the columns from 1536 on hold the gradient of the queries, the others are taken over. -/
def resQ (A : S4x2048x2048.Idx → EReal) (B : S4x256x1024.Idx → EReal) (C : S4x2048x512.Idx → EReal) (D : S4x2048x2048.Idx → EReal) :
    S4x2048x2048.Idx → EReal := fun i =>
  if 1536 ≤ (i 2 : ℕ) then dq (dscores A B C) B (i 0) (hd (qcol (i 2))) (i 1) (ln (qcol (i 2))) else D i

theorem hd_mk (h : Fin 4) (d : Fin 128) (hh) : hd ⟨128 * (h : ℕ) + d, hh⟩ = h := by
  apply Fin.ext; simp only [hd]; omega

theorem ln_mk (h : Fin 4) (d : Fin 128) (hh) : ln ⟨128 * (h : ℕ) + d, hh⟩ = d := by
  apply Fin.ext; simp only [ln]; omega

theorem qcol_mk (k : Fin 512) (hh) : qcol ⟨1536 + (k : ℕ), hh⟩ = k := by
  apply Fin.ext; simp only [qcol]; omega

/-- The gradient of the keys at a lane given by its head and its place in the head. -/
theorem resK_apply (A : S4x2048x2048.Idx → EReal) (B : S4x256x1024.Idx → EReal) (C : S4x2048x512.Idx → EReal)
    (b h : Fin 4) (j : Fin 256) (d : Fin 128) :
    resK A B C (ix3 b j ⟨128 * (h : ℕ) + d, by omega⟩) = dk (dscores A B C) A b h j d := by
  show dk (dscores A B C) A b (hd ⟨128 * (h : ℕ) + d, _⟩) j (ln ⟨128 * (h : ℕ) + d, _⟩) = _
  rw [hd_mk, ln_mk]

/-- The gradient of the values at a lane given by its head and its place in the head. -/
theorem resV_apply (A : S4x2048x2048.Idx → EReal) (B : S4x256x1024.Idx → EReal) (C : S4x2048x512.Idx → EReal)
    (b h : Fin 4) (j : Fin 256) (d : Fin 128) :
    resV A B C (ix3 b j ⟨128 * (h : ℕ) + d, by omega⟩) = dv (weights A B) C b h j d := by
  show dv (weights A B) C b (hd ⟨128 * (h : ℕ) + d, _⟩) j (ln ⟨128 * (h : ℕ) + d, _⟩) = _
  rw [hd_mk, ln_mk]

/-- The gradient of the packed projection at a lane of the queries given by its head and its place in the head. -/
theorem resQ_apply (A : S4x2048x2048.Idx → EReal) (B : S4x256x1024.Idx → EReal) (C : S4x2048x512.Idx → EReal)
    (D : S4x2048x2048.Idx → EReal) (b h : Fin 4) (i : Fin 2048) (d : Fin 128) :
    resQ A B C D (ix3 b i ⟨1536 + (128 * (h : ℕ) + d), by omega⟩) = dq (dscores A B C) B b h i d := by
  have hc : 1536 ≤ ((ix3 b i ⟨1536 + (128 * (h : ℕ) + d), by omega⟩ : S4x2048x2048.Idx) 2 : ℕ) := Nat.le_add_right _ _
  have e : qcol ⟨1536 + (128 * (h : ℕ) + d), by omega⟩ = ⟨128 * (h : ℕ) + d, by omega⟩ :=
    qcol_mk ⟨128 * (h : ℕ) + d, by omega⟩ (by simp only; omega)
  unfold resQ
  rw [if_pos hc]
  show dq (dscores A B C) B b (hd (qcol ⟨1536 + (128 * (h : ℕ) + d), _⟩)) i (ln (qcol ⟨1536 + (128 * (h : ℕ) + d), _⟩)) = _
  rw [e, hd_mk, ln_mk]

/-- The other columns are taken over. -/
theorem resQ_apply_lt (A : S4x2048x2048.Idx → EReal) (B : S4x256x1024.Idx → EReal) (C : S4x2048x512.Idx → EReal)
    (D : S4x2048x2048.Idx → EReal) (i : S4x2048x2048.Idx) (h : (i 2 : ℕ) < 1536) : resQ A B C D i = D i :=
  if_neg (by omega)

end Cert.Mem

end
-- ==== Proof.MemBlock.lean ====
module

public import proofs.«01_k».proof.Proof.Gen.KernelIdeal.Value
public import proofs.«01_k».proof.Proof.MemSpec
public import Idealize.ShloMosaic.Lib.Pipeline.ValueKit
public import Idealize.ShloMosaic.Lib.Pointwise

@[expose] public section

set_option maxRecDepth 16384

noncomputable section

namespace Cert.Mem

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The whole arrays of device `c` that the call reads. -/
abbrev argA (c : Dev nD) : S4x2048x2048.Idx → EReal := m ((c : Thread nD τ).loc main_arg0)
abbrev argB (c : Dev nD) : S4x256x1024.Idx → EReal := m ((c : Thread nD τ).loc main_arg1)
abbrev argC (c : Dev nD) : S4x2048x512.Idx → EReal := m ((c : Thread nD τ).loc main_arg2)
abbrev argD (c : Dev nD) : S4x2048x2048.Idx → EReal := m ((c : Thread nD τ).loc main_arg3)

/-- The offset at which the body reads the whole block of queries is zero. -/
theorem off1 : k0_off1 = ![0, 0, 0] := by decide +kernel

/-- The blocks that grid point `t` reads and writes: batch `t / 4`, head `t % 4`. -/
theorem idx : ∀ t : Fin cfg0.N, win0_0.index t = ![t.val / 4, 0, 12 + t.val % 4] ∧ win0_1.index t = ![t.val / 4, 0, t.val % 4]
    ∧ win0_2.index t = ![t.val / 4, 0, 4 + t.val % 4] ∧ win0_3.index t = ![t.val / 4, 0, t.val % 4]
    ∧ win0_4.index t = ![t.val / 4, 0, 12 + t.val % 4] ∧ win0_5.index t = ![t.val / 4, 0, t.val % 4]
    ∧ win0_6.index t = ![t.val / 4, 0, t.val % 4] := by decide +kernel

/-- The batch of grid point `t`. -/
def batch (t : Fin cfg0.N) : Fin 4 := ⟨t.val / 4, by have : t.val < 16 := t.isLt; omega⟩
/-- The head of grid point `t`. -/
def head (t : Fin cfg0.N) : Fin 4 := ⟨t.val % 4, by omega⟩

theorem blk0 (c : Dev nD) (t : Fin cfg0.N) (i : Fin 2048) (d : Fin 128) :
    iblk m c 0 t (ix3 0 i d) = argA m c (ix3 (batch t) i ⟨1536 + 128 * (head t : ℕ) + d, by have := (head t).isLt; omega⟩) := by
  blk_ext [iblk, V, idx t, batch, head]

theorem blk1 (c : Dev nD) (t : Fin cfg0.N) (j : Fin 256) (d : Fin 128) :
    iblk m c 1 t (ix3 0 j d) = argB m c (ix3 (batch t) j ⟨128 * (head t : ℕ) + d, by have := (head t).isLt; omega⟩) := by
  blk_ext [iblk, V, idx t, batch, head]

theorem blk2 (c : Dev nD) (t : Fin cfg0.N) (j : Fin 256) (d : Fin 128) :
    iblk m c 2 t (ix3 0 j d) = argB m c (ix3 (batch t) j ⟨512 + 128 * (head t : ℕ) + d, by have := (head t).isLt; omega⟩) := by
  blk_ext [iblk, V, idx t, batch, head]

theorem blk3 (c : Dev nD) (t : Fin cfg0.N) (i : Fin 2048) (d : Fin 128) :
    iblk m c 3 t (ix3 0 i d) = argC m c (ix3 (batch t) i ⟨128 * (head t : ℕ) + d, by have := (head t).isLt; omega⟩) := by
  blk_ext [iblk, V, idx t, batch, head]

theorem ofBits_ninf : Ideal.ofBits .f32 0xFF800000#32 = ⊥ := by simp [Ideal.ofBits, Ideal.ieee]

theorem pay8_apply (k : Vec Ideal S1x256x128 .bf16) (q : Vec Ideal S1x2048x128 .bf16) (i : Fin 2048) (j : Fin 256) :
    k0_pay8 (F := Ideal) k q (ix2 i j) = rowP (fun j => (∑ d : Fin 128, q (ix3 0 i d) * k (ix3 0 j d)) * scale) j := by
  pointwise [k0_pay8, k0_pay6, k0_pay4, ofBits_ninf]
  rfl

theorem pay9_apply (k v : Vec Ideal S1x256x128 .bf16) (q o : Vec Ideal S1x2048x128 .bf16) (i : Fin 2048) (j : Fin 256) :
    k0_pay9 (F := Ideal) k v q o (ix2 i j) = rowDs scale (fun j => (∑ d : Fin 128, q (ix3 0 i d) * k (ix3 0 j d)) * scale)
      (fun j => ∑ d : Fin 128, o (ix3 0 i d) * v (ix3 0 j d)) j := by
  pointwise [k0_pay9, k0_pay7, pay8_apply]
  rfl

theorem emb5 (t : Fin cfg0.N) (a : Fin 1) (j : Fin 256) (d : Fin 128) :
    (((View.whole main_v0_1).slice (win0_5.rect t)).emb (ix3 a j d) : S4x256x512.Idx)
      = ix3 (batch t) j ⟨128 * (head t : ℕ) + d, by have := (head t).isLt; omega⟩ := by
  blk_ext [idx t, batch, head]

theorem emb6 (t : Fin cfg0.N) (a : Fin 1) (j : Fin 256) (d : Fin 128) :
    (((View.whole main_v0_2).slice (win0_6.rect t)).emb (ix3 a j d) : S4x256x512.Idx)
      = ix3 (batch t) j ⟨128 * (head t : ℕ) + d, by have := (head t).isLt; omega⟩ := by
  blk_ext [idx t, batch, head]

theorem emb4 (t : Fin cfg0.N) (a : Fin 1) (i : Fin 2048) (d : Fin 128) :
    (((View.whole main_v0_0).slice (win0_4.rect t)).emb (ix3 a i d) : S4x2048x2048.Idx)
      = ix3 (batch t) i ⟨1536 + (128 * (head t : ℕ) + d), by have := (head t).isLt; omega⟩ := by
  blk_ext [idx t, batch, head]

theorem final5 (c : Dev nD) : (dats m 0 c).arrAt 5 cfg0.N = resK (argA m c) (argB m c) (argC m c) := by
  refine (dats m 0 c).arrAt_eq_of_covers 5 _ (by decide +kernel) fun t hf y => ?_
  blk_simp
  rw [after0_5]
  unfold outsAt0
  dsimp only
  frame_open
  simp only [off1]
  frame_out
  change S1x256x128.Idx at y
  idx_vars y
  pointwise [k0_pay2, k0_pay5, k0_pay6, pay9_apply]
  simp only [blk0, blk1, blk2, blk3]
  refine Eq.trans ?_ (congrArg (resK (argA m c) (argB m c) (argC m c)) (emb5 t y0 y1 y2)).symm
  exact (resK_apply _ _ _ (batch t) (head t) y1 y2).symm

theorem final6 (c : Dev nD) : (dats m 0 c).arrAt 6 cfg0.N = resV (argA m c) (argB m c) (argC m c) := by
  refine (dats m 0 c).arrAt_eq_of_covers 6 _ (by decide +kernel) fun t hf y => ?_
  blk_simp
  rw [after0_6]
  unfold outsAt0
  dsimp only
  frame_open
  simp only [off1]
  frame_out
  change S1x256x128.Idx at y
  idx_vars y
  pointwise [k0_pay3, k0_pay5, k0_pay7, pay8_apply]
  simp only [blk0, blk1, blk2, blk3]
  refine Eq.trans ?_ (congrArg (resV (argA m c) (argB m c) (argC m c)) (emb6 t y0 y1 y2)).symm
  exact (resV_apply _ _ _ (batch t) (head t) y1 y2).symm

theorem entry4 (c : Dev nD) : (dats m 0 c).A 4 = argD m c := by
  rw [A_eq]
  simp only [V]
  rfl

theorem final4 (c : Dev nD) : (dats m 0 c).arrAt 4 cfg0.N = resQ (argA m c) (argB m c) (argC m c) (argD m c) := by
  refine ((dats m 0 c).arrAt_eq_of_coversWhere (P := fun i => 1536 ≤ (i (2 : Fin 3) : ℕ)) 4 (resQ (argA m c) (argB m c) (argC m c) (argD m c)) (fun β => 12 ≤ β (2 : Fin 3)) (by decide +kernel) (fun t hf y => ?_)
    (fun j => by blk_simp [Pipeline.Window.cell_apply]; omega)).trans ?_
  · blk_simp
    rw [after0_4]
    unfold outsAt0
    dsimp only
    frame_open
    simp only [off1]
    frame_out
    change S1x2048x128.Idx at y
    idx_vars y
    pointwise [k0_pay1, k0_pay10, k0_pay4, pay9_apply]
    simp only [blk0, blk1, blk2, blk3]
    refine Eq.trans ?_ (congrArg (resQ (argA m c) (argB m c) (argC m c) (argD m c)) (emb4 t y0 y1 y2)).symm
    exact (resQ_apply _ _ _ _ (batch t) (head t) y1 y2).symm
  · funext i
    split_ifs with h
    · rfl
    · exact (congrFun (entry4 m c) i).trans (resQ_apply_lt _ _ _ _ i (by omega)).symm

end Cert.Mem

end
-- ==== Proof.MemRef.lean ====
module

public import proofs.«01_k».proof.Proof.Gen.ReferenceIdeal.Run
public import proofs.«01_k».proof.Proof.MemSpec

@[expose] public section

set_option maxRecDepth 16384

noncomputable section

namespace Cert.Mem.Ref

open Idealize.ShloMosaic Idealize.ShloMosaic.TcCoe Idealize.SL.Sem
open Cert.ReferenceIdeal Cert.ReferenceIdeal.Gen Cert.ReferenceIdeal.Value

variable (m : (ℓ : Loc nD τ sig) → Buf (Elt Ideal) ℓ)

theorem ofBits_ninf : Ideal.ofBits .f32 0xFF800000#32 = ⊥ := by simp [Ideal.ofBits, Ideal.ieee]

/-! ## The reference's intermediate arrays -/

/-- The queries by head. -/
def qArr (A : S4x2048x2048.Idx → EReal) : FVec Ideal S4x2048x4x128 .f32 :=
  shapeCast _ (extf .f32 ((extractStridedSlice S4x2048x512 ![0, 0, 1536] (A : FVec Ideal S4x2048x2048 .bf16) slices_S4x2048x2048_S4x2048x512_0_0_1536 : FVec Ideal S4x2048x512 .bf16)) bitsLt_bf16_f32) shapeCasts_S4x2048x512_S4x2048x4x128

/-- The keys by head. -/
def kArr (B : S4x256x1024.Idx → EReal) : FVec Ideal S4x256x4x128 .f32 :=
  shapeCast _ (extf .f32 ((extractStridedSlice S4x256x512 ![0, 0, 0] (B : FVec Ideal S4x256x1024 .bf16) slices_S4x256x1024_S4x256x512_0_0_0 : FVec Ideal S4x256x512 .bf16)) bitsLt_bf16_f32) shapeCasts_S4x256x512_S4x256x4x128

/-- The values by head. -/
def vArr (B : S4x256x1024.Idx → EReal) : FVec Ideal S4x256x4x128 .f32 :=
  shapeCast _ (extf .f32 ((extractStridedSlice S4x256x512 ![0, 0, 512] (B : FVec Ideal S4x256x1024 .bf16) slices_S4x256x1024_S4x256x512_0_0_512 : FVec Ideal S4x256x512 .bf16)) bitsLt_bf16_f32) shapeCasts_S4x256x512_S4x256x4x128

/-- The cotangent by head, the tokens last. -/
def oArr (C : S4x2048x512.Idx → EReal) : FVec Ideal S4x4x128x2048 .f32 :=
  transpose S4x4x128x2048 [0, 2, 3, 1] (shapeCast S4x2048x4x128 (extf .f32 (C : FVec Ideal S4x2048x512 .bf16) bitsLt_bf16_f32) shapeCasts_S4x2048x512_S4x2048x4x128) transposes_S4x2048x4x128_S4x4x128x2048_0_2_3_1

/-- The scores. -/
def sArr (A : S4x2048x2048.Idx → EReal) (B : S4x256x1024.Idx → EReal) : FVec Ideal S4x4x2048x256 .f32 :=
  mulf (Host.dotGeneral dot_S4x2048x4x128_S4x256x4x128_S4x4x2048x256_3_3_1_1_02_02 none (qArr A) (kArr B)) (broadcastInDim S4x4x2048x256 ![] bcast_S_S4x4x2048x256 (constant S_ .f32 0x3DB504F3#32))

/-- The gradients of the weights. -/
def dpArr (B : S4x256x1024.Idx → EReal) (C : S4x2048x512.Idx → EReal) : FVec Ideal S4x4x2048x256 .f32 :=
  Host.dotGeneral dot_S4x4x128x2048_S4x256x4x128_S4x4x2048x256_2_3_3_1_01_02 none (oArr C) (vArr B)

/-- The rows' maxima. -/
def mxArr (s : FVec Ideal S4x4x2048x256 .f32) : FVec Ideal S4x4x2048 .f32 :=
  Host.reduce FloatOps.maximumf s (constant S_ .f32 0xFF800000#32) reducesTo_S4x4x2048x256_S4x4x2048_d3 h_S_

/-- The exponentials of the scores, shifted by `mx`, the rows' maxima. -/
def eArr (s : FVec Ideal S4x4x2048x256 .f32) (mx : FVec Ideal S4x4x2048 .f32) : FVec Ideal S4x4x2048x256 .f32 :=
  Host.exp (subf s (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) mx))))

/-- The rows' sums, kept as a last axis of one. -/
def lArr (e : FVec Ideal S4x4x2048x256 .f32) : FVec Ideal S4x4x2048x1 .f32 :=
  broadcastInDim S4x4x2048x1 ![0, 1, 2] bcast_S4x4x2048_S4x4x2048x1_0_1_2 (Host.reduceAdd e (constant S_ .f32 0x00000000#32) reducesTo_S4x4x2048x256_S4x4x2048_d3 h_S_)

/-- The gradient of the scores. -/
def dsArr (dp e : FVec Ideal S4x4x2048x256 .f32) (l : FVec Ideal S4x4x2048x1 .f32) : FVec Ideal S4x4x2048x256 .f32 :=
  mulf (mulf (addf (Host.divf dp (broadcastInDim S4x4x2048x256 ![0, 1, 2, 3] bcast_S4x4x2048x1_S4x4x2048x256_0_1_2_3 l))
    (broadcastInDim S4x4x2048x256 ![0, 1, 2] bcast_S4x4x2048_S4x4x2048x256_0_1_2 (Host.reduceAdd (Host.negf (shapeCast S4x4x2048x1 (Host.reduceAdd (mulf (mulf dp (broadcastInDim S4x4x2048x256 ![0, 1, 2, 3] bcast_S4x4x2048x1_S4x4x2048x256_0_1_2_3 (Host.divf (broadcastInDim S4x4x2048x1 ![] bcast_S_S4x4x2048x1 (constant S_ .f32 0x3F800000#32)) (mulf l l)))) e)
      (constant S_ .f32 0x00000000#32) reducesTo_S4x4x2048x256_S4x4x2048_d3 h_S_) shapeCasts_S4x4x2048_S4x4x2048x1)) (constant S_ .f32 0x00000000#32) reducesTo_S4x4x2048x1_S4x4x2048_d3 h_S_))) e)
    (broadcastInDim S4x4x2048x256 ![] bcast_S_S4x4x2048x256 (constant S_ .f32 0x3DB504F3#32))

theorem sArr_apply (A : S4x2048x2048.Idx → EReal) (B : S4x256x1024.Idx → EReal) (b h : Fin 4) (i : Fin 2048) (j : Fin 256) :
    (sArr A B : S4x4x2048x256.Idx → EReal) (ix4 b h i j) = score A B b h i j := by
  pointwise [sArr, qArr, kArr]
  unfold score
  refine congrArg (· * scale) (Finset.sum_congr rfl fun d _ => ?_)
  congr 3 <;> apply Fin.ext <;> simp only [] <;> omega

theorem dpArr_apply (B : S4x256x1024.Idx → EReal) (C : S4x2048x512.Idx → EReal) (b h : Fin 4) (i : Fin 2048) (j : Fin 256) :
    (dpArr B C : S4x4x2048x256.Idx → EReal) (ix4 b h i j) = dweight B C b h i j := by
  pointwise [dpArr, oArr, vArr]
  unfold dweight
  refine Finset.sum_congr rfl fun d _ => ?_
  congr 3 <;> apply Fin.ext <;> simp only [] <;> omega

theorem mxArr_apply (s : FVec Ideal S4x4x2048x256 .f32) (b h : Fin 4) (i : Fin 2048) :
    (mxArr s : S4x4x2048.Idx → EReal) (ix3 b h i) = rowMax (fun j => s (ix4 b h i j)) := by
  pointwise [mxArr]
  rw [ofBits_ninf]
  rfl

theorem eArr_apply (s : FVec Ideal S4x4x2048x256 .f32) (mx : FVec Ideal S4x4x2048 .f32) (b h : Fin 4) (i : Fin 2048) (j : Fin 256) :
    (eArr s mx : S4x4x2048x256.Idx → EReal) (ix4 b h i j) = Ideal.exp (s (ix4 b h i j) - mx (ix3 b h i)) := by
  pointwise [eArr]
  rw [ofBits_ninf, max_bot_left]

theorem lArr_apply (e : FVec Ideal S4x4x2048x256 .f32) (b h : Fin 4) (i : Fin 2048) (x : Fin 1) :
    (lArr e : S4x4x2048x1.Idx → EReal) (ix4 b h i x) = ∑ j, (e (ix4 b h i j) : EReal) := by
  pointwise [lArr]

theorem dsArr_apply (dp e : FVec Ideal S4x4x2048x256 .f32) (l : FVec Ideal S4x4x2048x1 .f32) (b h : Fin 4) (i : Fin 2048) (j : Fin 256) :
    (dsArr dp e l : S4x4x2048x256.Idx → EReal) (ix4 b h i j)
      = (Ideal.div (dp (ix4 b h i j)) (l (ix4 b h i 0)) + -∑ k, (dp (ix4 b h i k) : EReal) * Ideal.div 1 (l (ix4 b h i 0) * l (ix4 b h i 0)) * e (ix4 b h i k)) * e (ix4 b h i j) * scale := by
  pointwise [dsArr]
  rw [Fin.sum_univ_one]

/-- The gradient of the scores, as the reference spells it. -/
def dscoresR (A : S4x2048x2048.Idx → EReal) (B : S4x256x1024.Idx → EReal)
    (C : S4x2048x512.Idx → EReal) (b h : Fin 4) (i : Fin 2048) (j : Fin 256) : EReal :=
  rowDsR scale (score A B b h i) (dweight B C b h i) j

/-- The exponentials as an array. -/
def expArr (A : S4x2048x2048.Idx → EReal) (B : S4x256x1024.Idx → EReal) : FVec Ideal S4x4x2048x256 .f32 :=
  eArr (sArr A B) (mxArr (sArr A B))

theorem expArr_apply (A : S4x2048x2048.Idx → EReal) (B : S4x256x1024.Idx → EReal) (b h : Fin 4) (i : Fin 2048) (j : Fin 256) :
    (expArr A B : S4x4x2048x256.Idx → EReal) (ix4 b h i j) = rowExp (score A B b h i) j := by
  unfold expArr
  rw [eArr_apply, mxArr_apply]
  simp only [sArr_apply]
  rfl

theorem sumArr_apply (A : S4x2048x2048.Idx → EReal) (B : S4x256x1024.Idx → EReal) (b h : Fin 4) (i : Fin 2048) (x : Fin 1) :
    (lArr (expArr A B) : S4x4x2048x1.Idx → EReal) (ix4 b h i x) = rowSum (score A B b h i) := by
  rw [lArr_apply]
  simp only [expArr_apply]
  rfl

/-- The gradient of the scores as an array. -/
def gradArr (A : S4x2048x2048.Idx → EReal) (B : S4x256x1024.Idx → EReal) (C : S4x2048x512.Idx → EReal) : FVec Ideal S4x4x2048x256 .f32 :=
  dsArr (dpArr B C) (expArr A B) (lArr (expArr A B))

theorem gradArr_apply (A : S4x2048x2048.Idx → EReal) (B : S4x256x1024.Idx → EReal) (C : S4x2048x512.Idx → EReal) (b h : Fin 4) (i : Fin 2048) (j : Fin 256) :
    (gradArr A B C : S4x4x2048x256.Idx → EReal) (ix4 b h i j) = dscoresR A B C b h i j := by
  unfold gradArr
  rw [dsArr_apply]
  simp only [expArr_apply, sumArr_apply, dpArr_apply]
  rfl

variable (m : (ℓ : Loc nD τ sig) → Buf (Elt Ideal) ℓ)

abbrev argA (c : Dev nD) : S4x2048x2048.Idx → EReal := m ((c : Thread nD τ).loc main_arg0)
abbrev argB (c : Dev nD) : S4x256x1024.Idx → EReal := m ((c : Thread nD τ).loc main_arg1)
abbrev argC (c : Dev nD) : S4x2048x512.Idx → EReal := m ((c : Thread nD τ).loc main_arg2)
abbrev argD (c : Dev nD) : S4x2048x2048.Idx → EReal := m ((c : Thread nD τ).loc main_arg3)

/-- The keys' gradient from the scores' gradient and the queries. -/
def dkArr (g : FVec Ideal S4x4x2048x256 .f32) (q : FVec Ideal S4x2048x4x128 .f32) : FVec Ideal S4x256x512 .bf16 :=
  truncf .bf16 (shapeCast S4x256x512 (transpose S4x256x4x128 [0, 2, 1, 3] (Host.dotGeneral dot_S4x4x2048x256_S4x2048x4x128_S4x4x256x128_2_1_3_3_01_02 none g q) transposes_S4x4x256x128_S4x256x4x128_0_2_1_3) shapeCasts_S4x256x4x128_S4x256x512) bitsLt_bf16_f32

theorem v71_eq (c : Dev nD) : res_main_v71 m c = dkArr (gradArr (argA m c) (argB m c) (argC m c)) (qArr (argA m c)) := rfl

theorem dkArr_apply (g : FVec Ideal S4x4x2048x256 .f32) (A : S4x2048x2048.Idx → EReal) (b : Fin 4) (j : Fin 256) (k : Fin 512) :
    (dkArr g (qArr A) : S4x256x512.Idx → EReal) (ix3 b j k) = dk (fun b h i j => g (ix4 b h i j)) A b (hd k) j (ln k) := by
  pointwise [dkArr, qArr]
  unfold dk
  refine Finset.sum_congr rfl fun d _ => ?_
  congr 3 <;> apply Fin.ext <;> simp only [hd, ln] <;> omega

/-- The queries' gradient from the scores' gradient and the keys. -/
def dqArr (g : FVec Ideal S4x4x2048x256 .f32) (k : FVec Ideal S4x256x4x128 .f32) : FVec Ideal S4x2048x512 .bf16 :=
  truncf .bf16 (shapeCast S4x2048x512 (transpose S4x2048x4x128 [0, 2, 1, 3] (Host.dotGeneral dot_S4x4x2048x256_S4x256x4x128_S4x4x2048x128_3_1_2_3_01_02 none g k) transposes_S4x4x2048x128_S4x2048x4x128_0_2_1_3) shapeCasts_S4x2048x4x128_S4x2048x512) bitsLt_bf16_f32

theorem dqArr_apply (g : FVec Ideal S4x4x2048x256 .f32) (B : S4x256x1024.Idx → EReal) (b : Fin 4) (i : Fin 2048) (k : Fin 512) :
    (dqArr g (kArr B) : S4x2048x512.Idx → EReal) (ix3 b i k) = dq (fun b h i j => g (ix4 b h i j)) B b (hd k) i (ln k) := by
  pointwise [dqArr, kArr]
  unfold dq
  refine Finset.sum_congr rfl fun d _ => ?_
  congr 3 <;> apply Fin.ext <;> simp only [hd, ln] <;> omega

/-- The whole projection's gradient: the carried lanes, then the queries' gradient. -/
def catArr (D : S4x2048x2048.Idx → EReal) (q : FVec Ideal S4x2048x512 .bf16) : FVec Ideal S4x2048x2048 .bf16 :=
  concatenate S4x2048x2048 2 [⟨S4x2048x1536, (extractStridedSlice S4x2048x1536 ![0, 0, 0] (D : FVec Ideal S4x2048x2048 .bf16) slices_S4x2048x2048_S4x2048x1536_0_0_0)⟩, ⟨S4x2048x512, q⟩] concatenates_S4x2048x1536_S4x2048x512_S4x2048x2048_d2

theorem v69_eq (c : Dev nD) : res_main_v69 m c = catArr (argD m c) (dqArr (gradArr (argA m c) (argB m c) (argC m c)) (kArr (argB m c))) := rfl

theorem catArr_apply (D : S4x2048x2048.Idx → EReal) (q : FVec Ideal S4x2048x512 .bf16) (b : Fin 4) (i k : Fin 2048) :
    (catArr D q : S4x2048x2048.Idx → EReal) (ix3 b i k) = if (k : ℕ) < 1536 then D (ix3 b i k) else q (ix3 b i (qcol k)) := by
  pointwise [catArr]
  by_cases h : (k : ℕ) < 1536
  · rw [dif_pos h, if_pos h]
  · rw [dif_neg h, if_neg h]
    exact congrArg (fun x => q (ix3 b i x)) (Fin.ext (by simp only [qcol]; omega))

/-- The values' gradient from the weights and the cotangent. -/
def dvArr (e : FVec Ideal S4x4x2048x256 .f32) (l : FVec Ideal S4x4x2048x1 .f32) (o : FVec Ideal S4x4x128x2048 .f32) : FVec Ideal S4x256x512 .bf16 :=
  truncf .bf16 (shapeCast S4x256x512 (transpose S4x256x4x128 [0, 3, 1, 2] (Host.dotGeneral dot_S4x4x128x2048_S4x4x2048x256_S4x4x128x256_3_2_2_3_01_01 none o (Host.divf e (broadcastInDim S4x4x2048x256 ![0, 1, 2, 3] bcast_S4x4x2048x1_S4x4x2048x256_0_1_2_3 l))) transposes_S4x4x128x256_S4x256x4x128_0_3_1_2) shapeCasts_S4x256x4x128_S4x256x512) bitsLt_bf16_f32

theorem dvArr_apply (e : FVec Ideal S4x4x2048x256 .f32) (l : FVec Ideal S4x4x2048x1 .f32) (C : S4x2048x512.Idx → EReal) (b : Fin 4) (j : Fin 256) (k : Fin 512) :
    (dvArr e l (oArr C) : S4x256x512.Idx → EReal) (ix3 b j k) = dv (fun b h i j => Ideal.div (e (ix4 b h i j)) (l (ix4 b h i 0))) C b (hd k) j (ln k) := by
  pointwise [dvArr, oArr]
  unfold dv
  refine Finset.sum_congr rfl fun i _ => ?_
  rw [mul_comm]
  refine congrArg (_ * C ·) ?_
  congr 1; apply Fin.ext; simp only [hd, ln]; omega

/-! ## Finite scores -/

/-- A float word whose exponent is not the largest denotes a real number. -/
theorem ieee_real {w e f : ℕ} (x : BitVec w) (h : (x.extractLsb' f e).toNat ≠ 2 ^ e - 1) : ∃ r : ℝ, Ideal.ieee e f x = (r : EReal) := by
  unfold Ideal.ieee
  dsimp only
  rw [if_neg h]
  split_ifs <;> exact ⟨_, rfl⟩

theorem scale_real : ∃ r : ℝ, scale = (r : EReal) := ieee_real (e := 8) (f := 23) 0x3DB504F3#32 (by decide)

theorem score_real (A : S4x2048x2048.Idx → EReal) (B : S4x256x1024.Idx → EReal) (b h : Fin 4) (i : Fin 2048) (j : Fin 256)
    (hA : ∀ k : Fin 2048, 1536 ≤ (k : ℕ) → ∃ r : ℝ, A (ix3 b i k) = (r : EReal))
    (hB : ∀ k : Fin 1024, (k : ℕ) < 512 → ∃ r : ℝ, B (ix3 b j k) = (r : EReal)) :
    ∃ r : ℝ, score A B b h i j = (r : EReal) := by
  obtain ⟨κ, hκ⟩ := scale_real
  choose f hf using fun d : Fin 128 => hA ⟨1536 + 128 * (h : ℕ) + d, by omega⟩ (by simp only []; omega)
  choose g hg using fun d : Fin 128 => hB ⟨128 * (h : ℕ) + d, by omega⟩ (by simp only []; omega)
  refine ⟨(∑ d, f d * g d) * κ, ?_⟩
  unfold score
  rw [hκ, EReal.coe_mul]
  refine congrArg (· * (κ : EReal)) ?_
  simp only [hf, hg, ← EReal.coe_mul]
  exact (map_sum (⟨⟨(fun x : ℝ => (x : EReal)), EReal.coe_zero⟩, EReal.coe_add⟩ : ℝ →+ EReal) _ _).symm

/-- With finite queries and keys the reference's gradient of the scores is the kernel's. -/
theorem dscoresR_eq (A : S4x2048x2048.Idx → EReal) (B : S4x256x1024.Idx → EReal) (C : S4x2048x512.Idx → EReal)
    (hA : ∀ (b : Fin 4) (i k : Fin 2048), 1536 ≤ (k : ℕ) → ∃ r : ℝ, A (ix3 b i k) = (r : EReal))
    (hB : ∀ (b : Fin 4) (j : Fin 256) (k : Fin 1024), (k : ℕ) < 512 → ∃ r : ℝ, B (ix3 b j k) = (r : EReal)) :
    dscoresR A B C = dscores A B C := by
  funext b h i j
  have hs := fun j => score_real A B b h i j (hA b i) (hB b j)
  unfold dscoresR dscores
  refine (rowDs_eq scale _ _ (fun j e => ?_) (fun j e => ?_) j).symm
  · obtain ⟨r, hr⟩ := hs j
    exact EReal.coe_ne_bot r (hr ▸ e)
  · obtain ⟨r, hr⟩ := hs j
    exact EReal.coe_ne_top r (hr ▸ e)

/-! ## The reference's results -/

variable (c : Dev nD)
    (hA : ∀ (b : Fin 4) (i k : Fin 2048), 1536 ≤ (k : ℕ) → ∃ r : ℝ, argA m c (ix3 b i k) = (r : EReal))
    (hB : ∀ (b : Fin 4) (j : Fin 256) (k : Fin 1024), (k : ℕ) < 512 → ∃ r : ℝ, argB m c (ix3 b j k) = (r : EReal))

include hA hB in
/-- The reference's gradient of the projection. -/
theorem v69 : res_main_v69 m c = resQ (argA m c) (argB m c) (argC m c) (argD m c) := by
  rw [v69_eq]
  funext x
  change S4x2048x2048.Idx at x
  obtain ⟨b, i, k, rfl⟩ : ∃ b i k, x = ix3 b i k := ⟨x 0, x 1, x 2, eq_ix3 x⟩
  refine (catArr_apply _ _ b i k).trans ?_
  by_cases h : (k : ℕ) < 1536
  · rw [if_pos h]
    exact (resQ_apply_lt _ _ _ _ _ h).symm
  · rw [if_neg h, dqArr_apply]
    simp only [gradArr_apply, dscoresR_eq _ _ _ hA hB]
    unfold resQ
    exact (if_pos (show 1536 ≤ ((ix3 b i k : S4x2048x2048.Idx) 2 : ℕ) from Nat.le_of_not_lt h)).symm

include hA hB in
/-- The reference's gradient of the keys. -/
theorem v71 : res_main_v71 m c = resK (argA m c) (argB m c) (argC m c) := by
  rw [v71_eq]
  funext x
  change S4x256x512.Idx at x
  idx_vars x
  refine (dkArr_apply _ _ _ _ _).trans ?_
  simp only [gradArr_apply, dscoresR_eq _ _ _ hA hB]
  rfl

/-- The reference's gradient of the values. -/
theorem v73 : dvArr (expArr (argA m c) (argB m c)) (lArr (expArr (argA m c) (argB m c))) (oArr (argC m c)) = resV (argA m c) (argB m c) (argC m c) := by
  funext x
  change S4x256x512.Idx at x
  idx_vars x
  refine (dvArr_apply _ _ _ _ _ _).trans ?_
  simp only [expArr_apply, sumArr_apply]
  rfl

end Cert.Mem.Ref

end
-- ==== Proof.MemClaim.lean ====
module

public import proofs.«01_k».proof.Defs
public import proofs.«01_k».proof.Proof.Gen.Pre_finite_queries_keys
public import proofs.«01_k».proof.Proof.MemBlock
public import proofs.«01_k».proof.Proof.MemRef
public import Idealize.ShloMosaic.Lib.Claim

@[expose] public section

set_option maxRecDepth 16384

noncomputable section

namespace Cert.Mem

open Idealize.ShloMosaic Idealize.SL.Sem

/-- An extended real strictly between the infinities is a real number. -/
theorem real_of_lt {x : EReal} (h₁ : ⊥ < x) (h₂ : x < ⊤) : ∃ r : ℝ, x = (r : EReal) :=
  ⟨x.toReal, (EReal.coe_toReal h₂.ne h₁.ne').symm⟩

theorem ofBits_pinf : Ideal.ofBits .f32 0x7F800000#32 = ⊤ := by simp [Ideal.ofBits, Ideal.ieee]

theorem of_ofBool {p : Prop} [Decidable p] (h : BitVec.ofBool (decide p) = 1#1) : p := by
  by_contra hp
  rw [decide_eq_false hp] at h
  exact absurd h (by decide)

variable (m : (ℓ : Loc Cert.KernelIdeal.nD Cert.KernelIdeal.τ Cert.KernelIdeal.sig) → Buf (Elt Ideal) ℓ)
variable [Cert.Pre_finite_queries_keys.Facts]

/-- Under the precondition every query is a real number. -/
theorem query_real (h : Cert.Pre_KernelIdeal_finite_queries_keys m) (c : Dev Cert.KernelIdeal.nD) (b : Fin 4) (i k : Fin 2048) (hk : 1536 ≤ (k : ℕ)) :
    ∃ r : ℝ, argA m c (ix3 b i k) = (r : EReal) := by
  have h₁ := congrFun (h c).1 (ix3 b i ⟨(k : ℕ) - 1536, by omega⟩)
  have h₂ := congrFun (h c).2.1 (ix3 b i ⟨(k : ℕ) - 1536, by omega⟩)
  dsimp only [Cert.Pre_finite_queries_keys.fn] at h₁ h₂
  pointwise [] at h₁
  pointwise [] at h₂
  rw [Ref.ofBits_ninf] at h₁
  rw [ofBits_pinf] at h₂
  have e : (⟨1536 + ((k : ℕ) - 1536), by omega⟩ : Fin 2048) = k := Fin.ext (by simp only []; omega)
  rw [e] at h₁ h₂
  exact real_of_lt (of_ofBool h₁) (of_ofBool h₂)

/-- Under the precondition every key is a real number. -/
theorem key_real (h : Cert.Pre_KernelIdeal_finite_queries_keys m) (c : Dev Cert.KernelIdeal.nD) (b : Fin 4) (j : Fin 256) (k : Fin 1024) (hk : (k : ℕ) < 512) :
    ∃ r : ℝ, argB m c (ix3 b j k) = (r : EReal) := by
  have h₁ := congrFun (h c).2.2.1 (ix3 b j ⟨(k : ℕ), hk⟩)
  have h₂ := congrFun (h c).2.2.2 (ix3 b j ⟨(k : ℕ), hk⟩)
  dsimp only [Cert.Pre_finite_queries_keys.fn] at h₁ h₂
  pointwise [] at h₁
  pointwise [] at h₂
  rw [Ref.ofBits_ninf] at h₁
  rw [ofBits_pinf] at h₂
  exact real_of_lt (of_ofBool h₁) (of_ofBool h₂)

omit [Cert.Pre_finite_queries_keys.Facts] in
/-- The reference's frame: it ends with its arguments unchanged and every counter at zero. -/
theorem frameR : Cert.quiescent_ReferenceIdeal := by
  intro m g _
  exact (θ_run Cert.ReferenceIdeal.defs _ _).mono (fun r h => ⟨fun c => (h c).2.2.2, sem_eq_zero_of_no_sems (by decide) r.2⟩)
    (Cert.ReferenceIdeal.Value.run m g)

/-- The kernel and the reference end with the same three arrays. -/
theorem algebraic : Cert.algebraic_KernelIdeal_ReferenceIdeal_pre_finite_queries_keys := by
  intro m g m' g' hpre hagree
  refine ⟨fun c => resQ (argA m c) (argB m c) (argC m c) (argD m c), fun c => resK (argA m c) (argB m c) (argC m c),
    fun c => resV (argA m c) (argB m c) (argC m c), ?_, ?_⟩
  · refine (θ_run Cert.KernelIdeal.defs _ _).mono (fun r h c => ?_) (Cert.KernelIdeal.Value.run_blocks m g)
    have hc := h c
    exact ⟨hc.1.trans (final4 m c), hc.2.1.trans (final5 m c), hc.2.2.1.trans (final6 m c), hc.2.2.2⟩
  · refine (θ_run Cert.ReferenceIdeal.defs _ _).mono (fun r h c => ?_) (Cert.ReferenceIdeal.Value.run m' g')
    have hc := h c
    have eA : Ref.argA m' c = argA m c := (hagree c).1
    have eB : Ref.argB m' c = argB m c := (hagree c).2.1
    have eC : Ref.argC m' c = argC m c := (hagree c).2.2.1
    have eD : Ref.argD m' c = argD m c := (hagree c).2.2.2
    have hA : ∀ (b : Fin 4) (i k : Fin 2048), 1536 ≤ (k : ℕ) → ∃ r : ℝ, Ref.argA m' c (ix3 b i k) = (r : EReal) := by
      rw [eA]; exact query_real m hpre c
    have hB : ∀ (b : Fin 4) (j : Fin 256) (k : Fin 1024), (k : ℕ) < 512 → ∃ r : ℝ, Ref.argB m' c (ix3 b j k) = (r : EReal) := by
      rw [eB]; exact key_real m hpre c
    refine ⟨hc.1.trans ?_, hc.2.1.trans ?_, hc.2.2.1.trans ?_, hc.2.2.2⟩
    · rw [Ref.v69 m' c hA hB, eA, eB, eC, eD]
    · rw [Ref.v71 m' c hA hB, eA, eB, eC]
    · refine (Ref.v73 m' c).trans ?_
      rw [eA, eB, eC]

end Cert.Mem

end
-- ==== Proof.ProdSpec.lean ====
/- The products of the step: the three ways a product's operands are laid out, as sums over the contracted axis. -/
module

public import Idealize.ShloMosaic.Lib.Pointwise
public import Idealize.ShloMosaic.Lib.Pipeline.ValueKit
public import Idealize.ShloMosaic.Adequacy

@[expose] public section

noncomputable section

namespace Cert.Prod

open Idealize.ShloMosaic

/-- The array of `a` rows and `b` columns. -/
abbrev Mat (a b : ℕ) : Type := (⟨2, ![a, b]⟩ : Shape).Idx → EReal

/-- `A · B`. -/
def nn {M K N : ℕ} (A : Mat M K) (B : Mat K N) : Mat M N := fun i => ∑ k : Fin K, A (ix2 (i 0) k) * B (ix2 k (i 1))

/-- `A · Bᵀ`. -/
def nt {M K N : ℕ} (A : Mat M K) (B : Mat N K) : Mat M N := fun i => ∑ k : Fin K, A (ix2 (i 0) k) * B (ix2 (i 1) k)

/-- `Aᵀ · B`. -/
def tn {M K N : ℕ} (A : Mat K M) (B : Mat K N) : Mat M N := fun i => ∑ k : Fin K, A (ix2 k (i 0)) * B (ix2 k (i 1))

theorem nn_apply {M K N : ℕ} (A : Mat M K) (B : Mat K N) (i : Fin M) (j : Fin N) :
    nn A B (ix2 i j) = ∑ k : Fin K, A (ix2 i k) * B (ix2 k j) := rfl

theorem nt_apply {M K N : ℕ} (A : Mat M K) (B : Mat N K) (i : Fin M) (j : Fin N) :
    nt A B (ix2 i j) = ∑ k : Fin K, A (ix2 i k) * B (ix2 j k) := rfl

theorem tn_apply {M K N : ℕ} (A : Mat K M) (B : Mat K N) (i : Fin M) (j : Fin N) :
    tn A B (ix2 i j) = ∑ k : Fin K, A (ix2 k i) * B (ix2 k j) := rfl

/-- Two sums of products agree where their factors do. -/
theorem sum_mul_congr {K : ℕ} {a b a' b' : Fin K → EReal} (ha : ∀ k, a k = a' k) (hb : ∀ k, b k = b' k) :
    ∑ k, a k * b k = ∑ k, a' k * b' k :=
  Finset.sum_congr rfl fun k _ => by rw [ha k, hb k]

end Cert.Prod

end
-- ==== Proof.SwiSpec.lean ====
/- The gradient of the SwiGLU, element by element, in the kernel's spelling and in the reference's. -/
module

public import proofs.«01_k».proof.Proof.ProdSpec

@[expose] public section

noncomputable section

namespace Cert.Swi

open Idealize.ShloMosaic

/-- The gradient of `silu a · b` by `a` at the cotangent `d`, as the kernel computes it. -/
def dA (d a b : EReal) : EReal := d * b * (Ideal.logistic a * (1 + a * (1 - Ideal.logistic a)))

/-- The gradient of `silu a · b` by `b` at the cotangent `d`. -/
def dB (d a : EReal) : EReal := d * (a * Ideal.logistic a)

/-- The gradient by `a`, as differentiating the product `a · logistic a` gives it. -/
def dAR (d a b : EReal) : EReal :=
  d * b * Ideal.logistic a + a * (d * b) * (Ideal.logistic a * (1 - Ideal.logistic a))

/-- The two spellings agree where the cotangent and `b` are finite. -/
theorem dA_eq (d b : ℝ) (a : EReal) : dA d a b = dAR d a b := by
  unfold dA dAR
  induction a using EReal.rec with
  | bot => simp
  | top =>
    have h : (1 : EReal) - 1 = 0 := by rw [← EReal.coe_one, ← EReal.coe_sub, sub_self, EReal.coe_zero]
    simp [h]
  | coe a =>
    rw [Ideal.logistic_coe]
    generalize (1 + Real.exp (-a))⁻¹ = s
    norm_cast
    ring

end Cert.Swi

end
-- ==== Proof.SwiBlock.lean ====
module

public import proofs.«01_k».proof.Proof.Gen.Kernel2Ideal.Value
public import proofs.«01_k».proof.Proof.SwiSpec

@[expose] public section

set_option maxRecDepth 16384

noncomputable section

namespace Cert.Swi

open Idealize.ShloMosaic Idealize.ShloMosaic.TcCoe Idealize.SL.Sem
open Cert.Kernel2Ideal Cert.Kernel2Ideal.Gen

variable (m : (ℓ : Loc nD τ sig) → Buf (Elt Ideal) ℓ)

/-- The arrays of device `c` that the call reads: the cotangent, the weights, and the two halves of the SwiGLU's input. -/
abbrev argD (c : Dev nD) : Prod.Mat 8192 1024 := m ((c : Thread nD τ).loc main_arg0)
abbrev argW (c : Dev nD) : Prod.Mat 2816 1024 := m ((c : Thread nD τ).loc main_arg1)
abbrev argA (c : Dev nD) : Prod.Mat 8192 2816 := m ((c : Thread nD τ).loc main_arg2)
abbrev argB (c : Dev nD) : Prod.Mat 8192 2816 := m ((c : Thread nD τ).loc main_arg3)

/-- The gradient of the SwiGLU's input: the first half's columns, then the second half's. -/
def res (D : Prod.Mat 8192 1024) (W : Prod.Mat 2816 1024) (A B : Prod.Mat 8192 2816) : Prod.Mat 8192 5632 := fun i =>
  if h : (i 1 : ℕ) < 2816 then dA (Prod.nt D W (ix2 (i 0) ⟨i 1, h⟩)) (A (ix2 (i 0) ⟨i 1, h⟩)) (B (ix2 (i 0) ⟨i 1, h⟩))
  else dB (Prod.nt D W (ix2 (i 0) ⟨(i 1 : ℕ) - 2816, by have : (i 1 : ℕ) < 5632 := (i 1).isLt; omega⟩))
    (A (ix2 (i 0) ⟨(i 1 : ℕ) - 2816, by have : (i 1 : ℕ) < 5632 := (i 1).isLt; omega⟩))

/-- The blocks that grid point `t` reads and writes: rows `256 t …`. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] := by decide +kernel

theorem pay4_apply (d : Vec Ideal S256x1024 .bf16) (w : Vec Ideal S2816x1024 .bf16) (a b : Vec Ideal S256x2816 .bf16) (i : Fin 256) (j : Fin 2816) :
    k0_pay4 (F := Ideal) d w a b (ix2 i j) = dA (∑ k : Fin 1024, d (ix2 i k) * w (ix2 j k)) (a (ix2 i j)) (b (ix2 i j)) := by
  pointwise [k0_pay4, k0_pay1, k0_pay2, k0_pay3, dA, Ideal.logistic]

theorem pay5_apply (d : Vec Ideal S256x1024 .bf16) (w : Vec Ideal S2816x1024 .bf16) (a : Vec Ideal S256x2816 .bf16) (i : Fin 256) (j : Fin 2816) :
    k0_pay5 (F := Ideal) d w a (ix2 i j) = dB (∑ k : Fin 1024, d (ix2 i k) * w (ix2 j k)) (a (ix2 i j)) := by
  pointwise [k0_pay5, k0_pay1, k0_pay2, k0_pay3, dB]

/-- The kernel's output array is the gradient, each half of the columns in the kernel's spelling. -/
theorem final (c : Dev nD) : (dats m 0 c).arrAt 4 cfg0.N = res (argD m c) (argW m c) (argA m c) (argB m c) := by
  refine (dats m 0 c).arrAt_eq_of_covers 4 _ (by decide +kernel) fun t hf y => ?_
  blk_simp
  rw [after0_4]
  frame_out
  change S256x5632.Idx at y
  refine View.canon_apply_of_pieces (Val := Elt Ideal) (fun y : S256x5632.Idx => res (argD m c) (argW m c) (argA m c) (argB m c) (((View.whole main_v0).slice (win0_4.rect t)).emb y))
    _ (fun p hp x => ?_) y (cover0_4 _ _ y)
  have ht : t.val < 32 := t.isLt
  simp only [List.mem_cons, List.not_mem_nil, or_false] at hp
  rcases hp with rfl | rfl
  · change S256x2816.Idx at x
    idx_vars x
    show k0_pay5 (F := Ideal) _ _ _ _ = _
    rw [pay5_apply]
    unfold res
    rw [dif_neg ?_]
    refine congrArg₂ dB ?_ ?_
    · refine Eq.trans ?_ (Prod.nt_apply _ _ _ _).symm
      refine Prod.sum_mul_congr (fun k => ?_) fun k => ?_
      · blk_ext [iblk, V, idx t]
      · blk_ext [iblk, V, idx t]
    · blk_ext [iblk, V, idx t]
    · show ¬(_ + 1 * (2816 + 1 * x1.val) < 2816)
      omega
  · change S256x2816.Idx at x
    idx_vars x
    show k0_pay4 (F := Ideal) _ _ _ _ _ = _
    rw [pay4_apply]
    unfold res
    rw [dif_pos ?_]
    congr 1
    · refine Eq.trans ?_ (Prod.nt_apply _ _ _ _).symm
      refine Prod.sum_mul_congr (fun k => ?_) fun k => ?_
      · blk_ext [iblk, V, idx t]
      · blk_ext [iblk, V, idx t]
    · blk_ext [iblk, V, idx t]
    · blk_ext [iblk, V, idx t]
    · have h1 : win0_4.index t 1 = 0 := by rw [(idx t).2.2.2.2]; rfl
      show win0_4.index t 1 * 5632 + 1 * (0 + 1 * x1.val) < 2816
      have := x1.isLt
      omega

end Cert.Swi

end
-- ==== Proof.SwiRef.lean ====
module

public import proofs.«01_k».proof.Proof.Gen.Reference2Ideal.Run
public import proofs.«01_k».proof.Proof.SwiSpec

@[expose] public section

set_option maxRecDepth 16384

noncomputable section

namespace Cert.Swi.Ref

open Idealize.ShloMosaic Idealize.ShloMosaic.TcCoe Idealize.SL.Sem
open Cert.Reference2Ideal Cert.Reference2Ideal.Gen Cert.Reference2Ideal.Facts

variable (m : (ℓ : Loc nD τ sig) → Buf (Elt Ideal) ℓ)

/-- The arrays the reference reads on device `c`: the cotangent, the weights, the two halves of the SwiGLU's input. -/
abbrev argD (c : Dev nD) : Prod.Mat 8192 1024 := m ((c : Thread nD τ).loc main_arg0)
abbrev argW (c : Dev nD) : Prod.Mat 2816 1024 := m ((c : Thread nD τ).loc main_arg1)
abbrev argA (c : Dev nD) : Prod.Mat 8192 2816 := m ((c : Thread nD τ).loc main_arg2)
abbrev argB (c : Dev nD) : Prod.Mat 8192 2816 := m ((c : Thread nD τ).loc main_arg3)

/-- The cotangent of the SwiGLU. -/
def dArr (D : Prod.Mat 8192 1024) (W : Prod.Mat 2816 1024) : FVec Ideal S8192x2816 .f32 :=
  Host.dotGeneral dot_S8192x1024_S2816x1024_S8192x2816_1_1_0_0_n_n none (extf (φ := .bf16) .f32 D bitsLt_bf16_f32) (extf (φ := .bf16) .f32 W bitsLt_bf16_f32)

/-- The SwiGLU's input, its two halves joined. -/
def guArr (A B : Prod.Mat 8192 2816) : FVec Ideal S8192x5632 .f32 :=
  concatenate S8192x5632 1 [⟨S8192x2816, (extf (φ := .bf16) .f32 A bitsLt_bf16_f32)⟩, ⟨S8192x2816, (extf (φ := .bf16) .f32 B bitsLt_bf16_f32)⟩] concatenates_S8192x2816_S8192x2816_S8192x5632_d1

/-- The first half of it. -/
def aArr (A B : Prod.Mat 8192 2816) : FVec Ideal S8192x2816 .f32 :=
  extractStridedSlice S8192x2816 ![0, 0] (guArr A B) slices_S8192x5632_S8192x2816_0_0

/-- The second half. -/
def bArr (A B : Prod.Mat 8192 2816) : FVec Ideal S8192x2816 .f32 :=
  extractStridedSlice S8192x2816 ![0, 2816] (guArr A B) slices_S8192x5632_S8192x2816_0_2816

/-- The sum and product of the parts, out of the stages. -/
def outArr (d a b : FVec Ideal S8192x2816 .f32) : FVec Ideal S8192x5632 .bf16 :=
  let one := (broadcastInDim S8192x2816 ![] bcast_S_S8192x2816 (constant (F := Ideal) S_ .f32 0x3F800000#32))
  let s := Host.divf one (addf one (Host.exp (Host.negf a)))
  truncf .bf16 (addf (pad S8192x5632 ![0, 2816] ![0, 0] ![0, 0] (mulf (mulf a s) d) (constant S_ .f32 0x00000000#32) pads_S8192x2816_S8192x5632_000_281600 h_S_)
    (pad S8192x5632 ![0, 0] ![0, 2816] ![0, 0] (addf (mulf (mulf d b) s) (mulf (mulf a (mulf d b)) (mulf s (subf one s)))) (constant S_ .f32 0x00000000#32) pads_S8192x2816_S8192x5632_000_028160 h_S_)) bitsLt_bf16_f32

theorem v17_eq (c : Dev nD) : Value.res_main_v17 m c
    = outArr (dArr (argD m c) (argW m c)) (aArr (argA m c) (argB m c)) (bArr (argA m c) (argB m c)) := rfl

theorem dArr_apply (D : Prod.Mat 8192 1024) (W : Prod.Mat 2816 1024) (i : Fin 8192) (j : Fin 2816) :
    dArr D W (ix2 i j) = Prod.nt D W (ix2 i j) := by
  refine Eq.trans ?_ (Prod.nt_apply _ _ i j).symm
  pointwise [dArr]

theorem aArr_apply (A B : Prod.Mat 8192 2816) (i : Fin 8192) (j : Fin 2816) : aArr A B (ix2 i j) = A (ix2 i j) := by
  pointwise [aArr, guArr]

theorem bArr_apply (A B : Prod.Mat 8192 2816) (i : Fin 8192) (j : Fin 2816) : bArr A B (ix2 i j) = B (ix2 i j) := by
  pointwise [bArr, guArr]

theorem out_left (d a b : FVec Ideal S8192x2816 .f32) (i : Fin 8192) (j : Fin 5632) (h : (j : ℕ) < 2816) :
    outArr d a b (ix2 i j) = dAR (d (ix2 i ⟨j, h⟩)) (a (ix2 i ⟨j, h⟩)) (b (ix2 i ⟨j, h⟩)) := by
  pointwise [outArr, dAR, Ideal.logistic]
  rw [dif_neg (by omega), dif_pos h, zero_add]

theorem out_right (d a b : FVec Ideal S8192x2816 .f32) (i : Fin 8192) (j : Fin 5632) (h : ¬(j : ℕ) < 2816) :
    outArr d a b (ix2 i j) = dB (d (ix2 i ⟨(j : ℕ) - 2816, by omega⟩)) (a (ix2 i ⟨(j : ℕ) - 2816, by omega⟩)) := by
  pointwise [outArr, dB, Ideal.logistic]
  rw [dif_pos ⟨by omega, by omega⟩, dif_neg h, add_zero, mul_comm]

end Cert.Swi.Ref

end
-- ==== Proof.SwiClaim.lean ====
/- The gradient of the SwiGLU: the kernel and the reference agree where the cotangent, the weights and the second half of
   the SwiGLU's input are finite. -/
module

public import proofs.«01_k».proof.Defs
public import proofs.«01_k».proof.Proof.Gen.Pre_finite_swiglu
public import proofs.«01_k».proof.Proof.MemClaim
public import proofs.«01_k».proof.Proof.SwiBlock
public import proofs.«01_k».proof.Proof.SwiRef
public import Idealize.ShloMosaic.Lib.Claim

@[expose] public section

set_option maxRecDepth 16384

noncomputable section

namespace Cert.Swi

open Idealize.ShloMosaic Idealize.SL.Sem

/-- A sum of products of real numbers is a real number. -/
theorem real_sum_mul {n : ℕ} {u v : Fin n → EReal} (hu : ∀ k, ∃ r : ℝ, u k = (r : EReal)) (hv : ∀ k, ∃ r : ℝ, v k = (r : EReal)) :
    ∃ r : ℝ, ∑ k : Fin n, u k * v k = (r : EReal) := by
  choose f hf using hu
  choose g hg using hv
  refine ⟨∑ k : Fin n, f k * g k, ?_⟩
  have e : ∀ s : Finset (Fin n), ∑ k ∈ s, u k * v k = ((∑ k ∈ s, f k * g k : ℝ) : EReal) := fun s => by
    classical
    induction s using Finset.induction_on with
    | empty => simp
    | insert a s ha ih => rw [Finset.sum_insert ha, Finset.sum_insert ha, ih, hf, hg, EReal.coe_add, EReal.coe_mul]
  exact e _

variable (m : (ℓ : Loc Cert.Kernel2Ideal.nD Cert.Kernel2Ideal.τ Cert.Kernel2Ideal.sig) → Buf (Elt Ideal) ℓ)
variable [Cert.Pre_finite_swiglu.Facts]

/-- Under the precondition the cotangent is a real number everywhere. -/
theorem D_real (h : Cert.Pre_Kernel2Ideal_finite_swiglu m) (c : Dev Cert.Kernel2Ideal.nD) (i : Fin 8192) (j : Fin 1024) :
    ∃ r : ℝ, argD m c (ix2 i j) = (r : EReal) := by
  have h₁ := congrFun (h c).1 (ix2 i j)
  have h₂ := congrFun (h c).2.1 (ix2 i j)
  dsimp only [Cert.Pre_finite_swiglu.fn] at h₁ h₂
  pointwise [] at h₁
  pointwise [] at h₂
  rw [Mem.Ref.ofBits_ninf] at h₁
  rw [Mem.ofBits_pinf] at h₂
  exact Mem.real_of_lt (Mem.of_ofBool h₁) (Mem.of_ofBool h₂)

/-- Under the precondition each weight is a real number. -/
theorem W_real (h : Cert.Pre_Kernel2Ideal_finite_swiglu m) (c : Dev Cert.Kernel2Ideal.nD) (i : Fin 2816) (j : Fin 1024) :
    ∃ r : ℝ, argW m c (ix2 i j) = (r : EReal) := by
  have h₁ := congrFun (h c).2.2.1 (ix2 i j)
  have h₂ := congrFun (h c).2.2.2.1 (ix2 i j)
  dsimp only [Cert.Pre_finite_swiglu.fn] at h₁ h₂
  pointwise [] at h₁
  pointwise [] at h₂
  rw [Mem.Ref.ofBits_ninf] at h₁
  rw [Mem.ofBits_pinf] at h₂
  exact Mem.real_of_lt (Mem.of_ofBool h₁) (Mem.of_ofBool h₂)

/-- Under the precondition the second half of the SwiGLU's input is a real number everywhere. -/
theorem B_real (h : Cert.Pre_Kernel2Ideal_finite_swiglu m) (c : Dev Cert.Kernel2Ideal.nD) (i : Fin 8192) (j : Fin 2816) :
    ∃ r : ℝ, argB m c (ix2 i j) = (r : EReal) := by
  have h₁ := congrFun (h c).2.2.2.2.1 (ix2 i j)
  have h₂ := congrFun (h c).2.2.2.2.2 (ix2 i j)
  dsimp only [Cert.Pre_finite_swiglu.fn] at h₁ h₂
  pointwise [] at h₁
  pointwise [] at h₂
  rw [Mem.Ref.ofBits_ninf] at h₁
  rw [Mem.ofBits_pinf] at h₂
  exact Mem.real_of_lt (Mem.of_ofBool h₁) (Mem.of_ofBool h₂)

omit [Cert.Pre_finite_swiglu.Facts] in
/-- The reference's array is the gradient the kernel leaves, where the parts are real numbers. -/
theorem ref_eq (D : Prod.Mat 8192 1024) (W : Prod.Mat 2816 1024) (A B : Prod.Mat 8192 2816)
    (hD : ∀ i j, ∃ r : ℝ, D (ix2 i j) = (r : EReal)) (hW : ∀ i j, ∃ r : ℝ, W (ix2 i j) = (r : EReal))
    (hB : ∀ i j, ∃ r : ℝ, B (ix2 i j) = (r : EReal)) :
    Ref.outArr (Ref.dArr D W) (Ref.aArr A B) (Ref.bArr A B) = res D W A B := by
  funext x
  obtain ⟨i, j, rfl⟩ : ∃ i j, x = ix2 i j := ⟨x 0, x 1, eq_ix2 x⟩
  by_cases h : (j : ℕ) < 2816
  · refine (Ref.out_left _ _ _ i j h).trans ?_
    rw [Ref.dArr_apply, Ref.aArr_apply, Ref.bArr_apply]
    refine Eq.trans ?_ (dif_pos (c := ((ix2 i j : (⟨2, ![8192, 5632]⟩ : Shape).Idx) 1 : ℕ) < 2816) h).symm
    obtain ⟨b, hb⟩ := hB i ⟨j, h⟩
    obtain ⟨d, hd⟩ := real_sum_mul (fun k => hD i k) fun k => hW ⟨j, h⟩ k
    have hd' : Prod.nt D W (ix2 i ⟨j, h⟩) = (d : EReal) := (Prod.nt_apply _ _ _ _).trans hd
    have e := dA_eq d b (A (ix2 i ⟨j, h⟩))
    rw [← hb, ← hd'] at e
    exact e.symm
  · refine (Ref.out_right _ _ _ i j h).trans ?_
    rw [Ref.dArr_apply, Ref.aArr_apply]
    refine Eq.trans ?_ (dif_neg (c := ((ix2 i j : (⟨2, ![8192, 5632]⟩ : Shape).Idx) 1 : ℕ) < 2816) h).symm
    rfl

omit [Cert.Pre_finite_swiglu.Facts] in
/-- The reference's frame: it ends with its arguments unchanged and every counter at zero. -/
theorem frameR : Cert.quiescent_Reference2Ideal := by
  intro m g _
  exact (θ_run Cert.Reference2Ideal.defs _ _).mono (fun r h => ⟨fun c => (h c).2, sem_eq_zero_of_no_sems (by decide) r.2⟩)
    (Cert.Reference2Ideal.Value.run m g)

/-- The kernel and the reference end with the same array. -/
theorem algebraic : Cert.algebraic_Kernel2Ideal_Reference2Ideal_pre_finite_swiglu := by
  intro m g m' g' hpre hagree
  refine ⟨fun c => res (argD m c) (argW m c) (argA m c) (argB m c), ?_, ?_⟩
  · refine (θ_run Cert.Kernel2Ideal.defs _ _).mono (fun r h c => ?_) (Cert.Kernel2Ideal.Value.run_blocks m g)
    exact ⟨(h c).1.trans (final m c), (h c).2⟩
  · refine (θ_run Cert.Reference2Ideal.defs _ _).mono (fun r h c => ?_) (Cert.Reference2Ideal.Value.run m' g')
    refine ⟨(h c).1.trans ?_, (h c).2⟩
    have eD : Ref.argD m' c = argD m c := (hagree c).1
    have eW : Ref.argW m' c = argW m c := (hagree c).2.1
    have eA : Ref.argA m' c = argA m c := (hagree c).2.2.1
    have eB : Ref.argB m' c = argB m c := (hagree c).2.2.2
    rw [Ref.v17_eq, eD, eW, eA, eB]
    exact ref_eq _ _ _ _ (fun i j => D_real m hpre c i j) (fun i j => W_real m hpre c i j) fun i j => B_real m hpre c i j

end Cert.Swi

end
-- ==== Proof.RmsSpec.lean ====
/- The root-mean-square norm of a row. -/
module

public import proofs.«01_k».proof.Proof.ProdSpec

@[expose] public section

noncomputable section

namespace Cert.Rms

open Idealize.ShloMosaic

/-- The mean of the squares of a row of 1024 numbers, and the norm's epsilon. -/
def var (f : Fin 1024 → EReal) : EReal := Ideal.div (∑ k, f k * f k) (Ideal.ofBits .f32 0x44800000#32) + Ideal.ofBits .f32 0x358637BD#32

/-- The reciprocal root of the mean square of a row. -/
def rstd (f : Fin 1024 → EReal) : EReal := Ideal.rsqrt (var f)

/-- The constant 1024 of the mean. -/
theorem ofBits_1024 : Ideal.ofBits .f32 0x44800000#32 = ((1024 : ℝ) : EReal) := by
  simp [Ideal.ofBits, Ideal.ieee, -EReal.coe_mul]; norm_num

/-- The constant minus one half of the derivative of the reciprocal root. -/
theorem ofBits_neg_half : Ideal.ofBits .f32 0xBF000000#32 = ((-(1 / 2) : ℝ) : EReal) := by
  simp [Ideal.ofBits, Ideal.ieee, -EReal.coe_mul, -EReal.coe_neg]; norm_num

/-- The norm's epsilon is a positive real. -/
theorem eps_pos : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-- Division by a real that is not zero is the product with its inverse. -/
theorem div_coe (x : EReal) {r : ℝ} (hr : r ≠ 0) : Ideal.div x (r : EReal) = x * ((r⁻¹ : ℝ) : EReal) := by
  unfold Ideal.div
  rw [if_neg (by exact_mod_cast hr), EReal.coe_inv]

/-- A square is not negative. -/
theorem mul_self_nonneg' (x : EReal) : 0 ≤ x * x := by
  rcases le_total 0 x with h | h
  · exact mul_nonneg h h
  · have : 0 ≤ -x := EReal.neg_nonneg.mpr h
    have := mul_nonneg this this
    rwa [neg_mul_neg] at this

/-- The square of an infinite number is `⊤`. -/
theorem mul_self_top {x : EReal} (h : ¬ ∃ r : ℝ, x = (r : EReal)) : x * x = ⊤ := by
  induction x using EReal.rec with
  | bot => rfl
  | top => rfl
  | coe r => exact absurd ⟨r, rfl⟩ h

/-- A real factor that is not negative distributes over a sum. -/
theorem sum_mul_coe {n : ℕ} (w : Fin n → EReal) {c : ℝ} (hc : 0 ≤ c) : ∑ k, w k * (c : EReal) = (∑ k, w k) * (c : EReal) := by
  have e : ∀ s : Finset (Fin n), ∑ k ∈ s, w k * (c : EReal) = (∑ k ∈ s, w k) * (c : EReal) := fun s => by
    classical
    induction s using Finset.induction_on with
    | empty => simp
    | insert a s ha ih =>
      rw [Finset.sum_insert ha, Finset.sum_insert ha, ih, mul_comm _ (c : EReal), mul_comm _ (c : EReal), mul_comm _ (c : EReal),
        ← EReal.left_distrib_of_nonneg_of_ne_top (by exact_mod_cast hc) (EReal.coe_ne_top c)]
  exact e _

/-- A number added to itself. -/
theorem add_self (y : EReal) : y + y = ((2 : ℝ) : EReal) * y := by
  induction y using EReal.rec with
  | bot => exact (EReal.coe_mul_bot_of_pos (by norm_num)).symm
  | top => exact (EReal.coe_mul_top_of_pos (by norm_num)).symm
  | coe r => rw [← EReal.coe_add, ← EReal.coe_mul, two_mul]

/-- A row's mean square: all of the row real and the mean a positive real, or `⊤`. -/
theorem var_cases (x : Fin 1024 → EReal) :
    (∃ v : ℝ, 0 < v ∧ var x = (v : EReal) ∧ ∀ k, ∃ r : ℝ, x k = (r : EReal)) ∨ var x = ⊤ := by
  obtain ⟨e, he, hE⟩ := eps_pos
  by_cases h : ∀ k, ∃ r : ℝ, x k = (r : EReal)
  · left
    choose a ha using h
    have hs : ∀ s : Finset (Fin 1024), ∑ k ∈ s, x k * x k = ((∑ k ∈ s, a k * a k : ℝ) : EReal) := fun s => by
      classical
      induction s using Finset.induction_on with
      | empty => simp
      | insert i s hi ih => rw [Finset.sum_insert hi, Finset.sum_insert hi, ih, ha, EReal.coe_add, EReal.coe_mul]
    refine ⟨(∑ k, a k * a k) * (1024 : ℝ)⁻¹ + e, ?_, ?_, fun k => ⟨a k, ha k⟩⟩
    · have : 0 ≤ ∑ k, a k * a k := Finset.sum_nonneg fun k _ => mul_self_nonneg _
      positivity
    · rw [var, hs, hE, ofBits_1024, div_coe _ (by norm_num), ← EReal.coe_mul, ← EReal.coe_add]
  · right
    obtain ⟨k, hk⟩ := not_forall.mp h
    have ht : ∑ k, x k * x k = ⊤ := by
      refine top_le_iff.mp ?_
      rw [← mul_self_top hk]
      exact Finset.single_le_sum (f := fun k => x k * x k) (fun i _ => mul_self_nonneg' _) (Finset.mem_univ k)
    rw [var, ht, hE, ofBits_1024, div_coe _ (by norm_num), EReal.top_mul_coe_of_pos (by norm_num), EReal.top_add_coe]

/-- The gradient through a row's norm: what is taken by differentiating the reciprocal root of the mean square, and the
    closed form with the normed row, are the same number for every row `x` and every cotangent `u`. -/
theorem grad_eq (x u : Fin 1024 → EReal) (q : Fin 1024) (t : EReal)
    (ht : t = Ideal.div ((∑ k, x k * u k) * (Ideal.ofBits .f32 0xBF000000#32 * Ideal.div (rstd x) (var x))) (Ideal.ofBits .f32 0x44800000#32)) :
    u q * rstd x + x q * t + t * x q
      = rstd x * (u q - (x q * rstd x) * Ideal.div (∑ k, u k * (x k * rstd x)) (Ideal.ofBits .f32 0x44800000#32)) := by
  rcases var_cases x with ⟨v, hv, hV, hx⟩ | hV
  · have hr : rstd x = (((Real.sqrt v)⁻¹ : ℝ) : EReal) := by
      rw [rstd, hV]
      show (if v < 0 then (⊥ : EReal) else if v = 0 then ⊤ else ((Real.sqrt v)⁻¹ : ℝ)) = _
      rw [if_neg (not_lt.mpr hv.le), if_neg hv.ne']
    obtain ⟨a, ha⟩ := hx q
    generalize hρ : (Real.sqrt v)⁻¹ = ρ at hr
    have hρ0 : 0 < ρ := hρ ▸ inv_pos.mpr (Real.sqrt_pos.mpr hv)
    have hvρ : v⁻¹ = ρ * ρ := by
      rw [← hρ, ← mul_inv, Real.mul_self_sqrt hv.le]
    have hA : ∑ k, u k * (x k * rstd x) = (∑ k, x k * u k) * (ρ : EReal) := by
      rw [← sum_mul_coe _ hρ0.le]
      exact Finset.sum_congr rfl fun k _ => by rw [hr, ← mul_assoc, mul_comm (u k)]
    generalize (∑ k, x k * u k) = A at hA ht
    rw [hA, ht, hV, hr, ha, ofBits_1024, ofBits_neg_half, div_coe _ hv.ne', div_coe _ (by norm_num), div_coe _ (by norm_num), hvρ,
      sub_eq_add_neg, EReal.left_distrib_of_nonneg_of_ne_top (by exact_mod_cast hρ0.le) (EReal.coe_ne_top ρ), add_assoc, mul_comm _ (ρ : EReal)]
    refine congrArg₂ (fun a b : EReal => a + b) rfl ?_
    rw [mul_comm _ (a : EReal), add_self, ← EReal.neg_mul, ← EReal.coe_mul a ρ, ← EReal.coe_neg]
    have e1 : ((2 : ℝ) : EReal) * ((a : EReal) * (A * (((-(1 / 2) : ℝ) : EReal) * ((ρ : EReal) * ((ρ * ρ : ℝ) : EReal))) * (((1024 : ℝ)⁻¹ : ℝ) : EReal)))
        = A * ((2 * (a * ((-(1 / 2)) * (ρ * (ρ * ρ)) * (1024 : ℝ)⁻¹)) : ℝ) : EReal) := by
      simp only [EReal.coe_mul]
      ac_rfl
    have e2 : (ρ : EReal) * (((-(a * ρ) : ℝ) : EReal) * (A * (ρ : EReal) * (((1024 : ℝ)⁻¹ : ℝ) : EReal)))
        = A * ((ρ * (-(a * ρ) * (ρ * (1024 : ℝ)⁻¹)) : ℝ) : EReal) := by
      rw [EReal.coe_mul ρ, EReal.coe_mul (-(a * ρ)), EReal.coe_mul ρ]
      ac_rfl
    rw [e1, e2]
    congr 2
    ring
  · have hr : rstd x = 0 := by rw [rstd, hV]; rfl
    have h0 : t = 0 := by
      rw [ht, hr, hV, ofBits_1024, div_coe _ (by norm_num)]
      unfold Ideal.div
      simp
    rw [h0, hr]
    simp

end Cert.Rms

end
-- ==== Proof.NormsClaim.lean ====
/- The gradient through the norm before the feed-forward and through the norm after the mixing: the kernel and the reference leave the same arrays. -/
module

public import proofs.«01_k».proof.Defs
public import proofs.«01_k».proof.Proof.Gen.Kernel3Ideal.Frame
public import proofs.«01_k».proof.Proof.Gen.Reference3Ideal.Run
public import proofs.«01_k».proof.Proof.RmsSpec
public import Idealize.ShloMosaic.Lib.Claim
public import Idealize.ShloMosaic.Lib.Pipeline.ReadBack

@[expose] public section

set_option maxRecDepth 16384

noncomputable section

namespace Cert.Norms

open Idealize.ShloMosaic Idealize.ShloMosaic.TcCoe Idealize.SL.Sem

section Spec

/-- A row divided by the root of its mean square. -/
def nrm (X : Prod.Mat 8192 1024) (i : Fin 8192) (q : Fin 1024) : EReal := X (ix2 i q) * Rms.rstd (fun k => X (ix2 i k))

/-- A gradient `u` taken back through that norm. -/
def back (X : Prod.Mat 8192 1024) (u : Fin 8192 → Fin 1024 → EReal) (i : Fin 8192) (q : Fin 1024) : EReal :=
  Rms.rstd (fun k => X (ix2 i k)) * (u i q - nrm X i q * Ideal.div (∑ k : Fin 1024, u i k * nrm X i k) (Ideal.ofBits .f32 0x44800000#32))

variable (D : Prod.Mat 8192 5632) (W : Prod.Mat 1024 5632) (X Y M : Prod.Mat 8192 1024) (g3 g2 : Prod.Mat 1 1024)

/-- The gradient of the normed input of the feed-forward, row `i`, column `q`. -/
def dH (i : Fin 8192) (q : Fin 1024) : EReal := ∑ k : Fin 5632, D (ix2 i k) * W (ix2 q k)

/-- The gradient of the residual sum: the gradient that passes by, and the one through the norm. -/
def dX (i : Fin 8192) (q : Fin 1024) : EReal := Y (ix2 i q) + back X (fun i k => dH D W i k * g3 (ix2 0 k)) i q

/-- The gradient of the mixing, through the norm after it. -/
def dM (i : Fin 8192) (q : Fin 1024) : EReal := back M (fun i k => dX D W X Y g3 i k * g2 (ix2 0 k)) i q

/-- The four results as arrays. -/
def resX : Prod.Mat 8192 1024 := fun x => dX D W X Y g3 (x 0) (x 1)
def resM : Prod.Mat 8192 1024 := fun x => dM D W X Y M g3 g2 (x 0) (x 1)
def resG3 : Prod.Mat 1 1024 := fun x => ∑ i : Fin 8192, dH D W i (x 1) * nrm X i (x 1)
def resG2 : Prod.Mat 1 1024 := fun x => ∑ i : Fin 8192, dX D W X Y g3 i (x 1) * nrm M i (x 1)

end Spec

section Kernel

open Cert.Kernel3Ideal Cert.Kernel3Ideal.Gen

variable (m : (ℓ : Loc nD τ sig) → Buf (Elt Ideal) ℓ)

/-- The arrays of device `c`. -/
abbrev argD (c : Dev nD) : Prod.Mat 8192 5632 := m ((c : Thread nD τ).loc main_arg0)
abbrev argW (c : Dev nD) : Prod.Mat 1024 5632 := m ((c : Thread nD τ).loc main_arg1)
abbrev argX (c : Dev nD) : Prod.Mat 8192 1024 := m ((c : Thread nD τ).loc main_arg2)
abbrev argY (c : Dev nD) : Prod.Mat 8192 1024 := m ((c : Thread nD τ).loc main_arg3)
abbrev argM (c : Dev nD) : Prod.Mat 8192 1024 := m ((c : Thread nD τ).loc main_arg4)
abbrev argg3 (c : Dev nD) : Prod.Mat 1 1024 := m ((c : Thread nD τ).loc main_arg5)
abbrev argg2 (c : Dev nD) : Prod.Mat 1 1024 := m ((c : Thread nD τ).loc main_arg6)

/-- The blocks that grid point `t` reads and writes: rows `512 (t / 2) …` of the tall arrays, columns `2816 (t % 2) …` of the product's
    operands, the gains whole. -/
theorem idx : ∀ t : Fin cfg0.N, win0_0.index t = ![t.val / 2, t.val % 2] ∧ win0_1.index t = ![0, t.val % 2] ∧ win0_2.index t = ![t.val / 2, 0]
    ∧ win0_3.index t = ![t.val / 2, 0] ∧ win0_4.index t = ![t.val / 2, 0] ∧ win0_5.index t = ![0, 0] ∧ win0_6.index t = ![0, 0]
    ∧ win0_7.index t = ![t.val / 2, 0] ∧ win0_8.index t = ![t.val / 2, 0] ∧ win0_9.index t = ![0, 0] ∧ win0_10.index t = ![0, 0] := by decide +kernel

/-- The row of the arrays that row `r` of point `t`'s blocks is, and the column of the product's operands that column `k` is. -/
abbrev row (t : Fin cfg0.N) (r : Fin 512) : Fin 8192 := ⟨512 * (t.val / 2) + r.val, by have : t.val < 32 := t.isLt; omega⟩
abbrev kcol (t : Fin cfg0.N) (k : Fin 2816) : Fin 5632 := ⟨2816 * (t.val % 2) + k.val, by omega⟩

section Payloads

variable (a : Vec Ideal S512x2816 .bf16) (w : Vec Ideal S1024x2816 .bf16) (p x y z : Vec Ideal S512x1024 .f32) (g v : Vec Ideal S1x1024 .f32)
  (e d : FVec Ideal S512x1024 .f32) (r : Fin 512) (q : Fin 1024)

theorem pay3_apply : k0_pay3 (F := Ideal) a w (ix2 r q) = ∑ k : Fin 2816, a (ix2 r k) * w (ix2 q k) := by
  pointwise [k0_pay3]

theorem pay9_apply : k0_pay9 (F := Ideal) a w p (ix2 r q) = (k0_pay3 (F := Ideal) a w (ix2 r q) + p (ix2 r q) : EReal) := by
  rw [pay3_apply]
  pointwise [k0_pay9]

theorem pay10_apply (z : Fin 1) : k0_pay10 (F := Ideal) x (ix2 r z) = Rms.rstd (fun k => x (ix2 r k)) := by
  pointwise [k0_pay10]
  rfl

theorem pay5_apply (z : Fin 1) : k0_pay5 (F := Ideal) x (ix2 r z) = Rms.rstd (fun k => x (ix2 r k)) := pay10_apply x r z

theorem pay11_apply : k0_pay11 (F := Ideal) x (ix2 r q) = (x (ix2 r q) * k0_pay10 (F := Ideal) x (ix2 r 0) : EReal) := by
  pointwise [k0_pay11]

theorem pay6_apply : k0_pay6 (F := Ideal) x (ix2 r q) = (x (ix2 r q) * k0_pay5 (F := Ideal) x (ix2 r 0) : EReal) := by
  pointwise [k0_pay6]

theorem pay14_apply : k0_pay14 (F := Ideal) x (ix2 r q) = k0_pay10 (F := Ideal) x (ix2 r 0) := by
  pointwise [k0_pay14]

theorem pay12_apply : k0_pay12 (F := Ideal) a w p x v (ix2 0 q)
    = (v (ix2 0 q) + ∑ r : Fin 512, k0_pay9 (F := Ideal) a w p (ix2 r q) * k0_pay11 (F := Ideal) x (ix2 r q) : EReal) := by
  pointwise [k0_pay12]

theorem pay13_apply : k0_pay13 (F := Ideal) a w p x g (ix2 r q)
    = (k0_pay9 (F := Ideal) a w p (ix2 r q) * g (ix2 0 q) - k0_pay11 (F := Ideal) x (ix2 r q)
        * Ideal.div (∑ k : Fin 1024, k0_pay9 (F := Ideal) a w p (ix2 r k) * g (ix2 0 k) * k0_pay11 (F := Ideal) x (ix2 r k)) (Ideal.ofBits .f32 0x44800000#32) : EReal) := by
  pointwise [k0_pay13]

theorem pay4_apply : k0_pay4 (F := Ideal) y e d (ix2 r q) = (y (ix2 r q) + d (ix2 r q) * e (ix2 r q) : EReal) := by
  pointwise [k0_pay4]

theorem pay7_apply : k0_pay7 (F := Ideal) y e d z v (ix2 0 q)
    = (v (ix2 0 q) + ∑ r : Fin 512, k0_pay4 (F := Ideal) y e d (ix2 r q) * k0_pay6 (F := Ideal) z (ix2 r q) : EReal) := by
  pointwise [k0_pay7]

theorem pay8_apply : k0_pay8 (F := Ideal) y e d z g (ix2 r q)
    = (k0_pay5 (F := Ideal) z (ix2 r 0) * (k0_pay4 (F := Ideal) y e d (ix2 r q) * g (ix2 0 q) - k0_pay6 (F := Ideal) z (ix2 r q)
        * Ideal.div (∑ k : Fin 1024, k0_pay4 (F := Ideal) y e d (ix2 r k) * g (ix2 0 k) * k0_pay6 (F := Ideal) z (ix2 r k)) (Ideal.ofBits .f32 0x44800000#32)) : EReal) := by
  pointwise [k0_pay8]

theorem zero3 : k0_pay1 (F := Ideal) (ix2 0 q) = (0 : EReal) := by
  pointwise [k0_pay1]

theorem zero2 : k0_pay2 (F := Ideal) (ix2 0 q) = (0 : EReal) := by
  pointwise [k0_pay2]

end Payloads

/-! ## One point's blocks of the arrays -/

theorem x_eq (c : Dev nD) (t : Fin cfg0.N) (r : Fin 512) (q : Fin 1024) :
    (iblk m c 2 t : S512x1024.Idx → EReal) (ix2 r q) = argX m c (ix2 (row t r) q) := by
  blk_ext [iblk, V, idx t]

theorem y_eq (c : Dev nD) (t : Fin cfg0.N) (r : Fin 512) (q : Fin 1024) :
    (iblk m c 3 t : S512x1024.Idx → EReal) (ix2 r q) = argY m c (ix2 (row t r) q) := by
  blk_ext [iblk, V, idx t]

theorem m_eq (c : Dev nD) (t : Fin cfg0.N) (r : Fin 512) (q : Fin 1024) :
    (iblk m c 4 t : S512x1024.Idx → EReal) (ix2 r q) = argM m c (ix2 (row t r) q) := by
  blk_ext [iblk, V, idx t]

theorem g3_eq (c : Dev nD) (t : Fin cfg0.N) (q : Fin 1024) :
    (iblk m c 5 t : S1x1024.Idx → EReal) (ix2 0 q) = argg3 m c (ix2 0 q) := by
  blk_ext [iblk, V, idx t]

theorem g2_eq (c : Dev nD) (t : Fin cfg0.N) (q : Fin 1024) :
    (iblk m c 6 t : S1x1024.Idx → EReal) (ix2 0 q) = argg2 m c (ix2 0 q) := by
  blk_ext [iblk, V, idx t]

/-- The half of the product that point `t` computes. -/
def half (c : Dev nD) (t : Fin cfg0.N) (r : Fin 512) (q : Fin 1024) : EReal :=
  ∑ k : Fin 2816, argD m c (ix2 (row t r) (kcol t k)) * argW m c (ix2 q (kcol t k))

theorem half_eq (c : Dev nD) (t : Fin cfg0.N) (r : Fin 512) (q : Fin 1024) :
    k0_pay3 (F := Ideal) (iblk m c 0 t) (iblk m c 1 t) (ix2 r q) = half m c t r q := by
  refine (pay3_apply ..).trans (Prod.sum_mul_congr (fun k => ?_) fun k => ?_)
  · blk_ext [iblk, V, idx t]
  · blk_ext [iblk, V, idx t]

/-- After an even point the scratch holds the first half of the product. -/
theorem scratch (c : Dev nD) (t : Fin cfg0.N) (h : t.val % 2 = 0) (r : Fin 512) (q : Fin 1024) :
    (outsAt0 m c t.val t.isLt).2.2.2.2 (ix2 r q) = half m c t r q := by
  by_cases h0 : t.val % 32 = 0
  · rw [outsAt0_A m c t h0 h (by omega)]
    frame_out
    exact half_eq m c t r q
  · rw [outsAt0_C m c t h0 h (by omega)]
    frame_out
    exact half_eq m c t r q

/-- The two halves of the product. -/
theorem halves (c : Dev nD) (t : Fin cfg0.N) (h : t.val % 2 = 1) (r : Fin 512) (q : Fin 1024) :
    half m c t r q + half m c ⟨t.val - 1, Nat.lt_of_le_of_lt (Nat.sub_le _ _) t.isLt⟩ r q = dH (argD m c) (argW m c) (row t r) q := by
  rw [add_comm]
  have e := Fin.sum_univ_add (a := 2816) (b := 2816) (fun k : Fin (2816 + 2816) => argD m c (ix2 (row t r) k) * argW m c (ix2 q k))
  refine Eq.trans ?_ e.symm
  unfold half
  refine congrArg₂ (fun s s' : EReal => s + s') (Fin.sum_fin_congr fun k => ?_) (Fin.sum_fin_congr fun k => ?_)
  · have e0 : row ⟨t.val - 1, Nat.lt_of_le_of_lt (Nat.sub_le _ _) t.isLt⟩ r = row t r := Fin.ext (by show 512 * ((t.val - 1) / 2) + r.val = 512 * (t.val / 2) + r.val; omega)
    have e1 : kcol ⟨t.val - 1, Nat.lt_of_le_of_lt (Nat.sub_le _ _) t.isLt⟩ k = Fin.castAdd 2816 k := Fin.ext (by show 2816 * ((t.val - 1) % 2) + k.val = k.val; omega)
    rw [e0, e1]
  · have e1 : kcol t k = Fin.natAdd 2816 k := Fin.ext (by show 2816 * (t.val % 2) + k.val = 2816 + k.val; omega)
    rw [e1]

section Odd

variable (c : Dev nD) (t : Fin cfg0.N) (v : Vec Ideal S512x1024 .f32)
  (hv : ∀ (r : Fin 512) (q : Fin 1024), v (ix2 r q) = half m c ⟨t.val - 1, Nat.lt_of_le_of_lt (Nat.sub_le _ _) t.isLt⟩ r q) (h : t.val % 2 = 1)
  (r : Fin 512) (q : Fin 1024)
include hv h

theorem h_eq : k0_pay9 (F := Ideal) (iblk m c 0 t) (iblk m c 1 t) v (ix2 r q) = dH (argD m c) (argW m c) (row t r) q := by
  rw [pay9_apply, half_eq, hv]
  exact halves m c t h r q

omit hv h in
theorem r3_eq (z : Fin 1) : k0_pay10 (F := Ideal) (iblk m c 2 t) (ix2 r z) = Rms.rstd (fun k => argX m c (ix2 (row t r) k)) :=
  (pay10_apply ..).trans (congrArg Rms.rstd (funext fun k => x_eq m c t r k))

omit hv h in
theorem r2_eq (z : Fin 1) : k0_pay5 (F := Ideal) (iblk m c 4 t) (ix2 r z) = Rms.rstd (fun k => argM m c (ix2 (row t r) k)) :=
  (pay5_apply ..).trans (congrArg Rms.rstd (funext fun k => m_eq m c t r k))

omit hv h in
theorem n3_eq : k0_pay11 (F := Ideal) (iblk m c 2 t) (ix2 r q) = nrm (argX m c) (row t r) q := by
  rw [pay11_apply, x_eq, r3_eq]
  rfl

omit hv h in
theorem n2_eq : k0_pay6 (F := Ideal) (iblk m c 4 t) (ix2 r q) = nrm (argM m c) (row t r) q := by
  rw [pay6_apply, m_eq, r2_eq]
  rfl

theorem dx_eq : k0_pay4 (F := Ideal) (iblk m c 3 t) (k0_pay13 (F := Ideal) (iblk m c 0 t) (iblk m c 1 t) v (iblk m c 2 t) (iblk m c 5 t)) (k0_pay14 (F := Ideal) (iblk m c 2 t)) (ix2 r q) = dX (argD m c) (argW m c) (argX m c) (argY m c) (argg3 m c) (row t r) q := by
  rw [pay4_apply, pay13_apply, pay14_apply, y_eq, r3_eq, n3_eq, h_eq m c t v hv h, g3_eq]
  refine congrArg (fun s : EReal => argY m c (ix2 (row t r) q) + Rms.rstd (fun k => argX m c (ix2 (row t r) k)) * (dH (argD m c) (argW m c) (row t r) q * argg3 m c (ix2 0 q)
    - nrm (argX m c) (row t r) q * Ideal.div s (Ideal.ofBits .f32 0x44800000#32))) (Fin.sum_fin_congr fun k => ?_)
  rw [h_eq m c t v hv h, n3_eq, g3_eq]

theorem dm_eq : k0_pay8 (F := Ideal) (iblk m c 3 t) (k0_pay13 (F := Ideal) (iblk m c 0 t) (iblk m c 1 t) v (iblk m c 2 t) (iblk m c 5 t)) (k0_pay14 (F := Ideal) (iblk m c 2 t)) (iblk m c 4 t) (iblk m c 6 t) (ix2 r q) = dM (argD m c) (argW m c) (argX m c) (argY m c) (argM m c) (argg3 m c) (argg2 m c) (row t r) q := by
  rw [pay8_apply, dx_eq m c t v hv h, r2_eq, n2_eq, g2_eq]
  refine congrArg (fun s : EReal => Rms.rstd (fun k => argM m c (ix2 (row t r) k)) * (dX (argD m c) (argW m c) (argX m c) (argY m c) (argg3 m c) (row t r) q * argg2 m c (ix2 0 q)
    - nrm (argM m c) (row t r) q * Ideal.div s (Ideal.ofBits .f32 0x44800000#32))) (Fin.sum_fin_congr fun k => ?_)
  rw [dx_eq m c t v hv h, n2_eq, g2_eq]

/-- What an odd point adds to the two gains' gradients. -/
theorem a3_eq (u : Vec Ideal S1x1024 .f32) : k0_pay12 (F := Ideal) (iblk m c 0 t) (iblk m c 1 t) v (iblk m c 2 t) u (ix2 0 q)
    = (u (ix2 0 q) + ∑ r : Fin 512, dH (argD m c) (argW m c) (row t r) q * nrm (argX m c) (row t r) q : EReal) := by
  rw [pay12_apply]
  refine congrArg (fun s : EReal => @HAdd.hAdd EReal EReal EReal _ (u (ix2 0 q)) s) (Fin.sum_fin_congr fun r => ?_)
  rw [h_eq m c t v hv h, n3_eq]

theorem a2_eq (u : Vec Ideal S1x1024 .f32) : k0_pay7 (F := Ideal) (iblk m c 3 t) (k0_pay13 (F := Ideal) (iblk m c 0 t) (iblk m c 1 t) v (iblk m c 2 t) (iblk m c 5 t)) (k0_pay14 (F := Ideal) (iblk m c 2 t)) (iblk m c 4 t) u (ix2 0 q)
    = (u (ix2 0 q) + ∑ r : Fin 512, dX (argD m c) (argW m c) (argX m c) (argY m c) (argg3 m c) (row t r) q * nrm (argM m c) (row t r) q : EReal) := by
  rw [pay7_apply]
  refine congrArg (fun s : EReal => @HAdd.hAdd EReal EReal EReal _ (u (ix2 0 q)) s) (Fin.sum_fin_congr fun r => ?_)
  rw [dx_eq m c t v hv h, n2_eq]

end Odd

/-- The scratch that an odd point finds. -/
theorem found (c : Dev nD) (t : Fin cfg0.N) (h : t.val % 2 = 1) (r : Fin 512) (q : Fin 1024) :
    (outsAt0 m c (t.val - 1) (Nat.lt_of_le_of_lt (Nat.sub_le _ _) t.isLt)).2.2.2.2 (ix2 r q)
      = half m c ⟨t.val - 1, Nat.lt_of_le_of_lt (Nat.sub_le _ _) t.isLt⟩ r q :=
  scratch m c ⟨t.val - 1, Nat.lt_of_le_of_lt (Nat.sub_le _ _) t.isLt⟩ (by show (t.val - 1) % 2 = 0; omega) r q

theorem after7 (c : Dev nD) (t : Fin cfg0.N) (h : t.val % 2 = 1) (r : Fin 512) (q : Fin 1024) :
    (outsAt0 m c t.val t.isLt).1 (ix2 r q) = dX (argD m c) (argW m c) (argX m c) (argY m c) (argg3 m c) (row t r) q := by
  rw [outsAt0_B m c t (by omega) (by omega) h]
  frame_out
  simp only [read_unread_whole]
  exact dx_eq m c t _ (found m c t h) h r q

theorem after8 (c : Dev nD) (t : Fin cfg0.N) (h : t.val % 2 = 1) (r : Fin 512) (q : Fin 1024) :
    (outsAt0 m c t.val t.isLt).2.1 (ix2 r q) = dM (argD m c) (argW m c) (argX m c) (argY m c) (argM m c) (argg3 m c) (argg2 m c) (row t r) q := by
  rw [outsAt0_B m c t (by omega) (by omega) h]
  frame_out
  simp only [read_unread_whole]
  exact dm_eq m c t _ (found m c t h) h r q

/-! ## The two sums over the rows -/

/-- What the accumulator holds after point `n`, and what point `t` adds to it: the rows of its block, at the odd points. -/
def kept3 (c : Dev nD) (n : ℕ) (h : n < cfg0.N) (q : Fin 1024) : EReal := (outsAt0 m c n h).2.2.1 (ix2 0 q)
def rows3 (c : Dev nD) (t : Fin cfg0.N) (q : Fin 1024) : EReal := ∑ r : Fin 512, dH (argD m c) (argW m c) (row t r) q * nrm (argX m c) (row t r) q
def term3 (c : Dev nD) (t : Fin cfg0.N) (q : Fin 1024) : EReal := if t.val % 2 = 1 then rows3 m c t q else 0

theorem kept3_first (c : Dev nD) (t : Fin cfg0.N) (h : t.val % 32 = 0) (q : Fin 1024) : kept3 m c t.val t.isLt q = 0 + term3 m c t q := by
  unfold kept3 term3
  rw [if_neg (by omega), outsAt0_A m c t h (by omega) (by omega)]
  frame_out
  rw [zero3, zero_add]

theorem kept3_next (c : Dev nD) (t : Fin cfg0.N) (h : ¬t.val % 32 = 0) (q : Fin 1024) :
    kept3 m c t.val t.isLt q = kept3 m c (t.val - 1) (Nat.lt_of_le_of_lt (Nat.sub_le _ _) t.isLt) q + term3 m c t q := by
  unfold kept3 term3
  by_cases h1 : t.val % 2 = 1
  · rw [if_pos h1, outsAt0_B m c t h (by omega) h1]
    frame_out
    simp only [read_unread_whole]
    exact a3_eq m c t _ (found m c t h1) h1 q _
  · rw [if_neg h1, add_zero, outsAt0_C m c t h (by omega) h1]
    rfl

theorem kept3_last (c : Dev nD) (t : Fin cfg0.N) (hr : t.val % 32 = 31) (q : Fin 1024) :
    kept3 m c t.val t.isLt q = resG3 (argD m c) (argW m c) (argX m c) (ix2 0 q) := by
  have e := Pipeline.eq_sum_fin_of_reset_step_apply_of_flush (kept3 m c) 32 (fun _ => 0) (term3 m c)
    (fun t h j => kept3_first m c t h j) (fun t h j => kept3_next m c t h j) t hr q
  rw [e, zero_add]
  have ht : t.val < 32 := t.isLt
  have e2 : ∑ a : Fin 16, ∑ b : Fin 2, term3 m c ⟨2 * a.val + b.val, by show _ < 32; omega⟩ q
      = ∑ s : Fin 32, term3 m c ⟨32 * (t.val / 32) + s.val, Pipeline.run_point_lt_of_flush t hr s⟩ q :=
    Fin.sum_mul_add_congr (f := fun s : Fin 32 => term3 m c ⟨32 * (t.val / 32) + s.val, Pipeline.run_point_lt_of_flush t hr s⟩ q) fun a b hl =>
      congrArg (fun u => term3 m c u q) (Fin.ext (by show 2 * a.val + b.val = 32 * (t.val / 32) + (a.val * 2 + b.val); omega))
  refine e2.symm.trans ?_
  have e3 : ∀ a : Fin 16, ∑ b : Fin 2, term3 m c ⟨2 * a.val + b.val, by show _ < 32; omega⟩ q
      = ∑ r : Fin 512, (fun i : Fin 8192 => dH (argD m c) (argW m c) i q * nrm (argX m c) i q) ⟨512 * a.val + r.val, by omega⟩ := by
    intro a
    rw [Fin.sum_univ_two]
    unfold term3
    rw [if_neg (by show ¬(2 * a.val + 0) % 2 = 1; omega), if_pos (by show (2 * a.val + 1) % 2 = 1; omega), zero_add]
    unfold rows3
    refine Fin.sum_fin_congr fun r => ?_
    exact congrArg (fun i : Fin 8192 => dH (argD m c) (argW m c) i q * nrm (argX m c) i q)
      (Fin.ext (by show 512 * ((2 * a.val + 1) / 2) + r.val = 512 * a.val + r.val; omega))
  refine (Fin.sum_fin_congr e3).trans ?_
  refine Fin.sum_mul_add_congr (f := fun i : Fin 8192 => dH (argD m c) (argW m c) i q * nrm (argX m c) i q) fun s k hl => ?_
  exact congrArg (fun i : Fin 8192 => dH (argD m c) (argW m c) i q * nrm (argX m c) i q)
    (Fin.ext (by show 512 * s.val + k.val = s.val * 512 + k.val; omega))

/-- What the accumulator holds after point `n`, and what point `t` adds to it: the rows of its block, at the odd points. -/
def kept2 (c : Dev nD) (n : ℕ) (h : n < cfg0.N) (q : Fin 1024) : EReal := (outsAt0 m c n h).2.2.2.1 (ix2 0 q)
def rows2 (c : Dev nD) (t : Fin cfg0.N) (q : Fin 1024) : EReal := ∑ r : Fin 512, dX (argD m c) (argW m c) (argX m c) (argY m c) (argg3 m c) (row t r) q * nrm (argM m c) (row t r) q
def term2 (c : Dev nD) (t : Fin cfg0.N) (q : Fin 1024) : EReal := if t.val % 2 = 1 then rows2 m c t q else 0

theorem kept2_first (c : Dev nD) (t : Fin cfg0.N) (h : t.val % 32 = 0) (q : Fin 1024) : kept2 m c t.val t.isLt q = 0 + term2 m c t q := by
  unfold kept2 term2
  rw [if_neg (by omega), outsAt0_A m c t h (by omega) (by omega)]
  frame_out
  rw [zero2, zero_add]

theorem kept2_next (c : Dev nD) (t : Fin cfg0.N) (h : ¬t.val % 32 = 0) (q : Fin 1024) :
    kept2 m c t.val t.isLt q = kept2 m c (t.val - 1) (Nat.lt_of_le_of_lt (Nat.sub_le _ _) t.isLt) q + term2 m c t q := by
  unfold kept2 term2
  by_cases h1 : t.val % 2 = 1
  · rw [if_pos h1, outsAt0_B m c t h (by omega) h1]
    frame_out
    simp only [read_unread_whole]
    exact a2_eq m c t _ (found m c t h1) h1 q _
  · rw [if_neg h1, add_zero, outsAt0_C m c t h (by omega) h1]
    rfl

theorem kept2_last (c : Dev nD) (t : Fin cfg0.N) (hr : t.val % 32 = 31) (q : Fin 1024) :
    kept2 m c t.val t.isLt q = resG2 (argD m c) (argW m c) (argX m c) (argY m c) (argM m c) (argg3 m c) (ix2 0 q) := by
  have e := Pipeline.eq_sum_fin_of_reset_step_apply_of_flush (kept2 m c) 32 (fun _ => 0) (term2 m c)
    (fun t h j => kept2_first m c t h j) (fun t h j => kept2_next m c t h j) t hr q
  rw [e, zero_add]
  have ht : t.val < 32 := t.isLt
  have e2 : ∑ a : Fin 16, ∑ b : Fin 2, term2 m c ⟨2 * a.val + b.val, by show _ < 32; omega⟩ q
      = ∑ s : Fin 32, term2 m c ⟨32 * (t.val / 32) + s.val, Pipeline.run_point_lt_of_flush t hr s⟩ q :=
    Fin.sum_mul_add_congr (f := fun s : Fin 32 => term2 m c ⟨32 * (t.val / 32) + s.val, Pipeline.run_point_lt_of_flush t hr s⟩ q) fun a b hl =>
      congrArg (fun u => term2 m c u q) (Fin.ext (by show 2 * a.val + b.val = 32 * (t.val / 32) + (a.val * 2 + b.val); omega))
  refine e2.symm.trans ?_
  have e3 : ∀ a : Fin 16, ∑ b : Fin 2, term2 m c ⟨2 * a.val + b.val, by show _ < 32; omega⟩ q
      = ∑ r : Fin 512, (fun i : Fin 8192 => dX (argD m c) (argW m c) (argX m c) (argY m c) (argg3 m c) i q * nrm (argM m c) i q) ⟨512 * a.val + r.val, by omega⟩ := by
    intro a
    rw [Fin.sum_univ_two]
    unfold term2
    rw [if_neg (by show ¬(2 * a.val + 0) % 2 = 1; omega), if_pos (by show (2 * a.val + 1) % 2 = 1; omega), zero_add]
    unfold rows2
    refine Fin.sum_fin_congr fun r => ?_
    exact congrArg (fun i : Fin 8192 => dX (argD m c) (argW m c) (argX m c) (argY m c) (argg3 m c) i q * nrm (argM m c) i q)
      (Fin.ext (by show 512 * ((2 * a.val + 1) / 2) + r.val = 512 * a.val + r.val; omega))
  refine (Fin.sum_fin_congr e3).trans ?_
  refine Fin.sum_mul_add_congr (f := fun i : Fin 8192 => dX (argD m c) (argW m c) (argX m c) (argY m c) (argg3 m c) i q * nrm (argM m c) i q) fun s k hl => ?_
  exact congrArg (fun i : Fin 8192 => dX (argD m c) (argW m c) (argX m c) (argY m c) (argg3 m c) i q * nrm (argM m c) i q)
    (Fin.ext (by show 512 * s.val + k.val = s.val * 512 + k.val; omega))

/-! ## The output arrays -/

/-- The output array of window 7 is the gradient of the residual sum. -/
theorem final7 (c : Dev nD) : (dats m 0 c).arrAt 7 cfg0.N = resX (argD m c) (argW m c) (argX m c) (argY m c) (argg3 m c) := by
  refine (dats m 0 c).arrAt_eq_of_covers 7 _ (by decide +kernel) fun t hf y => ?_
  have hr := (flush0_7 t).mp hf
  blk_simp
  rw [after0_7]
  change S512x1024.Idx at y
  idx_vars y
  have ht : t.val < 32 := t.isLt
  have h0 : win0_7.index t 0 = t.val / 2 := by rw [(idx t).2.2.2.2.2.2.2.1]; rfl
  have h1 : win0_7.index t 1 = 0 := by rw [(idx t).2.2.2.2.2.2.2.1]; rfl
  have e : (outsAt0 m c t.val t.isLt).1 (ix2 y0 y1) = resX (argD m c) (argW m c) (argX m c) (argY m c) (argg3 m c) (ix2 (row t y0) y1) := after7 m c t hr y0 y1
  refine e.trans (congrArg (resX (argD m c) (argW m c) (argX m c) (argY m c) (argg3 m c)) (funext fun a => Fin.ext ?_))
  match a with
  | 0 => show 512 * (t.val / 2) + y0.val = win0_7.index t 0 * 512 + 1 * y0.val; omega
  | 1 => show y1.val = win0_7.index t 1 * 1024 + 1 * y1.val; omega

/-- The output array of window 8 is the gradient of the mixing. -/
theorem final8 (c : Dev nD) : (dats m 0 c).arrAt 8 cfg0.N = resM (argD m c) (argW m c) (argX m c) (argY m c) (argM m c) (argg3 m c) (argg2 m c) := by
  refine (dats m 0 c).arrAt_eq_of_covers 8 _ (by decide +kernel) fun t hf y => ?_
  have hr := (flush0_8 t).mp hf
  blk_simp
  rw [after0_8]
  change S512x1024.Idx at y
  idx_vars y
  have ht : t.val < 32 := t.isLt
  have h0 : win0_8.index t 0 = t.val / 2 := by rw [(idx t).2.2.2.2.2.2.2.2.1]; rfl
  have h1 : win0_8.index t 1 = 0 := by rw [(idx t).2.2.2.2.2.2.2.2.1]; rfl
  have e : (outsAt0 m c t.val t.isLt).2.1 (ix2 y0 y1) = resM (argD m c) (argW m c) (argX m c) (argY m c) (argM m c) (argg3 m c) (argg2 m c) (ix2 (row t y0) y1) := after8 m c t hr y0 y1
  refine e.trans (congrArg (resM (argD m c) (argW m c) (argX m c) (argY m c) (argM m c) (argg3 m c) (argg2 m c)) (funext fun a => Fin.ext ?_))
  match a with
  | 0 => show 512 * (t.val / 2) + y0.val = win0_8.index t 0 * 512 + 1 * y0.val; omega
  | 1 => show y1.val = win0_8.index t 1 * 1024 + 1 * y1.val; omega

/-- The output array of window 9 is the gradient of the gain before the feed-forward. -/
theorem final9 (c : Dev nD) : (dats m 0 c).arrAt 9 cfg0.N = resG3 (argD m c) (argW m c) (argX m c) := by
  refine (dats m 0 c).arrAt_eq_of_covers 9 _ (by decide +kernel) fun t hf y => ?_
  have hr := (flush0_9 t).mp hf
  blk_simp
  rw [after0_9]
  change S1x1024.Idx at y
  idx_vars y
  have h0 : win0_9.index t 0 = 0 := by rw [(idx t).2.2.2.2.2.2.2.2.2.1]; rfl
  have h1 : win0_9.index t 1 = 0 := by rw [(idx t).2.2.2.2.2.2.2.2.2.1]; rfl
  obtain rfl : y0 = 0 := Subsingleton.elim _ _
  have e : (outsAt0 m c t.val t.isLt).2.2.1 (ix2 0 y1) = resG3 (argD m c) (argW m c) (argX m c) (ix2 0 y1) := kept3_last m c t hr y1
  refine e.trans (congrArg (resG3 (argD m c) (argW m c) (argX m c)) (funext fun a => Fin.ext ?_))
  match a with
  | 0 => show 0 = win0_9.index t 0 * 1 + 1 * 0; omega
  | 1 => show y1.val = win0_9.index t 1 * 1024 + 1 * y1.val; omega

/-- The output array of window 10 is the gradient of the gain after the mixing. -/
theorem final10 (c : Dev nD) : (dats m 0 c).arrAt 10 cfg0.N = resG2 (argD m c) (argW m c) (argX m c) (argY m c) (argM m c) (argg3 m c) := by
  refine (dats m 0 c).arrAt_eq_of_covers 10 _ (by decide +kernel) fun t hf y => ?_
  have hr := (flush0_10 t).mp hf
  blk_simp
  rw [after0_10]
  change S1x1024.Idx at y
  idx_vars y
  have h0 : win0_10.index t 0 = 0 := by rw [(idx t).2.2.2.2.2.2.2.2.2.2]; rfl
  have h1 : win0_10.index t 1 = 0 := by rw [(idx t).2.2.2.2.2.2.2.2.2.2]; rfl
  obtain rfl : y0 = 0 := Subsingleton.elim _ _
  have e : (outsAt0 m c t.val t.isLt).2.2.2.1 (ix2 0 y1) = resG2 (argD m c) (argW m c) (argX m c) (argY m c) (argM m c) (argg3 m c) (ix2 0 y1) := kept2_last m c t hr y1
  refine e.trans (congrArg (resG2 (argD m c) (argW m c) (argX m c) (argY m c) (argM m c) (argg3 m c)) (funext fun a => Fin.ext ?_))
  match a with
  | 0 => show 0 = win0_10.index t 0 * 1 + 1 * 0; omega
  | 1 => show y1.val = win0_10.index t 1 * 1024 + 1 * y1.val; omega

/-! ## The run: the argument arrays end as they were -/

theorem kept_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem kept_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

theorem kept_arg6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- Every run ends with the four arrays above and the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v0_0) = resX (argD m c) (argW m c) (argX m c) (argY m c) (argg3 m c)
      ∧ r.2.mem ((c : Thread nD τ).loc main_v0_1) = resM (argD m c) (argW m c) (argX m c) (argY m c) (argM m c) (argg3 m c) (argg2 m c)
      ∧ r.2.mem ((c : Thread nD τ).loc main_v0_2) = resG3 (argD m c) (argW m c) (argX m c)
      ∧ r.2.mem ((c : Thread nD τ).loc main_v0_3) = resG2 (argD m c) (argW m c) (argX m c) (argY m c) (argM m c) (argg3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans (final7 m c), ((h c).1 8).trans (final8 m c), ((h c).1 9).trans (final9 m c),
      ((h c).1 10).trans (final10 m c), kept_arg0 m r h c, kept_arg1 m r h c, kept_arg2 m r h c, kept_arg3 m r h c, kept_arg4 m r h c,
      kept_arg5 m r h c, kept_arg6 m r h c⟩)
    (run_main m ρ)

end Kernel

section Reference

open Cert.Reference3Ideal Cert.Reference3Ideal.Gen Cert.Reference3Ideal.Facts

/-- The gradient of the normed input. -/
def hArr (D : Prod.Mat 8192 5632) (W : Prod.Mat 1024 5632) : FVec Ideal S8192x1024 .f32 :=
  Host.dotGeneral dot_S8192x5632_S1024x5632_S8192x1024_1_1_0_0_n_n none (extf (φ := .bf16) .f32 D bitsLt_bf16_f32) (extf (φ := .bf16) .f32 W bitsLt_bf16_f32)

theorem hArr_apply (D : Prod.Mat 8192 5632) (W : Prod.Mat 1024 5632) (i : Fin 8192) (q : Fin 1024) : hArr D W (ix2 i q) = dH D W i q := by
  pointwise [hArr, dH]

/-- The mean squares of the rows. -/
def varArr (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

theorem varArr_apply (x : FVec Ideal S8192x1024 .f32) (i : Fin 8192) (z : Fin 1) : varArr x (ix2 i z) = Rms.var (fun k => x (ix2 i k)) := by
  pointwise [varArr]
  rfl

/-- The reciprocal roots of the mean squares, over the columns. -/
def rArr (x : FVec Ideal S8192x1024 .f32) : FVec Ideal S8192x1024 .f32 :=
  broadcastInDim S8192x1024 ![0, 1] bcast_S8192x1_S8192x1024_0_1 (Host.rsqrt (varArr x))

theorem rArr_apply (x : FVec Ideal S8192x1024 .f32) (i : Fin 8192) (q : Fin 1024) : rArr x (ix2 i q) = Rms.rstd (fun k => x (ix2 i k)) := by
  have e : rArr x (ix2 i q) = Ideal.rsqrt (varArr x (ix2 i 0)) := by pointwise [rArr]
  rw [e, varArr_apply]
  rfl

/-- The gain, over the rows. -/
def gainArr (g : Prod.Mat 1 1024) : FVec Ideal S8192x1024 .f32 :=
  broadcastInDim S8192x1024 ![0, 1] bcast_S1x1024_S8192x1024_0_1 (broadcastInDim S1x1024 ![1] bcast_S1024_S1x1024_1 (shapeCast _ (g : FVec Ideal S1x1024 .f32) shapeCasts_S1x1024_S1024))

theorem gainArr_apply (g : Prod.Mat 1 1024) (i : Fin 8192) (q : Fin 1024) : gainArr g (ix2 i q) = g (ix2 0 q) := by
  pointwise [gainArr]

/-- The gradient through the norm's reciprocal root, one number to a row. -/
def tArr (x u : FVec Ideal S8192x1024 .f32) : FVec Ideal S8192x1024 .f32 :=
  broadcastInDim S8192x1024 ![0] bcast_S8192_S8192x1024_0 (Host.reduceAdd (Host.divf (mulf (shapeCast _ (Host.reduceAdd (mulf x u) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (varArr x)) (varArr x)))) (broadcastInDim S8192x1 ![] bcast_S_S8192x1 (constant S_ .f32 0x44800000#32))) (constant S_ .f32 0x00000000#32) reducesTo_S8192x1_S8192_d1 h_S_)

theorem tArr_apply (x u : FVec Ideal S8192x1024 .f32) (i : Fin 8192) (q : Fin 1024) : tArr x u (ix2 i q)
    = Ideal.div ((∑ k : Fin 1024, x (ix2 i k) * u (ix2 i k)) * (Ideal.ofBits .f32 0xBF000000#32 * Ideal.div (Rms.rstd (fun k => x (ix2 i k))) (Rms.var (fun k => x (ix2 i k))))) (Ideal.ofBits .f32 0x44800000#32) := by
  have e : tArr x u (ix2 i q) = ∑ z : Fin 1, Ideal.div ((∑ k : Fin 1024, x (ix2 i k) * u (ix2 i k)) * (Ideal.ofBits .f32 0xBF000000#32 * Ideal.div (Ideal.rsqrt (varArr x (ix2 i z))) (varArr x (ix2 i z)))) (Ideal.ofBits .f32 0x44800000#32) := by
    pointwise [tArr]
  rw [e, Fin.sum_univ_one, varArr_apply]
  rfl

/-- The gradient taken back through a norm. -/
def backArr (x u : FVec Ideal S8192x1024 .f32) : FVec Ideal S8192x1024 .f32 :=
  addf (addf (mulf u (rArr x)) (mulf x (tArr x u))) (mulf (tArr x u) x)

theorem backArr_apply (x u : FVec Ideal S8192x1024 .f32) (i : Fin 8192) (q : Fin 1024) : backArr x u (ix2 i q)
    = Rms.rstd (fun k => x (ix2 i k)) * (u (ix2 i q) - x (ix2 i q) * Rms.rstd (fun k => x (ix2 i k))
      * Ideal.div (∑ k : Fin 1024, u (ix2 i k) * (x (ix2 i k) * Rms.rstd (fun k => x (ix2 i k)))) (Ideal.ofBits .f32 0x44800000#32)) := by
  have e : backArr x u (ix2 i q) = (u (ix2 i q) * rArr x (ix2 i q) + x (ix2 i q) * tArr x u (ix2 i q) + tArr x u (ix2 i q) * x (ix2 i q) : EReal) := rfl
  rw [e, rArr_apply]
  exact Rms.grad_eq (fun k => x (ix2 i k)) (fun k => u (ix2 i k)) q _ (tArr_apply x u i q)

/-- The norm. -/
def nArr (x : FVec Ideal S8192x1024 .f32) : FVec Ideal S8192x1024 .f32 := mulf x (rArr x)

theorem nArr_apply (x : FVec Ideal S8192x1024 .f32) (i : Fin 8192) (q : Fin 1024) : nArr x (ix2 i q) = nrm x i q := by
  have e : nArr x (ix2 i q) = (x (ix2 i q) * rArr x (ix2 i q) : EReal) := rfl
  rw [e, rArr_apply]
  rfl

/-- A gradient with the gain, taken back through the norm. -/
def gradArr (x u : FVec Ideal S8192x1024 .f32) (g : Prod.Mat 1 1024) : FVec Ideal S8192x1024 .f32 := backArr x (mulf u (gainArr g))

theorem gradArr_apply (x u : FVec Ideal S8192x1024 .f32) (g : Prod.Mat 1 1024) (d : Fin 8192 → Fin 1024 → EReal) (hd : ∀ i q, u (ix2 i q) = d i q)
    (i : Fin 8192) (q : Fin 1024) : gradArr x u g (ix2 i q) = back x (fun i k => d i k * g (ix2 0 k)) i q := by
  have eu : ∀ i k, mulf u (gainArr g) (ix2 i k) = (d i k * g (ix2 0 k) : EReal) := by
    intro i k
    have e : mulf u (gainArr g) (ix2 i k) = (u (ix2 i k) * gainArr g (ix2 i k) : EReal) := rfl
    rw [e, hd, gainArr_apply]
  refine (backArr_apply x (mulf u (gainArr g)) i q).trans ?_
  rw [eu]
  refine congrArg (fun s : EReal => Rms.rstd (fun k => x (ix2 i k)) * (d i q * g (ix2 0 q) - nrm x i q * Ideal.div s (Ideal.ofBits .f32 0x44800000#32)))
    (Fin.sum_fin_congr fun k => ?_)
  rw [eu]
  rfl

/-- A gain's gradient. -/
def dgArr (x u : FVec Ideal S8192x1024 .f32) : FVec Ideal S1x1024 .f32 :=
  broadcastInDim S1x1024 ![1] bcast_S1024_S1x1024_1 (Host.reduceAdd (shapeCast _ (Host.reduceAdd (mulf (nArr x) u) (constant S_ .f32 0x00000000#32) reducesTo_S8192x1024_S1024_d0 h_S_) shapeCasts_S1024_S1x1024) (constant S_ .f32 0x00000000#32) reducesTo_S1x1024_S1024_d0 h_S_)

theorem dgArr_apply (x u : FVec Ideal S8192x1024 .f32) (d : Fin 8192 → Fin 1024 → EReal) (hd : ∀ i q, u (ix2 i q) = d i q) (z : Fin 1) (q : Fin 1024) :
    dgArr x u (ix2 z q) = ∑ i : Fin 8192, d i q * nrm x i q := by
  have e : dgArr x u (ix2 z q) = ∑ _z : Fin 1, ∑ i : Fin 8192, nArr x (ix2 i q) * u (ix2 i q) := by
    pointwise [dgArr]
  rw [e, Fin.sum_univ_one]
  refine Fin.sum_fin_congr fun i => ?_
  rw [nArr_apply, hd, mul_comm]

variable (D : Prod.Mat 8192 5632) (W : Prod.Mat 1024 5632) (X Y M : Prod.Mat 8192 1024) (g3 g2 : Prod.Mat 1 1024)

/-- The gradient of the residual sum. -/
def dxArr : FVec Ideal S8192x1024 .f32 := addf (Y : FVec Ideal S8192x1024 .f32) (gradArr X (hArr D W) g3)

theorem dxArr_apply (i : Fin 8192) (q : Fin 1024) : dxArr D W X Y g3 (ix2 i q) = dX D W X Y g3 i q := by
  have e : dxArr D W X Y g3 (ix2 i q) = (Y (ix2 i q) + gradArr X (hArr D W) g3 (ix2 i q) : EReal) := rfl
  rw [e, gradArr_apply X (hArr D W) g3 (dH D W) (hArr_apply D W)]
  rfl

/-- The gradient of the mixing, rounded. -/
def dmArr : FVec Ideal S8192x1024 .bf16 := truncf .bf16 (gradArr M (dxArr D W X Y g3) g2) bitsLt_bf16_f32

theorem x_res : dxArr D W X Y g3 = resX D W X Y g3 := by
  funext x
  obtain ⟨i, q, rfl⟩ : ∃ i j, x = ix2 i j := ⟨x 0, x 1, eq_ix2 x⟩
  exact dxArr_apply D W X Y g3 i q

theorem m_res : dmArr D W X Y M g3 g2 = resM D W X Y M g3 g2 := by
  funext x
  obtain ⟨i, q, rfl⟩ : ∃ i j, x = ix2 i j := ⟨x 0, x 1, eq_ix2 x⟩
  exact gradArr_apply M (dxArr D W X Y g3) g2 (dX D W X Y g3) (dxArr_apply D W X Y g3) i q

theorem g3_res : dgArr X (hArr D W) = resG3 D W X := by
  funext x
  obtain ⟨z, q, rfl⟩ : ∃ i j, x = ix2 i j := ⟨x 0, x 1, eq_ix2 x⟩
  exact dgArr_apply X (hArr D W) (dH D W) (hArr_apply D W) z q

theorem g2_res : dgArr M (dxArr D W X Y g3) = resG2 D W X Y M g3 := by
  funext x
  obtain ⟨z, q, rfl⟩ : ∃ i j, x = ix2 i j := ⟨x 0, x 1, eq_ix2 x⟩
  exact dgArr_apply M (dxArr D W X Y g3) (dX D W X Y g3) (dxArr_apply D W X Y g3) z q

end Reference

/-- The reference's frame: it ends with its arguments unchanged and every counter at zero. -/
theorem frameR : Cert.quiescent_Reference3Ideal := by
  intro m g _
  exact (θ_run Cert.Reference3Ideal.defs _ _).mono (fun r h => ⟨fun c => (h c).2.2.2.2, sem_eq_zero_of_no_sems (by decide) r.2⟩)
    (Cert.Reference3Ideal.Value.run m g)

/-- The kernel and the reference end with the same four arrays. -/
theorem algebraic : Cert.algebraic_Kernel3Ideal_Reference3Ideal := by
  intro m g m' g' _ hagree
  refine ⟨fun c => resX (argD m c) (argW m c) (argX m c) (argY m c) (argg3 m c), fun c => resM (argD m c) (argW m c) (argX m c) (argY m c) (argM m c) (argg3 m c) (argg2 m c), fun c => resG3 (argD m c) (argW m c) (argX m c), fun c => resG2 (argD m c) (argW m c) (argX m c) (argY m c) (argM m c) (argg3 m c), run_blocks m g, ?_⟩
  refine (θ_run Cert.Reference3Ideal.defs _ _).mono (fun r h c => ?_) (Cert.Reference3Ideal.Value.run m' g')
  have hc := h c
  refine ⟨hc.1.trans ?_, hc.2.1.trans ?_, hc.2.2.1.trans ?_, hc.2.2.2.1.trans ?_, hc.2.2.2.2⟩
  · refine Eq.trans (b := dxArr (m' ((c.tc : Thread _ _).loc Cert.Reference3Ideal.main_arg0)) (m' ((c.tc : Thread _ _).loc Cert.Reference3Ideal.main_arg1)) (m' ((c.tc : Thread _ _).loc Cert.Reference3Ideal.main_arg2)) (m' ((c.tc : Thread _ _).loc Cert.Reference3Ideal.main_arg3)) (m' ((c.tc : Thread _ _).loc Cert.Reference3Ideal.main_arg5))) rfl ?_
    rw [(hagree c).1, (hagree c).2.1, (hagree c).2.2.1, (hagree c).2.2.2.1, (hagree c).2.2.2.2.2.1]
    exact x_res (argD m c) (argW m c) (argX m c) (argY m c) (argg3 m c)
  · refine Eq.trans (b := dmArr (m' ((c.tc : Thread _ _).loc Cert.Reference3Ideal.main_arg0)) (m' ((c.tc : Thread _ _).loc Cert.Reference3Ideal.main_arg1)) (m' ((c.tc : Thread _ _).loc Cert.Reference3Ideal.main_arg2)) (m' ((c.tc : Thread _ _).loc Cert.Reference3Ideal.main_arg3)) (m' ((c.tc : Thread _ _).loc Cert.Reference3Ideal.main_arg4)) (m' ((c.tc : Thread _ _).loc Cert.Reference3Ideal.main_arg5)) (m' ((c.tc : Thread _ _).loc Cert.Reference3Ideal.main_arg6))) rfl ?_
    rw [(hagree c).1, (hagree c).2.1, (hagree c).2.2.1, (hagree c).2.2.2.1, (hagree c).2.2.2.2.1, (hagree c).2.2.2.2.2.1, (hagree c).2.2.2.2.2.2]
    exact m_res (argD m c) (argW m c) (argX m c) (argY m c) (argM m c) (argg3 m c) (argg2 m c)
  · refine Eq.trans (b := dgArr (m' ((c.tc : Thread _ _).loc Cert.Reference3Ideal.main_arg2)) (hArr (m' ((c.tc : Thread _ _).loc Cert.Reference3Ideal.main_arg0)) (m' ((c.tc : Thread _ _).loc Cert.Reference3Ideal.main_arg1)))) rfl ?_
    rw [(hagree c).1, (hagree c).2.1, (hagree c).2.2.1]
    exact g3_res (argD m c) (argW m c) (argX m c)
  · refine Eq.trans (b := dgArr (m' ((c.tc : Thread _ _).loc Cert.Reference3Ideal.main_arg4)) (dxArr (m' ((c.tc : Thread _ _).loc Cert.Reference3Ideal.main_arg0)) (m' ((c.tc : Thread _ _).loc Cert.Reference3Ideal.main_arg1)) (m' ((c.tc : Thread _ _).loc Cert.Reference3Ideal.main_arg2)) (m' ((c.tc : Thread _ _).loc Cert.Reference3Ideal.main_arg3)) (m' ((c.tc : Thread _ _).loc Cert.Reference3Ideal.main_arg5)))) rfl ?_
    rw [(hagree c).1, (hagree c).2.1, (hagree c).2.2.1, (hagree c).2.2.2.1, (hagree c).2.2.2.2.1, (hagree c).2.2.2.2.2.1]
    exact g2_res (argD m c) (argW m c) (argX m c) (argY m c) (argM m c) (argg3 m c)

end Cert.Norms

end
-- ==== Proof.MergeBwdSpec.lean ====
/- The gradient of the gated merge of three branches: what each result is, element by element. -/
module

public import proofs.«01_k».proof.Proof.ProdSpec

@[expose] public section

noncomputable section

namespace Cert.MergeBwd

open Idealize.ShloMosaic

/-- The gradient of `logistic x · y` by `x` at the cotangent `d`. -/
def dG (d y x : EReal) : EReal := d * y * (Ideal.logistic x * (1 - Ideal.logistic x))

/-- The argument of the gate of row `i`, column `j`. -/
def pre (G : Prod.Mat 8192 3072) (b : Prod.Mat 1 3072) (i : Fin 8192) (j : Fin 3072) : EReal := G (ix2 i j) + b (ix2 0 j)

/-- The branch that the gate's column `j` multiplies, at row `i`. -/
def branch (Ya Yb Yc : Prod.Mat 8192 1024) (i : Fin 8192) (j : Fin 3072) : EReal :=
  if h : (j : ℕ) < 1024 then Ya (ix2 i ⟨(j : ℕ), h⟩)
  else if h' : (j : ℕ) < 2048 then Yb (ix2 i ⟨(j : ℕ) - 1024, by omega⟩)
  else Yc (ix2 i ⟨(j : ℕ) - 2048, by have := j.isLt; omega⟩)

/-- The gradient of the gates' argument at row `i`, column `j`. -/
def dPre (M : Prod.Mat 8192 1024) (W : Prod.Mat 1024 1024) (G : Prod.Mat 8192 3072) (Ya Yb Yc : Prod.Mat 8192 1024) (b : Prod.Mat 1 3072)
    (i : Fin 8192) (j : Fin 3072) : EReal :=
  dG (Prod.nt M W (ix2 i ⟨(j : ℕ) % 1024, Nat.mod_lt _ (by decide)⟩)) (branch Ya Yb Yc i j) (pre G b i j)

/-- The gradient of the gates' argument. -/
def resG (M : Prod.Mat 8192 1024) (W : Prod.Mat 1024 1024) (G : Prod.Mat 8192 3072) (Ya Yb Yc : Prod.Mat 8192 1024) (b : Prod.Mat 1 3072) :
    Prod.Mat 8192 3072 := fun x => dPre M W G Ya Yb Yc b (x 0) (x 1)

/-- The gradient of the gates' bias: the rows' sum. -/
def resB (M : Prod.Mat 8192 1024) (W : Prod.Mat 1024 1024) (G : Prod.Mat 8192 3072) (Ya Yb Yc : Prod.Mat 8192 1024) (b : Prod.Mat 1 3072) :
    Prod.Mat 1 3072 := fun x => ∑ i : Fin 8192, dPre M W G Ya Yb Yc b i (x 1)

/-- The gradient of the branch whose gates are the columns from `o` on. -/
def resY (o : ℕ) (ho : o + 1024 ≤ 3072) (M : Prod.Mat 8192 1024) (W : Prod.Mat 1024 1024) (G : Prod.Mat 8192 3072) (b : Prod.Mat 1 3072) :
    Prod.Mat 8192 1024 := fun x => Prod.nt M W x * Ideal.logistic (pre G b (x 0) ⟨o + (x 1 : ℕ), by have : (x 1 : ℕ) < 1024 := (x 1).isLt; omega⟩)

end Cert.MergeBwd

end
-- ==== Proof.ColPieces.lean ====
/- Reading an array stored a band of columns at a time: a band's element, and an element outside the band. -/
module

public import Idealize.ShloMosaic.Lib.Pipeline
public import Idealize.ShloMosaic.Lib.Pipeline.Value
public import proofs.«01_k».proof.Proof.ProdSpec

@[expose] public section

noncomputable section

namespace Cert.Cols

open Idealize.ShloMosaic

variable {Val : EltTy → Type} {e : EltTy} {a n w o : ℕ}

/-- A load of the band of `w` columns from column `o` on reads the array at the shifted column. -/
theorem ld_apply (inb : ∀ x, (![0, o] : Fin 2 → ℕ) x + (![a, w] : Fin 2 → ℕ) x ≤ (⟨2, ![a, n]⟩ : Shape).size x)
    (X : (⟨2, ![a, n]⟩ : Shape).Idx → Val e) (i : Fin a) (q : Fin w) (j : Fin n) (hj : (j : ℕ) = o + q) :
    View.ld X (Rect.unit (s := ⟨2, ![a, n]⟩) ![0, o] ![a, w] inb) (ix2 i q) = X (ix2 i j) := by
  refine congrArg X (funext fun x => Fin.ext ?_)
  match x with
  | 0 => show 0 + 1 * (i : ℕ) = (i : ℕ); omega
  | 1 => show o + 1 * (q : ℕ) = (j : ℕ); omega

/-- An element of the band stored last is that store's payload. -/
theorem canon_hit [∀ e, Nonempty (Val e)] (inb : ∀ x, (![0, o] : Fin 2 → ℕ) x + (![a, w] : Fin 2 → ℕ) x ≤ (⟨2, ![a, n]⟩ : Shape).size x)
    (p : (⟨2, ![a, w]⟩ : Shape).Idx → Val e) (L : List (View.Piece Val ⟨2, ![a, n]⟩ e)) (i : Fin a) (q : Fin w) (j : Fin n) (hj : (j : ℕ) = o + q) :
    View.canon ((⟨Rect.unit (s := ⟨2, ![a, n]⟩) ![0, o] ![a, w] inb, p⟩ : View.Piece Val ⟨2, ![a, n]⟩ e) :: L) (ix2 i j) = p (ix2 i q) := by
  have h : (Rect.unit (s := ⟨2, ![a, n]⟩) ![0, o] ![a, w] inb).emb (ix2 i q) = ix2 i j := by
    refine funext fun x => Fin.ext ?_
    match x with
    | 0 => show 0 + 1 * (i : ℕ) = (i : ℕ); omega
    | 1 => show o + 1 * (q : ℕ) = (j : ℕ); omega
  rw [← h]
  exact View.canon_cons_emb (Rect.unit (s := ⟨2, ![a, n]⟩) ![0, o] ![a, w] inb) p L (ix2 i q)

/-- An element outside the band stored last is what the older stores left. -/
theorem canon_miss [∀ e, Nonempty (Val e)] (inb : ∀ x, (![0, o] : Fin 2 → ℕ) x + (![a, w] : Fin 2 → ℕ) x ≤ (⟨2, ![a, n]⟩ : Shape).size x)
    (p : (⟨2, ![a, w]⟩ : Shape).Idx → Val e) (L : List (View.Piece Val ⟨2, ![a, n]⟩ e)) (i : Fin a) (j : Fin n) (hj : (j : ℕ) < o ∨ o + w ≤ (j : ℕ)) :
    View.canon ((⟨Rect.unit (s := ⟨2, ![a, n]⟩) ![0, o] ![a, w] inb, p⟩ : View.Piece Val ⟨2, ![a, n]⟩ e) :: L) (ix2 i j) = View.canon L (ix2 i j) := by
  refine View.canon_cons_of_not_mem _ _ fun hm => ?_
  obtain ⟨x, hx⟩ := LoadRect.exists_idx_of_mem (Rect.unit (s := ⟨2, ![a, n]⟩) ![0, o] ![a, w] inb).toLoadRect hm
  have h1 : o + 1 * ((x 1 : Fin w) : ℕ) = (j : ℕ) := congrArg (fun y : (⟨2, ![a, n]⟩ : Shape).Idx => (y 1 : ℕ)) hx
  have h2 : ((x 1 : Fin w) : ℕ) < w := (x 1).isLt
  omega

/-- A covered load of a band reads what the stores left at the shifted column. -/
theorem readCov_apply [∀ e, Nonempty (Val e)] {sig : RefSig} {κ : Kind} {sp : Space} (v : View sig κ sp ⟨2, ![a, n]⟩ e)
    (inb : ∀ x, (![0, o] : Fin 2 → ℕ) x + (![a, w] : Fin 2 → ℕ) x ≤ (⟨2, ![a, n]⟩ : Shape).size x)
    (L : List (View.Piece Val ⟨2, ![a, n]⟩ e)) (i : Fin a) (q : Fin w) (j : Fin n) (hj : (j : ℕ) = o + q) :
    v.readCov L (Rect.unit (s := ⟨2, ![a, n]⟩) ![0, o] ![a, w] inb).toLoadRect (ix2 i q) = View.canon L (ix2 i j) := by
  refine (congrFun (View.readCov_eq_canon' v L (Rect.unit (s := ⟨2, ![a, n]⟩) ![0, o] ![a, w] inb).toLoadRect) (ix2 i q)).trans (congrArg (View.canon L) (funext fun x => Fin.ext ?_))
  match x with
  | 0 => show 0 + 1 * (i : ℕ) = (i : ℕ); omega
  | 1 => show o + 1 * (q : ℕ) = (j : ℕ); omega

end Cert.Cols

end
-- ==== Proof.MergeBwdBlock.lean ====
/- What each grid point of the gated merge's gradient leaves in its output blocks, and the arrays the blocks make up. -/
module

public import proofs.«01_k».proof.Proof.Gen.Kernel4Ideal.Value
public import proofs.«01_k».proof.Proof.MergeBwdSpec
public import proofs.«01_k».proof.Proof.ColPieces

@[expose] public section

set_option maxRecDepth 16384

noncomputable section

namespace Cert.MergeBwd

open Idealize.ShloMosaic Idealize.ShloMosaic.TcCoe Idealize.SL.Sem
open Cert.Kernel4Ideal Cert.Kernel4Ideal.Gen

variable (m : (ℓ : Loc nD τ sig) → Buf (Elt Ideal) ℓ)

/-- The arrays of device `c`: the cotangent, the output weights, the gates' product, the three branches, the gates' bias. -/
abbrev argM (c : Dev nD) : Prod.Mat 8192 1024 := m ((c : Thread nD τ).loc main_arg0)
abbrev argW (c : Dev nD) : Prod.Mat 1024 1024 := m ((c : Thread nD τ).loc main_arg1)
abbrev argG (c : Dev nD) : Prod.Mat 8192 3072 := m ((c : Thread nD τ).loc main_arg2)
abbrev argYa (c : Dev nD) : Prod.Mat 8192 1024 := m ((c : Thread nD τ).loc main_arg3)
abbrev argYb (c : Dev nD) : Prod.Mat 8192 1024 := m ((c : Thread nD τ).loc main_arg4)
abbrev argYc (c : Dev nD) : Prod.Mat 8192 1024 := m ((c : Thread nD τ).loc main_arg5)
abbrev argb (c : Dev nD) : Prod.Mat 1 3072 := m ((c : Thread nD τ).loc main_arg6)

/-- The gradient of the gates' argument on device `c`. -/
abbrev dP (c : Dev nD) (i : Fin 8192) (j : Fin 3072) : EReal :=
  dPre (argM m c) (argW m c) (argG m c) (argYa m c) (argYb m c) (argYc m c) (argb m c) i j

/-- The blocks that grid point `t` reads and writes: rows `512 t …` of the tall arrays, the others whole. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, 0] := by decide +kernel

/-! ## The payloads -/

section Payloads

variable (x : Vec Ideal S512x1024 .bf16) (w : Vec Ideal S1024x1024 .bf16) (d : FVec Ideal S512x1024 .f32) (s : FVec Ideal S512x1024 .f32)
  (g y : Vec Ideal S512x1024 .bf16) (b v : Vec Ideal S1x1024 .f32) (r : Fin 512) (q : Fin 1024)

theorem pay5_apply : k0_pay5 (F := Ideal) x w (ix2 r q) = ∑ k : Fin 1024, x (ix2 r k) * w (ix2 q k) := by
  pointwise [k0_pay5]

theorem pay7_apply : k0_pay7 (F := Ideal) x w g b (ix2 r q) = k0_pay5 (F := Ideal) x w (ix2 r q) * Ideal.logistic (g (ix2 r q) + b (ix2 0 q)) := by
  pointwise [k0_pay7, k0_pay6]

theorem pay12_apply : k0_pay12 (F := Ideal) d g b (ix2 r q) = d (ix2 r q) * Ideal.logistic (g (ix2 r q) + b (ix2 0 q)) := by
  pointwise [k0_pay12, k0_pay11]

theorem pay17_apply : k0_pay17 (F := Ideal) d g b (ix2 r q) = d (ix2 r q) * Ideal.logistic (g (ix2 r q) + b (ix2 0 q)) := by
  pointwise [k0_pay17, k0_pay16]

theorem pay8_apply : k0_pay8 (F := Ideal) x w g b y (ix2 r q) = dG (k0_pay5 (F := Ideal) x w (ix2 r q)) (y (ix2 r q)) (g (ix2 r q) + b (ix2 0 q)) := by
  pointwise [k0_pay8, k0_pay6, dG]

theorem pay9_apply : k0_pay9 (F := Ideal) x w g b y (ix2 r q) = dG (k0_pay5 (F := Ideal) x w (ix2 r q)) (y (ix2 r q)) (g (ix2 r q) + b (ix2 0 q)) :=
  (by pointwise [k0_pay9] : k0_pay9 (F := Ideal) x w g b y (ix2 r q) = k0_pay8 (F := Ideal) x w g b y (ix2 r q)).trans (pay8_apply ..)

theorem pay13_apply : k0_pay13 (F := Ideal) d g b y (ix2 r q) = dG (d (ix2 r q)) (y (ix2 r q)) (g (ix2 r q) + b (ix2 0 q)) := by
  pointwise [k0_pay13, k0_pay11, dG]

theorem pay14_apply : k0_pay14 (F := Ideal) d g b y (ix2 r q) = dG (d (ix2 r q)) (y (ix2 r q)) (g (ix2 r q) + b (ix2 0 q)) :=
  (by pointwise [k0_pay14] : k0_pay14 (F := Ideal) d g b y (ix2 r q) = k0_pay13 (F := Ideal) d g b y (ix2 r q)).trans (pay13_apply ..)

theorem pay1_apply : k0_pay1 (F := Ideal) d (k0_pay16 (F := Ideal) g b) y (ix2 r q) = dG (d (ix2 r q)) (y (ix2 r q)) (g (ix2 r q) + b (ix2 0 q)) := by
  pointwise [k0_pay1, k0_pay16, dG]

theorem pay2_apply : k0_pay2 (F := Ideal) d (k0_pay16 (F := Ideal) g b) y (ix2 r q) = dG (d (ix2 r q)) (y (ix2 r q)) (g (ix2 r q) + b (ix2 0 q)) :=
  (by pointwise [k0_pay2] : k0_pay2 (F := Ideal) d (k0_pay16 (F := Ideal) g b) y (ix2 r q) = k0_pay1 (F := Ideal) d (k0_pay16 (F := Ideal) g b) y (ix2 r q)).trans (pay1_apply ..)

theorem pay10_apply : k0_pay10 (F := Ideal) x w g b y v (ix2 0 q) = v (ix2 0 q) + ∑ r : Fin 512, k0_pay8 (F := Ideal) x w g b y (ix2 r q) := by
  pointwise [k0_pay10]

theorem pay15_apply : k0_pay15 (F := Ideal) d g b y v (ix2 0 q) = v (ix2 0 q) + ∑ r : Fin 512, k0_pay13 (F := Ideal) d g b y (ix2 r q) := by
  pointwise [k0_pay15]

theorem pay3_apply : k0_pay3 (F := Ideal) d s y v (ix2 0 q) = v (ix2 0 q) + ∑ r : Fin 512, k0_pay1 (F := Ideal) d s y (ix2 r q) := by
  pointwise [k0_pay3]

end Payloads

/-! ## One point's blocks of the arrays -/

/-- The row of the arrays that row `r` of point `t`'s blocks is. -/
abbrev row (t : Fin cfg0.N) (r : Fin 512) : Fin 8192 := ⟨512 * t.val + r.val, by have : t.val < 16 := t.isLt; omega⟩

theorem dm_eq (c : Dev nD) (t : Fin cfg0.N) (r : Fin 512) (q : Fin 1024) :
    k0_pay5 (F := Ideal) (iblk m c 0 t) (iblk m c 1 t) (ix2 r q) = Prod.nt (argM m c) (argW m c) (ix2 (row t r) q) := by
  rw [pay5_apply]
  refine Eq.trans ?_ (Prod.nt_apply _ _ _ _).symm
  refine Prod.sum_mul_congr (fun k => ?_) fun k => ?_
  · blk_ext [iblk, V, idx t]
  · blk_ext [iblk, V, idx t]

theorem g_eq (c : Dev nD) (t : Fin cfg0.N) (r : Fin 512) (j : Fin 3072) :
    (iblk m c 2 t : S512x3072.Idx → EReal) (ix2 r j) = argG m c (ix2 (row t r) j) := by
  blk_ext [iblk, V, idx t]

theorem b_eq (c : Dev nD) (t : Fin cfg0.N) (j : Fin 3072) :
    (iblk m c 6 t : S1x3072.Idx → EReal) (ix2 0 j) = argb m c (ix2 0 j) := by
  blk_ext [iblk, V, idx t]

theorem ya_eq (c : Dev nD) (t : Fin cfg0.N) (r : Fin 512) (q : Fin 1024) :
    (iblk m c 3 t : S512x1024.Idx → EReal) (ix2 r q) = argYa m c (ix2 (row t r) q) := by
  blk_ext [iblk, V, idx t]

theorem yb_eq (c : Dev nD) (t : Fin cfg0.N) (r : Fin 512) (q : Fin 1024) :
    (iblk m c 4 t : S512x1024.Idx → EReal) (ix2 r q) = argYb m c (ix2 (row t r) q) := by
  blk_ext [iblk, V, idx t]

theorem yc_eq (c : Dev nD) (t : Fin cfg0.N) (r : Fin 512) (q : Fin 1024) :
    (iblk m c 5 t : S512x1024.Idx → EReal) (ix2 r q) = argYc m c (ix2 (row t r) q) := by
  blk_ext [iblk, V, idx t]

/-- The argument of the gates, read from a point's blocks a third of the columns at a time. -/
theorem pre_eq (c : Dev nD) (t : Fin cfg0.N) (o : ℕ) (inb : ∀ a, (![0, o] : Fin 2 → ℕ) a + (![512, 1024] : Fin 2 → ℕ) a ≤ S512x3072.size a)
    (inb' : ∀ a, (![0, o] : Fin 2 → ℕ) a + (![1, 1024] : Fin 2 → ℕ) a ≤ S1x3072.size a)
    (r : Fin 512) (q : Fin 1024) (j : Fin 3072) (hj : (j : ℕ) = o + q) :
    @HAdd.hAdd EReal EReal EReal _ (View.ld (iblk m c 2 t) (Rect.unit (s := S512x3072) ![0, o] ![512, 1024] inb) (ix2 r q))
        (View.ld (iblk m c 6 t) (Rect.unit (s := S1x3072) ![0, o] ![1, 1024] inb') (ix2 0 q))
      = pre (argG m c) (argb m c) (row t r) j := by
  refine congrArg₂ (fun a b : EReal => a + b) ?_ ?_
  · exact (Cols.ld_apply inb _ r q j hj).trans (g_eq m c t r j)
  · exact (Cols.ld_apply inb' _ 0 q j hj).trans (b_eq m c t j)

/-- The gradient of the gates' argument on each third of the columns. -/
theorem dP_a (c : Dev nD) (i : Fin 8192) (q : Fin 1024) (j : Fin 3072) (hj : (j : ℕ) = 0 + q) :
    dP m c i j = dG (Prod.nt (argM m c) (argW m c) (ix2 i q)) (argYa m c (ix2 i q)) (pre (argG m c) (argb m c) i j) := by
  unfold dP dPre branch
  have h := q.isLt
  have e : (⟨(j : ℕ) % 1024, Nat.mod_lt _ (by decide)⟩ : Fin 1024) = q := Fin.ext (by show (j : ℕ) % 1024 = q; omega)
  rw [dif_pos (by omega), e]
  have e' : (⟨(j : ℕ), by omega⟩ : Fin 1024) = q := Fin.ext (by show (j : ℕ) = q; omega)
  rw [e']

theorem dP_b (c : Dev nD) (i : Fin 8192) (q : Fin 1024) (j : Fin 3072) (hj : (j : ℕ) = 1024 + q) :
    dP m c i j = dG (Prod.nt (argM m c) (argW m c) (ix2 i q)) (argYb m c (ix2 i q)) (pre (argG m c) (argb m c) i j) := by
  unfold dP dPre branch
  have h := q.isLt
  have e : (⟨(j : ℕ) % 1024, Nat.mod_lt _ (by decide)⟩ : Fin 1024) = q := Fin.ext (by show (j : ℕ) % 1024 = q; omega)
  rw [dif_neg (by omega), dif_pos (by omega), e]
  have e' : (⟨(j : ℕ) - 1024, by omega⟩ : Fin 1024) = q := Fin.ext (by show (j : ℕ) - 1024 = q; omega)
  rw [e']

theorem dP_c (c : Dev nD) (i : Fin 8192) (q : Fin 1024) (j : Fin 3072) (hj : (j : ℕ) = 2048 + q) :
    dP m c i j = dG (Prod.nt (argM m c) (argW m c) (ix2 i q)) (argYc m c (ix2 i q)) (pre (argG m c) (argb m c) i j) := by
  unfold dP dPre branch
  have h := q.isLt
  have e : (⟨(j : ℕ) % 1024, Nat.mod_lt _ (by decide)⟩ : Fin 1024) = q := Fin.ext (by show (j : ℕ) % 1024 = q; omega)
  rw [dif_neg (by omega), dif_neg (by omega), e]
  have e' : (⟨(j : ℕ) - 2048, by omega⟩ : Fin 1024) = q := Fin.ext (by show (j : ℕ) - 2048 = q; omega)
  rw [e']

/-- The gradient of the gates' argument, out of a point's blocks: each third of the columns. -/
theorem third_a (c : Dev nD) (t : Fin cfg0.N) (r : Fin 512) (q : Fin 1024) (j : Fin 3072) (hj : (j : ℕ) = 0 + q)
    (z : EReal) (hz : z = pre (argG m c) (argb m c) (row t r) j) :
    dG (k0_pay5 (F := Ideal) (iblk m c 0 t) (iblk m c 1 t) (ix2 r q)) ((iblk m c 3 t : S512x1024.Idx → EReal) (ix2 r q)) z = dP m c (row t r) j := by
  rw [dP_a m c _ q j hj, dm_eq, ya_eq, hz]

theorem third_b (c : Dev nD) (t : Fin cfg0.N) (r : Fin 512) (q : Fin 1024) (j : Fin 3072) (hj : (j : ℕ) = 1024 + q)
    (z : EReal) (hz : z = pre (argG m c) (argb m c) (row t r) j) :
    dG (k0_pay5 (F := Ideal) (iblk m c 0 t) (iblk m c 1 t) (ix2 r q)) ((iblk m c 4 t : S512x1024.Idx → EReal) (ix2 r q)) z = dP m c (row t r) j := by
  rw [dP_b m c _ q j hj, dm_eq, yb_eq, hz]

theorem third_c (c : Dev nD) (t : Fin cfg0.N) (r : Fin 512) (q : Fin 1024) (j : Fin 3072) (hj : (j : ℕ) = 2048 + q)
    (z : EReal) (hz : z = pre (argG m c) (argb m c) (row t r) j) :
    dG (k0_pay5 (F := Ideal) (iblk m c 0 t) (iblk m c 1 t) (ix2 r q)) ((iblk m c 5 t : S512x1024.Idx → EReal) (ix2 r q)) z = dP m c (row t r) j := by
  rw [dP_c m c _ q j hj, dm_eq, yc_eq, hz]

/-! ## The gradients of the branches -/

theorem after7 (c : Dev nD) (t : Fin cfg0.N) (r : Fin 512) (q : Fin 1024) :
    (outsAt0 m c t.val t.isLt).1 (ix2 r q) = resY 0 (by decide) (argM m c) (argW m c) (argG m c) (argb m c) (ix2 (row t r) q) := by
  by_cases h : t.val % 16 = 0
  · rw [outsAt0_A m c t h]
    frame_out
    refine (pay7_apply ..).trans ?_
    rw [dm_eq, pre_eq m c t 0 _ _ r q ⟨0 + q.val, by omega⟩ rfl]
    rfl
  · rw [outsAt0_B m c t h]
    frame_out
    refine (pay7_apply ..).trans ?_
    rw [dm_eq, pre_eq m c t 0 _ _ r q ⟨0 + q.val, by omega⟩ rfl]
    rfl

theorem after8 (c : Dev nD) (t : Fin cfg0.N) (r : Fin 512) (q : Fin 1024) :
    (outsAt0 m c t.val t.isLt).2.1 (ix2 r q) = resY 1024 (by decide) (argM m c) (argW m c) (argG m c) (argb m c) (ix2 (row t r) q) := by
  by_cases h : t.val % 16 = 0
  · rw [outsAt0_A m c t h]
    frame_out
    refine (pay12_apply ..).trans ?_
    rw [dm_eq, pre_eq m c t 1024 _ _ r q ⟨1024 + q.val, by omega⟩ rfl]
    rfl
  · rw [outsAt0_B m c t h]
    frame_out
    refine (pay12_apply ..).trans ?_
    rw [dm_eq, pre_eq m c t 1024 _ _ r q ⟨1024 + q.val, by omega⟩ rfl]
    rfl

theorem after9 (c : Dev nD) (t : Fin cfg0.N) (r : Fin 512) (q : Fin 1024) :
    (outsAt0 m c t.val t.isLt).2.2.1 (ix2 r q) = resY 2048 (by decide) (argM m c) (argW m c) (argG m c) (argb m c) (ix2 (row t r) q) := by
  by_cases h : t.val % 16 = 0
  · rw [outsAt0_A m c t h]
    frame_out
    refine (pay17_apply ..).trans ?_
    rw [dm_eq, pre_eq m c t 2048 _ _ r q ⟨2048 + q.val, by omega⟩ rfl]
    rfl
  · rw [outsAt0_B m c t h]
    frame_out
    refine (pay17_apply ..).trans ?_
    rw [dm_eq, pre_eq m c t 2048 _ _ r q ⟨2048 + q.val, by omega⟩ rfl]
    rfl

/-! ## The gradient of the gates' argument -/

theorem after10 (c : Dev nD) (t : Fin cfg0.N) (r : Fin 512) (j : Fin 3072) :
    (outsAt0 m c t.val t.isLt).2.2.2.1 (ix2 r j) = dP m c (row t r) j := by
  by_cases h : t.val % 16 = 0
  · rw [outsAt0_A m c t h]
    frame_out
    have hj3 : (j : ℕ) < 3072 := j.isLt
    rcases lt_or_ge (j : ℕ) 1024 with h1 | h1
    · have hq : (j : ℕ) = 0 + ((⟨j, h1⟩ : Fin 1024) : ℕ) := (Nat.zero_add _).symm
      refine (Cols.canon_miss _ _ _ _ _ (Or.inl (by omega))).trans ((Cols.canon_miss _ _ _ _ _ (Or.inl (by omega))).trans ?_)
      refine (Cols.canon_hit _ _ _ _ _ _ hq).trans ((pay9_apply ..).trans ?_)
      exact third_a m c t r _ j hq _ (pre_eq m c t 0 _ _ r _ j hq)
    · rcases lt_or_ge (j : ℕ) 2048 with h2 | h2
      · have hq : (j : ℕ) = 1024 + ((⟨j - 1024, by omega⟩ : Fin 1024) : ℕ) := by show (j : ℕ) = 1024 + (j - 1024); omega
        refine (Cols.canon_miss _ _ _ _ _ (Or.inl (by omega))).trans ((Cols.canon_hit _ _ _ _ _ _ hq).trans ((pay14_apply ..).trans ?_))
        exact third_b m c t r _ j hq _ (pre_eq m c t 1024 _ _ r _ j hq)
      · have hq : (j : ℕ) = 2048 + ((⟨j - 2048, by omega⟩ : Fin 1024) : ℕ) := by show (j : ℕ) = 2048 + (j - 2048); omega
        refine (Cols.canon_hit _ _ _ _ _ _ hq).trans ((pay2_apply ..).trans ?_)
        exact third_c m c t r _ j hq _ (pre_eq m c t 2048 _ _ r _ j hq)
  · rw [outsAt0_B m c t h]
    frame_out
    have hj3 : (j : ℕ) < 3072 := j.isLt
    rcases lt_or_ge (j : ℕ) 1024 with h1 | h1
    · have hq : (j : ℕ) = 0 + ((⟨j, h1⟩ : Fin 1024) : ℕ) := (Nat.zero_add _).symm
      refine (Cols.canon_miss _ _ _ _ _ (Or.inl (by omega))).trans ((Cols.canon_miss _ _ _ _ _ (Or.inl (by omega))).trans ?_)
      refine (Cols.canon_hit _ _ _ _ _ _ hq).trans ((pay9_apply ..).trans ?_)
      exact third_a m c t r _ j hq _ (pre_eq m c t 0 _ _ r _ j hq)
    · rcases lt_or_ge (j : ℕ) 2048 with h2 | h2
      · have hq : (j : ℕ) = 1024 + ((⟨j - 1024, by omega⟩ : Fin 1024) : ℕ) := by show (j : ℕ) = 1024 + (j - 1024); omega
        refine (Cols.canon_miss _ _ _ _ _ (Or.inl (by omega))).trans ((Cols.canon_hit _ _ _ _ _ _ hq).trans ((pay14_apply ..).trans ?_))
        exact third_b m c t r _ j hq _ (pre_eq m c t 1024 _ _ r _ j hq)
      · have hq : (j : ℕ) = 2048 + ((⟨j - 2048, by omega⟩ : Fin 1024) : ℕ) := by show (j : ℕ) = 2048 + (j - 2048); omega
        refine (Cols.canon_hit _ _ _ _ _ _ hq).trans ((pay2_apply ..).trans ?_)
        exact third_c m c t r _ j hq _ (pre_eq m c t 2048 _ _ r _ j hq)

/-! ## The gradient of the gates' bias -/

/-- What the bias' accumulator holds after point `n`. -/
def kept (c : Dev nD) (n : ℕ) (h : n < cfg0.N) (j : Fin 3072) : EReal := (outsAt0 m c n h).2.2.2.2 (ix2 0 j)

/-- What point `t` adds to the accumulator. -/
def term (c : Dev nD) (t : Fin cfg0.N) (j : Fin 3072) : EReal := ∑ r : Fin 512, dP m c (row t r) j

theorem zero_canon {j : Fin 3072} {inb : ∀ a, (![0, 0] : Fin 2 → ℕ) a + (![1, 3072] : Fin 2 → ℕ) a ≤ S1x3072.size a} :
    View.canon (Val := Elt Ideal) [(⟨Rect.unit (s := S1x3072) ![0, 0] ![1, 3072] inb, k0_pay4 (F := Ideal)⟩ : View.Piece (Elt Ideal) S1x3072 .f32)] (ix2 0 j) = (0 : EReal) := by
  refine (Cols.canon_hit inb _ [] 0 j j (Nat.zero_add _).symm).trans ?_
  pointwise [k0_pay4]

theorem kept_first (c : Dev nD) (t : Fin cfg0.N) (h : t.val % 16 = 0) (j : Fin 3072) : kept m c t.val t.isLt j = 0 + term m c t j := by
    unfold kept term
    rw [outsAt0_A m c t h]
    frame_out
    have hj3 : (j : ℕ) < 3072 := j.isLt
    rcases lt_or_ge (j : ℕ) 1024 with h1 | h1
    · have hq : (j : ℕ) = 0 + ((⟨j, h1⟩ : Fin 1024) : ℕ) := (Nat.zero_add _).symm
      refine (Cols.canon_miss _ _ _ _ _ (Or.inl (by omega))).trans ((Cols.canon_miss _ _ _ _ _ (Or.inl (by omega))).trans ?_)
      refine (Cols.canon_hit _ _ _ _ _ _ hq).trans ((pay10_apply ..).trans ?_)
      refine congrArg₂ (fun a b : EReal => a + b) ((Cols.readCov_apply _ _ _ 0 _ j hq).trans zero_canon) (Fin.sum_fin_congr fun r => ?_)
      exact (pay8_apply ..).trans (third_a m c t r _ j hq _ (pre_eq m c t 0 _ _ r _ j hq))
    · rcases lt_or_ge (j : ℕ) 2048 with h2 | h2
      · have hq : (j : ℕ) = 1024 + ((⟨j - 1024, by omega⟩ : Fin 1024) : ℕ) := by show (j : ℕ) = 1024 + (j - 1024); omega
        refine (Cols.canon_miss _ _ _ _ _ (Or.inl (by omega))).trans ((Cols.canon_hit _ _ _ _ _ _ hq).trans ((pay15_apply ..).trans ?_))
        refine congrArg₂ (fun a b : EReal => a + b) ((Cols.readCov_apply _ _ _ 0 _ j hq).trans ((Cols.canon_miss _ _ _ _ _ (Or.inr (by omega))).trans zero_canon)) (Fin.sum_fin_congr fun r => ?_)
        exact (pay13_apply ..).trans (third_b m c t r _ j hq _ (pre_eq m c t 1024 _ _ r _ j hq))
      · have hq : (j : ℕ) = 2048 + ((⟨j - 2048, by omega⟩ : Fin 1024) : ℕ) := by show (j : ℕ) = 2048 + (j - 2048); omega
        refine (Cols.canon_hit _ _ _ _ _ _ hq).trans ((pay3_apply ..).trans ?_)
        refine congrArg₂ (fun a b : EReal => a + b) ((Cols.readCov_apply _ _ _ 0 _ j hq).trans ((Cols.canon_miss _ _ _ _ _ (Or.inr (by omega))).trans ((Cols.canon_miss _ _ _ _ _ (Or.inr (by omega))).trans zero_canon))) (Fin.sum_fin_congr fun r => ?_)
        exact (pay1_apply ..).trans (third_c m c t r _ j hq _ (pre_eq m c t 2048 _ _ r _ j hq))

theorem kept_next (c : Dev nD) (t : Fin cfg0.N) (h : ¬t.val % 16 = 0) (j : Fin 3072) :
    kept m c t.val t.isLt j = kept m c (t.val - 1) (Nat.lt_of_le_of_lt (Nat.sub_le _ _) t.isLt) j + term m c t j := by
    unfold kept term
    rw [outsAt0_B m c t h]
    frame_out
    have hj3 : (j : ℕ) < 3072 := j.isLt
    rcases lt_or_ge (j : ℕ) 1024 with h1 | h1
    · have hq : (j : ℕ) = 0 + ((⟨j, h1⟩ : Fin 1024) : ℕ) := (Nat.zero_add _).symm
      refine (Cols.canon_miss _ _ _ _ _ (Or.inl (by omega))).trans ((Cols.canon_miss _ _ _ _ _ (Or.inl (by omega))).trans ?_)
      refine (Cols.canon_hit _ _ _ _ _ _ hq).trans ((pay10_apply ..).trans ?_)
      refine congrArg₂ (fun a b : EReal => a + b) (Cols.ld_apply _ _ 0 _ j hq) (Fin.sum_fin_congr fun r => ?_)
      exact (pay8_apply ..).trans (third_a m c t r _ j hq _ (pre_eq m c t 0 _ _ r _ j hq))
    · rcases lt_or_ge (j : ℕ) 2048 with h2 | h2
      · have hq : (j : ℕ) = 1024 + ((⟨j - 1024, by omega⟩ : Fin 1024) : ℕ) := by show (j : ℕ) = 1024 + (j - 1024); omega
        refine (Cols.canon_miss _ _ _ _ _ (Or.inl (by omega))).trans ((Cols.canon_hit _ _ _ _ _ _ hq).trans ((pay15_apply ..).trans ?_))
        refine congrArg₂ (fun a b : EReal => a + b) (Cols.ld_apply _ _ 0 _ j hq) (Fin.sum_fin_congr fun r => ?_)
        exact (pay13_apply ..).trans (third_b m c t r _ j hq _ (pre_eq m c t 1024 _ _ r _ j hq))
      · have hq : (j : ℕ) = 2048 + ((⟨j - 2048, by omega⟩ : Fin 1024) : ℕ) := by show (j : ℕ) = 2048 + (j - 2048); omega
        refine (Cols.canon_hit _ _ _ _ _ _ hq).trans ((pay3_apply ..).trans ?_)
        refine congrArg₂ (fun a b : EReal => a + b) (Cols.ld_apply _ _ 0 _ j hq) (Fin.sum_fin_congr fun r => ?_)
        exact (pay1_apply ..).trans (third_c m c t r _ j hq _ (pre_eq m c t 2048 _ _ r _ j hq))

/-- After the last point the accumulator holds the sum over all rows. -/
theorem kept_last (c : Dev nD) (t : Fin cfg0.N) (hr : t.val % 16 = 15) (j : Fin 3072) :
    kept m c t.val t.isLt j = ∑ i : Fin 8192, dP m c i j := by
  have e := Pipeline.eq_sum_fin_of_reset_step_apply_of_flush (kept m c) 16 (fun _ => 0) (term m c)
    (fun t h j => kept_first m c t h j) (fun t h j => kept_next m c t h j) t hr j
  rw [e, zero_add]
  have ht : t.val < 16 := t.isLt
  refine Fin.sum_mul_add_congr (f := fun i : Fin 8192 => dP m c i j) fun s k hl => ?_
  exact congrArg (fun i => dP m c i j) (Fin.ext (by show 512 * (16 * (t.val / 16) + s.val) + k.val = s.val * 512 + k.val; omega))

/-! ## The output arrays -/

/-- The output array of window 7 is the gradient of the first branch. -/
theorem final7 (c : Dev nD) : (dats m 0 c).arrAt 7 cfg0.N = resY 0 (by decide) (argM m c) (argW m c) (argG m c) (argb m c) := by
  refine (dats m 0 c).arrAt_eq_of_covers 7 _ (by decide +kernel) fun t hf y => ?_
  blk_simp
  rw [after0_7]
  change S512x1024.Idx at y
  idx_vars y
  have ht : t.val < 16 := t.isLt
  have h0 : win0_7.index t 0 = t.val := by rw [(idx t).2.2.2.2.2.2.2.1]; rfl
  have h1 : win0_7.index t 1 = 0 := by rw [(idx t).2.2.2.2.2.2.2.1]; rfl
  refine (after7 m c t y0 y1).trans (congrArg (resY 0 (by decide) (argM m c) (argW m c) (argG m c) (argb m c)) (funext fun a => Fin.ext ?_))
  match a with
  | 0 => show 512 * t.val + y0.val = win0_7.index t 0 * 512 + 1 * y0.val; omega
  | 1 => show y1.val = win0_7.index t 1 * 1024 + 1 * y1.val; omega

/-- The output array of window 8 is the gradient of the second branch. -/
theorem final8 (c : Dev nD) : (dats m 0 c).arrAt 8 cfg0.N = resY 1024 (by decide) (argM m c) (argW m c) (argG m c) (argb m c) := by
  refine (dats m 0 c).arrAt_eq_of_covers 8 _ (by decide +kernel) fun t hf y => ?_
  blk_simp
  rw [after0_8]
  change S512x1024.Idx at y
  idx_vars y
  have ht : t.val < 16 := t.isLt
  have h0 : win0_8.index t 0 = t.val := by rw [(idx t).2.2.2.2.2.2.2.2.1]; rfl
  have h1 : win0_8.index t 1 = 0 := by rw [(idx t).2.2.2.2.2.2.2.2.1]; rfl
  refine (after8 m c t y0 y1).trans (congrArg (resY 1024 (by decide) (argM m c) (argW m c) (argG m c) (argb m c)) (funext fun a => Fin.ext ?_))
  match a with
  | 0 => show 512 * t.val + y0.val = win0_8.index t 0 * 512 + 1 * y0.val; omega
  | 1 => show y1.val = win0_8.index t 1 * 1024 + 1 * y1.val; omega

/-- The output array of window 9 is the gradient of the third branch. -/
theorem final9 (c : Dev nD) : (dats m 0 c).arrAt 9 cfg0.N = resY 2048 (by decide) (argM m c) (argW m c) (argG m c) (argb m c) := by
  refine (dats m 0 c).arrAt_eq_of_covers 9 _ (by decide +kernel) fun t hf y => ?_
  blk_simp
  rw [after0_9]
  change S512x1024.Idx at y
  idx_vars y
  have ht : t.val < 16 := t.isLt
  have h0 : win0_9.index t 0 = t.val := by rw [(idx t).2.2.2.2.2.2.2.2.2.1]; rfl
  have h1 : win0_9.index t 1 = 0 := by rw [(idx t).2.2.2.2.2.2.2.2.2.1]; rfl
  refine (after9 m c t y0 y1).trans (congrArg (resY 2048 (by decide) (argM m c) (argW m c) (argG m c) (argb m c)) (funext fun a => Fin.ext ?_))
  match a with
  | 0 => show 512 * t.val + y0.val = win0_9.index t 0 * 512 + 1 * y0.val; omega
  | 1 => show y1.val = win0_9.index t 1 * 1024 + 1 * y1.val; omega

/-- The output array of window 10 is the gradient of the gates' argument. -/
theorem final10 (c : Dev nD) : (dats m 0 c).arrAt 10 cfg0.N = resG (argM m c) (argW m c) (argG m c) (argYa m c) (argYb m c) (argYc m c) (argb m c) := by
  refine (dats m 0 c).arrAt_eq_of_covers 10 _ (by decide +kernel) fun t hf y => ?_
  blk_simp
  rw [after0_10]
  change S512x3072.Idx at y
  idx_vars y
  have ht : t.val < 16 := t.isLt
  have h0 : win0_10.index t 0 = t.val := by rw [(idx t).2.2.2.2.2.2.2.2.2.2.1]; rfl
  have h1 : win0_10.index t 1 = 0 := by rw [(idx t).2.2.2.2.2.2.2.2.2.2.1]; rfl
  have e : (outsAt0 m c t.val t.isLt).2.2.2.1 (ix2 y0 y1) = resG (argM m c) (argW m c) (argG m c) (argYa m c) (argYb m c) (argYc m c) (argb m c) (ix2 (row t y0) y1) := after10 m c t y0 y1
  refine e.trans (congrArg (resG (argM m c) (argW m c) (argG m c) (argYa m c) (argYb m c) (argYc m c) (argb m c)) (funext fun a => Fin.ext ?_))
  match a with
  | 0 => show 512 * t.val + y0.val = win0_10.index t 0 * 512 + 1 * y0.val; omega
  | 1 => show y1.val = win0_10.index t 1 * 3072 + 1 * y1.val; omega

/-- The output array of window 11 is the gradient of the gates' bias. -/
theorem final11 (c : Dev nD) :
    (dats m 0 c).arrAt 11 cfg0.N = resB (argM m c) (argW m c) (argG m c) (argYa m c) (argYb m c) (argYc m c) (argb m c) := by
  refine (dats m 0 c).arrAt_eq_of_covers 11 _ (by decide +kernel) fun t hf y => ?_
  have hr := (flush0_11 t).mp hf
  blk_simp
  rw [after0_11]
  change S1x3072.Idx at y
  idx_vars y
  have h0 : win0_11.index t 0 = 0 := by rw [(idx t).2.2.2.2.2.2.2.2.2.2.2]; rfl
  have h1 : win0_11.index t 1 = 0 := by rw [(idx t).2.2.2.2.2.2.2.2.2.2.2]; rfl
  obtain rfl : y0 = 0 := Subsingleton.elim _ _
  have e : (outsAt0 m c t.val t.isLt).2.2.2.2 (ix2 0 y1) = resB (argM m c) (argW m c) (argG m c) (argYa m c) (argYb m c) (argYc m c) (argb m c) (ix2 0 y1) := kept_last m c t hr y1
  refine e.trans (congrArg (resB (argM m c) (argW m c) (argG m c) (argYa m c) (argYb m c) (argYc m c) (argb m c)) ?_)
  refine funext fun a => Fin.ext ?_
  match a with
  | 0 => show 0 = win0_11.index t 0 * 1 + 1 * 0; omega
  | 1 => show y1.val = win0_11.index t 1 * 3072 + 1 * y1.val; omega

end Cert.MergeBwd

end
-- ==== Proof.MergeBwdClaim.lean ====
/- The gated merge's gradient: the reference computes the same arrays, and so its claims. -/
module

public import proofs.«01_k».proof.Proof.MergeBwdBlock
public import proofs.«01_k».proof.Proof.Gen.Reference4Ideal.Run
public import proofs.«01_k».proof.Defs
public import Idealize.ShloMosaic.Lib.Claim

@[expose] public section

set_option maxRecDepth 16384

noncomputable section

namespace Cert.MergeBwd

open Idealize.ShloMosaic Idealize.ShloMosaic.TcCoe Idealize.SL.Sem

section Reference

open Cert.Reference4Ideal Cert.Reference4Ideal.Gen Cert.Reference4Ideal.Facts

/-- The cotangent of the merged branches: the product with the transposed output weights. -/
def dmArr (M : Prod.Mat 8192 1024) (W : Prod.Mat 1024 1024) : FVec Ideal S8192x1024 .f32 :=
  Host.dotGeneral dot_S8192x1024_S1024x1024_S8192x1024_1_1_0_0_n_n none (extf (φ := .bf16) .f32 M bitsLt_bf16_f32) (extf (φ := .bf16) .f32 W bitsLt_bf16_f32)

theorem dmArr_apply (M : Prod.Mat 8192 1024) (W : Prod.Mat 1024 1024) (i : Fin 8192) (q : Fin 1024) : dmArr M W (ix2 i q) = Prod.nt M W (ix2 i q) := by
  rw [Prod.nt_apply]
  pointwise [dmArr]

/-- The gates. -/
def gArr (G : Prod.Mat 8192 3072) (b : Prod.Mat 1 3072) : FVec Ideal S8192x3072 .f32 :=
  Host.divf (broadcastInDim S8192x3072 ![] bcast_S_S8192x3072 (constant S_ .f32 0x3F800000#32)) (addf (broadcastInDim S8192x3072 ![] bcast_S_S8192x3072 (constant S_ .f32 0x3F800000#32)) (Host.exp (Host.negf (addf (extf (φ := .bf16) .f32 G bitsLt_bf16_f32) (broadcastInDim S8192x3072 ![0, 1] bcast_S1x3072_S8192x3072_0_1 (broadcastInDim S1x3072 ![1] bcast_S3072_S1x3072_1 (shapeCast _ (b : FVec Ideal S1x3072 .f32) shapeCasts_S1x3072_S3072)))))))

theorem gArr_apply (G : Prod.Mat 8192 3072) (b : Prod.Mat 1 3072) (i : Fin 8192) (j : Fin 3072) : gArr G b (ix2 i j) = Ideal.logistic (pre G b i j) := by
  pointwise [gArr, pre, Ideal.logistic]

/-- The gates' first third. -/
def gate0 (g : FVec Ideal S8192x3072 .f32) : FVec Ideal S8192x1024 .f32 :=
  shapeCast _ (extractStridedSlice S8192x1x1024 ![0, 0, 0] (shapeCast _ g shapeCasts_S8192x3072_S8192x3x1024) slices_S8192x3x1024_S8192x1x1024_0_0_0) shapeCasts_S8192x1x1024_S8192x1024

theorem gate0_apply (g : FVec Ideal S8192x3072 .f32) (i : Fin 8192) (q : Fin 1024) : gate0 g (ix2 i q) = g (ix2 i ⟨0 + (q : ℕ), by omega⟩) := by
  pointwise [gate0]

/-- The gates' second third. -/
def gate1 (g : FVec Ideal S8192x3072 .f32) : FVec Ideal S8192x1024 .f32 :=
  shapeCast _ (extractStridedSlice S8192x1x1024 ![0, 1, 0] (shapeCast _ g shapeCasts_S8192x3072_S8192x3x1024) slices_S8192x3x1024_S8192x1x1024_0_1_0) shapeCasts_S8192x1x1024_S8192x1024

theorem gate1_apply (g : FVec Ideal S8192x3072 .f32) (i : Fin 8192) (q : Fin 1024) : gate1 g (ix2 i q) = g (ix2 i ⟨1024 + (q : ℕ), by omega⟩) := by
  pointwise [gate1]

/-- The gates' last third. -/
def gate2 (g : FVec Ideal S8192x3072 .f32) : FVec Ideal S8192x1024 .f32 :=
  shapeCast _ (extractStridedSlice S8192x1x1024 ![0, 2, 0] (shapeCast _ g shapeCasts_S8192x3072_S8192x3x1024) slices_S8192x3x1024_S8192x1x1024_0_2_0) shapeCasts_S8192x1x1024_S8192x1024

theorem gate2_apply (g : FVec Ideal S8192x3072 .f32) (i : Fin 8192) (q : Fin 1024) : gate2 g (ix2 i q) = g (ix2 i ⟨2048 + (q : ℕ), by omega⟩) := by
  pointwise [gate2]

/-- A branch's gradient from its gates and the cotangent. -/
def yArr (g d : FVec Ideal S8192x1024 .f32) : FVec Ideal S8192x1024 .bf16 := truncf .bf16 (mulf g d) bitsLt_bf16_f32

theorem yArr_apply (g d : FVec Ideal S8192x1024 .f32) (i : Fin 8192) (q : Fin 1024) : yArr g d (ix2 i q) = d (ix2 i q) * g (ix2 i q) := by
  pointwise [yArr]
  exact mul_comm _ _

/-- An array placed as band 0 of three, the others zero. -/
def band0 (x : FVec Ideal S8192x1024 .f32) : FVec Ideal S8192x3x1024 .f32 :=
  pad S8192x3x1024 ![0, 0, 0] ![0, 2, 0] ![0, 0, 0] (broadcastInDim S8192x1x1024 ![0, 2] bcast_S8192x1024_S8192x1x1024_0_2 x) (constant S_ .f32 0x00000000#32) pads_S8192x1x1024_S8192x3x1024_000_020_000 h_S_

theorem band0_apply (x : FVec Ideal S8192x1024 .f32) (i : Fin 8192) (k : Fin 3) (q : Fin 1024) :
    band0 x (ix3 i k q) = if (k : ℕ) = 0 then x (ix2 i q) else 0 := by
  pointwise [band0]
  split_ifs with h1 h2 h3 <;> first | rfl | (exfalso; omega)

/-- An array placed as band 1 of three, the others zero. -/
def band1 (x : FVec Ideal S8192x1024 .f32) : FVec Ideal S8192x3x1024 .f32 :=
  pad S8192x3x1024 ![0, 1, 0] ![0, 1, 0] ![0, 0, 0] (broadcastInDim S8192x1x1024 ![0, 2] bcast_S8192x1024_S8192x1x1024_0_2 x) (constant S_ .f32 0x00000000#32) pads_S8192x1x1024_S8192x3x1024_000_110_000 h_S_

theorem band1_apply (x : FVec Ideal S8192x1024 .f32) (i : Fin 8192) (k : Fin 3) (q : Fin 1024) :
    band1 x (ix3 i k q) = if (k : ℕ) = 1 then x (ix2 i q) else 0 := by
  pointwise [band1]
  split_ifs with h1 h2 h3 <;> first | rfl | (exfalso; omega)

/-- An array placed as band 2 of three, the others zero. -/
def band2 (x : FVec Ideal S8192x1024 .f32) : FVec Ideal S8192x3x1024 .f32 :=
  pad S8192x3x1024 ![0, 2, 0] ![0, 0, 0] ![0, 0, 0] (broadcastInDim S8192x1x1024 ![0, 2] bcast_S8192x1024_S8192x1x1024_0_2 x) (constant S_ .f32 0x00000000#32) pads_S8192x1x1024_S8192x3x1024_000_200_000 h_S_

theorem band2_apply (x : FVec Ideal S8192x1024 .f32) (i : Fin 8192) (k : Fin 3) (q : Fin 1024) :
    band2 x (ix3 i k q) = if (k : ℕ) = 2 then x (ix2 i q) else 0 := by
  pointwise [band2]
  split_ifs with h1 h2 h3 <;> first | rfl | (exfalso; omega)

/-- The three bands side by side. -/
def flatArr (x : FVec Ideal S8192x3x1024 .f32) : FVec Ideal S8192x3072 .f32 := shapeCast _ x shapeCasts_S8192x3x1024_S8192x3072

theorem flatArr_apply (x : FVec Ideal S8192x3x1024 .f32) (i : Fin 8192) (j : Fin 3072) :
    flatArr x (ix2 i j) = x (ix3 i ⟨(j : ℕ) / 1024, by omega⟩ ⟨(j : ℕ) % 1024, by omega⟩) := by
  pointwise [flatArr]

/-- The gradient of the gates, band by band. -/
def bandArr (d ya yb yc : FVec Ideal S8192x1024 .f32) : FVec Ideal S8192x3x1024 .f32 :=
  addf (addf (band2 (mulf d yc)) (band1 (mulf d yb))) (band0 (mulf d ya))

theorem bandArr_apply (d ya yb yc : FVec Ideal S8192x1024 .f32) (i : Fin 8192) (k : Fin 3) (q : Fin 1024) :
    bandArr d ya yb yc (ix3 i k q) = ((if (k : ℕ) = 2 then d (ix2 i q) * yc (ix2 i q) else 0) + (if (k : ℕ) = 1 then d (ix2 i q) * yb (ix2 i q) else 0)
      + (if (k : ℕ) = 0 then d (ix2 i q) * ya (ix2 i q) else 0) : EReal) := by
  have e : bandArr d ya yb yc (ix3 i k q) = (band2 (mulf d yc) (ix3 i k q) + band1 (mulf d yb) (ix3 i k q) + band0 (mulf d ya) (ix3 i k q) : EReal) := rfl
  rw [e, band2_apply, band1_apply, band0_apply]
  rfl

/-- The gradient of the gates' argument from that of the gates. -/
def preArr (x g : FVec Ideal S8192x3072 .f32) : FVec Ideal S8192x3072 .f32 :=
  mulf x (mulf g (subf (broadcastInDim S8192x3072 ![] bcast_S_S8192x3072 (constant S_ .f32 0x3F800000#32)) g))

theorem preArr_apply (x g : FVec Ideal S8192x3072 .f32) (i : Fin 8192) (j : Fin 3072) :
    preArr x g (ix2 i j) = x (ix2 i j) * (g (ix2 i j) * (1 - g (ix2 i j))) := by
  pointwise [preArr]

/-- The sum over the rows. -/
def colArr (x : FVec Ideal S8192x3072 .f32) : FVec Ideal S1x3072 .f32 :=
  broadcastInDim S1x3072 ![1] bcast_S3072_S1x3072_1 (Host.reduceAdd (shapeCast S1x3072 (Host.reduceAdd x (constant S_ .f32 0x00000000#32) reducesTo_S8192x3072_S3072_d0 h_S_) shapeCasts_S3072_S1x3072) (constant S_ .f32 0x00000000#32) reducesTo_S1x3072_S3072_d0 h_S_)

theorem colArr_apply (x : FVec Ideal S8192x3072 .f32) (j : Fin 3072) : colArr x (ix2 0 j) = ∑ i : Fin 8192, x (ix2 i j) := by
  pointwise [colArr]
  exact Fin.sum_univ_one _

variable (M : Prod.Mat 8192 1024) (W : Prod.Mat 1024 1024) (G : Prod.Mat 8192 3072) (Ya Yb Yc : Prod.Mat 8192 1024) (b : Prod.Mat 1 3072)

/-- The reference's gradient of the gates' argument, before it is rounded. -/
def dArr : FVec Ideal S8192x3072 .f32 :=
  preArr (flatArr (bandArr (dmArr M W) (extf (φ := .bf16) .f32 Ya bitsLt_bf16_f32) (extf (φ := .bf16) .f32 Yb bitsLt_bf16_f32) (extf (φ := .bf16) .f32 Yc bitsLt_bf16_f32))) (gArr G b)

theorem dArr_apply (i : Fin 8192) (j : Fin 3072) : dArr M W G Ya Yb Yc b (ix2 i j) = dPre M W G Ya Yb Yc b i j := by
  unfold dArr dPre dG branch
  rw [preArr_apply, flatArr_apply, bandArr_apply, gArr_apply, dmArr_apply]
  refine congrArg (fun z : EReal => z * (Ideal.logistic (pre G b i j) * (1 - Ideal.logistic (pre G b i j)))) ?_
  have hj := j.isLt
  by_cases h1 : (j : ℕ) < 1024
  · rw [dif_pos h1, if_neg (by show ¬(j : ℕ) / 1024 = 2; omega), if_neg (by show ¬(j : ℕ) / 1024 = 1; omega), if_pos (by show (j : ℕ) / 1024 = 0; omega),
      zero_add, zero_add]
    have e : (⟨(j : ℕ) % 1024, Nat.mod_lt _ (by decide)⟩ : Fin 1024) = ⟨(j : ℕ), h1⟩ := Fin.ext (by show (j : ℕ) % 1024 = j; omega)
    rw [e]
    rfl
  · by_cases h2 : (j : ℕ) < 2048
    · rw [dif_neg h1, dif_pos h2, if_neg (by show ¬(j : ℕ) / 1024 = 2; omega), if_pos (by show (j : ℕ) / 1024 = 1; omega), if_neg (by show ¬(j : ℕ) / 1024 = 0; omega),
        zero_add, add_zero]
      have e : (⟨(j : ℕ) % 1024, Nat.mod_lt _ (by decide)⟩ : Fin 1024) = ⟨(j : ℕ) - 1024, by omega⟩ := Fin.ext (by show (j : ℕ) % 1024 = (j : ℕ) - 1024; omega)
      rw [e]
      rfl
    · rw [dif_neg h1, dif_neg h2, if_pos (by show (j : ℕ) / 1024 = 2; omega), if_neg (by show ¬(j : ℕ) / 1024 = 1; omega), if_neg (by show ¬(j : ℕ) / 1024 = 0; omega),
        add_zero, add_zero]
      have e : (⟨(j : ℕ) % 1024, Nat.mod_lt _ (by decide)⟩ : Fin 1024) = ⟨(j : ℕ) - 2048, by omega⟩ := Fin.ext (by show (j : ℕ) % 1024 = (j : ℕ) - 2048; omega)
      rw [e]
      rfl

theorem g_res : (truncf .bf16 (dArr M W G Ya Yb Yc b) bitsLt_bf16_f32 : FVec Ideal S8192x3072 .bf16) = resG M W G Ya Yb Yc b := by
  funext x
  obtain ⟨i, j, rfl⟩ : ∃ i j, x = ix2 i j := ⟨x 0, x 1, eq_ix2 x⟩
  exact dArr_apply M W G Ya Yb Yc b i j

theorem b_res : colArr (dArr M W G Ya Yb Yc b) = resB M W G Ya Yb Yc b := by
  funext x
  obtain ⟨i, j, rfl⟩ : ∃ i j, x = ix2 i j := ⟨x 0, x 1, eq_ix2 x⟩
  obtain rfl : i = 0 := Subsingleton.elim _ _
  exact (colArr_apply _ j).trans (Fin.sum_fin_congr fun i => dArr_apply M W G Ya Yb Yc b i j)

theorem y0_res : yArr (gate0 (gArr G b)) (dmArr M W) = resY 0 (by decide) M W G b := by
  funext x
  obtain ⟨i, q, rfl⟩ : ∃ i j, x = ix2 i j := ⟨x 0, x 1, eq_ix2 x⟩
  refine (yArr_apply _ _ i q).trans (congrArg₂ (fun a b : EReal => a * b) (dmArr_apply M W i q) ((gate0_apply _ i q).trans (gArr_apply G b i _)))

theorem y1_res : yArr (gate1 (gArr G b)) (dmArr M W) = resY 1024 (by decide) M W G b := by
  funext x
  obtain ⟨i, q, rfl⟩ : ∃ i j, x = ix2 i j := ⟨x 0, x 1, eq_ix2 x⟩
  refine (yArr_apply _ _ i q).trans (congrArg₂ (fun a b : EReal => a * b) (dmArr_apply M W i q) ((gate1_apply _ i q).trans (gArr_apply G b i _)))

theorem y2_res : yArr (gate2 (gArr G b)) (dmArr M W) = resY 2048 (by decide) M W G b := by
  funext x
  obtain ⟨i, q, rfl⟩ : ∃ i j, x = ix2 i j := ⟨x 0, x 1, eq_ix2 x⟩
  refine (yArr_apply _ _ i q).trans (congrArg₂ (fun a b : EReal => a * b) (dmArr_apply M W i q) ((gate2_apply _ i q).trans (gArr_apply G b i _)))

end Reference

/-- The reference's frame: it ends with its arguments unchanged and every counter at zero. -/
theorem frameR : Cert.quiescent_Reference4Ideal := by
  intro m g _
  exact (θ_run Cert.Reference4Ideal.defs _ _).mono (fun r h => ⟨fun c => (h c).2.2.2.2.2, sem_eq_zero_of_no_sems (by decide) r.2⟩)
    (Cert.Reference4Ideal.Value.run m g)

/-- The kernel and the reference end with the same five arrays. -/
theorem algebraic : Cert.algebraic_Kernel4Ideal_Reference4Ideal := by
  intro m g m' g' _ hagree
  refine ⟨fun c => resY 0 (by decide) (argM m c) (argW m c) (argG m c) (argb m c), fun c => resY 1024 (by decide) (argM m c) (argW m c) (argG m c) (argb m c), fun c => resY 2048 (by decide) (argM m c) (argW m c) (argG m c) (argb m c),
    fun c => resG (argM m c) (argW m c) (argG m c) (argYa m c) (argYb m c) (argYc m c) (argb m c), fun c => resB (argM m c) (argW m c) (argG m c) (argYa m c) (argYb m c) (argYc m c) (argb m c), ?_, ?_⟩
  · refine (θ_run Cert.Kernel4Ideal.defs _ _).mono (fun r h c => ?_) (Cert.Kernel4Ideal.Value.run_blocks m g)
    have hc := h c
    exact ⟨hc.1.trans (final7 m c), hc.2.1.trans (final8 m c), hc.2.2.1.trans (final9 m c), hc.2.2.2.1.trans (final10 m c), hc.2.2.2.2.1.trans (final11 m c),
      hc.2.2.2.2.2⟩
  · refine (θ_run Cert.Reference4Ideal.defs _ _).mono (fun r h c => ?_) (Cert.Reference4Ideal.Value.run m' g')
    have hc := h c
    refine ⟨hc.1.trans ?_, hc.2.1.trans ?_, hc.2.2.1.trans ?_, hc.2.2.2.1.trans ?_, hc.2.2.2.2.1.trans ?_, hc.2.2.2.2.2⟩
    · rw [(hagree c).1, (hagree c).2.1, (hagree c).2.2.1, (hagree c).2.2.2.2.2.2]
      exact y0_res (argM m c) (argW m c) (argG m c) (argb m c)
    · rw [(hagree c).1, (hagree c).2.1, (hagree c).2.2.1, (hagree c).2.2.2.2.2.2]
      exact y1_res (argM m c) (argW m c) (argG m c) (argb m c)
    · rw [(hagree c).1, (hagree c).2.1, (hagree c).2.2.1, (hagree c).2.2.2.2.2.2]
      exact y2_res (argM m c) (argW m c) (argG m c) (argb m c)
    · rw [(hagree c).1, (hagree c).2.1, (hagree c).2.2.1, (hagree c).2.2.2.1, (hagree c).2.2.2.2.1, (hagree c).2.2.2.2.2.1, (hagree c).2.2.2.2.2.2]
      exact g_res (argM m c) (argW m c) (argG m c) (argYa m c) (argYb m c) (argYc m c) (argb m c)
    · rw [(hagree c).1, (hagree c).2.1, (hagree c).2.2.1, (hagree c).2.2.2.1, (hagree c).2.2.2.2.1, (hagree c).2.2.2.2.2.1, (hagree c).2.2.2.2.2.2]
      exact b_res (argM m c) (argW m c) (argG m c) (argYa m c) (argYb m c) (argYc m c) (argb m c)

end Cert.MergeBwd

end
-- ==== Proof.FfnInClaim.lean ====
/- The product into the SwiGLU and the SwiGLU: the kernel and the reference end with the same three arrays, the two halves
   `H · Wa` and `H · Wb` of the product and `silu (H · Wa) · (H · Wb)`. -/
module

public import proofs.«01_k».proof.Defs
public import proofs.«01_k».proof.Proof.Gen.Kernel5Ideal.Value
public import proofs.«01_k».proof.Proof.Gen.Reference5Ideal.Run
public import proofs.«01_k».proof.Proof.ProdSpec
public import Idealize.ShloMosaic.Lib.Claim

@[expose] public section

set_option maxRecDepth 16384

noncomputable section

namespace Cert.FfnIn

open Idealize.ShloMosaic Idealize.ShloMosaic.TcCoe Idealize.SL.Sem

/-- The element of `H · W` at row `i`, column `j`. -/
def dot (H : Prod.Mat 8192 1024) (W : Prod.Mat 1024 5632) (i : Fin 8192) (j : Fin 5632) : EReal :=
  ∑ k : Fin 1024, H (ix2 i k) * W (ix2 k j)

/-- The first half of the product's columns. -/
def resA (H : Prod.Mat 8192 1024) (W : Prod.Mat 1024 5632) : Prod.Mat 8192 2816 := fun i =>
  dot H W (i 0) ⟨(i 1 : ℕ), lt_trans (i 1).isLt (by decide)⟩

/-- The second half of the product's columns. -/
def resB (H : Prod.Mat 8192 1024) (W : Prod.Mat 1024 5632) : Prod.Mat 8192 2816 := fun i =>
  dot H W (i 0) ⟨2816 + (i 1 : ℕ), Nat.add_lt_add_left (i 1).isLt 2816⟩

/-- The SwiGLU of the two halves. -/
def resF (H : Prod.Mat 8192 1024) (W : Prod.Mat 1024 5632) : Prod.Mat 8192 2816 := fun i =>
  resA H W i * Ideal.logistic (resA H W i) * resB H W i

section Kernel

open Cert.Kernel5Ideal Cert.Kernel5Ideal.Gen

variable (m : (ℓ : Loc nD τ sig) → Buf (Elt Ideal) ℓ)

/-- The rows and the weights on device `c`. -/
abbrev argH (c : Dev nD) : Prod.Mat 8192 1024 := m ((c : Thread nD τ).loc main_arg0)
abbrev argW (c : Dev nD) : Prod.Mat 1024 5632 := m ((c : Thread nD τ).loc main_arg1)

/-- The blocks that grid point `t` reads and writes: the weights' blocks are a half apart. -/
theorem idx : ∀ t : Fin cfg0.N, win0_0.index t = ![t.val % 16, 0] ∧ win0_1.index t = ![0, t.val / 16]
    ∧ win0_2.index t = ![0, t.val / 16 + 2] ∧ win0_3.index t = ![t.val % 16, t.val / 16]
    ∧ win0_4.index t = ![t.val % 16, t.val / 16] ∧ win0_5.index t = ![t.val % 16, t.val / 16] := by decide +kernel

theorem pay1_apply (h : Vec Ideal S512x1024 .bf16) (w : Vec Ideal S1024x1408 .bf16) (i : Fin 512) (j : Fin 1408) :
    k0_pay1 (F := Ideal) h w (ix2 i j) = ∑ k : Fin 1024, h (ix2 i k) * w (ix2 k j) := by
  pointwise [k0_pay1]

theorem pay2_apply (h : Vec Ideal S512x1024 .bf16) (w : Vec Ideal S1024x1408 .bf16) (i : Fin 512) (j : Fin 1408) :
    k0_pay2 (F := Ideal) h w (ix2 i j) = ∑ k : Fin 1024, h (ix2 i k) * w (ix2 k j) := by
  pointwise [k0_pay2]

theorem pay5_apply (h : Vec Ideal S512x1024 .bf16) (w w' : Vec Ideal S1024x1408 .bf16) (i : Fin 512) (j : Fin 1408) :
    k0_pay5 (F := Ideal) h w w' (ix2 i j)
      = k0_pay1 (F := Ideal) h w (ix2 i j) * Ideal.logistic (k0_pay1 (F := Ideal) h w (ix2 i j)) * k0_pay2 (F := Ideal) h w' (ix2 i j) := by
  pointwise [k0_pay5]

/-- At each point the two products are the two halves' elements at the rows and columns the point's blocks hold. -/
theorem dot1 (c : Dev nD) (t : Fin cfg0.N) (x : Fin 512) (y : Fin 1408) (i : Fin 8192) (j : Fin 5632)
    (hi : (i : ℕ) = t.val % 16 * 512 + x) (hj : (j : ℕ) = t.val / 16 * 1408 + y) :
    k0_pay1 (F := Ideal) (iblk m c 0 t) (iblk m c 1 t) (ix2 x y) = dot (argH m c) (argW m c) i j := by
  rw [pay1_apply]
  refine Prod.sum_mul_congr (fun k => ?_) fun k => ?_
  · blk_ext [iblk, V, idx t]
  · blk_ext [iblk, V, idx t]

theorem dot2 (c : Dev nD) (t : Fin cfg0.N) (x : Fin 512) (y : Fin 1408) (i : Fin 8192) (j : Fin 5632)
    (hi : (i : ℕ) = t.val % 16 * 512 + x) (hj : (j : ℕ) = (t.val / 16 + 2) * 1408 + y) :
    k0_pay2 (F := Ideal) (iblk m c 0 t) (iblk m c 2 t) (ix2 x y) = dot (argH m c) (argW m c) i j := by
  rw [pay2_apply]
  refine Prod.sum_mul_congr (fun k => ?_) fun k => ?_
  · blk_ext [iblk, V, idx t]
  · blk_ext [iblk, V, idx t]

/-- The kernel's first output is the first half of the product. -/
theorem final3 (c : Dev nD) : (dats m 0 c).arrAt 3 cfg0.N = resA (argH m c) (argW m c) := by
  refine (dats m 0 c).arrAt_eq_of_covers 3 _ (by decide +kernel) fun t hf y => ?_
  blk_simp
  rw [after0_3]
  frame_out
  change S512x1408.Idx at y
  idx_vars y
  have ht : t.val < 32 := t.isLt
  have h0 : win0_3.index t 0 = t.val % 16 := by rw [(idx t).2.2.2.1]; rfl
  have h1 : win0_3.index t 1 = t.val / 16 := by rw [(idx t).2.2.2.1]; rfl
  have e0 : ((((View.whole main_v0_0).slice (win0_3.rect t)).emb (ix2 y0 y1)) 0 : ℕ) = t.val % 16 * 512 + y0 := by
    show win0_3.index t 0 * 512 + 1 * y0.val = _
    omega
  have e1 : ((((View.whole main_v0_0).slice (win0_3.rect t)).emb (ix2 y0 y1)) 1 : ℕ) = t.val / 16 * 1408 + y1 := by
    show win0_3.index t 1 * 1408 + 1 * y1.val = _
    omega
  exact dot1 m c t y0 y1 _ _ e0 e1

/-- The kernel's second output is the second half of the product. -/
theorem final4 (c : Dev nD) : (dats m 0 c).arrAt 4 cfg0.N = resB (argH m c) (argW m c) := by
  refine (dats m 0 c).arrAt_eq_of_covers 4 _ (by decide +kernel) fun t hf y => ?_
  blk_simp
  rw [after0_4]
  frame_out
  change S512x1408.Idx at y
  idx_vars y
  have ht : t.val < 32 := t.isLt
  have h0 : win0_4.index t 0 = t.val % 16 := by rw [(idx t).2.2.2.2.1]; rfl
  have h1 : win0_4.index t 1 = t.val / 16 := by rw [(idx t).2.2.2.2.1]; rfl
  have e0 : ((((View.whole main_v0_1).slice (win0_4.rect t)).emb (ix2 y0 y1)) 0 : ℕ) = t.val % 16 * 512 + y0 := by
    show win0_4.index t 0 * 512 + 1 * y0.val = _
    omega
  have e1 : ((((View.whole main_v0_1).slice (win0_4.rect t)).emb (ix2 y0 y1)) 1 : ℕ) = t.val / 16 * 1408 + y1 := by
    show win0_4.index t 1 * 1408 + 1 * y1.val = _
    omega
  exact dot2 m c t y0 y1 _ _ e0 (by show 2816 + _ = _; omega)

/-- The kernel's third output is the SwiGLU of the two halves. -/
theorem final5 (c : Dev nD) : (dats m 0 c).arrAt 5 cfg0.N = resF (argH m c) (argW m c) := by
  refine (dats m 0 c).arrAt_eq_of_covers 5 _ (by decide +kernel) fun t hf y => ?_
  blk_simp
  rw [after0_5]
  frame_out
  change S512x1408.Idx at y
  idx_vars y
  have ht : t.val < 32 := t.isLt
  have h0 : win0_5.index t 0 = t.val % 16 := by rw [(idx t).2.2.2.2.2]; rfl
  have h1 : win0_5.index t 1 = t.val / 16 := by rw [(idx t).2.2.2.2.2]; rfl
  have e0 : ((((View.whole main_v0_2).slice (win0_5.rect t)).emb (ix2 y0 y1)) 0 : ℕ) = t.val % 16 * 512 + y0 := by
    show win0_5.index t 0 * 512 + 1 * y0.val = _
    omega
  have e1 : ((((View.whole main_v0_2).slice (win0_5.rect t)).emb (ix2 y0 y1)) 1 : ℕ) = t.val / 16 * 1408 + y1 := by
    show win0_5.index t 1 * 1408 + 1 * y1.val = _
    omega
  refine (pay5_apply _ _ _ y0 y1).trans ?_
  refine congrArg₂ (fun a b : EReal => a * Ideal.logistic a * b) ?_ ?_
  · exact dot1 m c t y0 y1 _ _ e0 e1
  · exact dot2 m c t y0 y1 _ _ e0 (by show 2816 + _ = _; omega)

end Kernel

section Reference

open Cert.Reference5Ideal Cert.Reference5Ideal.Gen Cert.Reference5Ideal.Facts

/-- The reference's product. -/
def dotArr (H : Prod.Mat 8192 1024) (W : Prod.Mat 1024 5632) : FVec Ideal S8192x5632 .f32 :=
  Host.dotGeneral dot_S8192x1024_S1024x5632_S8192x5632_1_0_0_1_n_n none (extf (φ := .bf16) .f32 H bitsLt_bf16_f32) (extf (φ := .bf16) .f32 W bitsLt_bf16_f32)

/-- The reference's first half of a product. -/
def aArr (x : FVec Ideal S8192x5632 .f32) : FVec Ideal S8192x2816 .f32 :=
  extractStridedSlice S8192x2816 ![0, 0] x slices_S8192x5632_S8192x2816_0_0

/-- The reference's second half of a product. -/
def bArr (x : FVec Ideal S8192x5632 .f32) : FVec Ideal S8192x2816 .f32 :=
  extractStridedSlice S8192x2816 ![0, 2816] x slices_S8192x5632_S8192x2816_0_2816

/-- The reference's SwiGLU of two halves. -/
def fArr (a b : FVec Ideal S8192x2816 .f32) : FVec Ideal S8192x2816 .f32 :=
  mulf (mulf a (Host.divf (broadcastInDim S8192x2816 ![] bcast_S_S8192x2816 (constant S_ .f32 0x3F800000#32)) (addf (broadcastInDim S8192x2816 ![] bcast_S_S8192x2816 (constant S_ .f32 0x3F800000#32)) (Host.exp (Host.negf a))))) b

theorem dotArr_apply (H : Prod.Mat 8192 1024) (W : Prod.Mat 1024 5632) (i : Fin 8192) (j : Fin 5632) : dotArr H W (ix2 i j) = dot H W i j := by
  pointwise [dotArr, dot]

theorem aArr_apply (x : FVec Ideal S8192x5632 .f32) (i : Fin 8192) (j : Fin 2816) : aArr x (ix2 i j) = x (ix2 i ⟨(j : ℕ), by omega⟩) := by
  pointwise [aArr]

theorem bArr_apply (x : FVec Ideal S8192x5632 .f32) (i : Fin 8192) (j : Fin 2816) : bArr x (ix2 i j) = x (ix2 i ⟨2816 + (j : ℕ), by omega⟩) := by
  pointwise [bArr]

theorem fArr_apply (a b : FVec Ideal S8192x2816 .f32) (i : Fin 8192) (j : Fin 2816) :
    fArr a b (ix2 i j) = a (ix2 i j) * Ideal.logistic (a (ix2 i j)) * b (ix2 i j) := by
  pointwise [fArr, Ideal.logistic]

theorem a_eq (H : Prod.Mat 8192 1024) (W : Prod.Mat 1024 5632) : aArr (dotArr H W) = resA H W := by
  funext x
  obtain ⟨i, j, rfl⟩ : ∃ i j, x = ix2 i j := ⟨x 0, x 1, eq_ix2 x⟩
  exact (aArr_apply _ i j).trans (dotArr_apply H W _ _)

theorem b_eq (H : Prod.Mat 8192 1024) (W : Prod.Mat 1024 5632) : bArr (dotArr H W) = resB H W := by
  funext x
  obtain ⟨i, j, rfl⟩ : ∃ i j, x = ix2 i j := ⟨x 0, x 1, eq_ix2 x⟩
  exact (bArr_apply _ i j).trans (dotArr_apply H W _ _)

theorem f_eq (H : Prod.Mat 8192 1024) (W : Prod.Mat 1024 5632) : fArr (aArr (dotArr H W)) (bArr (dotArr H W)) = resF H W := by
  rw [a_eq, b_eq]
  funext x
  obtain ⟨i, j, rfl⟩ : ∃ i j, x = ix2 i j := ⟨x 0, x 1, eq_ix2 x⟩
  exact fArr_apply _ _ i j

end Reference

/-- The reference's frame: it ends with its arguments unchanged and every counter at zero. -/
theorem frameR : Cert.quiescent_Reference5Ideal := by
  intro m g _
  exact (θ_run Cert.Reference5Ideal.defs _ _).mono (fun r h => ⟨fun c => (h c).2.2.2, sem_eq_zero_of_no_sems (by decide) r.2⟩)
    (Cert.Reference5Ideal.Value.run m g)

/-- The kernel and the reference end with the same three arrays. -/
theorem algebraic : Cert.algebraic_Kernel5Ideal_Reference5Ideal := by
  intro m g m' g' _ hagree
  refine ⟨fun c => resA (argH m c) (argW m c), fun c => resB (argH m c) (argW m c), fun c => resF (argH m c) (argW m c), ?_, ?_⟩
  · refine (θ_run Cert.Kernel5Ideal.defs _ _).mono (fun r h c => ?_) (Cert.Kernel5Ideal.Value.run_blocks m g)
    have hc := h c
    exact ⟨hc.1.trans (final3 m c), hc.2.1.trans (final4 m c), hc.2.2.1.trans (final5 m c), hc.2.2.2⟩
  · refine (θ_run Cert.Reference5Ideal.defs _ _).mono (fun r h c => ?_) (Cert.Reference5Ideal.Value.run m' g')
    have hc := h c
    refine ⟨hc.1.trans ?_, hc.2.1.trans ?_, hc.2.2.1.trans ?_, hc.2.2.2⟩
    · rw [(hagree c).1, (hagree c).2]
      exact a_eq (argH m c) (argW m c)
    · rw [(hagree c).1, (hagree c).2]
      exact b_eq (argH m c) (argW m c)
    · rw [(hagree c).1, (hagree c).2]
      exact f_eq (argH m c) (argW m c)

end Cert.FfnIn

end
-- ==== Proof.FfnOutClaim.lean ====
/- The feed-forward output with its norm, the residual sum and the loss' gradient: the kernel and the reference leave the same arrays. -/
module

public import proofs.«01_k».proof.Defs
public import proofs.«01_k».proof.Proof.Gen.Kernel6Ideal.Value
public import proofs.«01_k».proof.Proof.Gen.Reference6Ideal.Run
public import proofs.«01_k».proof.Proof.RmsSpec
public import Idealize.ShloMosaic.Lib.Claim

@[expose] public section

set_option maxRecDepth 16384

noncomputable section

namespace Cert.FfnOut

open Idealize.ShloMosaic Idealize.ShloMosaic.TcCoe Idealize.SL.Sem

section Spec

variable (A : Prod.Mat 8192 2816) (W : Prod.Mat 2816 1024) (X T : Prod.Mat 8192 1024) (g : Prod.Mat 1 1024)

/-- The feed-forward output, row `i`, column `q`. -/
def fo (i : Fin 8192) (q : Fin 1024) : EReal := ∑ k : Fin 2816, A (ix2 i k) * W (ix2 k q)

/-- Its norm, without the gain. -/
def nrm (i : Fin 8192) (q : Fin 1024) : EReal := fo A W i q * Rms.rstd (fo A W i)

/-- The residual sum with the norm, less the target. -/
def err (i : Fin 8192) (q : Fin 1024) : EReal := X (ix2 i q) + nrm A W i q * g (ix2 0 q) - T (ix2 i q)

/-- The loss' gradient with respect to the residual sum. -/
def dY (i : Fin 8192) (q : Fin 1024) : EReal := err A W X T g i q * Ideal.ofBits .f32 0x3A800000#32

/-- The gradient taken back through the norm. -/
def dFo (i : Fin 8192) (q : Fin 1024) : EReal :=
  Rms.rstd (fo A W i) * (dY A W X T g i q * g (ix2 0 q)
    - nrm A W i q * Ideal.div (∑ k : Fin 1024, dY A W X T g i k * g (ix2 0 k) * nrm A W i k) (Ideal.ofBits .f32 0x44800000#32))

/-- The four results as arrays. -/
def resY : Prod.Mat 8192 1024 := fun x => dY A W X T g (x 0) (x 1)
def resF : Prod.Mat 8192 1024 := fun x => dFo A W X T g (x 0) (x 1)
def resG : Prod.Mat 1 1024 := fun x => ∑ i : Fin 8192, dY A W X T g i (x 1) * nrm A W i (x 1)
def resL : Prod.Mat 1 1024 := fun x => ∑ i : Fin 8192, err A W X T g i (x 1) * err A W X T g i (x 1)

end Spec

section Kernel

open Cert.Kernel6Ideal Cert.Kernel6Ideal.Gen

variable (m : (ℓ : Loc nD τ sig) → Buf (Elt Ideal) ℓ)

/-- The arrays of device `c`. -/
abbrev argA (c : Dev nD) : Prod.Mat 8192 2816 := m ((c : Thread nD τ).loc main_arg0)
abbrev argW (c : Dev nD) : Prod.Mat 2816 1024 := m ((c : Thread nD τ).loc main_arg1)
abbrev argX (c : Dev nD) : Prod.Mat 8192 1024 := m ((c : Thread nD τ).loc main_arg2)
abbrev argT (c : Dev nD) : Prod.Mat 8192 1024 := m ((c : Thread nD τ).loc main_arg3)
abbrev argg (c : Dev nD) : Prod.Mat 1 1024 := m ((c : Thread nD τ).loc main_arg4)

/-- The blocks that grid point `t` reads and writes: rows `512 t …` of the tall arrays, the others whole. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] := by decide +kernel

/-- The row of the arrays that row `r` of point `t`'s blocks is. -/
abbrev row (t : Fin cfg0.N) (r : Fin 512) : Fin 8192 := ⟨512 * t.val + r.val, by have : t.val < 16 := t.isLt; omega⟩

section Payloads

variable (a : Vec Ideal S512x2816 .bf16) (w : Vec Ideal S2816x1024 .bf16) (x y : Vec Ideal S512x1024 .f32) (g v : Vec Ideal S1x1024 .f32)
  (s : FVec Ideal S512x1 .f32) (n e d : FVec Ideal S512x1024 .f32) (r : Fin 512) (q : Fin 1024)

theorem pay6_apply : k0_pay6 (F := Ideal) a w (ix2 r q) = ∑ k : Fin 2816, a (ix2 r k) * w (ix2 k q) := by
  pointwise [k0_pay6]

theorem pay7_apply (z : Fin 1) : k0_pay7 (F := Ideal) a w (ix2 r z) = Rms.rstd (fun k => k0_pay6 (F := Ideal) a w (ix2 r k)) := by
  pointwise [k0_pay7]
  rfl

theorem pay8_apply : k0_pay8 (F := Ideal) a w (ix2 r q) = k0_pay6 (F := Ideal) a w (ix2 r q) * k0_pay7 (F := Ideal) a w (ix2 r 0) := by
  pointwise [k0_pay8]

theorem pay9_apply : k0_pay9 (F := Ideal) a w x g y (ix2 r q) = (x (ix2 r q) + k0_pay8 (F := Ideal) a w (ix2 r q) * g (ix2 0 q) - y (ix2 r q) : EReal) := by
  pointwise [k0_pay9]

theorem pay10_apply : k0_pay10 (F := Ideal) a w x g y v (ix2 0 q)
    = v (ix2 0 q) + ∑ r : Fin 512, k0_pay9 (F := Ideal) a w x g y (ix2 r q) * k0_pay9 (F := Ideal) a w x g y (ix2 r q) := by
  pointwise [k0_pay10]

theorem pay1_apply : k0_pay1 (F := Ideal) e (k0_pay11 (F := Ideal)) (ix2 r q) = e (ix2 r q) * Ideal.ofBits .f32 0x3A800000#32 := by
  pointwise [k0_pay1, k0_pay11]

theorem pay2_apply : k0_pay2 (F := Ideal) n e d v (ix2 0 q) = v (ix2 0 q) + ∑ r : Fin 512, k0_pay1 (F := Ideal) e d (ix2 r q) * n (ix2 r q) := by
  pointwise [k0_pay2]

theorem pay3_apply : k0_pay3 (F := Ideal) s n e d g (ix2 r q)
    = (s (ix2 r 0) * (k0_pay1 (F := Ideal) e d (ix2 r q) * g (ix2 0 q)
        - n (ix2 r q) * Ideal.div (∑ k : Fin 1024, k0_pay1 (F := Ideal) e d (ix2 r k) * g (ix2 0 k) * n (ix2 r k)) (Ideal.ofBits .f32 0x44800000#32)) : EReal) := by
  pointwise [k0_pay3]

end Payloads

/-! ## One point's blocks of the arrays -/

theorem x_eq (c : Dev nD) (t : Fin cfg0.N) (r : Fin 512) (q : Fin 1024) :
    (iblk m c 2 t : S512x1024.Idx → EReal) (ix2 r q) = argX m c (ix2 (row t r) q) := by
  blk_ext [iblk, V, idx t]

theorem t_eq (c : Dev nD) (t : Fin cfg0.N) (r : Fin 512) (q : Fin 1024) :
    (iblk m c 3 t : S512x1024.Idx → EReal) (ix2 r q) = argT m c (ix2 (row t r) q) := by
  blk_ext [iblk, V, idx t]

theorem g_eq (c : Dev nD) (t : Fin cfg0.N) (q : Fin 1024) :
    (iblk m c 4 t : S1x1024.Idx → EReal) (ix2 0 q) = argg m c (ix2 0 q) := by
  blk_ext [iblk, V, idx t]

theorem fo_eq (c : Dev nD) (t : Fin cfg0.N) (r : Fin 512) (q : Fin 1024) :
    k0_pay6 (F := Ideal) (iblk m c 0 t) (iblk m c 1 t) (ix2 r q) = fo (argA m c) (argW m c) (row t r) q := by
  refine (pay6_apply ..).trans (Prod.sum_mul_congr (fun k => ?_) fun k => ?_)
  · blk_ext [iblk, V, idx t]
  · blk_ext [iblk, V, idx t]

theorem r_eq (c : Dev nD) (t : Fin cfg0.N) (r : Fin 512) (z : Fin 1) :
    k0_pay7 (F := Ideal) (iblk m c 0 t) (iblk m c 1 t) (ix2 r z) = Rms.rstd (fo (argA m c) (argW m c) (row t r)) :=
  (pay7_apply ..).trans (congrArg Rms.rstd (funext fun k => fo_eq m c t r k))

theorem n_eq (c : Dev nD) (t : Fin cfg0.N) (r : Fin 512) (q : Fin 1024) :
    k0_pay8 (F := Ideal) (iblk m c 0 t) (iblk m c 1 t) (ix2 r q) = nrm (argA m c) (argW m c) (row t r) q := by
  rw [pay8_apply, fo_eq, r_eq]
  rfl

theorem err_eq (c : Dev nD) (t : Fin cfg0.N) (r : Fin 512) (q : Fin 1024) :
    k0_pay9 (F := Ideal) (iblk m c 0 t) (iblk m c 1 t) (iblk m c 2 t) (iblk m c 4 t) (iblk m c 3 t) (ix2 r q)
      = err (argA m c) (argW m c) (argX m c) (argT m c) (argg m c) (row t r) q := by
  rw [pay9_apply, x_eq, t_eq, g_eq, n_eq]
  rfl

theorem dy_eq (c : Dev nD) (t : Fin cfg0.N) (r : Fin 512) (q : Fin 1024) :
    k0_pay1 (F := Ideal) (k0_pay9 (F := Ideal) (iblk m c 0 t) (iblk m c 1 t) (iblk m c 2 t) (iblk m c 4 t) (iblk m c 3 t)) (k0_pay11 (F := Ideal)) (ix2 r q)
      = dY (argA m c) (argW m c) (argX m c) (argT m c) (argg m c) (row t r) q := by
  rw [pay1_apply, err_eq]
  rfl

theorem dfo_eq (c : Dev nD) (t : Fin cfg0.N) (r : Fin 512) (q : Fin 1024) :
    k0_pay3 (F := Ideal) (k0_pay7 (F := Ideal) (iblk m c 0 t) (iblk m c 1 t)) (k0_pay8 (F := Ideal) (iblk m c 0 t) (iblk m c 1 t))
        (k0_pay9 (F := Ideal) (iblk m c 0 t) (iblk m c 1 t) (iblk m c 2 t) (iblk m c 4 t) (iblk m c 3 t)) (k0_pay11 (F := Ideal)) (iblk m c 4 t) (ix2 r q)
      = dFo (argA m c) (argW m c) (argX m c) (argT m c) (argg m c) (row t r) q := by
  rw [pay3_apply, dy_eq, r_eq, n_eq, g_eq]
  unfold dFo
  refine congrArg (fun s : EReal => Rms.rstd (fo (argA m c) (argW m c) (row t r)) * (dY (argA m c) (argW m c) (argX m c) (argT m c) (argg m c) (row t r) q * argg m c (ix2 0 q)
    - nrm (argA m c) (argW m c) (row t r) q * Ideal.div s (Ideal.ofBits .f32 0x44800000#32))) (Fin.sum_fin_congr fun k => ?_)
  rw [dy_eq, n_eq, g_eq]

theorem after5 (c : Dev nD) (t : Fin cfg0.N) (r : Fin 512) (q : Fin 1024) :
    (outsAt0 m c t.val t.isLt).1 (ix2 r q) = dY (argA m c) (argW m c) (argX m c) (argT m c) (argg m c) (row t r) q := by
  by_cases h : t.val % 16 = 0
  · rw [outsAt0_A m c t h]
    frame_out
    exact dy_eq m c t r q
  · rw [outsAt0_B m c t h]
    frame_out
    exact dy_eq m c t r q

theorem after6 (c : Dev nD) (t : Fin cfg0.N) (r : Fin 512) (q : Fin 1024) :
    (outsAt0 m c t.val t.isLt).2.1 (ix2 r q) = dFo (argA m c) (argW m c) (argX m c) (argT m c) (argg m c) (row t r) q := by
  by_cases h : t.val % 16 = 0
  · rw [outsAt0_A m c t h]
    frame_out
    exact dfo_eq m c t r q
  · rw [outsAt0_B m c t h]
    frame_out
    exact dfo_eq m c t r q

/-! ## The two sums over the rows -/

/-- What the gain's accumulator holds after point `n`, and what point `t` adds to it. -/
def keptG (c : Dev nD) (n : ℕ) (h : n < cfg0.N) (q : Fin 1024) : EReal := (outsAt0 m c n h).2.2.1 (ix2 0 q)
def termG (c : Dev nD) (t : Fin cfg0.N) (q : Fin 1024) : EReal :=
  ∑ r : Fin 512, dY (argA m c) (argW m c) (argX m c) (argT m c) (argg m c) (row t r) q * nrm (argA m c) (argW m c) (row t r) q

theorem zeroG (q : Fin 1024) : k0_pay4 (F := Ideal) (ix2 0 q) = (0 : EReal) := by
  pointwise [k0_pay4]

theorem zeroL (q : Fin 1024) : k0_pay5 (F := Ideal) (ix2 0 q) = (0 : EReal) := by
  pointwise [k0_pay5]

theorem termG_eq (c : Dev nD) (t : Fin cfg0.N) (v : Vec Ideal S1x1024 .f32) (q : Fin 1024) :
    k0_pay2 (F := Ideal) (k0_pay8 (F := Ideal) (iblk m c 0 t) (iblk m c 1 t))
        (k0_pay9 (F := Ideal) (iblk m c 0 t) (iblk m c 1 t) (iblk m c 2 t) (iblk m c 4 t) (iblk m c 3 t)) (k0_pay11 (F := Ideal)) v (ix2 0 q)
      = (v (ix2 0 q) + termG m c t q : EReal) := by
  rw [pay2_apply]
  refine congrArg (fun s : EReal => @HAdd.hAdd EReal EReal EReal _ (v (ix2 0 q)) s) (Fin.sum_fin_congr fun r => ?_)
  rw [dy_eq, n_eq]

theorem keptG_first (c : Dev nD) (t : Fin cfg0.N) (h : t.val % 16 = 0) (q : Fin 1024) : keptG m c t.val t.isLt q = 0 + termG m c t q := by
  unfold keptG
  rw [outsAt0_A m c t h]
  frame_out
  rw [termG_eq, zeroG]

theorem keptG_next (c : Dev nD) (t : Fin cfg0.N) (h : ¬t.val % 16 = 0) (q : Fin 1024) :
    keptG m c t.val t.isLt q = keptG m c (t.val - 1) (Nat.lt_of_le_of_lt (Nat.sub_le _ _) t.isLt) q + termG m c t q := by
  unfold keptG
  rw [outsAt0_B m c t h]
  frame_out
  exact termG_eq ..

theorem keptG_last (c : Dev nD) (t : Fin cfg0.N) (hr : t.val % 16 = 15) (q : Fin 1024) :
    keptG m c t.val t.isLt q = resG (argA m c) (argW m c) (argX m c) (argT m c) (argg m c) (ix2 0 q) := by
  have e := Pipeline.eq_sum_fin_of_reset_step_apply_of_flush (keptG m c) 16 (fun _ => 0) (termG m c)
    (fun t h j => keptG_first m c t h j) (fun t h j => keptG_next m c t h j) t hr q
  rw [e, zero_add]
  have ht : t.val < 16 := t.isLt
  refine Fin.sum_mul_add_congr (f := fun i : Fin 8192 => dY (argA m c) (argW m c) (argX m c) (argT m c) (argg m c) i q * nrm (argA m c) (argW m c) i q) fun s k hl => ?_
  exact congrArg (fun i => dY (argA m c) (argW m c) (argX m c) (argT m c) (argg m c) i q * nrm (argA m c) (argW m c) i q)
    (Fin.ext (by show 512 * (16 * (t.val / 16) + s.val) + k.val = s.val * 512 + k.val; omega))

/-- What the loss' accumulator holds after point `n`, and what point `t` adds to it. -/
def keptL (c : Dev nD) (n : ℕ) (h : n < cfg0.N) (q : Fin 1024) : EReal := (outsAt0 m c n h).2.2.2 (ix2 0 q)
def termL (c : Dev nD) (t : Fin cfg0.N) (q : Fin 1024) : EReal :=
  ∑ r : Fin 512, err (argA m c) (argW m c) (argX m c) (argT m c) (argg m c) (row t r) q * err (argA m c) (argW m c) (argX m c) (argT m c) (argg m c) (row t r) q

theorem termL_eq (c : Dev nD) (t : Fin cfg0.N) (v : Vec Ideal S1x1024 .f32) (q : Fin 1024) :
    k0_pay10 (F := Ideal) (iblk m c 0 t) (iblk m c 1 t) (iblk m c 2 t) (iblk m c 4 t) (iblk m c 3 t) v (ix2 0 q)
      = (v (ix2 0 q) + termL m c t q : EReal) := by
  rw [pay10_apply]
  refine congrArg (fun s : EReal => @HAdd.hAdd EReal EReal EReal _ (v (ix2 0 q)) s) (Fin.sum_fin_congr fun r => ?_)
  rw [err_eq]

theorem keptL_first (c : Dev nD) (t : Fin cfg0.N) (h : t.val % 16 = 0) (q : Fin 1024) : keptL m c t.val t.isLt q = 0 + termL m c t q := by
  unfold keptL
  rw [outsAt0_A m c t h]
  frame_out
  rw [termL_eq, zeroL]

theorem keptL_next (c : Dev nD) (t : Fin cfg0.N) (h : ¬t.val % 16 = 0) (q : Fin 1024) :
    keptL m c t.val t.isLt q = keptL m c (t.val - 1) (Nat.lt_of_le_of_lt (Nat.sub_le _ _) t.isLt) q + termL m c t q := by
  unfold keptL
  rw [outsAt0_B m c t h]
  frame_out
  exact termL_eq ..

theorem keptL_last (c : Dev nD) (t : Fin cfg0.N) (hr : t.val % 16 = 15) (q : Fin 1024) :
    keptL m c t.val t.isLt q = resL (argA m c) (argW m c) (argX m c) (argT m c) (argg m c) (ix2 0 q) := by
  have e := Pipeline.eq_sum_fin_of_reset_step_apply_of_flush (keptL m c) 16 (fun _ => 0) (termL m c)
    (fun t h j => keptL_first m c t h j) (fun t h j => keptL_next m c t h j) t hr q
  rw [e, zero_add]
  have ht : t.val < 16 := t.isLt
  refine Fin.sum_mul_add_congr (f := fun i : Fin 8192 => err (argA m c) (argW m c) (argX m c) (argT m c) (argg m c) i q * err (argA m c) (argW m c) (argX m c) (argT m c) (argg m c) i q) fun s k hl => ?_
  exact congrArg (fun i => err (argA m c) (argW m c) (argX m c) (argT m c) (argg m c) i q * err (argA m c) (argW m c) (argX m c) (argT m c) (argg m c) i q)
    (Fin.ext (by show 512 * (16 * (t.val / 16) + s.val) + k.val = s.val * 512 + k.val; omega))

/-! ## The output arrays -/

/-- The output array of window 5 is the loss' gradient. -/
theorem final5 (c : Dev nD) : (dats m 0 c).arrAt 5 cfg0.N = resY (argA m c) (argW m c) (argX m c) (argT m c) (argg m c) := by
  refine (dats m 0 c).arrAt_eq_of_covers 5 _ (by decide +kernel) fun t hf y => ?_
  blk_simp
  rw [after0_5]
  change S512x1024.Idx at y
  idx_vars y
  have ht : t.val < 16 := t.isLt
  have h0 : win0_5.index t 0 = t.val := by rw [(idx t).2.2.2.2.2.1]; rfl
  have h1 : win0_5.index t 1 = 0 := by rw [(idx t).2.2.2.2.2.1]; rfl
  have e : (outsAt0 m c t.val t.isLt).1 (ix2 y0 y1) = resY (argA m c) (argW m c) (argX m c) (argT m c) (argg m c) (ix2 (row t y0) y1) := after5 m c t y0 y1
  refine e.trans (congrArg (resY (argA m c) (argW m c) (argX m c) (argT m c) (argg m c)) (funext fun a => Fin.ext ?_))
  match a with
  | 0 => show 512 * t.val + y0.val = win0_5.index t 0 * 512 + 1 * y0.val; omega
  | 1 => show y1.val = win0_5.index t 1 * 1024 + 1 * y1.val; omega

/-- The output array of window 6 is the gradient of the feed-forward output. -/
theorem final6 (c : Dev nD) : (dats m 0 c).arrAt 6 cfg0.N = resF (argA m c) (argW m c) (argX m c) (argT m c) (argg m c) := by
  refine (dats m 0 c).arrAt_eq_of_covers 6 _ (by decide +kernel) fun t hf y => ?_
  blk_simp
  rw [after0_6]
  change S512x1024.Idx at y
  idx_vars y
  have ht : t.val < 16 := t.isLt
  have h0 : win0_6.index t 0 = t.val := by rw [(idx t).2.2.2.2.2.2.1]; rfl
  have h1 : win0_6.index t 1 = 0 := by rw [(idx t).2.2.2.2.2.2.1]; rfl
  have e : (outsAt0 m c t.val t.isLt).2.1 (ix2 y0 y1) = resF (argA m c) (argW m c) (argX m c) (argT m c) (argg m c) (ix2 (row t y0) y1) := after6 m c t y0 y1
  refine e.trans (congrArg (resF (argA m c) (argW m c) (argX m c) (argT m c) (argg m c)) (funext fun a => Fin.ext ?_))
  match a with
  | 0 => show 512 * t.val + y0.val = win0_6.index t 0 * 512 + 1 * y0.val; omega
  | 1 => show y1.val = win0_6.index t 1 * 1024 + 1 * y1.val; omega

/-- The output array of window 7 is the gain's gradient. -/
theorem final7 (c : Dev nD) : (dats m 0 c).arrAt 7 cfg0.N = resG (argA m c) (argW m c) (argX m c) (argT m c) (argg m c) := by
  refine (dats m 0 c).arrAt_eq_of_covers 7 _ (by decide +kernel) fun t hf y => ?_
  have hr := (flush0_7 t).mp hf
  blk_simp
  rw [after0_7]
  change S1x1024.Idx at y
  idx_vars y
  have h0 : win0_7.index t 0 = 0 := by rw [(idx t).2.2.2.2.2.2.2.1]; rfl
  have h1 : win0_7.index t 1 = 0 := by rw [(idx t).2.2.2.2.2.2.2.1]; rfl
  obtain rfl : y0 = 0 := Subsingleton.elim _ _
  have e : (outsAt0 m c t.val t.isLt).2.2.1 (ix2 0 y1) = resG (argA m c) (argW m c) (argX m c) (argT m c) (argg m c) (ix2 0 y1) := keptG_last m c t hr y1
  refine e.trans (congrArg (resG (argA m c) (argW m c) (argX m c) (argT m c) (argg m c)) (funext fun a => Fin.ext ?_))
  match a with
  | 0 => show 0 = win0_7.index t 0 * 1 + 1 * 0; omega
  | 1 => show y1.val = win0_7.index t 1 * 1024 + 1 * y1.val; omega

/-- The output array of window 8 is the squared error, summed over the rows. -/
theorem final8 (c : Dev nD) : (dats m 0 c).arrAt 8 cfg0.N = resL (argA m c) (argW m c) (argX m c) (argT m c) (argg m c) := by
  refine (dats m 0 c).arrAt_eq_of_covers 8 _ (by decide +kernel) fun t hf y => ?_
  have hr := (flush0_8 t).mp hf
  blk_simp
  rw [after0_8]
  change S1x1024.Idx at y
  idx_vars y
  have h0 : win0_8.index t 0 = 0 := by rw [(idx t).2.2.2.2.2.2.2.2]; rfl
  have h1 : win0_8.index t 1 = 0 := by rw [(idx t).2.2.2.2.2.2.2.2]; rfl
  obtain rfl : y0 = 0 := Subsingleton.elim _ _
  have e : (outsAt0 m c t.val t.isLt).2.2.2 (ix2 0 y1) = resL (argA m c) (argW m c) (argX m c) (argT m c) (argg m c) (ix2 0 y1) := keptL_last m c t hr y1
  refine e.trans (congrArg (resL (argA m c) (argW m c) (argX m c) (argT m c) (argg m c)) (funext fun a => Fin.ext ?_))
  match a with
  | 0 => show 0 = win0_8.index t 0 * 1 + 1 * 0; omega
  | 1 => show y1.val = win0_8.index t 1 * 1024 + 1 * y1.val; omega

end Kernel

section Reference

open Cert.Reference6Ideal Cert.Reference6Ideal.Gen Cert.Reference6Ideal.Facts

/-- The feed-forward output. -/
def foArr (A : Prod.Mat 8192 2816) (W : Prod.Mat 2816 1024) : FVec Ideal S8192x1024 .f32 :=
  Host.dotGeneral dot_S8192x2816_S2816x1024_S8192x1024_1_0_0_1_n_n none (extf (φ := .bf16) .f32 A bitsLt_bf16_f32) (extf (φ := .bf16) .f32 W bitsLt_bf16_f32)

theorem foArr_apply (A : Prod.Mat 8192 2816) (W : Prod.Mat 2816 1024) (i : Fin 8192) (q : Fin 1024) : foArr A W (ix2 i q) = fo A W i q := by
  pointwise [foArr, fo]

/-- The mean squares of the rows. -/
def varArr (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

theorem varArr_apply (x : FVec Ideal S8192x1024 .f32) (i : Fin 8192) (z : Fin 1) : varArr x (ix2 i z) = Rms.var (fun k => x (ix2 i k)) := by
  pointwise [varArr]
  rfl

/-- The reciprocal roots of the mean squares, over the columns. -/
def rArr (x : FVec Ideal S8192x1024 .f32) : FVec Ideal S8192x1024 .f32 :=
  broadcastInDim S8192x1024 ![0, 1] bcast_S8192x1_S8192x1024_0_1 (Host.rsqrt (varArr x))

theorem rArr_apply (x : FVec Ideal S8192x1024 .f32) (i : Fin 8192) (q : Fin 1024) : rArr x (ix2 i q) = Rms.rstd (fun k => x (ix2 i k)) := by
  have e : rArr x (ix2 i q) = Ideal.rsqrt (varArr x (ix2 i 0)) := by pointwise [rArr]
  rw [e, varArr_apply]
  rfl

/-- The gain, over the rows. -/
def gainArr (g : Prod.Mat 1 1024) : FVec Ideal S8192x1024 .f32 :=
  broadcastInDim S8192x1024 ![0, 1] bcast_S1x1024_S8192x1024_0_1 (broadcastInDim S1x1024 ![1] bcast_S1024_S1x1024_1 (shapeCast _ (g : FVec Ideal S1x1024 .f32) shapeCasts_S1x1024_S1024))

theorem gainArr_apply (g : Prod.Mat 1 1024) (i : Fin 8192) (q : Fin 1024) : gainArr g (ix2 i q) = g (ix2 0 q) := by
  pointwise [gainArr]

/-- The scale of the loss' gradient: half over the number of columns. -/
def scArr : FVec Ideal S8192x1024 .f32 :=
  addf (broadcastInDim S8192x1024 ![1] bcast_S1024_S8192x1024_1 (Host.reduceAdd (broadcastInDim S1x1024 ![] bcast_S_S1x1024 (constant S_ .f32 0x00000000#32)) (constant S_ .f32 0x00000000#32) reducesTo_S1x1024_S1024_d0 h_S_)) (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32))))

theorem scArr_apply (i : Fin 8192) (q : Fin 1024) : scArr (ix2 i q) = ((1 / 2048 : ℝ) : EReal) := by
  have h : Ideal.ofBits .f32 0x3F000000#32 = ((1 / 2 : ℝ) : EReal) := by
    simp [Ideal.ofBits, Ideal.ieee, -EReal.coe_mul]; norm_num
  pointwise [scArr]
  rw [Finset.sum_const_zero, zero_add, h, Rms.ofBits_1024, Rms.div_coe _ (by norm_num), ← EReal.coe_mul]
  norm_num

/-- The gradient through the norm's reciprocal root, one number to a row. -/
def tArr (x u : FVec Ideal S8192x1024 .f32) : FVec Ideal S8192x1024 .f32 :=
  broadcastInDim S8192x1024 ![0] bcast_S8192_S8192x1024_0 (Host.reduceAdd (Host.divf (mulf (shapeCast _ (Host.reduceAdd (mulf x u) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (varArr x)) (varArr x)))) (broadcastInDim S8192x1 ![] bcast_S_S8192x1 (constant S_ .f32 0x44800000#32))) (constant S_ .f32 0x00000000#32) reducesTo_S8192x1_S8192_d1 h_S_)

theorem tArr_apply (x u : FVec Ideal S8192x1024 .f32) (i : Fin 8192) (q : Fin 1024) : tArr x u (ix2 i q)
    = Ideal.div ((∑ k : Fin 1024, x (ix2 i k) * u (ix2 i k)) * (Ideal.ofBits .f32 0xBF000000#32 * Ideal.div (Rms.rstd (fun k => x (ix2 i k))) (Rms.var (fun k => x (ix2 i k))))) (Ideal.ofBits .f32 0x44800000#32) := by
  have e : tArr x u (ix2 i q) = ∑ z : Fin 1, Ideal.div ((∑ k : Fin 1024, x (ix2 i k) * u (ix2 i k)) * (Ideal.ofBits .f32 0xBF000000#32 * Ideal.div (Ideal.rsqrt (varArr x (ix2 i z))) (varArr x (ix2 i z)))) (Ideal.ofBits .f32 0x44800000#32) := by
    pointwise [tArr]
  rw [e, Fin.sum_univ_one, varArr_apply]
  rfl

/-- The gradient taken back through a norm. -/
def backArr (x u : FVec Ideal S8192x1024 .f32) : FVec Ideal S8192x1024 .f32 :=
  addf (addf (mulf u (rArr x)) (mulf x (tArr x u))) (mulf (tArr x u) x)

theorem backArr_apply (x u : FVec Ideal S8192x1024 .f32) (i : Fin 8192) (q : Fin 1024) : backArr x u (ix2 i q)
    = Rms.rstd (fun k => x (ix2 i k)) * (u (ix2 i q) - x (ix2 i q) * Rms.rstd (fun k => x (ix2 i k))
      * Ideal.div (∑ k : Fin 1024, u (ix2 i k) * (x (ix2 i k) * Rms.rstd (fun k => x (ix2 i k)))) (Ideal.ofBits .f32 0x44800000#32)) := by
  have e : backArr x u (ix2 i q) = (u (ix2 i q) * rArr x (ix2 i q) + x (ix2 i q) * tArr x u (ix2 i q) + tArr x u (ix2 i q) * x (ix2 i q) : EReal) := rfl
  rw [e, rArr_apply]
  exact Rms.grad_eq (fun k => x (ix2 i k)) (fun k => u (ix2 i k)) q _ (tArr_apply x u i q)

variable (A : Prod.Mat 8192 2816) (W : Prod.Mat 2816 1024) (X T : Prod.Mat 8192 1024) (g : Prod.Mat 1 1024)

/-- The norm. -/
def nArr : FVec Ideal S8192x1024 .f32 := mulf (foArr A W) (rArr (foArr A W))

theorem nArr_apply (i : Fin 8192) (q : Fin 1024) : nArr A W (ix2 i q) = nrm A W i q := by
  have e : nArr A W (ix2 i q) = (foArr A W (ix2 i q) * rArr (foArr A W) (ix2 i q) : EReal) := rfl
  rw [e, rArr_apply, funext fun k => foArr_apply A W i k, foArr_apply]
  rfl

/-- The error. -/
def errArr : FVec Ideal S8192x1024 .f32 := subf (addf (X : FVec Ideal S8192x1024 .f32) (mulf (nArr A W) (gainArr g))) (T : FVec Ideal S8192x1024 .f32)

theorem errArr_apply (i : Fin 8192) (q : Fin 1024) : errArr A W X T g (ix2 i q) = err A W X T g i q := by
  have e : errArr A W X T g (ix2 i q) = (X (ix2 i q) + nArr A W (ix2 i q) * gainArr g (ix2 i q) - T (ix2 i q) : EReal) := rfl
  rw [e, nArr_apply, gainArr_apply]
  rfl

/-- The constants of the loss' gradient. -/
theorem ofBits_2 : Ideal.ofBits .f32 0x40000000#32 = ((2 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

/-- The loss' gradient. -/
def dyArr : FVec Ideal S8192x1024 .f32 :=
  mulf scArr (mulf (broadcastInDim S8192x1024 ![] bcast_S_S8192x1024 (constant S_ .f32 0x40000000#32)) (errArr A W X T g))

theorem dyArr_apply (i : Fin 8192) (q : Fin 1024) : dyArr A W X T g (ix2 i q) = dY A W X T g i q := by
  have e : dyArr A W X T g (ix2 i q) = (scArr (ix2 i q) * (Ideal.ofBits .f32 0x40000000#32 * errArr A W X T g (ix2 i q)) : EReal) := by
    pointwise [dyArr]
  rw [e, scArr_apply, errArr_apply, ofBits_2, ← mul_assoc, ← EReal.coe_mul, mul_comm, dY, ofBits_inv1024]
  norm_num

/-- The loss' gradient with the gain. -/
def uArr : FVec Ideal S8192x1024 .f32 := mulf (dyArr A W X T g) (gainArr g)

theorem uArr_apply (i : Fin 8192) (q : Fin 1024) : uArr A W X T g (ix2 i q) = dY A W X T g i q * g (ix2 0 q) := by
  have e : uArr A W X T g (ix2 i q) = (dyArr A W X T g (ix2 i q) * gainArr g (ix2 i q) : EReal) := rfl
  rw [e, dyArr_apply, gainArr_apply]

/-- The gradient of the feed-forward output, rounded. -/
def fArr : FVec Ideal S8192x1024 .bf16 := truncf .bf16 (backArr (foArr A W) (uArr A W X T g)) bitsLt_bf16_f32

/-- The gain's gradient. -/
def dgArr : FVec Ideal S1x1024 .f32 :=
  broadcastInDim S1x1024 ![1] bcast_S1024_S1x1024_1 (Host.reduceAdd (shapeCast _ (Host.reduceAdd (mulf (nArr A W) (dyArr A W X T g)) (constant S_ .f32 0x00000000#32) reducesTo_S8192x1024_S1024_d0 h_S_) shapeCasts_S1024_S1x1024) (constant S_ .f32 0x00000000#32) reducesTo_S1x1024_S1024_d0 h_S_)

/-- The squared error, summed over the rows. -/
def lArr : FVec Ideal S1x1024 .f32 :=
  broadcastInDim S1x1024 ![1] bcast_S1024_S1x1024_1 (Host.reduceAdd (mulf (errArr A W X T g) (errArr A W X T g)) (constant S_ .f32 0x00000000#32) reducesTo_S8192x1024_S1024_d0 h_S_)

theorem y_res : dyArr A W X T g = resY A W X T g := by
  funext x
  obtain ⟨i, q, rfl⟩ : ∃ i j, x = ix2 i j := ⟨x 0, x 1, eq_ix2 x⟩
  exact dyArr_apply A W X T g i q

theorem f_res : fArr A W X T g = resF A W X T g := by
  funext x
  obtain ⟨i, q, rfl⟩ : ∃ i j, x = ix2 i j := ⟨x 0, x 1, eq_ix2 x⟩
  refine (backArr_apply (foArr A W) (uArr A W X T g) i q).trans ?_
  rw [funext fun k => foArr_apply A W i k, foArr_apply, uArr_apply]
  refine congrArg (fun s : EReal => Rms.rstd (fo A W i) * (dY A W X T g i q * g (ix2 0 q) - nrm A W i q * Ideal.div s (Ideal.ofBits .f32 0x44800000#32)))
    (Fin.sum_fin_congr fun k => ?_)
  rw [uArr_apply, foArr_apply]
  rfl

theorem g_res : dgArr A W X T g = resG A W X T g := by
  funext x
  obtain ⟨z, q, rfl⟩ : ∃ i j, x = ix2 i j := ⟨x 0, x 1, eq_ix2 x⟩
  have e : dgArr A W X T g (ix2 z q) = ∑ _z : Fin 1, ∑ i : Fin 8192, nArr A W (ix2 i q) * dyArr A W X T g (ix2 i q) := by
    pointwise [dgArr]
  rw [e, Fin.sum_univ_one]
  refine Fin.sum_fin_congr fun i => ?_
  rw [nArr_apply, dyArr_apply, mul_comm]
  rfl

theorem l_res : lArr A W X T g = resL A W X T g := by
  funext x
  obtain ⟨z, q, rfl⟩ : ∃ i j, x = ix2 i j := ⟨x 0, x 1, eq_ix2 x⟩
  have e : lArr A W X T g (ix2 z q) = ∑ i : Fin 8192, errArr A W X T g (ix2 i q) * errArr A W X T g (ix2 i q) := by
    pointwise [lArr]
  rw [e]
  refine Fin.sum_fin_congr fun i => ?_
  rw [errArr_apply]
  rfl

end Reference

/-- The reference's frame: it ends with its arguments unchanged and every counter at zero. -/
theorem frameR : Cert.quiescent_Reference6Ideal := by
  intro m g _
  exact (θ_run Cert.Reference6Ideal.defs _ _).mono (fun r h => ⟨fun c => (h c).2.2.2.2, sem_eq_zero_of_no_sems (by decide) r.2⟩)
    (Cert.Reference6Ideal.Value.run m g)

/-- The kernel and the reference end with the same four arrays. -/
theorem algebraic : Cert.algebraic_Kernel6Ideal_Reference6Ideal := by
  intro m g m' g' _ hagree
  refine ⟨fun c => resY (argA m c) (argW m c) (argX m c) (argT m c) (argg m c), fun c => resF (argA m c) (argW m c) (argX m c) (argT m c) (argg m c),
    fun c => resG (argA m c) (argW m c) (argX m c) (argT m c) (argg m c), fun c => resL (argA m c) (argW m c) (argX m c) (argT m c) (argg m c), ?_, ?_⟩
  · refine (θ_run Cert.Kernel6Ideal.defs _ _).mono (fun r h c => ?_) (Cert.Kernel6Ideal.Value.run_blocks m g)
    have hc := h c
    exact ⟨hc.1.trans (final5 m c), hc.2.1.trans (final6 m c), hc.2.2.1.trans (final7 m c), hc.2.2.2.1.trans (final8 m c), hc.2.2.2.2⟩
  · refine (θ_run Cert.Reference6Ideal.defs _ _).mono (fun r h c => ?_) (Cert.Reference6Ideal.Value.run m' g')
    have hc := h c
    refine ⟨hc.1.trans ?_, hc.2.1.trans ?_, hc.2.2.1.trans ?_, hc.2.2.2.1.trans ?_, hc.2.2.2.2⟩
    · refine Eq.trans (b := dyArr (m' ((c.tc : Thread _ _).loc Cert.Reference6Ideal.main_arg0)) (m' ((c.tc : Thread _ _).loc Cert.Reference6Ideal.main_arg1)) (m' ((c.tc : Thread _ _).loc Cert.Reference6Ideal.main_arg2)) (m' ((c.tc : Thread _ _).loc Cert.Reference6Ideal.main_arg3)) (m' ((c.tc : Thread _ _).loc Cert.Reference6Ideal.main_arg4))) rfl ?_
      rw [(hagree c).1, (hagree c).2.1, (hagree c).2.2.1, (hagree c).2.2.2.1, (hagree c).2.2.2.2]
      exact y_res (argA m c) (argW m c) (argX m c) (argT m c) (argg m c)
    · refine Eq.trans (b := fArr (m' ((c.tc : Thread _ _).loc Cert.Reference6Ideal.main_arg0)) (m' ((c.tc : Thread _ _).loc Cert.Reference6Ideal.main_arg1)) (m' ((c.tc : Thread _ _).loc Cert.Reference6Ideal.main_arg2)) (m' ((c.tc : Thread _ _).loc Cert.Reference6Ideal.main_arg3)) (m' ((c.tc : Thread _ _).loc Cert.Reference6Ideal.main_arg4))) rfl ?_
      rw [(hagree c).1, (hagree c).2.1, (hagree c).2.2.1, (hagree c).2.2.2.1, (hagree c).2.2.2.2]
      exact f_res (argA m c) (argW m c) (argX m c) (argT m c) (argg m c)
    · refine Eq.trans (b := dgArr (m' ((c.tc : Thread _ _).loc Cert.Reference6Ideal.main_arg0)) (m' ((c.tc : Thread _ _).loc Cert.Reference6Ideal.main_arg1)) (m' ((c.tc : Thread _ _).loc Cert.Reference6Ideal.main_arg2)) (m' ((c.tc : Thread _ _).loc Cert.Reference6Ideal.main_arg3)) (m' ((c.tc : Thread _ _).loc Cert.Reference6Ideal.main_arg4))) rfl ?_
      rw [(hagree c).1, (hagree c).2.1, (hagree c).2.2.1, (hagree c).2.2.2.1, (hagree c).2.2.2.2]
      exact g_res (argA m c) (argW m c) (argX m c) (argT m c) (argg m c)
    · refine Eq.trans (b := lArr (m' ((c.tc : Thread _ _).loc Cert.Reference6Ideal.main_arg0)) (m' ((c.tc : Thread _ _).loc Cert.Reference6Ideal.main_arg1)) (m' ((c.tc : Thread _ _).loc Cert.Reference6Ideal.main_arg2)) (m' ((c.tc : Thread _ _).loc Cert.Reference6Ideal.main_arg3)) (m' ((c.tc : Thread _ _).loc Cert.Reference6Ideal.main_arg4))) rfl ?_
      rw [(hagree c).1, (hagree c).2.1, (hagree c).2.2.1, (hagree c).2.2.2.1, (hagree c).2.2.2.2]
      exact l_res (argA m c) (argW m c) (argX m c) (argT m c) (argg m c)

end Cert.FfnOut

end
-- ==== Proof.MergeClaim.lean ====
/- The gated merge of three branches, the output projection and the norms around the residual sum: the kernel and the reference leave the same arrays. -/
module

public import proofs.«01_k».proof.Defs
public import proofs.«01_k».proof.Proof.Gen.Kernel7Ideal.Value
public import proofs.«01_k».proof.Proof.Gen.Reference7Ideal.Run
public import proofs.«01_k».proof.Proof.MergeBwdSpec
public import proofs.«01_k».proof.Proof.ColPieces
public import proofs.«01_k».proof.Proof.RmsSpec
public import Idealize.ShloMosaic.Lib.Claim

@[expose] public section

set_option maxRecDepth 16384

noncomputable section

namespace Cert.Merge

open Idealize.ShloMosaic Idealize.ShloMosaic.TcCoe Idealize.SL.Sem
open Cert.MergeBwd (pre)

section Spec

variable (G : Prod.Mat 8192 3072) (Ya Yb Yc : Prod.Mat 8192 1024) (b : Prod.Mat 1 3072) (W : Prod.Mat 1024 1024) (X : Prod.Mat 8192 1024)
  (g2 g3 : Prod.Mat 1 1024)

/-- The branches merged through their gates, row `i`, column `q`. -/
def gated (i : Fin 8192) (q : Fin 1024) : EReal :=
  Ideal.logistic (pre G b i ⟨0 + (q : ℕ), by omega⟩) * Ya (ix2 i q) + Ideal.logistic (pre G b i ⟨1024 + (q : ℕ), by omega⟩) * Yb (ix2 i q)
    + Ideal.logistic (pre G b i ⟨2048 + (q : ℕ), by omega⟩) * Yc (ix2 i q)

/-- The output projection of the merged branches. -/
def mixed (i : Fin 8192) (q : Fin 1024) : EReal := ∑ k : Fin 1024, gated G Ya Yb Yc b i k * W (ix2 k q)

/-- The residual sum with the projection's norm. -/
def summed (i : Fin 8192) (q : Fin 1024) : EReal :=
  X (ix2 i q) + mixed G Ya Yb Yc b W i q * Rms.rstd (mixed G Ya Yb Yc b W i) * g2 (ix2 0 q)

/-- The norm of the residual sum. -/
def normed (i : Fin 8192) (q : Fin 1024) : EReal :=
  summed G Ya Yb Yc b W X g2 i q * Rms.rstd (summed G Ya Yb Yc b W X g2 i) * g3 (ix2 0 q)

/-- The four results as arrays. -/
def resM : Prod.Mat 8192 1024 := fun x => gated G Ya Yb Yc b (x 0) (x 1)
def resO : Prod.Mat 8192 1024 := fun x => mixed G Ya Yb Yc b W (x 0) (x 1)
def resX : Prod.Mat 8192 1024 := fun x => summed G Ya Yb Yc b W X g2 (x 0) (x 1)
def resH : Prod.Mat 8192 1024 := fun x => normed G Ya Yb Yc b W X g2 g3 (x 0) (x 1)

end Spec

section Kernel

open Cert.Kernel7Ideal Cert.Kernel7Ideal.Gen

variable (m : (ℓ : Loc nD τ sig) → Buf (Elt Ideal) ℓ)

/-- The arrays of device `c`. -/
abbrev argG (c : Dev nD) : Prod.Mat 8192 3072 := m ((c : Thread nD τ).loc main_arg0)
abbrev argYa (c : Dev nD) : Prod.Mat 8192 1024 := m ((c : Thread nD τ).loc main_arg1)
abbrev argYb (c : Dev nD) : Prod.Mat 8192 1024 := m ((c : Thread nD τ).loc main_arg2)
abbrev argYc (c : Dev nD) : Prod.Mat 8192 1024 := m ((c : Thread nD τ).loc main_arg3)
abbrev argb (c : Dev nD) : Prod.Mat 1 3072 := m ((c : Thread nD τ).loc main_arg4)
abbrev argW (c : Dev nD) : Prod.Mat 1024 1024 := m ((c : Thread nD τ).loc main_arg5)
abbrev argX (c : Dev nD) : Prod.Mat 8192 1024 := m ((c : Thread nD τ).loc main_arg6)
abbrev argg2 (c : Dev nD) : Prod.Mat 1 1024 := m ((c : Thread nD τ).loc main_arg7)
abbrev argg3 (c : Dev nD) : Prod.Mat 1 1024 := m ((c : Thread nD τ).loc main_arg8)

/-- The blocks that grid point `t` reads and writes: rows `512 t …` of the tall arrays, the others whole. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] := by decide +kernel

/-- The row of the arrays that row `r` of point `t`'s blocks is. -/
abbrev row (t : Fin cfg0.N) (r : Fin 512) : Fin 8192 := ⟨512 * t.val + r.val, by have : t.val < 16 := t.isLt; omega⟩

section Payloads

variable (ga gb gc ya yb yc : Vec Ideal S512x1024 .bf16) (ba bb bc : Vec Ideal S1x1024 .f32) (w : Vec Ideal S1024x1024 .bf16)
  (v : FVec Ideal S512x1024 .f32) (x : Vec Ideal S512x1024 .f32) (g g' : Vec Ideal S1x1024 .f32) (r : Fin 512) (q : Fin 1024)

theorem pay3_apply : k0_pay3 (F := Ideal) ga ba ya gb bb yb gc bc yc (ix2 r q)
    = (Ideal.logistic (ga (ix2 r q) + ba (ix2 0 q)) * ya (ix2 r q) + Ideal.logistic (gb (ix2 r q) + bb (ix2 0 q)) * yb (ix2 r q)
      + Ideal.logistic (gc (ix2 r q) + bc (ix2 0 q)) * yc (ix2 r q) : EReal) := by
  pointwise [k0_pay3]

theorem pay4_apply : k0_pay4 (F := Ideal) ga ba ya gb bb yb gc bc yc w (ix2 r q)
    = ∑ k : Fin 1024, k0_pay3 (F := Ideal) ga ba ya gb bb yb gc bc yc (ix2 r k) * w (ix2 k q) := by
  pointwise [k0_pay4]

theorem pay5_eq (x0 : Vec Ideal S512x3072 .bf16) (x4 : Vec Ideal S1x3072 .f32) (x8 : Vec Ideal S1x1024 .f32) :
    k0_pay5 (F := Ideal) x0 ya yb yc x4 w x g x8
      = k0_pay4 (F := Ideal) (View.ld x0 r0_0) (View.ld x4 r0_1) ya (View.ld x0 r0_3) (View.ld x4 r0_4) yb (View.ld x0 r0_5) (View.ld x4 r0_6) yc w := by
  have z : (![0, 0] : Fin 2 → ℕ) = fun _ => 0 := funext fun a => by match a with | 0 => rfl | 1 => rfl
  rw [k0_pay5, show View.ld ya r0_2 = ya from View.ld_unit_zero z _ _, show View.ld yb r0_2 = yb from View.ld_unit_zero z _ _,
    show View.ld yc r0_2 = yc from View.ld_unit_zero z _ _, show View.ld w r0_7 = w from View.ld_unit_zero z _ _]

theorem pay1_apply : k0_pay1 (F := Ideal) v x g (ix2 r q) = (x (ix2 r q) + v (ix2 r q) * Rms.rstd (fun k => v (ix2 r k)) * g (ix2 0 q) : EReal) := by
  pointwise [k0_pay1]
  rfl

theorem pay2_apply : k0_pay2 (F := Ideal) v x g g' (ix2 r q)
    = (k0_pay1 (F := Ideal) v x g (ix2 r q) * Rms.rstd (fun k => k0_pay1 (F := Ideal) v x g (ix2 r k)) * g' (ix2 0 q) : EReal) := by
  pointwise [k0_pay2]
  rfl

end Payloads

theorem pre_eq (c : Dev nD) (t : Fin cfg0.N) (o : ℕ) (inb : ∀ a, (![0, o] : Fin 2 → ℕ) a + (![512, 1024] : Fin 2 → ℕ) a ≤ S512x3072.size a)
    (inb' : ∀ a, (![0, o] : Fin 2 → ℕ) a + (![1, 1024] : Fin 2 → ℕ) a ≤ S1x3072.size a)
    (r : Fin 512) (q : Fin 1024) (j : Fin 3072) (hj : (j : ℕ) = o + q) :
    @HAdd.hAdd EReal EReal EReal _ (View.ld (iblk m c 0 t) (Rect.unit (s := S512x3072) ![0, o] ![512, 1024] inb) (ix2 r q))
        (View.ld (iblk m c 4 t) (Rect.unit (s := S1x3072) ![0, o] ![1, 1024] inb') (ix2 0 q))
      = pre (argG m c) (argb m c) (row t r) j := by
  refine congrArg₂ (fun a b : EReal => a + b) ?_ ?_
  · refine (Cols.ld_apply inb _ r q j hj).trans (?_ : (iblk m c 0 t : S512x3072.Idx → EReal) (ix2 r j) = argG m c (ix2 (row t r) j))
    blk_ext [iblk, V, idx t]
  · refine (Cols.ld_apply inb' _ 0 q j hj).trans (?_ : (iblk m c 4 t : S1x3072.Idx → EReal) (ix2 0 j) = argb m c (ix2 0 j))
    blk_ext [iblk, V, idx t]

theorem ya_eq (c : Dev nD) (t : Fin cfg0.N) (r : Fin 512) (q : Fin 1024) :
    (iblk m c 1 t : S512x1024.Idx → EReal) (ix2 r q) = argYa m c (ix2 (row t r) q) := by
  blk_ext [iblk, V, idx t]

theorem yb_eq (c : Dev nD) (t : Fin cfg0.N) (r : Fin 512) (q : Fin 1024) :
    (iblk m c 2 t : S512x1024.Idx → EReal) (ix2 r q) = argYb m c (ix2 (row t r) q) := by
  blk_ext [iblk, V, idx t]

theorem yc_eq (c : Dev nD) (t : Fin cfg0.N) (r : Fin 512) (q : Fin 1024) :
    (iblk m c 3 t : S512x1024.Idx → EReal) (ix2 r q) = argYc m c (ix2 (row t r) q) := by
  blk_ext [iblk, V, idx t]

theorem x_eq (c : Dev nD) (t : Fin cfg0.N) (r : Fin 512) (q : Fin 1024) :
    (iblk m c 6 t : S512x1024.Idx → EReal) (ix2 r q) = argX m c (ix2 (row t r) q) := by
  blk_ext [iblk, V, idx t]

theorem g2_eq (c : Dev nD) (t : Fin cfg0.N) (q : Fin 1024) :
    (iblk m c 7 t : S1x1024.Idx → EReal) (ix2 0 q) = argg2 m c (ix2 0 q) := by
  blk_ext [iblk, V, idx t]

theorem g3_eq (c : Dev nD) (t : Fin cfg0.N) (q : Fin 1024) :
    (iblk m c 8 t : S1x1024.Idx → EReal) (ix2 0 q) = argg3 m c (ix2 0 q) := by
  blk_ext [iblk, V, idx t]

/-- What point `t` leaves in each output block. -/
theorem out9 (c : Dev nD) (t : Fin cfg0.N) (r : Fin 512) (q : Fin 1024) :
    k0_pay3 (F := Ideal) (View.ld (iblk m c 0 t) r0_0) (View.ld (iblk m c 4 t) r0_1) (iblk m c 1 t) (View.ld (iblk m c 0 t) r0_3)
      (View.ld (iblk m c 4 t) r0_4) (iblk m c 2 t) (View.ld (iblk m c 0 t) r0_5) (View.ld (iblk m c 4 t) r0_6) (iblk m c 3 t) (ix2 r q)
      = gated (argG m c) (argYa m c) (argYb m c) (argYc m c) (argb m c) (row t r) q := by
  refine (pay3_apply ..).trans ?_
  refine congrArg₂ (fun a b : EReal => a + b) (congrArg₂ (fun a b : EReal => a + b) ?_ ?_) ?_
  · exact congrArg₂ (fun a b : EReal => Ideal.logistic a * b) (pre_eq m c t 0 _ _ r q _ rfl) (ya_eq m c t r q)
  · exact congrArg₂ (fun a b : EReal => Ideal.logistic a * b) (pre_eq m c t 1024 _ _ r q _ rfl) (yb_eq m c t r q)
  · exact congrArg₂ (fun a b : EReal => Ideal.logistic a * b) (pre_eq m c t 2048 _ _ r q _ rfl) (yc_eq m c t r q)

theorem out10 (c : Dev nD) (t : Fin cfg0.N) (r : Fin 512) (q : Fin 1024) :
    k0_pay5 (F := Ideal) (iblk m c 0 t) (iblk m c 1 t) (iblk m c 2 t) (iblk m c 3 t) (iblk m c 4 t) (iblk m c 5 t) (iblk m c 6 t) (iblk m c 7 t) (iblk m c 8 t) (ix2 r q)
      = mixed (argG m c) (argYa m c) (argYb m c) (argYc m c) (argb m c) (argW m c) (row t r) q := by
  have e : k0_pay5 (F := Ideal) (iblk m c 0 t) (iblk m c 1 t) (iblk m c 2 t) (iblk m c 3 t) (iblk m c 4 t) (iblk m c 5 t) (iblk m c 6 t) (iblk m c 7 t) (iblk m c 8 t)
      = k0_pay4 (F := Ideal) (View.ld (iblk m c 0 t) r0_0) (View.ld (iblk m c 4 t) r0_1) (iblk m c 1 t) (View.ld (iblk m c 0 t) r0_3)
      (View.ld (iblk m c 4 t) r0_4) (iblk m c 2 t) (View.ld (iblk m c 0 t) r0_5) (View.ld (iblk m c 4 t) r0_6) (iblk m c 3 t) (iblk m c 5 t)  := pay5_eq ..
  rw [e]
  refine (pay4_apply ..).trans (Prod.sum_mul_congr (fun k => out9 m c t r k) fun k => ?_)
  blk_ext [iblk, V, idx t]

theorem out11 (c : Dev nD) (t : Fin cfg0.N) (r : Fin 512) (q : Fin 1024) :
    k0_pay1 (F := Ideal) (k0_pay5 (iblk m c 0 t) (iblk m c 1 t) (iblk m c 2 t) (iblk m c 3 t) (iblk m c 4 t) (iblk m c 5 t) (iblk m c 6 t) (iblk m c 7 t) (iblk m c 8 t))
      (iblk m c 6 t) (iblk m c 7 t) (ix2 r q)
      = summed (argG m c) (argYa m c) (argYb m c) (argYc m c) (argb m c) (argW m c) (argX m c) (argg2 m c) (row t r) q := by
  rw [pay1_apply, x_eq, g2_eq, out10, funext fun k => out10 m c t r k]
  rfl

theorem out12 (c : Dev nD) (t : Fin cfg0.N) (r : Fin 512) (q : Fin 1024) :
    k0_pay2 (F := Ideal) (k0_pay5 (iblk m c 0 t) (iblk m c 1 t) (iblk m c 2 t) (iblk m c 3 t) (iblk m c 4 t) (iblk m c 5 t) (iblk m c 6 t) (iblk m c 7 t) (iblk m c 8 t))
      (iblk m c 6 t) (iblk m c 7 t) (iblk m c 8 t) (ix2 r q)
      = normed (argG m c) (argYa m c) (argYb m c) (argYc m c) (argb m c) (argW m c) (argX m c) (argg2 m c) (argg3 m c) (row t r) q := by
  rw [pay2_apply, g3_eq, out11, funext fun k => out11 m c t r k]
  rfl

/-- The output array of window 9 is the merged branches. -/
theorem final9 (c : Dev nD) : (dats m 0 c).arrAt 9 cfg0.N = resM (argG m c) (argYa m c) (argYb m c) (argYc m c) (argb m c) := by
  refine (dats m 0 c).arrAt_eq_of_covers 9 _ (by decide +kernel) fun t hf y => ?_
  blk_simp
  rw [after0_9]
  frame_out
  change S512x1024.Idx at y
  idx_vars y
  have ht : t.val < 16 := t.isLt
  have h0 : win0_9.index t 0 = t.val := by rw [(idx t).2.2.2.2.2.2.2.2.2.1]; rfl
  have h1 : win0_9.index t 1 = 0 := by rw [(idx t).2.2.2.2.2.2.2.2.2.1]; rfl
  have e : resM (argG m c) (argYa m c) (argYb m c) (argYc m c) (argb m c) (ix2 (row t y0) y1) = resM (argG m c) (argYa m c) (argYb m c) (argYc m c) (argb m c) (((View.whole main_v0_0).slice (win0_9.rect t)).emb (ix2 y0 y1)) := by
    refine congrArg (resM (argG m c) (argYa m c) (argYb m c) (argYc m c) (argb m c)) (funext fun a => Fin.ext ?_)
    match a with
    | 0 => show 512 * t.val + y0.val = win0_9.index t 0 * 512 + 1 * y0.val; omega
    | 1 => show y1.val = win0_9.index t 1 * 1024 + 1 * y1.val; omega
  exact Eq.trans (out9 m c t y0 y1) e

/-- The output array of window 10 is their projection. -/
theorem final10 (c : Dev nD) : (dats m 0 c).arrAt 10 cfg0.N = resO (argG m c) (argYa m c) (argYb m c) (argYc m c) (argb m c) (argW m c) := by
  refine (dats m 0 c).arrAt_eq_of_covers 10 _ (by decide +kernel) fun t hf y => ?_
  blk_simp
  rw [after0_10]
  frame_out
  change S512x1024.Idx at y
  idx_vars y
  have ht : t.val < 16 := t.isLt
  have h0 : win0_10.index t 0 = t.val := by rw [(idx t).2.2.2.2.2.2.2.2.2.2.1]; rfl
  have h1 : win0_10.index t 1 = 0 := by rw [(idx t).2.2.2.2.2.2.2.2.2.2.1]; rfl
  have e : resO (argG m c) (argYa m c) (argYb m c) (argYc m c) (argb m c) (argW m c) (ix2 (row t y0) y1) = resO (argG m c) (argYa m c) (argYb m c) (argYc m c) (argb m c) (argW m c) (((View.whole main_v0_1).slice (win0_10.rect t)).emb (ix2 y0 y1)) := by
    refine congrArg (resO (argG m c) (argYa m c) (argYb m c) (argYc m c) (argb m c) (argW m c)) (funext fun a => Fin.ext ?_)
    match a with
    | 0 => show 512 * t.val + y0.val = win0_10.index t 0 * 512 + 1 * y0.val; omega
    | 1 => show y1.val = win0_10.index t 1 * 1024 + 1 * y1.val; omega
  exact Eq.trans (out10 m c t y0 y1) e

/-- The output array of window 11 is the residual sum. -/
theorem final11 (c : Dev nD) : (dats m 0 c).arrAt 11 cfg0.N = resX (argG m c) (argYa m c) (argYb m c) (argYc m c) (argb m c) (argW m c) (argX m c) (argg2 m c) := by
  refine (dats m 0 c).arrAt_eq_of_covers 11 _ (by decide +kernel) fun t hf y => ?_
  blk_simp
  rw [after0_11]
  frame_out
  change S512x1024.Idx at y
  idx_vars y
  have ht : t.val < 16 := t.isLt
  have h0 : win0_11.index t 0 = t.val := by rw [(idx t).2.2.2.2.2.2.2.2.2.2.2.1]; rfl
  have h1 : win0_11.index t 1 = 0 := by rw [(idx t).2.2.2.2.2.2.2.2.2.2.2.1]; rfl
  have e : resX (argG m c) (argYa m c) (argYb m c) (argYc m c) (argb m c) (argW m c) (argX m c) (argg2 m c) (ix2 (row t y0) y1) = resX (argG m c) (argYa m c) (argYb m c) (argYc m c) (argb m c) (argW m c) (argX m c) (argg2 m c) (((View.whole main_v0_2).slice (win0_11.rect t)).emb (ix2 y0 y1)) := by
    refine congrArg (resX (argG m c) (argYa m c) (argYb m c) (argYc m c) (argb m c) (argW m c) (argX m c) (argg2 m c)) (funext fun a => Fin.ext ?_)
    match a with
    | 0 => show 512 * t.val + y0.val = win0_11.index t 0 * 512 + 1 * y0.val; omega
    | 1 => show y1.val = win0_11.index t 1 * 1024 + 1 * y1.val; omega
  exact Eq.trans (out11 m c t y0 y1) e

/-- The output array of window 12 is the residual sum's norm. -/
theorem final12 (c : Dev nD) : (dats m 0 c).arrAt 12 cfg0.N = resH (argG m c) (argYa m c) (argYb m c) (argYc m c) (argb m c) (argW m c) (argX m c) (argg2 m c) (argg3 m c) := by
  refine (dats m 0 c).arrAt_eq_of_covers 12 _ (by decide +kernel) fun t hf y => ?_
  blk_simp
  rw [after0_12]
  frame_out
  change S512x1024.Idx at y
  idx_vars y
  have ht : t.val < 16 := t.isLt
  have h0 : win0_12.index t 0 = t.val := by rw [(idx t).2.2.2.2.2.2.2.2.2.2.2.2]; rfl
  have h1 : win0_12.index t 1 = 0 := by rw [(idx t).2.2.2.2.2.2.2.2.2.2.2.2]; rfl
  have e : resH (argG m c) (argYa m c) (argYb m c) (argYc m c) (argb m c) (argW m c) (argX m c) (argg2 m c) (argg3 m c) (ix2 (row t y0) y1) = resH (argG m c) (argYa m c) (argYb m c) (argYc m c) (argb m c) (argW m c) (argX m c) (argg2 m c) (argg3 m c) (((View.whole main_v0_3).slice (win0_12.rect t)).emb (ix2 y0 y1)) := by
    refine congrArg (resH (argG m c) (argYa m c) (argYb m c) (argYc m c) (argb m c) (argW m c) (argX m c) (argg2 m c) (argg3 m c)) (funext fun a => Fin.ext ?_)
    match a with
    | 0 => show 512 * t.val + y0.val = win0_12.index t 0 * 512 + 1 * y0.val; omega
    | 1 => show y1.val = win0_12.index t 1 * 1024 + 1 * y1.val; omega
  exact Eq.trans (out12 m c t y0 y1) e

end Kernel

section Reference

open Cert.Reference7Ideal Cert.Reference7Ideal.Gen Cert.Reference7Ideal.Facts

/-- The gates. -/
def gArr (G : Prod.Mat 8192 3072) (b : Prod.Mat 1 3072) : FVec Ideal S8192x3072 .f32 :=
  Host.divf (broadcastInDim S8192x3072 ![] bcast_S_S8192x3072 (constant S_ .f32 0x3F800000#32)) (addf (broadcastInDim S8192x3072 ![] bcast_S_S8192x3072 (constant S_ .f32 0x3F800000#32)) (Host.exp (Host.negf (addf (extf (φ := .bf16) .f32 G bitsLt_bf16_f32) (broadcastInDim S8192x3072 ![0, 1] bcast_S1x3072_S8192x3072_0_1 (broadcastInDim S1x3072 ![1] bcast_S3072_S1x3072_1 (shapeCast _ (b : FVec Ideal S1x3072 .f32) shapeCasts_S1x3072_S3072)))))))

theorem gArr_apply (G : Prod.Mat 8192 3072) (b : Prod.Mat 1 3072) (i : Fin 8192) (j : Fin 3072) : gArr G b (ix2 i j) = Ideal.logistic (pre G b i j) := by
  pointwise [gArr, pre, Ideal.logistic]

/-- The gates' first third times a branch. -/
def part0 (g : FVec Ideal S8192x3072 .f32) (y : Prod.Mat 8192 1024) : FVec Ideal S8192x1024 .f32 :=
  mulf (shapeCast _ (extractStridedSlice S8192x1x1024 ![0, 0, 0] (shapeCast _ g shapeCasts_S8192x3072_S8192x3x1024) slices_S8192x3x1024_S8192x1x1024_0_0_0) shapeCasts_S8192x1x1024_S8192x1024) (extf (φ := .bf16) .f32 y bitsLt_bf16_f32)

theorem part0_apply (g : FVec Ideal S8192x3072 .f32) (y : Prod.Mat 8192 1024) (i : Fin 8192) (q : Fin 1024) :
    part0 g y (ix2 i q) = g (ix2 i ⟨0 + (q : ℕ), by omega⟩) * y (ix2 i q) := by
  pointwise [part0]

/-- The gates' second third times a branch. -/
def part1 (g : FVec Ideal S8192x3072 .f32) (y : Prod.Mat 8192 1024) : FVec Ideal S8192x1024 .f32 :=
  mulf (shapeCast _ (extractStridedSlice S8192x1x1024 ![0, 1, 0] (shapeCast _ g shapeCasts_S8192x3072_S8192x3x1024) slices_S8192x3x1024_S8192x1x1024_0_1_0) shapeCasts_S8192x1x1024_S8192x1024) (extf (φ := .bf16) .f32 y bitsLt_bf16_f32)

theorem part1_apply (g : FVec Ideal S8192x3072 .f32) (y : Prod.Mat 8192 1024) (i : Fin 8192) (q : Fin 1024) :
    part1 g y (ix2 i q) = g (ix2 i ⟨1024 + (q : ℕ), by omega⟩) * y (ix2 i q) := by
  pointwise [part1]

/-- The gates' last third times a branch. -/
def part2 (g : FVec Ideal S8192x3072 .f32) (y : Prod.Mat 8192 1024) : FVec Ideal S8192x1024 .f32 :=
  mulf (shapeCast _ (extractStridedSlice S8192x1x1024 ![0, 2, 0] (shapeCast _ g shapeCasts_S8192x3072_S8192x3x1024) slices_S8192x3x1024_S8192x1x1024_0_2_0) shapeCasts_S8192x1x1024_S8192x1024) (extf (φ := .bf16) .f32 y bitsLt_bf16_f32)

theorem part2_apply (g : FVec Ideal S8192x3072 .f32) (y : Prod.Mat 8192 1024) (i : Fin 8192) (q : Fin 1024) :
    part2 g y (ix2 i q) = g (ix2 i ⟨2048 + (q : ℕ), by omega⟩) * y (ix2 i q) := by
  pointwise [part2]

/-- A row norm with its gain. -/
def normArr (x : FVec Ideal S8192x1024 .f32) (g : Prod.Mat 1 1024) : FVec Ideal S8192x1024 .f32 :=
  mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ (g : FVec Ideal S1x1024 .f32) shapeCasts_S1x1024_S1024)))

theorem normArr_apply (x : FVec Ideal S8192x1024 .f32) (g : Prod.Mat 1 1024) (i : Fin 8192) (q : Fin 1024) :
    normArr x g (ix2 i q) = x (ix2 i q) * Rms.rstd (fun k => x (ix2 i k)) * g (ix2 0 q) := by
  pointwise [normArr]
  rfl

variable (G : Prod.Mat 8192 3072) (Ya Yb Yc : Prod.Mat 8192 1024) (b : Prod.Mat 1 3072) (W : Prod.Mat 1024 1024) (X : Prod.Mat 8192 1024)
  (g2 g3 : Prod.Mat 1 1024)

/-- The merged branches. -/
def gatedArr : FVec Ideal S8192x1024 .f32 := addf (addf (part0 (gArr G b) Ya) (part1 (gArr G b) Yb)) (part2 (gArr G b) Yc)

theorem gatedArr_apply (i : Fin 8192) (q : Fin 1024) : gatedArr G Ya Yb Yc b (ix2 i q) = gated G Ya Yb Yc b i q := by
  have e : gatedArr G Ya Yb Yc b (ix2 i q) = (part0 (gArr G b) Ya (ix2 i q) + part1 (gArr G b) Yb (ix2 i q) + part2 (gArr G b) Yc (ix2 i q) : EReal) := rfl
  rw [e, part0_apply, part1_apply, part2_apply, gArr_apply, gArr_apply, gArr_apply]
  rfl

/-- A product with the output weights. -/
def projArr (x : FVec Ideal S8192x1024 .f32) : FVec Ideal S8192x1024 .f32 :=
  Host.dotGeneral dot_S8192x1024_S1024x1024_S8192x1024_1_0_0_1_n_n none x (extf (φ := .bf16) .f32 W bitsLt_bf16_f32)

theorem projArr_apply (x : FVec Ideal S8192x1024 .f32) (i : Fin 8192) (q : Fin 1024) : projArr W x (ix2 i q) = ∑ k : Fin 1024, x (ix2 i k) * W (ix2 k q) := by
  pointwise [projArr]

/-- The projection of the merged branches. -/
def mixArr : FVec Ideal S8192x1024 .f32 := projArr W (gatedArr G Ya Yb Yc b)

theorem mixArr_apply (i : Fin 8192) (q : Fin 1024) : mixArr G Ya Yb Yc b W (ix2 i q) = mixed G Ya Yb Yc b W i q :=
  (projArr_apply W _ i q).trans (Prod.sum_mul_congr (fun k => gatedArr_apply G Ya Yb Yc b i k) fun _ => rfl)

/-- The residual sum. -/
def sumArr : FVec Ideal S8192x1024 .f32 := addf (X : FVec Ideal S8192x1024 .f32) (normArr (mixArr G Ya Yb Yc b W) g2)

theorem sumArr_apply (i : Fin 8192) (q : Fin 1024) : sumArr G Ya Yb Yc b W X g2 (ix2 i q) = summed G Ya Yb Yc b W X g2 i q := by
  have e : sumArr G Ya Yb Yc b W X g2 (ix2 i q) = (X (ix2 i q) + normArr (mixArr G Ya Yb Yc b W) g2 (ix2 i q) : EReal) := rfl
  rw [e, normArr_apply, mixArr_apply, funext fun k => mixArr_apply G Ya Yb Yc b W i k]
  rfl

theorem m_res : (truncf .bf16 (gatedArr G Ya Yb Yc b) bitsLt_bf16_f32 : FVec Ideal S8192x1024 .bf16) = resM G Ya Yb Yc b := by
  funext x
  obtain ⟨i, q, rfl⟩ : ∃ i j, x = ix2 i j := ⟨x 0, x 1, eq_ix2 x⟩
  exact gatedArr_apply G Ya Yb Yc b i q

theorem o_res : mixArr G Ya Yb Yc b W = resO G Ya Yb Yc b W := by
  funext x
  obtain ⟨i, q, rfl⟩ : ∃ i j, x = ix2 i j := ⟨x 0, x 1, eq_ix2 x⟩
  exact mixArr_apply G Ya Yb Yc b W i q

theorem x_res : sumArr G Ya Yb Yc b W X g2 = resX G Ya Yb Yc b W X g2 := by
  funext x
  obtain ⟨i, q, rfl⟩ : ∃ i j, x = ix2 i j := ⟨x 0, x 1, eq_ix2 x⟩
  exact sumArr_apply G Ya Yb Yc b W X g2 i q

/-- The norm of the residual sum, rounded. -/
def hArr : FVec Ideal S8192x1024 .bf16 := truncf .bf16 (normArr (sumArr G Ya Yb Yc b W X g2) g3) bitsLt_bf16_f32

theorem h_res : hArr G Ya Yb Yc b W X g2 g3 = resH G Ya Yb Yc b W X g2 g3 := by
  funext x
  obtain ⟨i, q, rfl⟩ : ∃ i j, x = ix2 i j := ⟨x 0, x 1, eq_ix2 x⟩
  refine (normArr_apply _ g3 i q).trans ?_
  rw [sumArr_apply, funext fun k => sumArr_apply G Ya Yb Yc b W X g2 i k]
  rfl

end Reference

/-- The reference's frame: it ends with its arguments unchanged and every counter at zero. -/
theorem frameR : Cert.quiescent_Reference7Ideal := by
  intro m g _
  exact (θ_run Cert.Reference7Ideal.defs _ _).mono (fun r h => ⟨fun c => (h c).2.2.2.2, sem_eq_zero_of_no_sems (by decide) r.2⟩)
    (Cert.Reference7Ideal.Value.run m g)

/-- The kernel and the reference end with the same four arrays. -/
theorem algebraic : Cert.algebraic_Kernel7Ideal_Reference7Ideal := by
  intro m g m' g' _ hagree
  refine ⟨fun c => resM (argG m c) (argYa m c) (argYb m c) (argYc m c) (argb m c), fun c => resO (argG m c) (argYa m c) (argYb m c) (argYc m c) (argb m c) (argW m c),
    fun c => resX (argG m c) (argYa m c) (argYb m c) (argYc m c) (argb m c) (argW m c) (argX m c) (argg2 m c), fun c => resH (argG m c) (argYa m c) (argYb m c) (argYc m c) (argb m c) (argW m c) (argX m c) (argg2 m c) (argg3 m c), ?_, ?_⟩
  · refine (θ_run Cert.Kernel7Ideal.defs _ _).mono (fun r h c => ?_) (Cert.Kernel7Ideal.Value.run_blocks m g)
    have hc := h c
    exact ⟨hc.1.trans (final9 m c), hc.2.1.trans (final10 m c), hc.2.2.1.trans (final11 m c), hc.2.2.2.1.trans (final12 m c), hc.2.2.2.2⟩
  · refine (θ_run Cert.Reference7Ideal.defs _ _).mono (fun r h c => ?_) (Cert.Reference7Ideal.Value.run m' g')
    have hc := h c
    refine ⟨hc.1.trans ?_, hc.2.1.trans ?_, hc.2.2.1.trans ?_, hc.2.2.2.1.trans ?_, hc.2.2.2.2⟩
    · rw [(hagree c).1, (hagree c).2.1, (hagree c).2.2.1, (hagree c).2.2.2.1, (hagree c).2.2.2.2.1]
      exact m_res (argG m c) (argYa m c) (argYb m c) (argYc m c) (argb m c)
    · rw [(hagree c).1, (hagree c).2.1, (hagree c).2.2.1, (hagree c).2.2.2.1, (hagree c).2.2.2.2.1, (hagree c).2.2.2.2.2.1]
      exact o_res (argG m c) (argYa m c) (argYb m c) (argYc m c) (argb m c) (argW m c)
    · refine Eq.trans (b := sumArr (m' ((c.tc : Thread _ _).loc Cert.Reference7Ideal.main_arg0)) (m' ((c.tc : Thread _ _).loc Cert.Reference7Ideal.main_arg1)) (m' ((c.tc : Thread _ _).loc Cert.Reference7Ideal.main_arg2)) (m' ((c.tc : Thread _ _).loc Cert.Reference7Ideal.main_arg3)) (m' ((c.tc : Thread _ _).loc Cert.Reference7Ideal.main_arg4)) (m' ((c.tc : Thread _ _).loc Cert.Reference7Ideal.main_arg5)) (m' ((c.tc : Thread _ _).loc Cert.Reference7Ideal.main_arg6)) (m' ((c.tc : Thread _ _).loc Cert.Reference7Ideal.main_arg7))) rfl ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.1]
      exact x_res (argG m c) (argYa m c) (argYb m c) (argYc m c) (argb m c) (argW m c) (argX m c) (argg2 m c)
    · refine Eq.trans (b := hArr (m' ((c.tc : Thread _ _).loc Cert.Reference7Ideal.main_arg0)) (m' ((c.tc : Thread _ _).loc Cert.Reference7Ideal.main_arg1)) (m' ((c.tc : Thread _ _).loc Cert.Reference7Ideal.main_arg2)) (m' ((c.tc : Thread _ _).loc Cert.Reference7Ideal.main_arg3)) (m' ((c.tc : Thread _ _).loc Cert.Reference7Ideal.main_arg4)) (m' ((c.tc : Thread _ _).loc Cert.Reference7Ideal.main_arg5)) (m' ((c.tc : Thread _ _).loc Cert.Reference7Ideal.main_arg6)) (m' ((c.tc : Thread _ _).loc Cert.Reference7Ideal.main_arg7)) (m' ((c.tc : Thread _ _).loc Cert.Reference7Ideal.main_arg8))) rfl ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      exact h_res (argG m c) (argYa m c) (argYb m c) (argYc m c) (argb m c) (argW m c) (argX m c) (argg2 m c) (argg3 m c)

end Cert.Merge

end
-- ==== Proof.Prod8.lean ====
/- Projection of the branches A and C: the kernel and the reference compute the same product A · B. -/
module

public import proofs.«01_k».proof.Defs
public import proofs.«01_k».proof.Proof.Gen.Kernel8Ideal.Value
public import proofs.«01_k».proof.Proof.Gen.Reference8Ideal.Run
public import proofs.«01_k».proof.Proof.ProdSpec
public import Idealize.ShloMosaic.Lib.Claim

@[expose] public section

set_option maxRecDepth 16384

noncomputable section

namespace Cert.Prod8

open Idealize.ShloMosaic Idealize.ShloMosaic.TcCoe Idealize.SL.Sem
open Cert.Kernel8Ideal Cert.Kernel8Ideal.Gen

variable (m : (ℓ : Loc nD τ sig) → Buf (Elt Ideal) ℓ)

/-- The left operand on device `c`. -/
abbrev argA (c : Dev nD) : Prod.Mat 8192 1024 := m ((c : Thread nD τ).loc main_arg0)
/-- The right operand on device `c`. -/
abbrev argB (c : Dev nD) : Prod.Mat 1024 2048 := m ((c : Thread nD τ).loc main_arg1)

/-- The blocks that grid point `t` reads and writes. -/
theorem idx : ∀ t : Fin cfg0.N, win0_0.index t = ![t.val % 8, 0] ∧ win0_1.index t = ![0, t.val / 8]
    ∧ win0_2.index t = ![t.val % 8, t.val / 8] := by decide +kernel

theorem payload (a : Vec Ideal S1024x1024 .bf16) (b : Vec Ideal S1024x1024 .bf16) (i : Fin 1024) (j : Fin 1024) :
    k0_pay1 (F := Ideal) a b (ix2 i j) = ∑ k : Fin 1024, a (ix2 i k) * b (ix2 k j) := by
  pointwise [k0_pay1]

/-- The kernel's output array is the product. -/
theorem final (c : Dev nD) : (dats m 0 c).arrAt 2 cfg0.N = Prod.nn (argA m c) (argB m c) := by
  refine (dats m 0 c).arrAt_eq_of_covers 2 _ (by decide +kernel) fun t hf y => ?_
  blk_simp
  rw [after0_2]
  frame_out
  change S1024x1024.Idx at y
  idx_vars y
  rw [payload]
  have ht : t.val < 16 := t.isLt
  refine Prod.sum_mul_congr (fun k => ?_) fun k => ?_
  · blk_ext [iblk, V, idx t]
  · blk_ext [iblk, V, idx t]

/-- The reference's frame: it ends with its arguments unchanged and every counter at zero. -/
theorem frameR : Cert.quiescent_Reference8Ideal := by
  intro m g _
  exact (θ_run Cert.Reference8Ideal.defs _ _).mono (fun r h => ⟨fun c => (h c).2, sem_eq_zero_of_no_sems (by decide) r.2⟩)
    (Cert.Reference8Ideal.Value.run m g)

/-- The kernel and the reference end with the same array. -/
theorem algebraic : Cert.algebraic_Kernel8Ideal_Reference8Ideal := by
  intro m g m' g' _ hagree
  refine ⟨fun c => Prod.nn (argA m c) (argB m c), ?_, ?_⟩
  · refine (θ_run Cert.Kernel8Ideal.defs _ _).mono (fun r h c => ?_) (Cert.Kernel8Ideal.Value.run_blocks m g)
    exact ⟨(h c).1.trans (final m c), (h c).2⟩
  · refine (θ_run Cert.Reference8Ideal.defs _ _).mono (fun r h c => ?_) (Cert.Reference8Ideal.Value.run m' g')
    refine ⟨(h c).1.trans ?_, (h c).2⟩
    rw [(hagree c).1, (hagree c).2]
    funext x
    obtain ⟨i, j, rfl⟩ : ∃ i j, x = ix2 i j := ⟨x 0, x 1, eq_ix2 x⟩
    refine Eq.trans ?_ (Prod.nn_apply _ _ i j).symm
    pointwise []

end Cert.Prod8

end
-- ==== Proof.Prod9.lean ====
/- Projection of the branch B: the kernel and the reference compute the same product A · B. -/
module

public import proofs.«01_k».proof.Defs
public import proofs.«01_k».proof.Proof.Gen.Kernel9Ideal.Value
public import proofs.«01_k».proof.Proof.Gen.Reference9Ideal.Run
public import proofs.«01_k».proof.Proof.ProdSpec
public import Idealize.ShloMosaic.Lib.Claim

@[expose] public section

set_option maxRecDepth 16384

noncomputable section

namespace Cert.Prod9

open Idealize.ShloMosaic Idealize.ShloMosaic.TcCoe Idealize.SL.Sem
open Cert.Kernel9Ideal Cert.Kernel9Ideal.Gen

variable (m : (ℓ : Loc nD τ sig) → Buf (Elt Ideal) ℓ)

/-- The left operand on device `c`. -/
abbrev argA (c : Dev nD) : Prod.Mat 8192 1024 := m ((c : Thread nD τ).loc main_arg0)
/-- The right operand on device `c`. -/
abbrev argB (c : Dev nD) : Prod.Mat 1024 2304 := m ((c : Thread nD τ).loc main_arg1)

/-- The blocks that grid point `t` reads and writes. -/
theorem idx : ∀ t : Fin cfg0.N, win0_0.index t = ![t.val % 8, 0] ∧ win0_1.index t = ![0, t.val / 8]
    ∧ win0_2.index t = ![t.val % 8, t.val / 8] := by decide +kernel

theorem payload (a : Vec Ideal S1024x1024 .bf16) (b : Vec Ideal S1024x1152 .bf16) (i : Fin 1024) (j : Fin 1152) :
    k0_pay1 (F := Ideal) a b (ix2 i j) = ∑ k : Fin 1024, a (ix2 i k) * b (ix2 k j) := by
  pointwise [k0_pay1]

/-- The kernel's output array is the product. -/
theorem final (c : Dev nD) : (dats m 0 c).arrAt 2 cfg0.N = Prod.nn (argA m c) (argB m c) := by
  refine (dats m 0 c).arrAt_eq_of_covers 2 _ (by decide +kernel) fun t hf y => ?_
  blk_simp
  rw [after0_2]
  frame_out
  change S1024x1152.Idx at y
  idx_vars y
  rw [payload]
  have ht : t.val < 16 := t.isLt
  refine Prod.sum_mul_congr (fun k => ?_) fun k => ?_
  · blk_ext [iblk, V, idx t]
  · blk_ext [iblk, V, idx t]

/-- The reference's frame: it ends with its arguments unchanged and every counter at zero. -/
theorem frameR : Cert.quiescent_Reference9Ideal := by
  intro m g _
  exact (θ_run Cert.Reference9Ideal.defs _ _).mono (fun r h => ⟨fun c => (h c).2, sem_eq_zero_of_no_sems (by decide) r.2⟩)
    (Cert.Reference9Ideal.Value.run m g)

/-- The kernel and the reference end with the same array. -/
theorem algebraic : Cert.algebraic_Kernel9Ideal_Reference9Ideal := by
  intro m g m' g' _ hagree
  refine ⟨fun c => Prod.nn (argA m c) (argB m c), ?_, ?_⟩
  · refine (θ_run Cert.Kernel9Ideal.defs _ _).mono (fun r h c => ?_) (Cert.Kernel9Ideal.Value.run_blocks m g)
    exact ⟨(h c).1.trans (final m c), (h c).2⟩
  · refine (θ_run Cert.Reference9Ideal.defs _ _).mono (fun r h c => ?_) (Cert.Reference9Ideal.Value.run m' g')
    refine ⟨(h c).1.trans ?_, (h c).2⟩
    rw [(hagree c).1, (hagree c).2]
    funext x
    obtain ⟨i, j, rfl⟩ : ∃ i j, x = ix2 i j := ⟨x 0, x 1, eq_ix2 x⟩
    refine Eq.trans ?_ (Prod.nn_apply _ _ i j).symm
    pointwise []

end Cert.Prod9

end
-- ==== Proof.Prod10.lean ====
/- Projection of the gates: the kernel and the reference compute the same product A · B. -/
module

public import proofs.«01_k».proof.Defs
public import proofs.«01_k».proof.Proof.Gen.Kernel10Ideal.Value
public import proofs.«01_k».proof.Proof.Gen.Reference10Ideal.Run
public import proofs.«01_k».proof.Proof.ProdSpec
public import Idealize.ShloMosaic.Lib.Claim

@[expose] public section

set_option maxRecDepth 16384

noncomputable section

namespace Cert.Prod10

open Idealize.ShloMosaic Idealize.ShloMosaic.TcCoe Idealize.SL.Sem
open Cert.Kernel10Ideal Cert.Kernel10Ideal.Gen

variable (m : (ℓ : Loc nD τ sig) → Buf (Elt Ideal) ℓ)

/-- The left operand on device `c`. -/
abbrev argA (c : Dev nD) : Prod.Mat 8192 1024 := m ((c : Thread nD τ).loc main_arg0)
/-- The right operand on device `c`. -/
abbrev argB (c : Dev nD) : Prod.Mat 1024 3072 := m ((c : Thread nD τ).loc main_arg1)

/-- The blocks that grid point `t` reads and writes. -/
theorem idx : ∀ t : Fin cfg0.N, win0_0.index t = ![t.val % 8, 0] ∧ win0_1.index t = ![0, t.val / 8]
    ∧ win0_2.index t = ![t.val % 8, t.val / 8] := by decide +kernel

theorem payload (a : Vec Ideal S1024x1024 .bf16) (b : Vec Ideal S1024x1536 .bf16) (i : Fin 1024) (j : Fin 1536) :
    k0_pay1 (F := Ideal) a b (ix2 i j) = ∑ k : Fin 1024, a (ix2 i k) * b (ix2 k j) := by
  pointwise [k0_pay1]

/-- The kernel's output array is the product. -/
theorem final (c : Dev nD) : (dats m 0 c).arrAt 2 cfg0.N = Prod.nn (argA m c) (argB m c) := by
  refine (dats m 0 c).arrAt_eq_of_covers 2 _ (by decide +kernel) fun t hf y => ?_
  blk_simp
  rw [after0_2]
  frame_out
  change S1024x1536.Idx at y
  idx_vars y
  rw [payload]
  have ht : t.val < 16 := t.isLt
  refine Prod.sum_mul_congr (fun k => ?_) fun k => ?_
  · blk_ext [iblk, V, idx t]
  · blk_ext [iblk, V, idx t]

/-- The reference's frame: it ends with its arguments unchanged and every counter at zero. -/
theorem frameR : Cert.quiescent_Reference10Ideal := by
  intro m g _
  exact (θ_run Cert.Reference10Ideal.defs _ _).mono (fun r h => ⟨fun c => (h c).2, sem_eq_zero_of_no_sems (by decide) r.2⟩)
    (Cert.Reference10Ideal.Value.run m g)

/-- The kernel and the reference end with the same array. -/
theorem algebraic : Cert.algebraic_Kernel10Ideal_Reference10Ideal := by
  intro m g m' g' _ hagree
  refine ⟨fun c => Prod.nn (argA m c) (argB m c), ?_, ?_⟩
  · refine (θ_run Cert.Kernel10Ideal.defs _ _).mono (fun r h c => ?_) (Cert.Kernel10Ideal.Value.run_blocks m g)
    exact ⟨(h c).1.trans (final m c), (h c).2⟩
  · refine (θ_run Cert.Reference10Ideal.defs _ _).mono (fun r h c => ?_) (Cert.Reference10Ideal.Value.run m' g')
    refine ⟨(h c).1.trans ?_, (h c).2⟩
    rw [(hagree c).1, (hagree c).2]
    funext x
    obtain ⟨i, j, rfl⟩ : ∃ i j, x = ix2 i j := ⟨x 0, x 1, eq_ix2 x⟩
    refine Eq.trans ?_ (Prod.nn_apply _ _ i j).symm
    pointwise []

end Cert.Prod10

end
-- ==== Proof.Prod11.lean ====
/- Projection of the memory: the kernel and the reference compute the same product A · B. -/
module

public import proofs.«01_k».proof.Defs
public import proofs.«01_k».proof.Proof.Gen.Kernel11Ideal.Value
public import proofs.«01_k».proof.Proof.Gen.Reference11Ideal.Run
public import proofs.«01_k».proof.Proof.ProdSpec
public import Idealize.ShloMosaic.Lib.Claim

@[expose] public section

set_option maxRecDepth 16384

noncomputable section

namespace Cert.Prod11

open Idealize.ShloMosaic Idealize.ShloMosaic.TcCoe Idealize.SL.Sem
open Cert.Kernel11Ideal Cert.Kernel11Ideal.Gen

variable (m : (ℓ : Loc nD τ sig) → Buf (Elt Ideal) ℓ)

/-- The left operand on device `c`. -/
abbrev argA (c : Dev nD) : Prod.Mat 1024 1024 := m ((c : Thread nD τ).loc main_arg0)
/-- The right operand on device `c`. -/
abbrev argB (c : Dev nD) : Prod.Mat 1024 1024 := m ((c : Thread nD τ).loc main_arg1)

/-- The blocks that grid point `t` reads and writes. -/
theorem idx : ∀ t : Fin cfg0.N, win0_0.index t = ![0, 0] ∧ win0_1.index t = ![0, 0]
    ∧ win0_2.index t = ![0, 0] := by decide +kernel

theorem payload (a : Vec Ideal S1024x1024 .bf16) (b : Vec Ideal S1024x1024 .bf16) (i : Fin 1024) (j : Fin 1024) :
    k0_pay1 (F := Ideal) a b (ix2 i j) = ∑ k : Fin 1024, a (ix2 i k) * b (ix2 k j) := by
  pointwise [k0_pay1]

/-- The kernel's output array is the product. -/
theorem final (c : Dev nD) : (dats m 0 c).arrAt 2 cfg0.N = Prod.nn (argA m c) (argB m c) := by
  refine (dats m 0 c).arrAt_eq_of_covers 2 _ (by decide +kernel) fun t hf y => ?_
  blk_simp
  rw [after0_2]
  frame_out
  change S1024x1024.Idx at y
  idx_vars y
  rw [payload]
  have ht : t.val < 1 := t.isLt
  refine Prod.sum_mul_congr (fun k => ?_) fun k => ?_
  · blk_ext [iblk, V, idx t]
  · blk_ext [iblk, V, idx t]

/-- The reference's frame: it ends with its arguments unchanged and every counter at zero. -/
theorem frameR : Cert.quiescent_Reference11Ideal := by
  intro m g _
  exact (θ_run Cert.Reference11Ideal.defs _ _).mono (fun r h => ⟨fun c => (h c).2, sem_eq_zero_of_no_sems (by decide) r.2⟩)
    (Cert.Reference11Ideal.Value.run m g)

/-- The kernel and the reference end with the same array. -/
theorem algebraic : Cert.algebraic_Kernel11Ideal_Reference11Ideal := by
  intro m g m' g' _ hagree
  refine ⟨fun c => Prod.nn (argA m c) (argB m c), ?_, ?_⟩
  · refine (θ_run Cert.Kernel11Ideal.defs _ _).mono (fun r h c => ?_) (Cert.Kernel11Ideal.Value.run_blocks m g)
    exact ⟨(h c).1.trans (final m c), (h c).2⟩
  · refine (θ_run Cert.Reference11Ideal.defs _ _).mono (fun r h c => ?_) (Cert.Reference11Ideal.Value.run m' g')
    refine ⟨(h c).1.trans ?_, (h c).2⟩
    rw [(hagree c).1, (hagree c).2]
    funext x
    obtain ⟨i, j, rfl⟩ : ∃ i j, x = ix2 i j := ⟨x 0, x 1, eq_ix2 x⟩
    refine Eq.trans ?_ (Prod.nn_apply _ _ i j).symm
    pointwise []

end Cert.Prod11

end
-- ==== Proof.Prod12.lean ====
/- Projection of the branch A to the model: the kernel and the reference compute the same product A · B. -/
module

public import proofs.«01_k».proof.Defs
public import proofs.«01_k».proof.Proof.Gen.Kernel12Ideal.Value
public import proofs.«01_k».proof.Proof.Gen.Reference12Ideal.Run
public import proofs.«01_k».proof.Proof.ProdSpec
public import Idealize.ShloMosaic.Lib.Claim

@[expose] public section

set_option maxRecDepth 16384

noncomputable section

namespace Cert.Prod12

open Idealize.ShloMosaic Idealize.ShloMosaic.TcCoe Idealize.SL.Sem
open Cert.Kernel12Ideal Cert.Kernel12Ideal.Gen

variable (m : (ℓ : Loc nD τ sig) → Buf (Elt Ideal) ℓ)

/-- The left operand on device `c`. -/
abbrev argA (c : Dev nD) : Prod.Mat 8192 512 := m ((c : Thread nD τ).loc main_arg0)
/-- The right operand on device `c`. -/
abbrev argB (c : Dev nD) : Prod.Mat 512 1024 := m ((c : Thread nD τ).loc main_arg1)

/-- The blocks that grid point `t` reads and writes. -/
theorem idx : ∀ t : Fin cfg0.N, win0_0.index t = ![t.val, 0] ∧ win0_1.index t = ![0, 0]
    ∧ win0_2.index t = ![t.val, 0] := by decide +kernel

theorem payload (a : Vec Ideal S1024x512 .bf16) (b : Vec Ideal S512x1024 .bf16) (i : Fin 1024) (j : Fin 1024) :
    k0_pay1 (F := Ideal) a b (ix2 i j) = ∑ k : Fin 512, a (ix2 i k) * b (ix2 k j) := by
  pointwise [k0_pay1]

/-- The kernel's output array is the product. -/
theorem final (c : Dev nD) : (dats m 0 c).arrAt 2 cfg0.N = Prod.nn (argA m c) (argB m c) := by
  refine (dats m 0 c).arrAt_eq_of_covers 2 _ (by decide +kernel) fun t hf y => ?_
  blk_simp
  rw [after0_2]
  frame_out
  change S1024x1024.Idx at y
  idx_vars y
  rw [payload]
  have ht : t.val < 8 := t.isLt
  refine Prod.sum_mul_congr (fun k => ?_) fun k => ?_
  · blk_ext [iblk, V, idx t]
  · blk_ext [iblk, V, idx t]

/-- The reference's frame: it ends with its arguments unchanged and every counter at zero. -/
theorem frameR : Cert.quiescent_Reference12Ideal := by
  intro m g _
  exact (θ_run Cert.Reference12Ideal.defs _ _).mono (fun r h => ⟨fun c => (h c).2, sem_eq_zero_of_no_sems (by decide) r.2⟩)
    (Cert.Reference12Ideal.Value.run m g)

/-- The kernel and the reference end with the same array. -/
theorem algebraic : Cert.algebraic_Kernel12Ideal_Reference12Ideal := by
  intro m g m' g' _ hagree
  refine ⟨fun c => Prod.nn (argA m c) (argB m c), ?_, ?_⟩
  · refine (θ_run Cert.Kernel12Ideal.defs _ _).mono (fun r h c => ?_) (Cert.Kernel12Ideal.Value.run_blocks m g)
    exact ⟨(h c).1.trans (final m c), (h c).2⟩
  · refine (θ_run Cert.Reference12Ideal.defs _ _).mono (fun r h c => ?_) (Cert.Reference12Ideal.Value.run m' g')
    refine ⟨(h c).1.trans ?_, (h c).2⟩
    rw [(hagree c).1, (hagree c).2]
    funext x
    obtain ⟨i, j, rfl⟩ : ∃ i j, x = ix2 i j := ⟨x 0, x 1, eq_ix2 x⟩
    refine Eq.trans ?_ (Prod.nn_apply _ _ i j).symm
    pointwise []

end Cert.Prod12

end
-- ==== Proof.Prod13.lean ====
/- Projection of the branch B to the model: the kernel and the reference compute the same product A · B. -/
module

public import proofs.«01_k».proof.Defs
public import proofs.«01_k».proof.Proof.Gen.Kernel13Ideal.Value
public import proofs.«01_k».proof.Proof.Gen.Reference13Ideal.Run
public import proofs.«01_k».proof.Proof.ProdSpec
public import Idealize.ShloMosaic.Lib.Claim

@[expose] public section

set_option maxRecDepth 16384

noncomputable section

namespace Cert.Prod13

open Idealize.ShloMosaic Idealize.ShloMosaic.TcCoe Idealize.SL.Sem
open Cert.Kernel13Ideal Cert.Kernel13Ideal.Gen

variable (m : (ℓ : Loc nD τ sig) → Buf (Elt Ideal) ℓ)

/-- The left operand on device `c`. -/
abbrev argA (c : Dev nD) : Prod.Mat 8192 256 := m ((c : Thread nD τ).loc main_arg0)
/-- The right operand on device `c`. -/
abbrev argB (c : Dev nD) : Prod.Mat 256 1024 := m ((c : Thread nD τ).loc main_arg1)

/-- The blocks that grid point `t` reads and writes. -/
theorem idx : ∀ t : Fin cfg0.N, win0_0.index t = ![t.val, 0] ∧ win0_1.index t = ![0, 0]
    ∧ win0_2.index t = ![t.val, 0] := by decide +kernel

theorem payload (a : Vec Ideal S1024x256 .bf16) (b : Vec Ideal S256x1024 .bf16) (i : Fin 1024) (j : Fin 1024) :
    k0_pay1 (F := Ideal) a b (ix2 i j) = ∑ k : Fin 256, a (ix2 i k) * b (ix2 k j) := by
  pointwise [k0_pay1]

/-- The kernel's output array is the product. -/
theorem final (c : Dev nD) : (dats m 0 c).arrAt 2 cfg0.N = Prod.nn (argA m c) (argB m c) := by
  refine (dats m 0 c).arrAt_eq_of_covers 2 _ (by decide +kernel) fun t hf y => ?_
  blk_simp
  rw [after0_2]
  frame_out
  change S1024x1024.Idx at y
  idx_vars y
  rw [payload]
  have ht : t.val < 8 := t.isLt
  refine Prod.sum_mul_congr (fun k => ?_) fun k => ?_
  · blk_ext [iblk, V, idx t]
  · blk_ext [iblk, V, idx t]

/-- The reference's frame: it ends with its arguments unchanged and every counter at zero. -/
theorem frameR : Cert.quiescent_Reference13Ideal := by
  intro m g _
  exact (θ_run Cert.Reference13Ideal.defs _ _).mono (fun r h => ⟨fun c => (h c).2, sem_eq_zero_of_no_sems (by decide) r.2⟩)
    (Cert.Reference13Ideal.Value.run m g)

/-- The kernel and the reference end with the same array. -/
theorem algebraic : Cert.algebraic_Kernel13Ideal_Reference13Ideal := by
  intro m g m' g' _ hagree
  refine ⟨fun c => Prod.nn (argA m c) (argB m c), ?_, ?_⟩
  · refine (θ_run Cert.Kernel13Ideal.defs _ _).mono (fun r h c => ?_) (Cert.Kernel13Ideal.Value.run_blocks m g)
    exact ⟨(h c).1.trans (final m c), (h c).2⟩
  · refine (θ_run Cert.Reference13Ideal.defs _ _).mono (fun r h c => ?_) (Cert.Reference13Ideal.Value.run m' g')
    refine ⟨(h c).1.trans ?_, (h c).2⟩
    rw [(hagree c).1, (hagree c).2]
    funext x
    obtain ⟨i, j, rfl⟩ : ∃ i j, x = ix2 i j := ⟨x 0, x 1, eq_ix2 x⟩
    refine Eq.trans ?_ (Prod.nn_apply _ _ i j).symm
    pointwise []

end Cert.Prod13

end
-- ==== Proof.Prod14.lean ====
/- Gradient of w_ffn_out: the kernel and the reference compute the same product Aᵀ · B. -/
module

public import proofs.«01_k».proof.Defs
public import proofs.«01_k».proof.Proof.Gen.Kernel14Ideal.Value
public import proofs.«01_k».proof.Proof.Gen.Reference14Ideal.Run
public import proofs.«01_k».proof.Proof.ProdSpec
public import Idealize.ShloMosaic.Lib.Claim

@[expose] public section

set_option maxRecDepth 16384

noncomputable section

namespace Cert.Prod14

open Idealize.ShloMosaic Idealize.ShloMosaic.TcCoe Idealize.SL.Sem
open Cert.Kernel14Ideal Cert.Kernel14Ideal.Gen

variable (m : (ℓ : Loc nD τ sig) → Buf (Elt Ideal) ℓ)

/-- The left operand on device `c`. -/
abbrev argA (c : Dev nD) : Prod.Mat 8192 2816 := m ((c : Thread nD τ).loc main_arg0)
/-- The right operand on device `c`. -/
abbrev argB (c : Dev nD) : Prod.Mat 8192 1024 := m ((c : Thread nD τ).loc main_arg1)

/-- The blocks that grid point `t` reads and writes. -/
theorem idx : ∀ t : Fin cfg0.N, win0_0.index t = ![t.val % 4, t.val / 4] ∧ win0_1.index t = ![t.val % 4, 0]
    ∧ win0_2.index t = ![t.val / 4, 0] := by decide +kernel

/-- The product of the two blocks of a grid point. -/
def blockProd (c : Dev nD) (t : Fin cfg0.N) : Prod.Mat 1408 1024 :=
  Prod.tn (K := 2048) (iblk m c 0 t) (iblk m c 1 t)

/-- What the kernel keeps after a grid point: the block's partial sum, at the last step the block written out. -/
def kept (c : Dev nD) (n : ℕ) (h : n < cfg0.N) : Prod.Mat 1408 1024 :=
  if n % 4 = 3 then (outsAt0 m c n h).1 else (outsAt0 m c n h).2

theorem kept_first (c : Dev nD) (t : Fin cfg0.N) (h : t.val % 4 = 0) (y : S1408x1024.Idx) :
    kept m c t.val t.isLt y = 0 + blockProd m c t y := by
  rw [kept, if_neg (by omega), outsAt0_A m c t h (by omega) (by omega)]
  frame_out
  idx_vars y
  pointwise [k0_pay1]
  rfl

theorem kept_next (c : Dev nD) (t : Fin cfg0.N) (h : ¬t.val % 4 = 0) (y : S1408x1024.Idx) :
    kept m c t.val t.isLt y = kept m c (t.val - 1) (Nat.lt_of_le_of_lt (Nat.sub_le _ _) t.isLt) y + blockProd m c t y := by
  rw [kept, kept, if_neg (c := (t.val - 1) % 4 = 3) (by omega)]
  by_cases h3 : t.val % 4 = 3
  · rw [if_pos h3, outsAt0_C m c t h (by omega) h3]
    frame_out
    idx_vars y
    pointwise [k0_pay3]
    rw [add_comm]
    exact congrArg (fun z : EReal => z + blockProd m c t (ix2 y0 y1)) (congrFun (Memref.IsWhole.read_unread _ _) _)
  · rw [if_neg h3, outsAt0_B m c t h (by omega) h3]
    frame_out
    idx_vars y
    pointwise [k0_pay2]
    rw [add_comm]
    exact congrArg (fun z : EReal => z + blockProd m c t (ix2 y0 y1)) (congrFun (Memref.IsWhole.read_unread _ _) _)

/-- The kernel's output array is the product. -/
theorem final (c : Dev nD) : (dats m 0 c).arrAt 2 cfg0.N = Prod.tn (argA m c) (argB m c) := by
  refine (dats m 0 c).arrAt_eq_of_covers 2 _ (by decide +kernel) fun t hf y => ?_
  have h3 := (flush0_2 t).mp hf
  have ht : t.val < 8 := t.isLt
  have e := Pipeline.eq_sum_fin_of_reset_step_apply_of_flush (kept m c) 4 (fun _ => 0) (blockProd m c)
    (kept_first m c) (kept_next m c) t h3 y
  rw [kept, if_pos h3] at e
  blk_simp
  rw [after0_2]
  refine e.trans ?_
  change S1408x1024.Idx at y
  idx_vars y
  rw [zero_add]
  refine Fin.sum_mul_add_congr fun s k hl => ?_
  refine congrArg₂ (fun a b : EReal => a * b) ?_ ?_
  · blk_ext [iblk, V, idx]
  · blk_ext [iblk, V, idx]

/-- The reference's frame: it ends with its arguments unchanged and every counter at zero. -/
theorem frameR : Cert.quiescent_Reference14Ideal := by
  intro m g _
  exact (θ_run Cert.Reference14Ideal.defs _ _).mono (fun r h => ⟨fun c => (h c).2, sem_eq_zero_of_no_sems (by decide) r.2⟩)
    (Cert.Reference14Ideal.Value.run m g)

/-- The kernel and the reference end with the same array. -/
theorem algebraic : Cert.algebraic_Kernel14Ideal_Reference14Ideal := by
  intro m g m' g' _ hagree
  refine ⟨fun c => Prod.tn (argA m c) (argB m c), ?_, ?_⟩
  · refine (θ_run Cert.Kernel14Ideal.defs _ _).mono (fun r h c => ?_) (Cert.Kernel14Ideal.Value.run_blocks m g)
    exact ⟨(h c).1.trans (final m c), (h c).2⟩
  · refine (θ_run Cert.Reference14Ideal.defs _ _).mono (fun r h c => ?_) (Cert.Reference14Ideal.Value.run m' g')
    refine ⟨(h c).1.trans ?_, (h c).2⟩
    rw [(hagree c).1, (hagree c).2]
    funext x
    obtain ⟨i, j, rfl⟩ : ∃ i j, x = ix2 i j := ⟨x 0, x 1, eq_ix2 x⟩
    refine Eq.trans ?_ (Prod.tn_apply _ _ i j).symm
    pointwise []
    exact Finset.sum_congr rfl fun k _ => mul_comm _ _

end Cert.Prod14

end
-- ==== Proof.Prod15.lean ====
/- Gradient of w_ffn_in: the kernel and the reference compute the same product Aᵀ · B. -/
module

public import proofs.«01_k».proof.Defs
public import proofs.«01_k».proof.Proof.Gen.Kernel15Ideal.Value
public import proofs.«01_k».proof.Proof.Gen.Reference15Ideal.Run
public import proofs.«01_k».proof.Proof.ProdSpec
public import Idealize.ShloMosaic.Lib.Claim

@[expose] public section

set_option maxRecDepth 16384

noncomputable section

namespace Cert.Prod15

open Idealize.ShloMosaic Idealize.ShloMosaic.TcCoe Idealize.SL.Sem
open Cert.Kernel15Ideal Cert.Kernel15Ideal.Gen

variable (m : (ℓ : Loc nD τ sig) → Buf (Elt Ideal) ℓ)

/-- The left operand on device `c`. -/
abbrev argA (c : Dev nD) : Prod.Mat 8192 1024 := m ((c : Thread nD τ).loc main_arg0)
/-- The right operand on device `c`. -/
abbrev argB (c : Dev nD) : Prod.Mat 8192 5632 := m ((c : Thread nD τ).loc main_arg1)

/-- The blocks that grid point `t` reads and writes. -/
theorem idx : ∀ t : Fin cfg0.N, win0_0.index t = ![t.val % 4, 0] ∧ win0_1.index t = ![t.val % 4, t.val / 4]
    ∧ win0_2.index t = ![0, t.val / 4] := by decide +kernel

/-- The product of the two blocks of a grid point. -/
def blockProd (c : Dev nD) (t : Fin cfg0.N) : Prod.Mat 1024 1408 :=
  Prod.tn (K := 2048) (iblk m c 0 t) (iblk m c 1 t)

/-- What the kernel keeps after a grid point: the block's partial sum, at the last step the block written out. -/
def kept (c : Dev nD) (n : ℕ) (h : n < cfg0.N) : Prod.Mat 1024 1408 :=
  if n % 4 = 3 then (outsAt0 m c n h).1 else (outsAt0 m c n h).2

theorem kept_first (c : Dev nD) (t : Fin cfg0.N) (h : t.val % 4 = 0) (y : S1024x1408.Idx) :
    kept m c t.val t.isLt y = 0 + blockProd m c t y := by
  rw [kept, if_neg (by omega), outsAt0_A m c t h (by omega) (by omega)]
  frame_out
  idx_vars y
  pointwise [k0_pay1]
  rfl

theorem kept_next (c : Dev nD) (t : Fin cfg0.N) (h : ¬t.val % 4 = 0) (y : S1024x1408.Idx) :
    kept m c t.val t.isLt y = kept m c (t.val - 1) (Nat.lt_of_le_of_lt (Nat.sub_le _ _) t.isLt) y + blockProd m c t y := by
  rw [kept, kept, if_neg (c := (t.val - 1) % 4 = 3) (by omega)]
  by_cases h3 : t.val % 4 = 3
  · rw [if_pos h3, outsAt0_C m c t h (by omega) h3]
    frame_out
    idx_vars y
    pointwise [k0_pay3]
    rw [add_comm]
    exact congrArg (fun z : EReal => z + blockProd m c t (ix2 y0 y1)) (congrFun (Memref.IsWhole.read_unread _ _) _)
  · rw [if_neg h3, outsAt0_B m c t h (by omega) h3]
    frame_out
    idx_vars y
    pointwise [k0_pay2]
    rw [add_comm]
    exact congrArg (fun z : EReal => z + blockProd m c t (ix2 y0 y1)) (congrFun (Memref.IsWhole.read_unread _ _) _)

/-- The kernel's output array is the product. -/
theorem final (c : Dev nD) : (dats m 0 c).arrAt 2 cfg0.N = Prod.tn (argA m c) (argB m c) := by
  refine (dats m 0 c).arrAt_eq_of_covers 2 _ (by decide +kernel) fun t hf y => ?_
  have h3 := (flush0_2 t).mp hf
  have ht : t.val < 16 := t.isLt
  have e := Pipeline.eq_sum_fin_of_reset_step_apply_of_flush (kept m c) 4 (fun _ => 0) (blockProd m c)
    (kept_first m c) (kept_next m c) t h3 y
  rw [kept, if_pos h3] at e
  blk_simp
  rw [after0_2]
  refine e.trans ?_
  change S1024x1408.Idx at y
  idx_vars y
  rw [zero_add]
  refine Fin.sum_mul_add_congr fun s k hl => ?_
  refine congrArg₂ (fun a b : EReal => a * b) ?_ ?_
  · blk_ext [iblk, V, idx]
  · blk_ext [iblk, V, idx]

/-- The reference's frame: it ends with its arguments unchanged and every counter at zero. -/
theorem frameR : Cert.quiescent_Reference15Ideal := by
  intro m g _
  exact (θ_run Cert.Reference15Ideal.defs _ _).mono (fun r h => ⟨fun c => (h c).2, sem_eq_zero_of_no_sems (by decide) r.2⟩)
    (Cert.Reference15Ideal.Value.run m g)

/-- The kernel and the reference end with the same array. -/
theorem algebraic : Cert.algebraic_Kernel15Ideal_Reference15Ideal := by
  intro m g m' g' _ hagree
  refine ⟨fun c => Prod.tn (argA m c) (argB m c), ?_, ?_⟩
  · refine (θ_run Cert.Kernel15Ideal.defs _ _).mono (fun r h c => ?_) (Cert.Kernel15Ideal.Value.run_blocks m g)
    exact ⟨(h c).1.trans (final m c), (h c).2⟩
  · refine (θ_run Cert.Reference15Ideal.defs _ _).mono (fun r h c => ?_) (Cert.Reference15Ideal.Value.run m' g')
    refine ⟨(h c).1.trans ?_, (h c).2⟩
    rw [(hagree c).1, (hagree c).2]
    funext x
    obtain ⟨i, j, rfl⟩ : ∃ i j, x = ix2 i j := ⟨x 0, x 1, eq_ix2 x⟩
    refine Eq.trans ?_ (Prod.tn_apply _ _ i j).symm
    pointwise []
    exact Finset.sum_congr rfl fun k _ => mul_comm _ _

end Cert.Prod15

end
-- ==== Proof.Prod16.lean ====
/- Gradient of w_o: the kernel and the reference compute the same product Aᵀ · B. -/
module

public import proofs.«01_k».proof.Defs
public import proofs.«01_k».proof.Proof.Gen.Kernel16Ideal.Value
public import proofs.«01_k».proof.Proof.Gen.Reference16Ideal.Run
public import proofs.«01_k».proof.Proof.ProdSpec
public import Idealize.ShloMosaic.Lib.Claim

@[expose] public section

set_option maxRecDepth 16384

noncomputable section

namespace Cert.Prod16

open Idealize.ShloMosaic Idealize.ShloMosaic.TcCoe Idealize.SL.Sem
open Cert.Kernel16Ideal Cert.Kernel16Ideal.Gen

variable (m : (ℓ : Loc nD τ sig) → Buf (Elt Ideal) ℓ)

/-- The left operand on device `c`. -/
abbrev argA (c : Dev nD) : Prod.Mat 8192 1024 := m ((c : Thread nD τ).loc main_arg0)
/-- The right operand on device `c`. -/
abbrev argB (c : Dev nD) : Prod.Mat 8192 1024 := m ((c : Thread nD τ).loc main_arg1)

/-- The blocks that grid point `t` reads and writes. -/
theorem idx : ∀ t : Fin cfg0.N, win0_0.index t = ![t.val, 0] ∧ win0_1.index t = ![t.val, 0]
    ∧ win0_2.index t = ![0, 0] := by decide +kernel

/-- The product of the two blocks of a grid point. -/
def blockProd (c : Dev nD) (t : Fin cfg0.N) : Prod.Mat 1024 1024 :=
  Prod.tn (K := 2048) (iblk m c 0 t) (iblk m c 1 t)

/-- What the kernel keeps after a grid point: the block's partial sum, at the last step the block written out. -/
def kept (c : Dev nD) (n : ℕ) (h : n < cfg0.N) : Prod.Mat 1024 1024 :=
  if n % 4 = 3 then (outsAt0 m c n h).1 else (outsAt0 m c n h).2

theorem kept_first (c : Dev nD) (t : Fin cfg0.N) (h : t.val % 4 = 0) (y : S1024x1024.Idx) :
    kept m c t.val t.isLt y = 0 + blockProd m c t y := by
  rw [kept, if_neg (by omega), outsAt0_A m c t h (by omega) (by omega)]
  frame_out
  idx_vars y
  pointwise [k0_pay1]
  rfl

theorem kept_next (c : Dev nD) (t : Fin cfg0.N) (h : ¬t.val % 4 = 0) (y : S1024x1024.Idx) :
    kept m c t.val t.isLt y = kept m c (t.val - 1) (Nat.lt_of_le_of_lt (Nat.sub_le _ _) t.isLt) y + blockProd m c t y := by
  rw [kept, kept, if_neg (c := (t.val - 1) % 4 = 3) (by omega)]
  by_cases h3 : t.val % 4 = 3
  · rw [if_pos h3, outsAt0_C m c t h (by omega) h3]
    frame_out
    idx_vars y
    pointwise [k0_pay3]
    rw [add_comm]
    exact congrArg (fun z : EReal => z + blockProd m c t (ix2 y0 y1)) (congrFun (Memref.IsWhole.read_unread _ _) _)
  · rw [if_neg h3, outsAt0_B m c t h (by omega) h3]
    frame_out
    idx_vars y
    pointwise [k0_pay2]
    rw [add_comm]
    exact congrArg (fun z : EReal => z + blockProd m c t (ix2 y0 y1)) (congrFun (Memref.IsWhole.read_unread _ _) _)

/-- The kernel's output array is the product. -/
theorem final (c : Dev nD) : (dats m 0 c).arrAt 2 cfg0.N = Prod.tn (argA m c) (argB m c) := by
  refine (dats m 0 c).arrAt_eq_of_covers 2 _ (by decide +kernel) fun t hf y => ?_
  have h3 := (flush0_2 t).mp hf
  have ht : t.val < 4 := t.isLt
  have e := Pipeline.eq_sum_fin_of_reset_step_apply_of_flush (kept m c) 4 (fun _ => 0) (blockProd m c)
    (kept_first m c) (kept_next m c) t h3 y
  rw [kept, if_pos h3] at e
  blk_simp
  rw [after0_2]
  refine e.trans ?_
  change S1024x1024.Idx at y
  idx_vars y
  rw [zero_add]
  refine Fin.sum_mul_add_congr fun s k hl => ?_
  refine congrArg₂ (fun a b : EReal => a * b) ?_ ?_
  · blk_ext [iblk, V, idx]
  · blk_ext [iblk, V, idx]

/-- The reference's frame: it ends with its arguments unchanged and every counter at zero. -/
theorem frameR : Cert.quiescent_Reference16Ideal := by
  intro m g _
  exact (θ_run Cert.Reference16Ideal.defs _ _).mono (fun r h => ⟨fun c => (h c).2, sem_eq_zero_of_no_sems (by decide) r.2⟩)
    (Cert.Reference16Ideal.Value.run m g)

/-- The kernel and the reference end with the same array. -/
theorem algebraic : Cert.algebraic_Kernel16Ideal_Reference16Ideal := by
  intro m g m' g' _ hagree
  refine ⟨fun c => Prod.tn (argA m c) (argB m c), ?_, ?_⟩
  · refine (θ_run Cert.Kernel16Ideal.defs _ _).mono (fun r h c => ?_) (Cert.Kernel16Ideal.Value.run_blocks m g)
    exact ⟨(h c).1.trans (final m c), (h c).2⟩
  · refine (θ_run Cert.Reference16Ideal.defs _ _).mono (fun r h c => ?_) (Cert.Reference16Ideal.Value.run m' g')
    refine ⟨(h c).1.trans ?_, (h c).2⟩
    rw [(hagree c).1, (hagree c).2]
    funext x
    obtain ⟨i, j, rfl⟩ : ∃ i j, x = ix2 i j := ⟨x 0, x 1, eq_ix2 x⟩
    refine Eq.trans ?_ (Prod.tn_apply _ _ i j).symm
    pointwise []
    exact Finset.sum_congr rfl fun k _ => mul_comm _ _

end Cert.Prod16

end
-- ==== Proof.Prod17.lean ====
/- Gradient of the output of the branches A and C: the kernel and the reference compute the same product A · Bᵀ. -/
module

public import proofs.«01_k».proof.Defs
public import proofs.«01_k».proof.Proof.Gen.Kernel17Ideal.Value
public import proofs.«01_k».proof.Proof.Gen.Reference17Ideal.Run
public import proofs.«01_k».proof.Proof.ProdSpec
public import Idealize.ShloMosaic.Lib.Claim

@[expose] public section

set_option maxRecDepth 16384

noncomputable section

namespace Cert.Prod17

open Idealize.ShloMosaic Idealize.ShloMosaic.TcCoe Idealize.SL.Sem
open Cert.Kernel17Ideal Cert.Kernel17Ideal.Gen

variable (m : (ℓ : Loc nD τ sig) → Buf (Elt Ideal) ℓ)

/-- The left operand on device `c`. -/
abbrev argA (c : Dev nD) : Prod.Mat 8192 1024 := m ((c : Thread nD τ).loc main_arg0)
/-- The right operand on device `c`. -/
abbrev argB (c : Dev nD) : Prod.Mat 512 1024 := m ((c : Thread nD τ).loc main_arg1)

/-- The blocks that grid point `t` reads and writes. -/
theorem idx : ∀ t : Fin cfg0.N, win0_0.index t = ![t.val, 0] ∧ win0_1.index t = ![0, 0]
    ∧ win0_2.index t = ![t.val, 0] := by decide +kernel

theorem payload (a : Vec Ideal S1024x1024 .bf16) (b : Vec Ideal S512x1024 .bf16) (i : Fin 1024) (j : Fin 512) :
    k0_pay1 (F := Ideal) a b (ix2 i j) = ∑ k : Fin 1024, a (ix2 i k) * b (ix2 j k) := by
  pointwise [k0_pay1]

/-- The kernel's output array is the product. -/
theorem final (c : Dev nD) : (dats m 0 c).arrAt 2 cfg0.N = Prod.nt (argA m c) (argB m c) := by
  refine (dats m 0 c).arrAt_eq_of_covers 2 _ (by decide +kernel) fun t hf y => ?_
  blk_simp
  rw [after0_2]
  frame_out
  change S1024x512.Idx at y
  idx_vars y
  rw [payload]
  have ht : t.val < 8 := t.isLt
  refine Prod.sum_mul_congr (fun k => ?_) fun k => ?_
  · blk_ext [iblk, V, idx t]
  · blk_ext [iblk, V, idx t]

/-- The reference's frame: it ends with its arguments unchanged and every counter at zero. -/
theorem frameR : Cert.quiescent_Reference17Ideal := by
  intro m g _
  exact (θ_run Cert.Reference17Ideal.defs _ _).mono (fun r h => ⟨fun c => (h c).2, sem_eq_zero_of_no_sems (by decide) r.2⟩)
    (Cert.Reference17Ideal.Value.run m g)

/-- The kernel and the reference end with the same array. -/
theorem algebraic : Cert.algebraic_Kernel17Ideal_Reference17Ideal := by
  intro m g m' g' _ hagree
  refine ⟨fun c => Prod.nt (argA m c) (argB m c), ?_, ?_⟩
  · refine (θ_run Cert.Kernel17Ideal.defs _ _).mono (fun r h c => ?_) (Cert.Kernel17Ideal.Value.run_blocks m g)
    exact ⟨(h c).1.trans (final m c), (h c).2⟩
  · refine (θ_run Cert.Reference17Ideal.defs _ _).mono (fun r h c => ?_) (Cert.Reference17Ideal.Value.run m' g')
    refine ⟨(h c).1.trans ?_, (h c).2⟩
    rw [(hagree c).1, (hagree c).2]
    funext x
    obtain ⟨i, j, rfl⟩ : ∃ i j, x = ix2 i j := ⟨x 0, x 1, eq_ix2 x⟩
    refine Eq.trans ?_ (Prod.nt_apply _ _ i j).symm
    pointwise []

end Cert.Prod17

end
-- ==== Proof.Prod18.lean ====
/- Gradient of the output of the branch B: the kernel and the reference compute the same product A · Bᵀ. -/
module

public import proofs.«01_k».proof.Defs
public import proofs.«01_k».proof.Proof.Gen.Kernel18Ideal.Value
public import proofs.«01_k».proof.Proof.Gen.Reference18Ideal.Run
public import proofs.«01_k».proof.Proof.ProdSpec
public import Idealize.ShloMosaic.Lib.Claim

@[expose] public section

set_option maxRecDepth 16384

noncomputable section

namespace Cert.Prod18

open Idealize.ShloMosaic Idealize.ShloMosaic.TcCoe Idealize.SL.Sem
open Cert.Kernel18Ideal Cert.Kernel18Ideal.Gen

variable (m : (ℓ : Loc nD τ sig) → Buf (Elt Ideal) ℓ)

/-- The left operand on device `c`. -/
abbrev argA (c : Dev nD) : Prod.Mat 8192 1024 := m ((c : Thread nD τ).loc main_arg0)
/-- The right operand on device `c`. -/
abbrev argB (c : Dev nD) : Prod.Mat 256 1024 := m ((c : Thread nD τ).loc main_arg1)

/-- The blocks that grid point `t` reads and writes. -/
theorem idx : ∀ t : Fin cfg0.N, win0_0.index t = ![t.val, 0] ∧ win0_1.index t = ![0, 0]
    ∧ win0_2.index t = ![t.val, 0] := by decide +kernel

theorem payload (a : Vec Ideal S1024x1024 .bf16) (b : Vec Ideal S256x1024 .bf16) (i : Fin 1024) (j : Fin 256) :
    k0_pay1 (F := Ideal) a b (ix2 i j) = ∑ k : Fin 1024, a (ix2 i k) * b (ix2 j k) := by
  pointwise [k0_pay1]

/-- The kernel's output array is the product. -/
theorem final (c : Dev nD) : (dats m 0 c).arrAt 2 cfg0.N = Prod.nt (argA m c) (argB m c) := by
  refine (dats m 0 c).arrAt_eq_of_covers 2 _ (by decide +kernel) fun t hf y => ?_
  blk_simp
  rw [after0_2]
  frame_out
  change S1024x256.Idx at y
  idx_vars y
  rw [payload]
  have ht : t.val < 8 := t.isLt
  refine Prod.sum_mul_congr (fun k => ?_) fun k => ?_
  · blk_ext [iblk, V, idx t]
  · blk_ext [iblk, V, idx t]

/-- The reference's frame: it ends with its arguments unchanged and every counter at zero. -/
theorem frameR : Cert.quiescent_Reference18Ideal := by
  intro m g _
  exact (θ_run Cert.Reference18Ideal.defs _ _).mono (fun r h => ⟨fun c => (h c).2, sem_eq_zero_of_no_sems (by decide) r.2⟩)
    (Cert.Reference18Ideal.Value.run m g)

/-- The kernel and the reference end with the same array. -/
theorem algebraic : Cert.algebraic_Kernel18Ideal_Reference18Ideal := by
  intro m g m' g' _ hagree
  refine ⟨fun c => Prod.nt (argA m c) (argB m c), ?_, ?_⟩
  · refine (θ_run Cert.Kernel18Ideal.defs _ _).mono (fun r h c => ?_) (Cert.Kernel18Ideal.Value.run_blocks m g)
    exact ⟨(h c).1.trans (final m c), (h c).2⟩
  · refine (θ_run Cert.Reference18Ideal.defs _ _).mono (fun r h c => ?_) (Cert.Reference18Ideal.Value.run m' g')
    refine ⟨(h c).1.trans ?_, (h c).2⟩
    rw [(hagree c).1, (hagree c).2]
    funext x
    obtain ⟨i, j, rfl⟩ : ∃ i j, x = ix2 i j := ⟨x 0, x 1, eq_ix2 x⟩
    refine Eq.trans ?_ (Prod.nt_apply _ _ i j).symm
    pointwise []

end Cert.Prod18

end
-- ==== Proof.Prod19.lean ====
/- Gradient of w_br_sb (and w_br_mem): the kernel and the reference compute the same product Aᵀ · B. -/
module

public import proofs.«01_k».proof.Defs
public import proofs.«01_k».proof.Proof.Gen.Kernel19Ideal.Value
public import proofs.«01_k».proof.Proof.Gen.Reference19Ideal.Run
public import proofs.«01_k».proof.Proof.ProdSpec
public import Idealize.ShloMosaic.Lib.Claim

@[expose] public section

set_option maxRecDepth 16384

noncomputable section

namespace Cert.Prod19

open Idealize.ShloMosaic Idealize.ShloMosaic.TcCoe Idealize.SL.Sem
open Cert.Kernel19Ideal Cert.Kernel19Ideal.Gen

variable (m : (ℓ : Loc nD τ sig) → Buf (Elt Ideal) ℓ)

/-- The left operand on device `c`. -/
abbrev argA (c : Dev nD) : Prod.Mat 8192 512 := m ((c : Thread nD τ).loc main_arg0)
/-- The right operand on device `c`. -/
abbrev argB (c : Dev nD) : Prod.Mat 8192 1024 := m ((c : Thread nD τ).loc main_arg1)

/-- The blocks that grid point `t` reads and writes. -/
theorem idx : ∀ t : Fin cfg0.N, win0_0.index t = ![t.val, 0] ∧ win0_1.index t = ![t.val, 0]
    ∧ win0_2.index t = ![0, 0] := by decide +kernel

/-- The product of the two blocks of a grid point. -/
def blockProd (c : Dev nD) (t : Fin cfg0.N) : Prod.Mat 512 1024 :=
  Prod.tn (K := 2048) (iblk m c 0 t) (iblk m c 1 t)

/-- What the kernel keeps after a grid point: the block's partial sum, at the last step the block written out. -/
def kept (c : Dev nD) (n : ℕ) (h : n < cfg0.N) : Prod.Mat 512 1024 :=
  if n % 4 = 3 then (outsAt0 m c n h).1 else (outsAt0 m c n h).2

theorem kept_first (c : Dev nD) (t : Fin cfg0.N) (h : t.val % 4 = 0) (y : S512x1024.Idx) :
    kept m c t.val t.isLt y = 0 + blockProd m c t y := by
  rw [kept, if_neg (by omega), outsAt0_A m c t h (by omega) (by omega)]
  frame_out
  idx_vars y
  pointwise [k0_pay1]
  rfl

theorem kept_next (c : Dev nD) (t : Fin cfg0.N) (h : ¬t.val % 4 = 0) (y : S512x1024.Idx) :
    kept m c t.val t.isLt y = kept m c (t.val - 1) (Nat.lt_of_le_of_lt (Nat.sub_le _ _) t.isLt) y + blockProd m c t y := by
  rw [kept, kept, if_neg (c := (t.val - 1) % 4 = 3) (by omega)]
  by_cases h3 : t.val % 4 = 3
  · rw [if_pos h3, outsAt0_C m c t h (by omega) h3]
    frame_out
    idx_vars y
    pointwise [k0_pay3]
    rw [add_comm]
    exact congrArg (fun z : EReal => z + blockProd m c t (ix2 y0 y1)) (congrFun (Memref.IsWhole.read_unread _ _) _)
  · rw [if_neg h3, outsAt0_B m c t h (by omega) h3]
    frame_out
    idx_vars y
    pointwise [k0_pay2]
    rw [add_comm]
    exact congrArg (fun z : EReal => z + blockProd m c t (ix2 y0 y1)) (congrFun (Memref.IsWhole.read_unread _ _) _)

/-- The kernel's output array is the product. -/
theorem final (c : Dev nD) : (dats m 0 c).arrAt 2 cfg0.N = Prod.tn (argA m c) (argB m c) := by
  refine (dats m 0 c).arrAt_eq_of_covers 2 _ (by decide +kernel) fun t hf y => ?_
  have h3 := (flush0_2 t).mp hf
  have ht : t.val < 4 := t.isLt
  have e := Pipeline.eq_sum_fin_of_reset_step_apply_of_flush (kept m c) 4 (fun _ => 0) (blockProd m c)
    (kept_first m c) (kept_next m c) t h3 y
  rw [kept, if_pos h3] at e
  blk_simp
  rw [after0_2]
  refine e.trans ?_
  change S512x1024.Idx at y
  idx_vars y
  rw [zero_add]
  refine Fin.sum_mul_add_congr fun s k hl => ?_
  refine congrArg₂ (fun a b : EReal => a * b) ?_ ?_
  · blk_ext [iblk, V, idx]
  · blk_ext [iblk, V, idx]

/-- The reference's frame: it ends with its arguments unchanged and every counter at zero. -/
theorem frameR : Cert.quiescent_Reference19Ideal := by
  intro m g _
  exact (θ_run Cert.Reference19Ideal.defs _ _).mono (fun r h => ⟨fun c => (h c).2, sem_eq_zero_of_no_sems (by decide) r.2⟩)
    (Cert.Reference19Ideal.Value.run m g)

/-- The kernel and the reference end with the same array. -/
theorem algebraic : Cert.algebraic_Kernel19Ideal_Reference19Ideal := by
  intro m g m' g' _ hagree
  refine ⟨fun c => Prod.tn (argA m c) (argB m c), ?_, ?_⟩
  · refine (θ_run Cert.Kernel19Ideal.defs _ _).mono (fun r h c => ?_) (Cert.Kernel19Ideal.Value.run_blocks m g)
    exact ⟨(h c).1.trans (final m c), (h c).2⟩
  · refine (θ_run Cert.Reference19Ideal.defs _ _).mono (fun r h c => ?_) (Cert.Reference19Ideal.Value.run m' g')
    refine ⟨(h c).1.trans ?_, (h c).2⟩
    rw [(hagree c).1, (hagree c).2]
    funext x
    obtain ⟨i, j, rfl⟩ : ∃ i j, x = ix2 i j := ⟨x 0, x 1, eq_ix2 x⟩
    refine Eq.trans ?_ (Prod.tn_apply _ _ i j).symm
    pointwise []
    exact Finset.sum_congr rfl fun k _ => mul_comm _ _

end Cert.Prod19

end
-- ==== Proof.Prod20.lean ====
/- Gradient of w_br_dil: the kernel and the reference compute the same product Aᵀ · B. -/
module

public import proofs.«01_k».proof.Defs
public import proofs.«01_k».proof.Proof.Gen.Kernel20Ideal.Value
public import proofs.«01_k».proof.Proof.Gen.Reference20Ideal.Run
public import proofs.«01_k».proof.Proof.ProdSpec
public import Idealize.ShloMosaic.Lib.Claim

@[expose] public section

set_option maxRecDepth 16384

noncomputable section

namespace Cert.Prod20

open Idealize.ShloMosaic Idealize.ShloMosaic.TcCoe Idealize.SL.Sem
open Cert.Kernel20Ideal Cert.Kernel20Ideal.Gen

variable (m : (ℓ : Loc nD τ sig) → Buf (Elt Ideal) ℓ)

/-- The left operand on device `c`. -/
abbrev argA (c : Dev nD) : Prod.Mat 8192 256 := m ((c : Thread nD τ).loc main_arg0)
/-- The right operand on device `c`. -/
abbrev argB (c : Dev nD) : Prod.Mat 8192 1024 := m ((c : Thread nD τ).loc main_arg1)

/-- The blocks that grid point `t` reads and writes. -/
theorem idx : ∀ t : Fin cfg0.N, win0_0.index t = ![t.val, 0] ∧ win0_1.index t = ![t.val, 0]
    ∧ win0_2.index t = ![0, 0] := by decide +kernel

/-- The product of the two blocks of a grid point. -/
def blockProd (c : Dev nD) (t : Fin cfg0.N) : Prod.Mat 256 1024 :=
  Prod.tn (K := 2048) (iblk m c 0 t) (iblk m c 1 t)

/-- What the kernel keeps after a grid point: the block's partial sum, at the last step the block written out. -/
def kept (c : Dev nD) (n : ℕ) (h : n < cfg0.N) : Prod.Mat 256 1024 :=
  if n % 4 = 3 then (outsAt0 m c n h).1 else (outsAt0 m c n h).2

theorem kept_first (c : Dev nD) (t : Fin cfg0.N) (h : t.val % 4 = 0) (y : S256x1024.Idx) :
    kept m c t.val t.isLt y = 0 + blockProd m c t y := by
  rw [kept, if_neg (by omega), outsAt0_A m c t h (by omega) (by omega)]
  frame_out
  idx_vars y
  pointwise [k0_pay1]
  rfl

theorem kept_next (c : Dev nD) (t : Fin cfg0.N) (h : ¬t.val % 4 = 0) (y : S256x1024.Idx) :
    kept m c t.val t.isLt y = kept m c (t.val - 1) (Nat.lt_of_le_of_lt (Nat.sub_le _ _) t.isLt) y + blockProd m c t y := by
  rw [kept, kept, if_neg (c := (t.val - 1) % 4 = 3) (by omega)]
  by_cases h3 : t.val % 4 = 3
  · rw [if_pos h3, outsAt0_C m c t h (by omega) h3]
    frame_out
    idx_vars y
    pointwise [k0_pay3]
    rw [add_comm]
    exact congrArg (fun z : EReal => z + blockProd m c t (ix2 y0 y1)) (congrFun (Memref.IsWhole.read_unread _ _) _)
  · rw [if_neg h3, outsAt0_B m c t h (by omega) h3]
    frame_out
    idx_vars y
    pointwise [k0_pay2]
    rw [add_comm]
    exact congrArg (fun z : EReal => z + blockProd m c t (ix2 y0 y1)) (congrFun (Memref.IsWhole.read_unread _ _) _)

/-- The kernel's output array is the product. -/
theorem final (c : Dev nD) : (dats m 0 c).arrAt 2 cfg0.N = Prod.tn (argA m c) (argB m c) := by
  refine (dats m 0 c).arrAt_eq_of_covers 2 _ (by decide +kernel) fun t hf y => ?_
  have h3 := (flush0_2 t).mp hf
  have ht : t.val < 4 := t.isLt
  have e := Pipeline.eq_sum_fin_of_reset_step_apply_of_flush (kept m c) 4 (fun _ => 0) (blockProd m c)
    (kept_first m c) (kept_next m c) t h3 y
  rw [kept, if_pos h3] at e
  blk_simp
  rw [after0_2]
  refine e.trans ?_
  change S256x1024.Idx at y
  idx_vars y
  rw [zero_add]
  refine Fin.sum_mul_add_congr fun s k hl => ?_
  refine congrArg₂ (fun a b : EReal => a * b) ?_ ?_
  · blk_ext [iblk, V, idx]
  · blk_ext [iblk, V, idx]

/-- The reference's frame: it ends with its arguments unchanged and every counter at zero. -/
theorem frameR : Cert.quiescent_Reference20Ideal := by
  intro m g _
  exact (θ_run Cert.Reference20Ideal.defs _ _).mono (fun r h => ⟨fun c => (h c).2, sem_eq_zero_of_no_sems (by decide) r.2⟩)
    (Cert.Reference20Ideal.Value.run m g)

/-- The kernel and the reference end with the same array. -/
theorem algebraic : Cert.algebraic_Kernel20Ideal_Reference20Ideal := by
  intro m g m' g' _ hagree
  refine ⟨fun c => Prod.tn (argA m c) (argB m c), ?_, ?_⟩
  · refine (θ_run Cert.Kernel20Ideal.defs _ _).mono (fun r h c => ?_) (Cert.Kernel20Ideal.Value.run_blocks m g)
    exact ⟨(h c).1.trans (final m c), (h c).2⟩
  · refine (θ_run Cert.Reference20Ideal.defs _ _).mono (fun r h c => ?_) (Cert.Reference20Ideal.Value.run m' g')
    refine ⟨(h c).1.trans ?_, (h c).2⟩
    rw [(hagree c).1, (hagree c).2]
    funext x
    obtain ⟨i, j, rfl⟩ : ∃ i j, x = ix2 i j := ⟨x 0, x 1, eq_ix2 x⟩
    refine Eq.trans ?_ (Prod.tn_apply _ _ i j).symm
    pointwise []
    exact Finset.sum_congr rfl fun k _ => mul_comm _ _

end Cert.Prod20

end
-- ==== Proof.Prod21.lean ====
/- Gradient of w_gate: the kernel and the reference compute the same product Aᵀ · B. -/
module

public import proofs.«01_k».proof.Defs
public import proofs.«01_k».proof.Proof.Gen.Kernel21Ideal.Value
public import proofs.«01_k».proof.Proof.Gen.Reference21Ideal.Run
public import proofs.«01_k».proof.Proof.ProdSpec
public import Idealize.ShloMosaic.Lib.Claim

@[expose] public section

set_option maxRecDepth 16384

noncomputable section

namespace Cert.Prod21

open Idealize.ShloMosaic Idealize.ShloMosaic.TcCoe Idealize.SL.Sem
open Cert.Kernel21Ideal Cert.Kernel21Ideal.Gen

variable (m : (ℓ : Loc nD τ sig) → Buf (Elt Ideal) ℓ)

/-- The left operand on device `c`. -/
abbrev argA (c : Dev nD) : Prod.Mat 8192 1024 := m ((c : Thread nD τ).loc main_arg0)
/-- The right operand on device `c`. -/
abbrev argB (c : Dev nD) : Prod.Mat 8192 3072 := m ((c : Thread nD τ).loc main_arg1)

/-- The blocks that grid point `t` reads and writes. -/
theorem idx : ∀ t : Fin cfg0.N, win0_0.index t = ![t.val % 4, 0] ∧ win0_1.index t = ![t.val % 4, t.val / 4]
    ∧ win0_2.index t = ![0, t.val / 4] := by decide +kernel

/-- The product of the two blocks of a grid point. -/
def blockProd (c : Dev nD) (t : Fin cfg0.N) : Prod.Mat 1024 1536 :=
  Prod.tn (K := 2048) (iblk m c 0 t) (iblk m c 1 t)

/-- What the kernel keeps after a grid point: the block's partial sum, at the last step the block written out. -/
def kept (c : Dev nD) (n : ℕ) (h : n < cfg0.N) : Prod.Mat 1024 1536 :=
  if n % 4 = 3 then (outsAt0 m c n h).1 else (outsAt0 m c n h).2

theorem kept_first (c : Dev nD) (t : Fin cfg0.N) (h : t.val % 4 = 0) (y : S1024x1536.Idx) :
    kept m c t.val t.isLt y = 0 + blockProd m c t y := by
  rw [kept, if_neg (by omega), outsAt0_A m c t h (by omega) (by omega)]
  frame_out
  idx_vars y
  pointwise [k0_pay1]
  rfl

theorem kept_next (c : Dev nD) (t : Fin cfg0.N) (h : ¬t.val % 4 = 0) (y : S1024x1536.Idx) :
    kept m c t.val t.isLt y = kept m c (t.val - 1) (Nat.lt_of_le_of_lt (Nat.sub_le _ _) t.isLt) y + blockProd m c t y := by
  rw [kept, kept, if_neg (c := (t.val - 1) % 4 = 3) (by omega)]
  by_cases h3 : t.val % 4 = 3
  · rw [if_pos h3, outsAt0_C m c t h (by omega) h3]
    frame_out
    idx_vars y
    pointwise [k0_pay3]
    rw [add_comm]
    exact congrArg (fun z : EReal => z + blockProd m c t (ix2 y0 y1)) (congrFun (Memref.IsWhole.read_unread _ _) _)
  · rw [if_neg h3, outsAt0_B m c t h (by omega) h3]
    frame_out
    idx_vars y
    pointwise [k0_pay2]
    rw [add_comm]
    exact congrArg (fun z : EReal => z + blockProd m c t (ix2 y0 y1)) (congrFun (Memref.IsWhole.read_unread _ _) _)

/-- The kernel's output array is the product. -/
theorem final (c : Dev nD) : (dats m 0 c).arrAt 2 cfg0.N = Prod.tn (argA m c) (argB m c) := by
  refine (dats m 0 c).arrAt_eq_of_covers 2 _ (by decide +kernel) fun t hf y => ?_
  have h3 := (flush0_2 t).mp hf
  have ht : t.val < 8 := t.isLt
  have e := Pipeline.eq_sum_fin_of_reset_step_apply_of_flush (kept m c) 4 (fun _ => 0) (blockProd m c)
    (kept_first m c) (kept_next m c) t h3 y
  rw [kept, if_pos h3] at e
  blk_simp
  rw [after0_2]
  refine e.trans ?_
  change S1024x1536.Idx at y
  idx_vars y
  rw [zero_add]
  refine Fin.sum_mul_add_congr fun s k hl => ?_
  refine congrArg₂ (fun a b : EReal => a * b) ?_ ?_
  · blk_ext [iblk, V, idx]
  · blk_ext [iblk, V, idx]

/-- The reference's frame: it ends with its arguments unchanged and every counter at zero. -/
theorem frameR : Cert.quiescent_Reference21Ideal := by
  intro m g _
  exact (θ_run Cert.Reference21Ideal.defs _ _).mono (fun r h => ⟨fun c => (h c).2, sem_eq_zero_of_no_sems (by decide) r.2⟩)
    (Cert.Reference21Ideal.Value.run m g)

/-- The kernel and the reference end with the same array. -/
theorem algebraic : Cert.algebraic_Kernel21Ideal_Reference21Ideal := by
  intro m g m' g' _ hagree
  refine ⟨fun c => Prod.tn (argA m c) (argB m c), ?_, ?_⟩
  · refine (θ_run Cert.Kernel21Ideal.defs _ _).mono (fun r h c => ?_) (Cert.Kernel21Ideal.Value.run_blocks m g)
    exact ⟨(h c).1.trans (final m c), (h c).2⟩
  · refine (θ_run Cert.Reference21Ideal.defs _ _).mono (fun r h c => ?_) (Cert.Reference21Ideal.Value.run m' g')
    refine ⟨(h c).1.trans ?_, (h c).2⟩
    rw [(hagree c).1, (hagree c).2]
    funext x
    obtain ⟨i, j, rfl⟩ : ∃ i j, x = ix2 i j := ⟨x 0, x 1, eq_ix2 x⟩
    refine Eq.trans ?_ (Prod.tn_apply _ _ i j).symm
    pointwise []
    exact Finset.sum_congr rfl fun k _ => mul_comm _ _

end Cert.Prod21

end
-- ==== Proof.Prod22.lean ====
/- Gradient of w_in, columns of the branches A and C: the kernel and the reference compute the same product Aᵀ · B. -/
module

public import proofs.«01_k».proof.Defs
public import proofs.«01_k».proof.Proof.Gen.Kernel22Ideal.Value
public import proofs.«01_k».proof.Proof.Gen.Reference22Ideal.Run
public import proofs.«01_k».proof.Proof.ProdSpec
public import Idealize.ShloMosaic.Lib.Claim

@[expose] public section

set_option maxRecDepth 16384

noncomputable section

namespace Cert.Prod22

open Idealize.ShloMosaic Idealize.ShloMosaic.TcCoe Idealize.SL.Sem
open Cert.Kernel22Ideal Cert.Kernel22Ideal.Gen

variable (m : (ℓ : Loc nD τ sig) → Buf (Elt Ideal) ℓ)

/-- The left operand on device `c`. -/
abbrev argA (c : Dev nD) : Prod.Mat 8192 1024 := m ((c : Thread nD τ).loc main_arg0)
/-- The right operand on device `c`. -/
abbrev argB (c : Dev nD) : Prod.Mat 8192 2048 := m ((c : Thread nD τ).loc main_arg1)

/-- The blocks that grid point `t` reads and writes. -/
theorem idx : ∀ t : Fin cfg0.N, win0_0.index t = ![t.val % 4, 0] ∧ win0_1.index t = ![t.val % 4, t.val / 4]
    ∧ win0_2.index t = ![0, t.val / 4] := by decide +kernel

/-- The product of the two blocks of a grid point. -/
def blockProd (c : Dev nD) (t : Fin cfg0.N) : Prod.Mat 1024 1024 :=
  Prod.tn (K := 2048) (iblk m c 0 t) (iblk m c 1 t)

/-- What the kernel keeps after a grid point: the block's partial sum, at the last step the block written out. -/
def kept (c : Dev nD) (n : ℕ) (h : n < cfg0.N) : Prod.Mat 1024 1024 :=
  if n % 4 = 3 then (outsAt0 m c n h).1 else (outsAt0 m c n h).2

theorem kept_first (c : Dev nD) (t : Fin cfg0.N) (h : t.val % 4 = 0) (y : S1024x1024.Idx) :
    kept m c t.val t.isLt y = 0 + blockProd m c t y := by
  rw [kept, if_neg (by omega), outsAt0_A m c t h (by omega) (by omega)]
  frame_out
  idx_vars y
  pointwise [k0_pay1]
  rfl

theorem kept_next (c : Dev nD) (t : Fin cfg0.N) (h : ¬t.val % 4 = 0) (y : S1024x1024.Idx) :
    kept m c t.val t.isLt y = kept m c (t.val - 1) (Nat.lt_of_le_of_lt (Nat.sub_le _ _) t.isLt) y + blockProd m c t y := by
  rw [kept, kept, if_neg (c := (t.val - 1) % 4 = 3) (by omega)]
  by_cases h3 : t.val % 4 = 3
  · rw [if_pos h3, outsAt0_C m c t h (by omega) h3]
    frame_out
    idx_vars y
    pointwise [k0_pay3]
    rw [add_comm]
    exact congrArg (fun z : EReal => z + blockProd m c t (ix2 y0 y1)) (congrFun (Memref.IsWhole.read_unread _ _) _)
  · rw [if_neg h3, outsAt0_B m c t h (by omega) h3]
    frame_out
    idx_vars y
    pointwise [k0_pay2]
    rw [add_comm]
    exact congrArg (fun z : EReal => z + blockProd m c t (ix2 y0 y1)) (congrFun (Memref.IsWhole.read_unread _ _) _)

/-- The kernel's output array is the product. -/
theorem final (c : Dev nD) : (dats m 0 c).arrAt 2 cfg0.N = Prod.tn (argA m c) (argB m c) := by
  refine (dats m 0 c).arrAt_eq_of_covers 2 _ (by decide +kernel) fun t hf y => ?_
  have h3 := (flush0_2 t).mp hf
  have ht : t.val < 8 := t.isLt
  have e := Pipeline.eq_sum_fin_of_reset_step_apply_of_flush (kept m c) 4 (fun _ => 0) (blockProd m c)
    (kept_first m c) (kept_next m c) t h3 y
  rw [kept, if_pos h3] at e
  blk_simp
  rw [after0_2]
  refine e.trans ?_
  change S1024x1024.Idx at y
  idx_vars y
  rw [zero_add]
  refine Fin.sum_mul_add_congr fun s k hl => ?_
  refine congrArg₂ (fun a b : EReal => a * b) ?_ ?_
  · blk_ext [iblk, V, idx]
  · blk_ext [iblk, V, idx]

/-- The reference's frame: it ends with its arguments unchanged and every counter at zero. -/
theorem frameR : Cert.quiescent_Reference22Ideal := by
  intro m g _
  exact (θ_run Cert.Reference22Ideal.defs _ _).mono (fun r h => ⟨fun c => (h c).2, sem_eq_zero_of_no_sems (by decide) r.2⟩)
    (Cert.Reference22Ideal.Value.run m g)

/-- The kernel and the reference end with the same array. -/
theorem algebraic : Cert.algebraic_Kernel22Ideal_Reference22Ideal := by
  intro m g m' g' _ hagree
  refine ⟨fun c => Prod.tn (argA m c) (argB m c), ?_, ?_⟩
  · refine (θ_run Cert.Kernel22Ideal.defs _ _).mono (fun r h c => ?_) (Cert.Kernel22Ideal.Value.run_blocks m g)
    exact ⟨(h c).1.trans (final m c), (h c).2⟩
  · refine (θ_run Cert.Reference22Ideal.defs _ _).mono (fun r h c => ?_) (Cert.Reference22Ideal.Value.run m' g')
    refine ⟨(h c).1.trans ?_, (h c).2⟩
    rw [(hagree c).1, (hagree c).2]
    funext x
    obtain ⟨i, j, rfl⟩ : ∃ i j, x = ix2 i j := ⟨x 0, x 1, eq_ix2 x⟩
    refine Eq.trans ?_ (Prod.tn_apply _ _ i j).symm
    pointwise []
    exact Finset.sum_congr rfl fun k _ => mul_comm _ _

end Cert.Prod22

end
-- ==== Proof.Prod23.lean ====
/- Gradient of w_in, columns of the branch B: the kernel and the reference compute the same product Aᵀ · B. -/
module

public import proofs.«01_k».proof.Defs
public import proofs.«01_k».proof.Proof.Gen.Kernel23Ideal.Value
public import proofs.«01_k».proof.Proof.Gen.Reference23Ideal.Run
public import proofs.«01_k».proof.Proof.ProdSpec
public import Idealize.ShloMosaic.Lib.Claim

@[expose] public section

set_option maxRecDepth 16384

noncomputable section

namespace Cert.Prod23

open Idealize.ShloMosaic Idealize.ShloMosaic.TcCoe Idealize.SL.Sem
open Cert.Kernel23Ideal Cert.Kernel23Ideal.Gen

variable (m : (ℓ : Loc nD τ sig) → Buf (Elt Ideal) ℓ)

/-- The left operand on device `c`. -/
abbrev argA (c : Dev nD) : Prod.Mat 8192 1024 := m ((c : Thread nD τ).loc main_arg0)
/-- The right operand on device `c`. -/
abbrev argB (c : Dev nD) : Prod.Mat 8192 2304 := m ((c : Thread nD τ).loc main_arg1)

/-- The blocks that grid point `t` reads and writes. -/
theorem idx : ∀ t : Fin cfg0.N, win0_0.index t = ![t.val % 4, 0] ∧ win0_1.index t = ![t.val % 4, t.val / 4]
    ∧ win0_2.index t = ![0, t.val / 4] := by decide +kernel

/-- The product of the two blocks of a grid point. -/
def blockProd (c : Dev nD) (t : Fin cfg0.N) : Prod.Mat 1024 1152 :=
  Prod.tn (K := 2048) (iblk m c 0 t) (iblk m c 1 t)

/-- What the kernel keeps after a grid point: the block's partial sum, at the last step the block written out. -/
def kept (c : Dev nD) (n : ℕ) (h : n < cfg0.N) : Prod.Mat 1024 1152 :=
  if n % 4 = 3 then (outsAt0 m c n h).1 else (outsAt0 m c n h).2

theorem kept_first (c : Dev nD) (t : Fin cfg0.N) (h : t.val % 4 = 0) (y : S1024x1152.Idx) :
    kept m c t.val t.isLt y = 0 + blockProd m c t y := by
  rw [kept, if_neg (by omega), outsAt0_A m c t h (by omega) (by omega)]
  frame_out
  idx_vars y
  pointwise [k0_pay1]
  rfl

theorem kept_next (c : Dev nD) (t : Fin cfg0.N) (h : ¬t.val % 4 = 0) (y : S1024x1152.Idx) :
    kept m c t.val t.isLt y = kept m c (t.val - 1) (Nat.lt_of_le_of_lt (Nat.sub_le _ _) t.isLt) y + blockProd m c t y := by
  rw [kept, kept, if_neg (c := (t.val - 1) % 4 = 3) (by omega)]
  by_cases h3 : t.val % 4 = 3
  · rw [if_pos h3, outsAt0_C m c t h (by omega) h3]
    frame_out
    idx_vars y
    pointwise [k0_pay3]
    rw [add_comm]
    exact congrArg (fun z : EReal => z + blockProd m c t (ix2 y0 y1)) (congrFun (Memref.IsWhole.read_unread _ _) _)
  · rw [if_neg h3, outsAt0_B m c t h (by omega) h3]
    frame_out
    idx_vars y
    pointwise [k0_pay2]
    rw [add_comm]
    exact congrArg (fun z : EReal => z + blockProd m c t (ix2 y0 y1)) (congrFun (Memref.IsWhole.read_unread _ _) _)

/-- The kernel's output array is the product. -/
theorem final (c : Dev nD) : (dats m 0 c).arrAt 2 cfg0.N = Prod.tn (argA m c) (argB m c) := by
  refine (dats m 0 c).arrAt_eq_of_covers 2 _ (by decide +kernel) fun t hf y => ?_
  have h3 := (flush0_2 t).mp hf
  have ht : t.val < 8 := t.isLt
  have e := Pipeline.eq_sum_fin_of_reset_step_apply_of_flush (kept m c) 4 (fun _ => 0) (blockProd m c)
    (kept_first m c) (kept_next m c) t h3 y
  rw [kept, if_pos h3] at e
  blk_simp
  rw [after0_2]
  refine e.trans ?_
  change S1024x1152.Idx at y
  idx_vars y
  rw [zero_add]
  refine Fin.sum_mul_add_congr fun s k hl => ?_
  refine congrArg₂ (fun a b : EReal => a * b) ?_ ?_
  · blk_ext [iblk, V, idx]
  · blk_ext [iblk, V, idx]

/-- The reference's frame: it ends with its arguments unchanged and every counter at zero. -/
theorem frameR : Cert.quiescent_Reference23Ideal := by
  intro m g _
  exact (θ_run Cert.Reference23Ideal.defs _ _).mono (fun r h => ⟨fun c => (h c).2, sem_eq_zero_of_no_sems (by decide) r.2⟩)
    (Cert.Reference23Ideal.Value.run m g)

/-- The kernel and the reference end with the same array. -/
theorem algebraic : Cert.algebraic_Kernel23Ideal_Reference23Ideal := by
  intro m g m' g' _ hagree
  refine ⟨fun c => Prod.tn (argA m c) (argB m c), ?_, ?_⟩
  · refine (θ_run Cert.Kernel23Ideal.defs _ _).mono (fun r h c => ?_) (Cert.Kernel23Ideal.Value.run_blocks m g)
    exact ⟨(h c).1.trans (final m c), (h c).2⟩
  · refine (θ_run Cert.Reference23Ideal.defs _ _).mono (fun r h c => ?_) (Cert.Reference23Ideal.Value.run m' g')
    refine ⟨(h c).1.trans ?_, (h c).2⟩
    rw [(hagree c).1, (hagree c).2]
    funext x
    obtain ⟨i, j, rfl⟩ : ∃ i j, x = ix2 i j := ⟨x 0, x 1, eq_ix2 x⟩
    refine Eq.trans ?_ (Prod.tn_apply _ _ i j).symm
    pointwise []
    exact Finset.sum_congr rfl fun k _ => mul_comm _ _

end Cert.Prod23

end
-- ==== Proof.Prod24.lean ====
/- Gradient of w_mem_kv: the kernel and the reference compute the same product Aᵀ · B. -/
module

public import proofs.«01_k».proof.Defs
public import proofs.«01_k».proof.Proof.Gen.Kernel24Ideal.Value
public import proofs.«01_k».proof.Proof.Gen.Reference24Ideal.Run
public import proofs.«01_k».proof.Proof.ProdSpec
public import Idealize.ShloMosaic.Lib.Claim

@[expose] public section

set_option maxRecDepth 16384

noncomputable section

namespace Cert.Prod24

open Idealize.ShloMosaic Idealize.ShloMosaic.TcCoe Idealize.SL.Sem
open Cert.Kernel24Ideal Cert.Kernel24Ideal.Gen

variable (m : (ℓ : Loc nD τ sig) → Buf (Elt Ideal) ℓ)

/-- The left operand on device `c`. -/
abbrev argA (c : Dev nD) : Prod.Mat 1024 1024 := m ((c : Thread nD τ).loc main_arg0)
/-- The right operand on device `c`. -/
abbrev argB (c : Dev nD) : Prod.Mat 1024 1024 := m ((c : Thread nD τ).loc main_arg1)

/-- The blocks that grid point `t` reads and writes. -/
theorem idx : ∀ t : Fin cfg0.N, win0_0.index t = ![0, 0] ∧ win0_1.index t = ![0, 0]
    ∧ win0_2.index t = ![0, 0] := by decide +kernel

theorem payload (a : Vec Ideal S1024x1024 .bf16) (b : Vec Ideal S1024x1024 .bf16) (i : Fin 1024) (j : Fin 1024) :
    k0_pay1 (F := Ideal) a b (ix2 i j) = ∑ k : Fin 1024, a (ix2 k i) * b (ix2 k j) := by
  pointwise [k0_pay1]

/-- The kernel's output array is the product. -/
theorem final (c : Dev nD) : (dats m 0 c).arrAt 2 cfg0.N = Prod.tn (argA m c) (argB m c) := by
  refine (dats m 0 c).arrAt_eq_of_covers 2 _ (by decide +kernel) fun t hf y => ?_
  blk_simp
  rw [after0_2]
  frame_out
  change S1024x1024.Idx at y
  idx_vars y
  rw [payload]
  have ht : t.val < 1 := t.isLt
  refine Prod.sum_mul_congr (fun k => ?_) fun k => ?_
  · blk_ext [iblk, V, idx t]
  · blk_ext [iblk, V, idx t]

/-- The reference's frame: it ends with its arguments unchanged and every counter at zero. -/
theorem frameR : Cert.quiescent_Reference24Ideal := by
  intro m g _
  exact (θ_run Cert.Reference24Ideal.defs _ _).mono (fun r h => ⟨fun c => (h c).2, sem_eq_zero_of_no_sems (by decide) r.2⟩)
    (Cert.Reference24Ideal.Value.run m g)

/-- The kernel and the reference end with the same array. -/
theorem algebraic : Cert.algebraic_Kernel24Ideal_Reference24Ideal := by
  intro m g m' g' _ hagree
  refine ⟨fun c => Prod.tn (argA m c) (argB m c), ?_, ?_⟩
  · refine (θ_run Cert.Kernel24Ideal.defs _ _).mono (fun r h c => ?_) (Cert.Kernel24Ideal.Value.run_blocks m g)
    exact ⟨(h c).1.trans (final m c), (h c).2⟩
  · refine (θ_run Cert.Reference24Ideal.defs _ _).mono (fun r h c => ?_) (Cert.Reference24Ideal.Value.run m' g')
    refine ⟨(h c).1.trans ?_, (h c).2⟩
    rw [(hagree c).1, (hagree c).2]
    funext x
    obtain ⟨i, j, rfl⟩ : ∃ i j, x = ix2 i j := ⟨x 0, x 1, eq_ix2 x⟩
    refine Eq.trans ?_ (Prod.tn_apply _ _ i j).symm
    pointwise []
    exact Finset.sum_congr rfl fun k _ => mul_comm _ _

end Cert.Prod24

end
-- ==== Proof.Prod25.lean ====
/- Gradient of the normed memory: the kernel and the reference compute the same product A · Bᵀ. -/
module

public import proofs.«01_k».proof.Defs
public import proofs.«01_k».proof.Proof.Gen.Kernel25Ideal.Value
public import proofs.«01_k».proof.Proof.Gen.Reference25Ideal.Run
public import proofs.«01_k».proof.Proof.ProdSpec
public import Idealize.ShloMosaic.Lib.Claim

@[expose] public section

set_option maxRecDepth 16384

noncomputable section

namespace Cert.Prod25

open Idealize.ShloMosaic Idealize.ShloMosaic.TcCoe Idealize.SL.Sem
open Cert.Kernel25Ideal Cert.Kernel25Ideal.Gen

variable (m : (ℓ : Loc nD τ sig) → Buf (Elt Ideal) ℓ)

/-- The left operand on device `c`. -/
abbrev argA (c : Dev nD) : Prod.Mat 1024 1024 := m ((c : Thread nD τ).loc main_arg0)
/-- The right operand on device `c`. -/
abbrev argB (c : Dev nD) : Prod.Mat 1024 1024 := m ((c : Thread nD τ).loc main_arg1)

/-- The blocks that grid point `t` reads and writes. -/
theorem idx : ∀ t : Fin cfg0.N, win0_0.index t = ![0, 0] ∧ win0_1.index t = ![0, 0]
    ∧ win0_2.index t = ![0, 0] := by decide +kernel

theorem payload (a : Vec Ideal S1024x1024 .bf16) (b : Vec Ideal S1024x1024 .bf16) (i : Fin 1024) (j : Fin 1024) :
    k0_pay1 (F := Ideal) a b (ix2 i j) = ∑ k : Fin 1024, a (ix2 i k) * b (ix2 j k) := by
  pointwise [k0_pay1]

/-- The kernel's output array is the product. -/
theorem final (c : Dev nD) : (dats m 0 c).arrAt 2 cfg0.N = Prod.nt (argA m c) (argB m c) := by
  refine (dats m 0 c).arrAt_eq_of_covers 2 _ (by decide +kernel) fun t hf y => ?_
  blk_simp
  rw [after0_2]
  frame_out
  change S1024x1024.Idx at y
  idx_vars y
  rw [payload]
  have ht : t.val < 1 := t.isLt
  refine Prod.sum_mul_congr (fun k => ?_) fun k => ?_
  · blk_ext [iblk, V, idx t]
  · blk_ext [iblk, V, idx t]

/-- The reference's frame: it ends with its arguments unchanged and every counter at zero. -/
theorem frameR : Cert.quiescent_Reference25Ideal := by
  intro m g _
  exact (θ_run Cert.Reference25Ideal.defs _ _).mono (fun r h => ⟨fun c => (h c).2, sem_eq_zero_of_no_sems (by decide) r.2⟩)
    (Cert.Reference25Ideal.Value.run m g)

/-- The kernel and the reference end with the same array. -/
theorem algebraic : Cert.algebraic_Kernel25Ideal_Reference25Ideal := by
  intro m g m' g' _ hagree
  refine ⟨fun c => Prod.nt (argA m c) (argB m c), ?_, ?_⟩
  · refine (θ_run Cert.Kernel25Ideal.defs _ _).mono (fun r h c => ?_) (Cert.Kernel25Ideal.Value.run_blocks m g)
    exact ⟨(h c).1.trans (final m c), (h c).2⟩
  · refine (θ_run Cert.Reference25Ideal.defs _ _).mono (fun r h c => ?_) (Cert.Reference25Ideal.Value.run m' g')
    refine ⟨(h c).1.trans ?_, (h c).2⟩
    rw [(hagree c).1, (hagree c).2]
    funext x
    obtain ⟨i, j, rfl⟩ : ∃ i j, x = ix2 i j := ⟨x 0, x 1, eq_ix2 x⟩
    refine Eq.trans ?_ (Prod.nt_apply _ _ i j).symm
    pointwise []

end Cert.Prod25

end
-- ==== Proof.AdamSpec.lean ====
/- The optimiser's step on one element, the arrays of its four results, and a load of one slab of a stack of matrices. -/
module

public import proofs.«01_k».proof.Proof.ProdSpec
public import Idealize.ShloMosaic.Lib.Pipeline
public import Idealize.ShloMosaic.Lib.Pipeline.Value

@[expose] public section

noncomputable section

namespace Cert.Adam

open Idealize.ShloMosaic

/-- The array of `a` matrices of `b` rows and `c` columns. -/
abbrev Cube (a b c : ℕ) : Type := (⟨3, ![a, b, c]⟩ : Shape).Idx → EReal

/-- The first moment after a step with gradient `g`. -/
def first (m g : EReal) : EReal := Ideal.ofBits .f32 0x3F666666#32 * m + Ideal.ofBits .f32 0x3DCCCCCD#32 * g

/-- The second moment after a step with gradient `g`. -/
def second (v g : EReal) : EReal := Ideal.ofBits .f32 0x3F7FBE77#32 * v + Ideal.ofBits .f32 0x3A83126F#32 * (g * g)

/-- The change of a weight `w` whose moments after the step are `m` and `v`. -/
def delta (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

variable {a b : ℕ} (P : Cube 8 a b) (W M V : Cube 1 a b)

/-- The sum of the eight parts of the gradient. -/
def grad (i : Fin a) (j : Fin b) : EReal := ∑ s : Fin 8, P (ix3 s i j)

/-- The gradient, the change of the weights and the new moments as arrays. -/
def resG : Cube 1 a b := fun x => grad P (x 1) (x 2)
def resM : Cube 1 a b := fun x => first (M x) (grad P (x 1) (x 2))
def resV : Cube 1 a b := fun x => second (V x) (grad P (x 1) (x 2))
def resD : Cube 1 a b := fun x => delta (W x) (resM P M x) (resV P V x)

/-- The eight parts one by one. -/
theorem grad_eq (i : Fin a) (j : Fin b) : grad P i j = P (ix3 0 i j) + P (ix3 1 i j) + P (ix3 2 i j) + P (ix3 3 i j) + P (ix3 4 i j)
    + P (ix3 5 i j) + P (ix3 6 i j) + P (ix3 7 i j) := Fin.sum_univ_eight _

/-- A load of slab `s` reads the array there. -/
theorem ld_apply {Val : EltTy → Type} {e : EltTy} {p a b s : ℕ}
    (inb : ∀ x, (![s, 0, 0] : Fin 3 → ℕ) x + (![1, a, b] : Fin 3 → ℕ) x ≤ (⟨3, ![p, a, b]⟩ : Shape).size x)
    (X : (⟨3, ![p, a, b]⟩ : Shape).Idx → Val e) (i : Fin a) (q : Fin b) (t : Fin p) (ht : (t : ℕ) = s) :
    View.ld X (Rect.unit (s := ⟨3, ![p, a, b]⟩) ![s, 0, 0] ![1, a, b] inb) (ix3 0 i q) = X (ix3 t i q) := by
  refine congrArg X (funext fun x => Fin.ext ?_)
  match x with
  | 0 => show s + 1 * 0 = (t : ℕ); omega
  | 1 => show 0 + 1 * (i : ℕ) = (i : ℕ); omega
  | 2 => show 0 + 1 * (q : ℕ) = (q : ℕ); omega

end Cert.Adam

end
-- ==== Proof.Adam26.lean ====
/- The optimiser's step on the weights of the input projection: the kernel and the reference leave the same arrays. -/
module

public import proofs.«01_k».proof.Defs
public import proofs.«01_k».proof.Proof.Gen.Kernel26Ideal.Value
public import proofs.«01_k».proof.Proof.Gen.Reference26Ideal.Run
public import proofs.«01_k».proof.Proof.AdamSpec
public import Idealize.ShloMosaic.Lib.Claim

@[expose] public section

set_option maxRecDepth 16384

noncomputable section

namespace Cert.Adam26

open Idealize.ShloMosaic Idealize.ShloMosaic.TcCoe Idealize.SL.Sem Cert.Adam

section Kernel

open Cert.Kernel26Ideal Cert.Kernel26Ideal.Gen

variable (m : (ℓ : Loc nD τ sig) → Buf (Elt Ideal) ℓ)

/-- The arrays of device `c`: the parts of the gradient, the weights and the two moments. -/
abbrev argP (c : Dev nD) : Cube 8 1024 544 := m ((c : Thread nD τ).loc main_arg0)
abbrev argW (c : Dev nD) : Cube 1 1024 544 := m ((c : Thread nD τ).loc main_arg1)
abbrev argM (c : Dev nD) : Cube 1 1024 544 := m ((c : Thread nD τ).loc main_arg2)
abbrev argV (c : Dev nD) : Cube 1 1024 544 := m ((c : Thread nD τ).loc main_arg3)

/-- Grid point `t` reads and writes the rows `256 t …` of every array. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] := by decide +kernel

/-- The row of the arrays that row `r` of point `t`'s blocks is. -/
abbrev row (t : Fin cfg0.N) (r : Fin 256) : Fin 1024 := ⟨256 * t.val + r.val, by have : t.val < 4 := t.isLt; omega⟩

section Payloads

variable (x0 x1 x2 x3 x4 x5 x6 x7 : Vec Ideal S1x256x544 .bf16) (g : FVec Ideal S256x544 .f32) (w u v : Vec Ideal S1x256x544 .f32) (r : Fin 256) (q : Fin 544)

/-- What each store takes, element by element. -/
theorem pay3_apply : k0_pay3 (F := Ideal) x0 x1 x2 x3 x4 x5 x6 x7 (ix2 r q) = (x0 (ix3 0 r q) + x1 (ix3 0 r q) + x2 (ix3 0 r q) + x3 (ix3 0 r q) + x4 (ix3 0 r q)
    + x5 (ix3 0 r q) + x6 (ix3 0 r q) + x7 (ix3 0 r q) : EReal) := by
  pointwise [k0_pay3]

theorem pay4_apply : k0_pay4 (F := Ideal) g (ix3 0 r q) = g (ix2 r q) := by
  pointwise [k0_pay4]

theorem pay5_apply : k0_pay5 (F := Ideal) g u (ix2 r q) = first (u (ix3 0 r q)) (g (ix2 r q)) := by
  pointwise [k0_pay5, first]

theorem pay6_apply : k0_pay6 (F := Ideal) g v (ix2 r q) = second (v (ix3 0 r q)) (g (ix2 r q)) := by
  pointwise [k0_pay6, second]

theorem pay7_apply : k0_pay7 (F := Ideal) g w u v (ix3 0 r q)
    = delta (w (ix3 0 r q)) (first (u (ix3 0 r q)) (g (ix2 r q))) (second (v (ix3 0 r q)) (g (ix2 r q))) := by
  pointwise [k0_pay7, delta, pay5_apply, pay6_apply]

theorem pay1_apply : k0_pay1 (F := Ideal) g (ix3 0 r q) = g (ix2 r q) := by
  pointwise [k0_pay1]

theorem pay2_apply : k0_pay2 (F := Ideal) g (ix3 0 r q) = g (ix2 r q) := by
  pointwise [k0_pay2]

end Payloads

/-- Point `t`'s blocks of the arguments. -/
theorem part_eq (c : Dev nD) (t : Fin cfg0.N) (s : ℕ) (s' : Fin 8) (hs : (s' : ℕ) = s)
    (inb : ∀ a, (![s, 0, 0] : Fin 3 → ℕ) a + (![1, 256, 544] : Fin 3 → ℕ) a ≤ S8x256x544.size a) (r : Fin 256) (q : Fin 544) :
    (View.ld (iblk m c 0 t) (Rect.unit (s := S8x256x544) ![s, 0, 0] ![1, 256, 544] inb) (ix3 0 r q) : EReal) = argP m c (ix3 s' (row t r) q) := by
  refine (ld_apply inb _ r q s' hs).trans (?_ : (iblk m c 0 t : S8x256x544.Idx → EReal) (ix3 s' r q) = argP m c (ix3 s' (row t r) q))
  blk_ext [iblk, V, idx t]

theorem w_eq (c : Dev nD) (t : Fin cfg0.N) (r : Fin 256) (q : Fin 544) : (iblk m c 1 t : S1x256x544.Idx → EReal) (ix3 0 r q) = argW m c (ix3 0 (row t r) q) := by
  blk_ext [iblk, V, idx t]

theorem mo_eq (c : Dev nD) (t : Fin cfg0.N) (r : Fin 256) (q : Fin 544) : (iblk m c 2 t : S1x256x544.Idx → EReal) (ix3 0 r q) = argM m c (ix3 0 (row t r) q) := by
  blk_ext [iblk, V, idx t]

theorem vo_eq (c : Dev nD) (t : Fin cfg0.N) (r : Fin 256) (q : Fin 544) : (iblk m c 3 t : S1x256x544.Idx → EReal) (ix3 0 r q) = argV m c (ix3 0 (row t r) q) := by
  blk_ext [iblk, V, idx t]

/-- The sum of the parts at point `t`, the gradient of its rows. -/
abbrev total (c : Dev nD) (t : Fin cfg0.N) : FVec Ideal S256x544 .f32 := k0_pay8 (F := Ideal) (iblk m c 0 t) (iblk m c 1 t) (iblk m c 2 t) (iblk m c 3 t)

theorem total_apply (c : Dev nD) (t : Fin cfg0.N) (r : Fin 256) (q : Fin 544) : total m c t (ix2 r q) = grad (argP m c) (row t r) q := by
  unfold total k0_pay8
  rw [pay3_apply, grad_eq]
  rw [part_eq m c t 0 0 rfl _ r q, part_eq m c t 1 1 rfl _ r q, part_eq m c t 2 2 rfl _ r q, part_eq m c t 3 3 rfl _ r q,
    part_eq m c t 4 4 rfl _ r q, part_eq m c t 5 5 rfl _ r q, part_eq m c t 6 6 rfl _ r q, part_eq m c t 7 7 rfl _ r q]

/-- What point `t` leaves in each output block. -/
theorem g_eq (c : Dev nD) (t : Fin cfg0.N) (r : Fin 256) (q : Fin 544) :
    k0_pay4 (F := Ideal) (total m c t) (ix3 0 r q) = resG (argP m c) (ix3 0 (row t r) q) :=
  (pay4_apply ..).trans (total_apply m c t r q)

theorem m_eq (c : Dev nD) (t : Fin cfg0.N) (r : Fin 256) (q : Fin 544) :
    k0_pay1 (F := Ideal) (k0_pay5 (total m c t) (iblk m c 2 t)) (ix3 0 r q) = resM (argP m c) (argM m c) (ix3 0 (row t r) q) := by
  refine (pay1_apply ..).trans ((pay5_apply ..).trans ?_)
  rw [total_apply]
  exact congrArg (fun u => first u _) (mo_eq m c t r q)

theorem v_eq (c : Dev nD) (t : Fin cfg0.N) (r : Fin 256) (q : Fin 544) :
    k0_pay2 (F := Ideal) (k0_pay6 (total m c t) (iblk m c 3 t)) (ix3 0 r q) = resV (argP m c) (argV m c) (ix3 0 (row t r) q) := by
  refine (pay2_apply ..).trans ((pay6_apply ..).trans ?_)
  rw [total_apply]
  exact congrArg (fun u => second u _) (vo_eq m c t r q)

theorem d_eq (c : Dev nD) (t : Fin cfg0.N) (r : Fin 256) (q : Fin 544) :
    k0_pay7 (F := Ideal) (total m c t) (iblk m c 1 t) (iblk m c 2 t) (iblk m c 3 t) (ix3 0 r q)
      = resD (argP m c) (argW m c) (argM m c) (argV m c) (ix3 0 (row t r) q) := by
  refine (pay7_apply ..).trans ?_
  rw [total_apply]
  refine (congrArg (fun w => delta w _ _) (w_eq m c t r q)).trans ?_
  exact congrArg₂ (fun u v => delta _ (first u _) (second v _)) (mo_eq m c t r q) (vo_eq m c t r q)

/-- The output array of window 4 is the gradient. -/
theorem final4 (c : Dev nD) : (dats m 0 c).arrAt 4 cfg0.N = resG (argP m c) := by
  refine (dats m 0 c).arrAt_eq_of_covers 4 _ (by decide +kernel) fun t hf y => ?_
  blk_simp
  rw [after0_4]
  frame_out
  change S1x256x544.Idx at y
  idx_vars y
  obtain rfl : y0 = 0 := Subsingleton.elim _ _
  have ht : t.val < 4 := t.isLt
  have h0 : win0_4.index t 0 = 0 := by rw [(idx t).2.2.2.2.1]; rfl
  have h1 : win0_4.index t 1 = t.val := by rw [(idx t).2.2.2.2.1]; rfl
  have h2 : win0_4.index t 2 = 0 := by rw [(idx t).2.2.2.2.1]; rfl
  have e : resG (argP m c) (ix3 0 (row t y1) y2) = resG (argP m c) (((View.whole main_v0_0).slice (win0_4.rect t)).emb (ix3 0 y1 y2)) := by
    refine congrArg (resG (argP m c)) (funext fun x => Fin.ext ?_)
    match x with
    | 0 => show 0 = win0_4.index t 0 * 1 + 1 * 0; omega
    | 1 => show 256 * t.val + y1.val = win0_4.index t 1 * 256 + 1 * y1.val; omega
    | 2 => show y2.val = win0_4.index t 2 * 544 + 1 * y2.val; omega
  exact Eq.trans (g_eq m c t y1 y2) e

/-- The output array of window 5 is the change of the weights. -/
theorem final5 (c : Dev nD) : (dats m 0 c).arrAt 5 cfg0.N = resD (argP m c) (argW m c) (argM m c) (argV m c) := by
  refine (dats m 0 c).arrAt_eq_of_covers 5 _ (by decide +kernel) fun t hf y => ?_
  blk_simp
  rw [after0_5]
  frame_out
  change S1x256x544.Idx at y
  idx_vars y
  obtain rfl : y0 = 0 := Subsingleton.elim _ _
  have ht : t.val < 4 := t.isLt
  have h0 : win0_5.index t 0 = 0 := by rw [(idx t).2.2.2.2.2.1]; rfl
  have h1 : win0_5.index t 1 = t.val := by rw [(idx t).2.2.2.2.2.1]; rfl
  have h2 : win0_5.index t 2 = 0 := by rw [(idx t).2.2.2.2.2.1]; rfl
  have e : resD (argP m c) (argW m c) (argM m c) (argV m c) (ix3 0 (row t y1) y2) = resD (argP m c) (argW m c) (argM m c) (argV m c) (((View.whole main_v0_1).slice (win0_5.rect t)).emb (ix3 0 y1 y2)) := by
    refine congrArg (resD (argP m c) (argW m c) (argM m c) (argV m c)) (funext fun x => Fin.ext ?_)
    match x with
    | 0 => show 0 = win0_5.index t 0 * 1 + 1 * 0; omega
    | 1 => show 256 * t.val + y1.val = win0_5.index t 1 * 256 + 1 * y1.val; omega
    | 2 => show y2.val = win0_5.index t 2 * 544 + 1 * y2.val; omega
  exact Eq.trans (d_eq m c t y1 y2) e

/-- The output array of window 6 is the new first moment. -/
theorem final6 (c : Dev nD) : (dats m 0 c).arrAt 6 cfg0.N = resM (argP m c) (argM m c) := by
  refine (dats m 0 c).arrAt_eq_of_covers 6 _ (by decide +kernel) fun t hf y => ?_
  blk_simp
  rw [after0_6]
  frame_out
  change S1x256x544.Idx at y
  idx_vars y
  obtain rfl : y0 = 0 := Subsingleton.elim _ _
  have ht : t.val < 4 := t.isLt
  have h0 : win0_6.index t 0 = 0 := by rw [(idx t).2.2.2.2.2.2.1]; rfl
  have h1 : win0_6.index t 1 = t.val := by rw [(idx t).2.2.2.2.2.2.1]; rfl
  have h2 : win0_6.index t 2 = 0 := by rw [(idx t).2.2.2.2.2.2.1]; rfl
  have e : resM (argP m c) (argM m c) (ix3 0 (row t y1) y2) = resM (argP m c) (argM m c) (((View.whole main_v0_2).slice (win0_6.rect t)).emb (ix3 0 y1 y2)) := by
    refine congrArg (resM (argP m c) (argM m c)) (funext fun x => Fin.ext ?_)
    match x with
    | 0 => show 0 = win0_6.index t 0 * 1 + 1 * 0; omega
    | 1 => show 256 * t.val + y1.val = win0_6.index t 1 * 256 + 1 * y1.val; omega
    | 2 => show y2.val = win0_6.index t 2 * 544 + 1 * y2.val; omega
  exact Eq.trans (m_eq m c t y1 y2) e

/-- The output array of window 7 is the new second moment. -/
theorem final7 (c : Dev nD) : (dats m 0 c).arrAt 7 cfg0.N = resV (argP m c) (argV m c) := by
  refine (dats m 0 c).arrAt_eq_of_covers 7 _ (by decide +kernel) fun t hf y => ?_
  blk_simp
  rw [after0_7]
  frame_out
  change S1x256x544.Idx at y
  idx_vars y
  obtain rfl : y0 = 0 := Subsingleton.elim _ _
  have ht : t.val < 4 := t.isLt
  have h0 : win0_7.index t 0 = 0 := by rw [(idx t).2.2.2.2.2.2.2]; rfl
  have h1 : win0_7.index t 1 = t.val := by rw [(idx t).2.2.2.2.2.2.2]; rfl
  have h2 : win0_7.index t 2 = 0 := by rw [(idx t).2.2.2.2.2.2.2]; rfl
  have e : resV (argP m c) (argV m c) (ix3 0 (row t y1) y2) = resV (argP m c) (argV m c) (((View.whole main_v0_3).slice (win0_7.rect t)).emb (ix3 0 y1 y2)) := by
    refine congrArg (resV (argP m c) (argV m c)) (funext fun x => Fin.ext ?_)
    match x with
    | 0 => show 0 = win0_7.index t 0 * 1 + 1 * 0; omega
    | 1 => show 256 * t.val + y1.val = win0_7.index t 1 * 256 + 1 * y1.val; omega
    | 2 => show y2.val = win0_7.index t 2 * 544 + 1 * y2.val; omega
  exact Eq.trans (v_eq m c t y1 y2) e

end Kernel

section Reference

open Cert.Reference26Ideal Cert.Reference26Ideal.Gen Cert.Reference26Ideal.Facts

variable (P : Cube 8 1024 544) (W M V : Cube 1 1024 544)

/-- The gradient of the reference. -/
def gradArr : FVec Ideal S1x1024x544 .f32 := broadcastInDim S1x1024x544 ![1, 2] bcast_S1024x544_S1x1024x544_1_2 (Host.reduceAdd (extf (φ := .bf16) .f32 P bitsLt_bf16_f32) (constant S_ .f32 0x00000000#32) reducesTo_S8x1024x544_S1024x544_d0 h_S_)

theorem gradArr_apply (i : Fin 1024) (j : Fin 544) : gradArr P (ix3 0 i j) = grad P i j := by
  pointwise [gradArr, grad]

/-- The new moments and the change of the weights of the reference, from the gradient. -/
def firstArr (g : FVec Ideal S1x1024x544 .f32) : FVec Ideal S1x1024x544 .f32 := addf (mulf (broadcastInDim S1x1024x544 ![] bcast_S_S1x1024x544 (constant S_ .f32 0x3F666666#32)) M) (mulf (broadcastInDim S1x1024x544 ![] bcast_S_S1x1024x544 (constant S_ .f32 0x3DCCCCCD#32)) g)

def secondArr (g : FVec Ideal S1x1024x544 .f32) : FVec Ideal S1x1024x544 .f32 := addf (mulf (broadcastInDim S1x1024x544 ![] bcast_S_S1x1024x544 (constant S_ .f32 0x3F7FBE77#32)) V) (mulf (broadcastInDim S1x1024x544 ![] bcast_S_S1x1024x544 (constant S_ .f32 0x3A83126F#32)) (mulf g g))

def deltaArr (u v : FVec Ideal S1x1024x544 .f32) : FVec Ideal S1x1024x544 .f32 := mulf (broadcastInDim S1x1024x544 ![] bcast_S_S1x1024x544 (constant S_ .f32 0xBA83126F#32)) (addf (Host.divf (Host.divf u (broadcastInDim S1x1024x544 ![] bcast_S_S1x1024x544 (constant S_ .f32 0x3F26BD02#32))) (addf (Host.sqrt (Host.divf v (broadcastInDim S1x1024x544 ![] bcast_S_S1x1024x544 (constant S_ .f32 0x3C231ACC#32)))) (broadcastInDim S1x1024x544 ![] bcast_S_S1x1024x544 (constant S_ .f32 0x322BCC77#32)))) (mulf (broadcastInDim S1x1024x544 ![] bcast_S_S1x1024x544 (constant S_ .f32 0x3C23D70A#32)) W))

theorem firstArr_apply (g : FVec Ideal S1x1024x544 .f32) (i : Fin 1024) (j : Fin 544) : firstArr M g (ix3 0 i j) = first (M (ix3 0 i j)) (g (ix3 0 i j)) := by
  pointwise [firstArr, first]

theorem secondArr_apply (g : FVec Ideal S1x1024x544 .f32) (i : Fin 1024) (j : Fin 544) : secondArr V g (ix3 0 i j) = second (V (ix3 0 i j)) (g (ix3 0 i j)) := by
  pointwise [secondArr, second]

theorem deltaArr_apply (u v : FVec Ideal S1x1024x544 .f32) (i : Fin 1024) (j : Fin 544) :
    deltaArr W u v (ix3 0 i j) = delta (W (ix3 0 i j)) (u (ix3 0 i j)) (v (ix3 0 i j)) := by
  pointwise [deltaArr, delta]

/-- The four results of the reference. -/
theorem g_res : gradArr P = resG P := by
  funext x
  change S1x1024x544.Idx at x
  idx_vars x
  obtain rfl : x0 = 0 := Subsingleton.elim _ _
  exact gradArr_apply P x1 x2

theorem m_res : firstArr M (gradArr P) = resM P M := by
  funext x
  change S1x1024x544.Idx at x
  idx_vars x
  obtain rfl : x0 = 0 := Subsingleton.elim _ _
  rw [firstArr_apply, gradArr_apply]
  rfl

theorem v_res : secondArr V (gradArr P) = resV P V := by
  funext x
  change S1x1024x544.Idx at x
  idx_vars x
  obtain rfl : x0 = 0 := Subsingleton.elim _ _
  rw [secondArr_apply, gradArr_apply]
  rfl

theorem d_res : deltaArr W (firstArr M (gradArr P)) (secondArr V (gradArr P)) = resD P W M V := by
  rw [m_res, v_res]
  funext x
  change S1x1024x544.Idx at x
  idx_vars x
  obtain rfl : x0 = 0 := Subsingleton.elim _ _
  rw [deltaArr_apply]
  rfl

end Reference

/-- The reference's frame: it ends with its arguments unchanged and every counter at zero. -/
theorem frameR : Cert.quiescent_Reference26Ideal := by
  intro m g _
  exact (θ_run Cert.Reference26Ideal.defs _ _).mono (fun r h => ⟨fun c => (h c).2.2.2.2, sem_eq_zero_of_no_sems (by decide) r.2⟩)
    (Cert.Reference26Ideal.Value.run m g)

/-- The kernel and the reference end with the same four arrays. -/
theorem algebraic : Cert.algebraic_Kernel26Ideal_Reference26Ideal := by
  intro m g m' g' _ hagree
  refine ⟨fun c => resG (argP m c), fun c => resD (argP m c) (argW m c) (argM m c) (argV m c), fun c => resM (argP m c) (argM m c), fun c => resV (argP m c) (argV m c), ?_, ?_⟩
  · refine (θ_run Cert.Kernel26Ideal.defs _ _).mono (fun r h c => ?_) (Cert.Kernel26Ideal.Value.run_blocks m g)
    have hc := h c
    exact ⟨hc.1.trans (final4 m c), hc.2.1.trans (final5 m c), hc.2.2.1.trans (final6 m c), hc.2.2.2.1.trans (final7 m c), hc.2.2.2.2⟩
  · refine (θ_run Cert.Reference26Ideal.defs _ _).mono (fun r h c => ?_) (Cert.Reference26Ideal.Value.run m' g')
    have hc := h c
    refine ⟨hc.1.trans ?_, hc.2.1.trans ?_, hc.2.2.1.trans ?_, hc.2.2.2.1.trans ?_, hc.2.2.2.2⟩
    · rw [(hagree c).1]
      exact g_res (argP m c)
    · rw [(hagree c).1, (hagree c).2.1, (hagree c).2.2.1, (hagree c).2.2.2]
      exact d_res (argP m c) (argW m c) (argM m c) (argV m c)
    · rw [(hagree c).1, (hagree c).2.2.1]
      exact m_res (argP m c) (argM m c)
    · rw [(hagree c).1, (hagree c).2.2.2]
      exact v_res (argP m c) (argV m c)

end Cert.Adam26

end
-- ==== Proof.Adam27.lean ====
/- The optimiser's step on the weights of the memory keys and values projection: the kernel and the reference leave the same arrays. -/
module

public import proofs.«01_k».proof.Defs
public import proofs.«01_k».proof.Proof.Gen.Kernel27Ideal.Value
public import proofs.«01_k».proof.Proof.Gen.Reference27Ideal.Run
public import proofs.«01_k».proof.Proof.AdamSpec
public import Idealize.ShloMosaic.Lib.Claim

@[expose] public section

set_option maxRecDepth 16384

noncomputable section

namespace Cert.Adam27

open Idealize.ShloMosaic Idealize.ShloMosaic.TcCoe Idealize.SL.Sem Cert.Adam

section Kernel

open Cert.Kernel27Ideal Cert.Kernel27Ideal.Gen

variable (m : (ℓ : Loc nD τ sig) → Buf (Elt Ideal) ℓ)

/-- The arrays of device `c`: the parts of the gradient, the weights and the two moments. -/
abbrev argP (c : Dev nD) : Cube 8 128 1024 := m ((c : Thread nD τ).loc main_arg0)
abbrev argW (c : Dev nD) : Cube 1 128 1024 := m ((c : Thread nD τ).loc main_arg1)
abbrev argM (c : Dev nD) : Cube 1 128 1024 := m ((c : Thread nD τ).loc main_arg2)
abbrev argV (c : Dev nD) : Cube 1 128 1024 := m ((c : Thread nD τ).loc main_arg3)

/-- Grid point `t` reads and writes the rows `128 t …` of every array. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] := by decide +kernel

/-- The row of the arrays that row `r` of point `t`'s blocks is. -/
abbrev row (t : Fin cfg0.N) (r : Fin 128) : Fin 128 := ⟨128 * t.val + r.val, by have : t.val < 1 := t.isLt; omega⟩

section Payloads

variable (x0 x1 x2 x3 x4 x5 x6 x7 : Vec Ideal S1x128x1024 .bf16) (g : FVec Ideal S128x1024 .f32) (w u v : Vec Ideal S1x128x1024 .f32) (r : Fin 128) (q : Fin 1024)

/-- What each store takes, element by element. -/
theorem pay3_apply : k0_pay3 (F := Ideal) x0 x1 x2 x3 x4 x5 x6 x7 (ix2 r q) = (x0 (ix3 0 r q) + x1 (ix3 0 r q) + x2 (ix3 0 r q) + x3 (ix3 0 r q) + x4 (ix3 0 r q)
    + x5 (ix3 0 r q) + x6 (ix3 0 r q) + x7 (ix3 0 r q) : EReal) := by
  pointwise [k0_pay3]

theorem pay4_apply : k0_pay4 (F := Ideal) g (ix3 0 r q) = g (ix2 r q) := by
  pointwise [k0_pay4]

theorem pay5_apply : k0_pay5 (F := Ideal) g u (ix2 r q) = first (u (ix3 0 r q)) (g (ix2 r q)) := by
  pointwise [k0_pay5, first]

theorem pay6_apply : k0_pay6 (F := Ideal) g v (ix2 r q) = second (v (ix3 0 r q)) (g (ix2 r q)) := by
  pointwise [k0_pay6, second]

theorem pay7_apply : k0_pay7 (F := Ideal) g w u v (ix3 0 r q)
    = delta (w (ix3 0 r q)) (first (u (ix3 0 r q)) (g (ix2 r q))) (second (v (ix3 0 r q)) (g (ix2 r q))) := by
  pointwise [k0_pay7, delta, pay5_apply, pay6_apply]

theorem pay1_apply : k0_pay1 (F := Ideal) g (ix3 0 r q) = g (ix2 r q) := by
  pointwise [k0_pay1]

theorem pay2_apply : k0_pay2 (F := Ideal) g (ix3 0 r q) = g (ix2 r q) := by
  pointwise [k0_pay2]

end Payloads

/-- Point `t`'s blocks of the arguments. -/
theorem part_eq (c : Dev nD) (t : Fin cfg0.N) (s : ℕ) (s' : Fin 8) (hs : (s' : ℕ) = s)
    (inb : ∀ a, (![s, 0, 0] : Fin 3 → ℕ) a + (![1, 128, 1024] : Fin 3 → ℕ) a ≤ S8x128x1024.size a) (r : Fin 128) (q : Fin 1024) :
    (View.ld (iblk m c 0 t) (Rect.unit (s := S8x128x1024) ![s, 0, 0] ![1, 128, 1024] inb) (ix3 0 r q) : EReal) = argP m c (ix3 s' (row t r) q) := by
  refine (ld_apply inb _ r q s' hs).trans (?_ : (iblk m c 0 t : S8x128x1024.Idx → EReal) (ix3 s' r q) = argP m c (ix3 s' (row t r) q))
  blk_ext [iblk, V, idx t]

theorem w_eq (c : Dev nD) (t : Fin cfg0.N) (r : Fin 128) (q : Fin 1024) : (iblk m c 1 t : S1x128x1024.Idx → EReal) (ix3 0 r q) = argW m c (ix3 0 (row t r) q) := by
  blk_ext [iblk, V, idx t]

theorem mo_eq (c : Dev nD) (t : Fin cfg0.N) (r : Fin 128) (q : Fin 1024) : (iblk m c 2 t : S1x128x1024.Idx → EReal) (ix3 0 r q) = argM m c (ix3 0 (row t r) q) := by
  blk_ext [iblk, V, idx t]

theorem vo_eq (c : Dev nD) (t : Fin cfg0.N) (r : Fin 128) (q : Fin 1024) : (iblk m c 3 t : S1x128x1024.Idx → EReal) (ix3 0 r q) = argV m c (ix3 0 (row t r) q) := by
  blk_ext [iblk, V, idx t]

/-- The sum of the parts at point `t`, the gradient of its rows. -/
abbrev total (c : Dev nD) (t : Fin cfg0.N) : FVec Ideal S128x1024 .f32 := k0_pay8 (F := Ideal) (iblk m c 0 t) (iblk m c 1 t) (iblk m c 2 t) (iblk m c 3 t)

theorem total_apply (c : Dev nD) (t : Fin cfg0.N) (r : Fin 128) (q : Fin 1024) : total m c t (ix2 r q) = grad (argP m c) (row t r) q := by
  unfold total k0_pay8
  rw [pay3_apply, grad_eq]
  rw [part_eq m c t 0 0 rfl _ r q, part_eq m c t 1 1 rfl _ r q, part_eq m c t 2 2 rfl _ r q, part_eq m c t 3 3 rfl _ r q,
    part_eq m c t 4 4 rfl _ r q, part_eq m c t 5 5 rfl _ r q, part_eq m c t 6 6 rfl _ r q, part_eq m c t 7 7 rfl _ r q]

/-- What point `t` leaves in each output block. -/
theorem g_eq (c : Dev nD) (t : Fin cfg0.N) (r : Fin 128) (q : Fin 1024) :
    k0_pay4 (F := Ideal) (total m c t) (ix3 0 r q) = resG (argP m c) (ix3 0 (row t r) q) :=
  (pay4_apply ..).trans (total_apply m c t r q)

theorem m_eq (c : Dev nD) (t : Fin cfg0.N) (r : Fin 128) (q : Fin 1024) :
    k0_pay1 (F := Ideal) (k0_pay5 (total m c t) (iblk m c 2 t)) (ix3 0 r q) = resM (argP m c) (argM m c) (ix3 0 (row t r) q) := by
  refine (pay1_apply ..).trans ((pay5_apply ..).trans ?_)
  rw [total_apply]
  exact congrArg (fun u => first u _) (mo_eq m c t r q)

theorem v_eq (c : Dev nD) (t : Fin cfg0.N) (r : Fin 128) (q : Fin 1024) :
    k0_pay2 (F := Ideal) (k0_pay6 (total m c t) (iblk m c 3 t)) (ix3 0 r q) = resV (argP m c) (argV m c) (ix3 0 (row t r) q) := by
  refine (pay2_apply ..).trans ((pay6_apply ..).trans ?_)
  rw [total_apply]
  exact congrArg (fun u => second u _) (vo_eq m c t r q)

theorem d_eq (c : Dev nD) (t : Fin cfg0.N) (r : Fin 128) (q : Fin 1024) :
    k0_pay7 (F := Ideal) (total m c t) (iblk m c 1 t) (iblk m c 2 t) (iblk m c 3 t) (ix3 0 r q)
      = resD (argP m c) (argW m c) (argM m c) (argV m c) (ix3 0 (row t r) q) := by
  refine (pay7_apply ..).trans ?_
  rw [total_apply]
  refine (congrArg (fun w => delta w _ _) (w_eq m c t r q)).trans ?_
  exact congrArg₂ (fun u v => delta _ (first u _) (second v _)) (mo_eq m c t r q) (vo_eq m c t r q)

/-- The output array of window 4 is the gradient. -/
theorem final4 (c : Dev nD) : (dats m 0 c).arrAt 4 cfg0.N = resG (argP m c) := by
  refine (dats m 0 c).arrAt_eq_of_covers 4 _ (by decide +kernel) fun t hf y => ?_
  blk_simp
  rw [after0_4]
  frame_out
  change S1x128x1024.Idx at y
  idx_vars y
  obtain rfl : y0 = 0 := Subsingleton.elim _ _
  have ht : t.val < 1 := t.isLt
  have h0 : win0_4.index t 0 = 0 := by rw [(idx t).2.2.2.2.1]; rfl
  have h1 : win0_4.index t 1 = t.val := by rw [(idx t).2.2.2.2.1]; rfl
  have h2 : win0_4.index t 2 = 0 := by rw [(idx t).2.2.2.2.1]; rfl
  have e : resG (argP m c) (ix3 0 (row t y1) y2) = resG (argP m c) (((View.whole main_v0_0).slice (win0_4.rect t)).emb (ix3 0 y1 y2)) := by
    refine congrArg (resG (argP m c)) (funext fun x => Fin.ext ?_)
    match x with
    | 0 => show 0 = win0_4.index t 0 * 1 + 1 * 0; omega
    | 1 => show 128 * t.val + y1.val = win0_4.index t 1 * 128 + 1 * y1.val; omega
    | 2 => show y2.val = win0_4.index t 2 * 1024 + 1 * y2.val; omega
  exact Eq.trans (g_eq m c t y1 y2) e

/-- The output array of window 5 is the change of the weights. -/
theorem final5 (c : Dev nD) : (dats m 0 c).arrAt 5 cfg0.N = resD (argP m c) (argW m c) (argM m c) (argV m c) := by
  refine (dats m 0 c).arrAt_eq_of_covers 5 _ (by decide +kernel) fun t hf y => ?_
  blk_simp
  rw [after0_5]
  frame_out
  change S1x128x1024.Idx at y
  idx_vars y
  obtain rfl : y0 = 0 := Subsingleton.elim _ _
  have ht : t.val < 1 := t.isLt
  have h0 : win0_5.index t 0 = 0 := by rw [(idx t).2.2.2.2.2.1]; rfl
  have h1 : win0_5.index t 1 = t.val := by rw [(idx t).2.2.2.2.2.1]; rfl
  have h2 : win0_5.index t 2 = 0 := by rw [(idx t).2.2.2.2.2.1]; rfl
  have e : resD (argP m c) (argW m c) (argM m c) (argV m c) (ix3 0 (row t y1) y2) = resD (argP m c) (argW m c) (argM m c) (argV m c) (((View.whole main_v0_1).slice (win0_5.rect t)).emb (ix3 0 y1 y2)) := by
    refine congrArg (resD (argP m c) (argW m c) (argM m c) (argV m c)) (funext fun x => Fin.ext ?_)
    match x with
    | 0 => show 0 = win0_5.index t 0 * 1 + 1 * 0; omega
    | 1 => show 128 * t.val + y1.val = win0_5.index t 1 * 128 + 1 * y1.val; omega
    | 2 => show y2.val = win0_5.index t 2 * 1024 + 1 * y2.val; omega
  exact Eq.trans (d_eq m c t y1 y2) e

/-- The output array of window 6 is the new first moment. -/
theorem final6 (c : Dev nD) : (dats m 0 c).arrAt 6 cfg0.N = resM (argP m c) (argM m c) := by
  refine (dats m 0 c).arrAt_eq_of_covers 6 _ (by decide +kernel) fun t hf y => ?_
  blk_simp
  rw [after0_6]
  frame_out
  change S1x128x1024.Idx at y
  idx_vars y
  obtain rfl : y0 = 0 := Subsingleton.elim _ _
  have ht : t.val < 1 := t.isLt
  have h0 : win0_6.index t 0 = 0 := by rw [(idx t).2.2.2.2.2.2.1]; rfl
  have h1 : win0_6.index t 1 = t.val := by rw [(idx t).2.2.2.2.2.2.1]; rfl
  have h2 : win0_6.index t 2 = 0 := by rw [(idx t).2.2.2.2.2.2.1]; rfl
  have e : resM (argP m c) (argM m c) (ix3 0 (row t y1) y2) = resM (argP m c) (argM m c) (((View.whole main_v0_2).slice (win0_6.rect t)).emb (ix3 0 y1 y2)) := by
    refine congrArg (resM (argP m c) (argM m c)) (funext fun x => Fin.ext ?_)
    match x with
    | 0 => show 0 = win0_6.index t 0 * 1 + 1 * 0; omega
    | 1 => show 128 * t.val + y1.val = win0_6.index t 1 * 128 + 1 * y1.val; omega
    | 2 => show y2.val = win0_6.index t 2 * 1024 + 1 * y2.val; omega
  exact Eq.trans (m_eq m c t y1 y2) e

/-- The output array of window 7 is the new second moment. -/
theorem final7 (c : Dev nD) : (dats m 0 c).arrAt 7 cfg0.N = resV (argP m c) (argV m c) := by
  refine (dats m 0 c).arrAt_eq_of_covers 7 _ (by decide +kernel) fun t hf y => ?_
  blk_simp
  rw [after0_7]
  frame_out
  change S1x128x1024.Idx at y
  idx_vars y
  obtain rfl : y0 = 0 := Subsingleton.elim _ _
  have ht : t.val < 1 := t.isLt
  have h0 : win0_7.index t 0 = 0 := by rw [(idx t).2.2.2.2.2.2.2]; rfl
  have h1 : win0_7.index t 1 = t.val := by rw [(idx t).2.2.2.2.2.2.2]; rfl
  have h2 : win0_7.index t 2 = 0 := by rw [(idx t).2.2.2.2.2.2.2]; rfl
  have e : resV (argP m c) (argV m c) (ix3 0 (row t y1) y2) = resV (argP m c) (argV m c) (((View.whole main_v0_3).slice (win0_7.rect t)).emb (ix3 0 y1 y2)) := by
    refine congrArg (resV (argP m c) (argV m c)) (funext fun x => Fin.ext ?_)
    match x with
    | 0 => show 0 = win0_7.index t 0 * 1 + 1 * 0; omega
    | 1 => show 128 * t.val + y1.val = win0_7.index t 1 * 128 + 1 * y1.val; omega
    | 2 => show y2.val = win0_7.index t 2 * 1024 + 1 * y2.val; omega
  exact Eq.trans (v_eq m c t y1 y2) e

end Kernel

section Reference

open Cert.Reference27Ideal Cert.Reference27Ideal.Gen Cert.Reference27Ideal.Facts

variable (P : Cube 8 128 1024) (W M V : Cube 1 128 1024)

/-- The gradient of the reference. -/
def gradArr : FVec Ideal S1x128x1024 .f32 := broadcastInDim S1x128x1024 ![1, 2] bcast_S128x1024_S1x128x1024_1_2 (Host.reduceAdd (extf (φ := .bf16) .f32 P bitsLt_bf16_f32) (constant S_ .f32 0x00000000#32) reducesTo_S8x128x1024_S128x1024_d0 h_S_)

theorem gradArr_apply (i : Fin 128) (j : Fin 1024) : gradArr P (ix3 0 i j) = grad P i j := by
  pointwise [gradArr, grad]

/-- The new moments and the change of the weights of the reference, from the gradient. -/
def firstArr (g : FVec Ideal S1x128x1024 .f32) : FVec Ideal S1x128x1024 .f32 := addf (mulf (broadcastInDim S1x128x1024 ![] bcast_S_S1x128x1024 (constant S_ .f32 0x3F666666#32)) M) (mulf (broadcastInDim S1x128x1024 ![] bcast_S_S1x128x1024 (constant S_ .f32 0x3DCCCCCD#32)) g)

def secondArr (g : FVec Ideal S1x128x1024 .f32) : FVec Ideal S1x128x1024 .f32 := addf (mulf (broadcastInDim S1x128x1024 ![] bcast_S_S1x128x1024 (constant S_ .f32 0x3F7FBE77#32)) V) (mulf (broadcastInDim S1x128x1024 ![] bcast_S_S1x128x1024 (constant S_ .f32 0x3A83126F#32)) (mulf g g))

def deltaArr (u v : FVec Ideal S1x128x1024 .f32) : FVec Ideal S1x128x1024 .f32 := mulf (broadcastInDim S1x128x1024 ![] bcast_S_S1x128x1024 (constant S_ .f32 0xBA83126F#32)) (addf (Host.divf (Host.divf u (broadcastInDim S1x128x1024 ![] bcast_S_S1x128x1024 (constant S_ .f32 0x3F26BD02#32))) (addf (Host.sqrt (Host.divf v (broadcastInDim S1x128x1024 ![] bcast_S_S1x128x1024 (constant S_ .f32 0x3C231ACC#32)))) (broadcastInDim S1x128x1024 ![] bcast_S_S1x128x1024 (constant S_ .f32 0x322BCC77#32)))) (mulf (broadcastInDim S1x128x1024 ![] bcast_S_S1x128x1024 (constant S_ .f32 0x3C23D70A#32)) W))

theorem firstArr_apply (g : FVec Ideal S1x128x1024 .f32) (i : Fin 128) (j : Fin 1024) : firstArr M g (ix3 0 i j) = first (M (ix3 0 i j)) (g (ix3 0 i j)) := by
  pointwise [firstArr, first]

theorem secondArr_apply (g : FVec Ideal S1x128x1024 .f32) (i : Fin 128) (j : Fin 1024) : secondArr V g (ix3 0 i j) = second (V (ix3 0 i j)) (g (ix3 0 i j)) := by
  pointwise [secondArr, second]

theorem deltaArr_apply (u v : FVec Ideal S1x128x1024 .f32) (i : Fin 128) (j : Fin 1024) :
    deltaArr W u v (ix3 0 i j) = delta (W (ix3 0 i j)) (u (ix3 0 i j)) (v (ix3 0 i j)) := by
  pointwise [deltaArr, delta]

/-- The four results of the reference. -/
theorem g_res : gradArr P = resG P := by
  funext x
  change S1x128x1024.Idx at x
  idx_vars x
  obtain rfl : x0 = 0 := Subsingleton.elim _ _
  exact gradArr_apply P x1 x2

theorem m_res : firstArr M (gradArr P) = resM P M := by
  funext x
  change S1x128x1024.Idx at x
  idx_vars x
  obtain rfl : x0 = 0 := Subsingleton.elim _ _
  rw [firstArr_apply, gradArr_apply]
  rfl

theorem v_res : secondArr V (gradArr P) = resV P V := by
  funext x
  change S1x128x1024.Idx at x
  idx_vars x
  obtain rfl : x0 = 0 := Subsingleton.elim _ _
  rw [secondArr_apply, gradArr_apply]
  rfl

theorem d_res : deltaArr W (firstArr M (gradArr P)) (secondArr V (gradArr P)) = resD P W M V := by
  rw [m_res, v_res]
  funext x
  change S1x128x1024.Idx at x
  idx_vars x
  obtain rfl : x0 = 0 := Subsingleton.elim _ _
  rw [deltaArr_apply]
  rfl

end Reference

/-- The reference's frame: it ends with its arguments unchanged and every counter at zero. -/
theorem frameR : Cert.quiescent_Reference27Ideal := by
  intro m g _
  exact (θ_run Cert.Reference27Ideal.defs _ _).mono (fun r h => ⟨fun c => (h c).2.2.2.2, sem_eq_zero_of_no_sems (by decide) r.2⟩)
    (Cert.Reference27Ideal.Value.run m g)

/-- The kernel and the reference end with the same four arrays. -/
theorem algebraic : Cert.algebraic_Kernel27Ideal_Reference27Ideal := by
  intro m g m' g' _ hagree
  refine ⟨fun c => resG (argP m c), fun c => resD (argP m c) (argW m c) (argM m c) (argV m c), fun c => resM (argP m c) (argM m c), fun c => resV (argP m c) (argV m c), ?_, ?_⟩
  · refine (θ_run Cert.Kernel27Ideal.defs _ _).mono (fun r h c => ?_) (Cert.Kernel27Ideal.Value.run_blocks m g)
    have hc := h c
    exact ⟨hc.1.trans (final4 m c), hc.2.1.trans (final5 m c), hc.2.2.1.trans (final6 m c), hc.2.2.2.1.trans (final7 m c), hc.2.2.2.2⟩
  · refine (θ_run Cert.Reference27Ideal.defs _ _).mono (fun r h c => ?_) (Cert.Reference27Ideal.Value.run m' g')
    have hc := h c
    refine ⟨hc.1.trans ?_, hc.2.1.trans ?_, hc.2.2.1.trans ?_, hc.2.2.2.1.trans ?_, hc.2.2.2.2⟩
    · rw [(hagree c).1]
      exact g_res (argP m c)
    · rw [(hagree c).1, (hagree c).2.1, (hagree c).2.2.1, (hagree c).2.2.2]
      exact d_res (argP m c) (argW m c) (argM m c) (argV m c)
    · rw [(hagree c).1, (hagree c).2.2.1]
      exact m_res (argP m c) (argM m c)
    · rw [(hagree c).1, (hagree c).2.2.2]
      exact v_res (argP m c) (argV m c)

end Cert.Adam27

end
-- ==== Proof.Adam28.lean ====
/- The optimiser's step on the weights of the block attention's projection: the kernel and the reference leave the same arrays. -/
module

public import proofs.«01_k».proof.Defs
public import proofs.«01_k».proof.Proof.Gen.Kernel28Ideal.Value
public import proofs.«01_k».proof.Proof.Gen.Reference28Ideal.Run
public import proofs.«01_k».proof.Proof.AdamSpec
public import Idealize.ShloMosaic.Lib.Claim

@[expose] public section

set_option maxRecDepth 16384

noncomputable section

namespace Cert.Adam28

open Idealize.ShloMosaic Idealize.ShloMosaic.TcCoe Idealize.SL.Sem Cert.Adam

section Kernel

open Cert.Kernel28Ideal Cert.Kernel28Ideal.Gen

variable (m : (ℓ : Loc nD τ sig) → Buf (Elt Ideal) ℓ)

/-- The arrays of device `c`: the parts of the gradient, the weights and the two moments. -/
abbrev argP (c : Dev nD) : Cube 8 512 128 := m ((c : Thread nD τ).loc main_arg0)
abbrev argW (c : Dev nD) : Cube 1 512 128 := m ((c : Thread nD τ).loc main_arg1)
abbrev argM (c : Dev nD) : Cube 1 512 128 := m ((c : Thread nD τ).loc main_arg2)
abbrev argV (c : Dev nD) : Cube 1 512 128 := m ((c : Thread nD τ).loc main_arg3)

/-- Grid point `t` reads and writes the rows `256 t …` of every array. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] := by decide +kernel

/-- The row of the arrays that row `r` of point `t`'s blocks is. -/
abbrev row (t : Fin cfg0.N) (r : Fin 256) : Fin 512 := ⟨256 * t.val + r.val, by have : t.val < 2 := t.isLt; omega⟩

section Payloads

variable (x0 x1 x2 x3 x4 x5 x6 x7 : Vec Ideal S1x256x128 .bf16) (g : FVec Ideal S256x128 .f32) (w u v : Vec Ideal S1x256x128 .f32) (r : Fin 256) (q : Fin 128)

/-- What each store takes, element by element. -/
theorem pay3_apply : k0_pay3 (F := Ideal) x0 x1 x2 x3 x4 x5 x6 x7 (ix2 r q) = (x0 (ix3 0 r q) + x1 (ix3 0 r q) + x2 (ix3 0 r q) + x3 (ix3 0 r q) + x4 (ix3 0 r q)
    + x5 (ix3 0 r q) + x6 (ix3 0 r q) + x7 (ix3 0 r q) : EReal) := by
  pointwise [k0_pay3]

theorem pay4_apply : k0_pay4 (F := Ideal) g (ix3 0 r q) = g (ix2 r q) := by
  pointwise [k0_pay4]

theorem pay5_apply : k0_pay5 (F := Ideal) g u (ix2 r q) = first (u (ix3 0 r q)) (g (ix2 r q)) := by
  pointwise [k0_pay5, first]

theorem pay6_apply : k0_pay6 (F := Ideal) g v (ix2 r q) = second (v (ix3 0 r q)) (g (ix2 r q)) := by
  pointwise [k0_pay6, second]

theorem pay7_apply : k0_pay7 (F := Ideal) g w u v (ix3 0 r q)
    = delta (w (ix3 0 r q)) (first (u (ix3 0 r q)) (g (ix2 r q))) (second (v (ix3 0 r q)) (g (ix2 r q))) := by
  pointwise [k0_pay7, delta, pay5_apply, pay6_apply]

theorem pay1_apply : k0_pay1 (F := Ideal) g (ix3 0 r q) = g (ix2 r q) := by
  pointwise [k0_pay1]

theorem pay2_apply : k0_pay2 (F := Ideal) g (ix3 0 r q) = g (ix2 r q) := by
  pointwise [k0_pay2]

end Payloads

/-- Point `t`'s blocks of the arguments. -/
theorem part_eq (c : Dev nD) (t : Fin cfg0.N) (s : ℕ) (s' : Fin 8) (hs : (s' : ℕ) = s)
    (inb : ∀ a, (![s, 0, 0] : Fin 3 → ℕ) a + (![1, 256, 128] : Fin 3 → ℕ) a ≤ S8x256x128.size a) (r : Fin 256) (q : Fin 128) :
    (View.ld (iblk m c 0 t) (Rect.unit (s := S8x256x128) ![s, 0, 0] ![1, 256, 128] inb) (ix3 0 r q) : EReal) = argP m c (ix3 s' (row t r) q) := by
  refine (ld_apply inb _ r q s' hs).trans (?_ : (iblk m c 0 t : S8x256x128.Idx → EReal) (ix3 s' r q) = argP m c (ix3 s' (row t r) q))
  blk_ext [iblk, V, idx t]

theorem w_eq (c : Dev nD) (t : Fin cfg0.N) (r : Fin 256) (q : Fin 128) : (iblk m c 1 t : S1x256x128.Idx → EReal) (ix3 0 r q) = argW m c (ix3 0 (row t r) q) := by
  blk_ext [iblk, V, idx t]

theorem mo_eq (c : Dev nD) (t : Fin cfg0.N) (r : Fin 256) (q : Fin 128) : (iblk m c 2 t : S1x256x128.Idx → EReal) (ix3 0 r q) = argM m c (ix3 0 (row t r) q) := by
  blk_ext [iblk, V, idx t]

theorem vo_eq (c : Dev nD) (t : Fin cfg0.N) (r : Fin 256) (q : Fin 128) : (iblk m c 3 t : S1x256x128.Idx → EReal) (ix3 0 r q) = argV m c (ix3 0 (row t r) q) := by
  blk_ext [iblk, V, idx t]

/-- The sum of the parts at point `t`, the gradient of its rows. -/
abbrev total (c : Dev nD) (t : Fin cfg0.N) : FVec Ideal S256x128 .f32 := k0_pay8 (F := Ideal) (iblk m c 0 t) (iblk m c 1 t) (iblk m c 2 t) (iblk m c 3 t)

theorem total_apply (c : Dev nD) (t : Fin cfg0.N) (r : Fin 256) (q : Fin 128) : total m c t (ix2 r q) = grad (argP m c) (row t r) q := by
  unfold total k0_pay8
  rw [pay3_apply, grad_eq]
  rw [part_eq m c t 0 0 rfl _ r q, part_eq m c t 1 1 rfl _ r q, part_eq m c t 2 2 rfl _ r q, part_eq m c t 3 3 rfl _ r q,
    part_eq m c t 4 4 rfl _ r q, part_eq m c t 5 5 rfl _ r q, part_eq m c t 6 6 rfl _ r q, part_eq m c t 7 7 rfl _ r q]

/-- What point `t` leaves in each output block. -/
theorem g_eq (c : Dev nD) (t : Fin cfg0.N) (r : Fin 256) (q : Fin 128) :
    k0_pay4 (F := Ideal) (total m c t) (ix3 0 r q) = resG (argP m c) (ix3 0 (row t r) q) :=
  (pay4_apply ..).trans (total_apply m c t r q)

theorem m_eq (c : Dev nD) (t : Fin cfg0.N) (r : Fin 256) (q : Fin 128) :
    k0_pay1 (F := Ideal) (k0_pay5 (total m c t) (iblk m c 2 t)) (ix3 0 r q) = resM (argP m c) (argM m c) (ix3 0 (row t r) q) := by
  refine (pay1_apply ..).trans ((pay5_apply ..).trans ?_)
  rw [total_apply]
  exact congrArg (fun u => first u _) (mo_eq m c t r q)

theorem v_eq (c : Dev nD) (t : Fin cfg0.N) (r : Fin 256) (q : Fin 128) :
    k0_pay2 (F := Ideal) (k0_pay6 (total m c t) (iblk m c 3 t)) (ix3 0 r q) = resV (argP m c) (argV m c) (ix3 0 (row t r) q) := by
  refine (pay2_apply ..).trans ((pay6_apply ..).trans ?_)
  rw [total_apply]
  exact congrArg (fun u => second u _) (vo_eq m c t r q)

theorem d_eq (c : Dev nD) (t : Fin cfg0.N) (r : Fin 256) (q : Fin 128) :
    k0_pay7 (F := Ideal) (total m c t) (iblk m c 1 t) (iblk m c 2 t) (iblk m c 3 t) (ix3 0 r q)
      = resD (argP m c) (argW m c) (argM m c) (argV m c) (ix3 0 (row t r) q) := by
  refine (pay7_apply ..).trans ?_
  rw [total_apply]
  refine (congrArg (fun w => delta w _ _) (w_eq m c t r q)).trans ?_
  exact congrArg₂ (fun u v => delta _ (first u _) (second v _)) (mo_eq m c t r q) (vo_eq m c t r q)

/-- The output array of window 4 is the gradient. -/
theorem final4 (c : Dev nD) : (dats m 0 c).arrAt 4 cfg0.N = resG (argP m c) := by
  refine (dats m 0 c).arrAt_eq_of_covers 4 _ (by decide +kernel) fun t hf y => ?_
  blk_simp
  rw [after0_4]
  frame_out
  change S1x256x128.Idx at y
  idx_vars y
  obtain rfl : y0 = 0 := Subsingleton.elim _ _
  have ht : t.val < 2 := t.isLt
  have h0 : win0_4.index t 0 = 0 := by rw [(idx t).2.2.2.2.1]; rfl
  have h1 : win0_4.index t 1 = t.val := by rw [(idx t).2.2.2.2.1]; rfl
  have h2 : win0_4.index t 2 = 0 := by rw [(idx t).2.2.2.2.1]; rfl
  have e : resG (argP m c) (ix3 0 (row t y1) y2) = resG (argP m c) (((View.whole main_v0_0).slice (win0_4.rect t)).emb (ix3 0 y1 y2)) := by
    refine congrArg (resG (argP m c)) (funext fun x => Fin.ext ?_)
    match x with
    | 0 => show 0 = win0_4.index t 0 * 1 + 1 * 0; omega
    | 1 => show 256 * t.val + y1.val = win0_4.index t 1 * 256 + 1 * y1.val; omega
    | 2 => show y2.val = win0_4.index t 2 * 128 + 1 * y2.val; omega
  exact Eq.trans (g_eq m c t y1 y2) e

/-- The output array of window 5 is the change of the weights. -/
theorem final5 (c : Dev nD) : (dats m 0 c).arrAt 5 cfg0.N = resD (argP m c) (argW m c) (argM m c) (argV m c) := by
  refine (dats m 0 c).arrAt_eq_of_covers 5 _ (by decide +kernel) fun t hf y => ?_
  blk_simp
  rw [after0_5]
  frame_out
  change S1x256x128.Idx at y
  idx_vars y
  obtain rfl : y0 = 0 := Subsingleton.elim _ _
  have ht : t.val < 2 := t.isLt
  have h0 : win0_5.index t 0 = 0 := by rw [(idx t).2.2.2.2.2.1]; rfl
  have h1 : win0_5.index t 1 = t.val := by rw [(idx t).2.2.2.2.2.1]; rfl
  have h2 : win0_5.index t 2 = 0 := by rw [(idx t).2.2.2.2.2.1]; rfl
  have e : resD (argP m c) (argW m c) (argM m c) (argV m c) (ix3 0 (row t y1) y2) = resD (argP m c) (argW m c) (argM m c) (argV m c) (((View.whole main_v0_1).slice (win0_5.rect t)).emb (ix3 0 y1 y2)) := by
    refine congrArg (resD (argP m c) (argW m c) (argM m c) (argV m c)) (funext fun x => Fin.ext ?_)
    match x with
    | 0 => show 0 = win0_5.index t 0 * 1 + 1 * 0; omega
    | 1 => show 256 * t.val + y1.val = win0_5.index t 1 * 256 + 1 * y1.val; omega
    | 2 => show y2.val = win0_5.index t 2 * 128 + 1 * y2.val; omega
  exact Eq.trans (d_eq m c t y1 y2) e

/-- The output array of window 6 is the new first moment. -/
theorem final6 (c : Dev nD) : (dats m 0 c).arrAt 6 cfg0.N = resM (argP m c) (argM m c) := by
  refine (dats m 0 c).arrAt_eq_of_covers 6 _ (by decide +kernel) fun t hf y => ?_
  blk_simp
  rw [after0_6]
  frame_out
  change S1x256x128.Idx at y
  idx_vars y
  obtain rfl : y0 = 0 := Subsingleton.elim _ _
  have ht : t.val < 2 := t.isLt
  have h0 : win0_6.index t 0 = 0 := by rw [(idx t).2.2.2.2.2.2.1]; rfl
  have h1 : win0_6.index t 1 = t.val := by rw [(idx t).2.2.2.2.2.2.1]; rfl
  have h2 : win0_6.index t 2 = 0 := by rw [(idx t).2.2.2.2.2.2.1]; rfl
  have e : resM (argP m c) (argM m c) (ix3 0 (row t y1) y2) = resM (argP m c) (argM m c) (((View.whole main_v0_2).slice (win0_6.rect t)).emb (ix3 0 y1 y2)) := by
    refine congrArg (resM (argP m c) (argM m c)) (funext fun x => Fin.ext ?_)
    match x with
    | 0 => show 0 = win0_6.index t 0 * 1 + 1 * 0; omega
    | 1 => show 256 * t.val + y1.val = win0_6.index t 1 * 256 + 1 * y1.val; omega
    | 2 => show y2.val = win0_6.index t 2 * 128 + 1 * y2.val; omega
  exact Eq.trans (m_eq m c t y1 y2) e

/-- The output array of window 7 is the new second moment. -/
theorem final7 (c : Dev nD) : (dats m 0 c).arrAt 7 cfg0.N = resV (argP m c) (argV m c) := by
  refine (dats m 0 c).arrAt_eq_of_covers 7 _ (by decide +kernel) fun t hf y => ?_
  blk_simp
  rw [after0_7]
  frame_out
  change S1x256x128.Idx at y
  idx_vars y
  obtain rfl : y0 = 0 := Subsingleton.elim _ _
  have ht : t.val < 2 := t.isLt
  have h0 : win0_7.index t 0 = 0 := by rw [(idx t).2.2.2.2.2.2.2]; rfl
  have h1 : win0_7.index t 1 = t.val := by rw [(idx t).2.2.2.2.2.2.2]; rfl
  have h2 : win0_7.index t 2 = 0 := by rw [(idx t).2.2.2.2.2.2.2]; rfl
  have e : resV (argP m c) (argV m c) (ix3 0 (row t y1) y2) = resV (argP m c) (argV m c) (((View.whole main_v0_3).slice (win0_7.rect t)).emb (ix3 0 y1 y2)) := by
    refine congrArg (resV (argP m c) (argV m c)) (funext fun x => Fin.ext ?_)
    match x with
    | 0 => show 0 = win0_7.index t 0 * 1 + 1 * 0; omega
    | 1 => show 256 * t.val + y1.val = win0_7.index t 1 * 256 + 1 * y1.val; omega
    | 2 => show y2.val = win0_7.index t 2 * 128 + 1 * y2.val; omega
  exact Eq.trans (v_eq m c t y1 y2) e

end Kernel

section Reference

open Cert.Reference28Ideal Cert.Reference28Ideal.Gen Cert.Reference28Ideal.Facts

variable (P : Cube 8 512 128) (W M V : Cube 1 512 128)

/-- The gradient of the reference. -/
def gradArr : FVec Ideal S1x512x128 .f32 := broadcastInDim S1x512x128 ![1, 2] bcast_S512x128_S1x512x128_1_2 (Host.reduceAdd (extf (φ := .bf16) .f32 P bitsLt_bf16_f32) (constant S_ .f32 0x00000000#32) reducesTo_S8x512x128_S512x128_d0 h_S_)

theorem gradArr_apply (i : Fin 512) (j : Fin 128) : gradArr P (ix3 0 i j) = grad P i j := by
  pointwise [gradArr, grad]

/-- The new moments and the change of the weights of the reference, from the gradient. -/
def firstArr (g : FVec Ideal S1x512x128 .f32) : FVec Ideal S1x512x128 .f32 := addf (mulf (broadcastInDim S1x512x128 ![] bcast_S_S1x512x128 (constant S_ .f32 0x3F666666#32)) M) (mulf (broadcastInDim S1x512x128 ![] bcast_S_S1x512x128 (constant S_ .f32 0x3DCCCCCD#32)) g)

def secondArr (g : FVec Ideal S1x512x128 .f32) : FVec Ideal S1x512x128 .f32 := addf (mulf (broadcastInDim S1x512x128 ![] bcast_S_S1x512x128 (constant S_ .f32 0x3F7FBE77#32)) V) (mulf (broadcastInDim S1x512x128 ![] bcast_S_S1x512x128 (constant S_ .f32 0x3A83126F#32)) (mulf g g))

def deltaArr (u v : FVec Ideal S1x512x128 .f32) : FVec Ideal S1x512x128 .f32 := mulf (broadcastInDim S1x512x128 ![] bcast_S_S1x512x128 (constant S_ .f32 0xBA83126F#32)) (addf (Host.divf (Host.divf u (broadcastInDim S1x512x128 ![] bcast_S_S1x512x128 (constant S_ .f32 0x3F26BD02#32))) (addf (Host.sqrt (Host.divf v (broadcastInDim S1x512x128 ![] bcast_S_S1x512x128 (constant S_ .f32 0x3C231ACC#32)))) (broadcastInDim S1x512x128 ![] bcast_S_S1x512x128 (constant S_ .f32 0x322BCC77#32)))) (mulf (broadcastInDim S1x512x128 ![] bcast_S_S1x512x128 (constant S_ .f32 0x3C23D70A#32)) W))

theorem firstArr_apply (g : FVec Ideal S1x512x128 .f32) (i : Fin 512) (j : Fin 128) : firstArr M g (ix3 0 i j) = first (M (ix3 0 i j)) (g (ix3 0 i j)) := by
  pointwise [firstArr, first]

theorem secondArr_apply (g : FVec Ideal S1x512x128 .f32) (i : Fin 512) (j : Fin 128) : secondArr V g (ix3 0 i j) = second (V (ix3 0 i j)) (g (ix3 0 i j)) := by
  pointwise [secondArr, second]

theorem deltaArr_apply (u v : FVec Ideal S1x512x128 .f32) (i : Fin 512) (j : Fin 128) :
    deltaArr W u v (ix3 0 i j) = delta (W (ix3 0 i j)) (u (ix3 0 i j)) (v (ix3 0 i j)) := by
  pointwise [deltaArr, delta]

/-- The four results of the reference. -/
theorem g_res : gradArr P = resG P := by
  funext x
  change S1x512x128.Idx at x
  idx_vars x
  obtain rfl : x0 = 0 := Subsingleton.elim _ _
  exact gradArr_apply P x1 x2

theorem m_res : firstArr M (gradArr P) = resM P M := by
  funext x
  change S1x512x128.Idx at x
  idx_vars x
  obtain rfl : x0 = 0 := Subsingleton.elim _ _
  rw [firstArr_apply, gradArr_apply]
  rfl

theorem v_res : secondArr V (gradArr P) = resV P V := by
  funext x
  change S1x512x128.Idx at x
  idx_vars x
  obtain rfl : x0 = 0 := Subsingleton.elim _ _
  rw [secondArr_apply, gradArr_apply]
  rfl

theorem d_res : deltaArr W (firstArr M (gradArr P)) (secondArr V (gradArr P)) = resD P W M V := by
  rw [m_res, v_res]
  funext x
  change S1x512x128.Idx at x
  idx_vars x
  obtain rfl : x0 = 0 := Subsingleton.elim _ _
  rw [deltaArr_apply]
  rfl

end Reference

/-- The reference's frame: it ends with its arguments unchanged and every counter at zero. -/
theorem frameR : Cert.quiescent_Reference28Ideal := by
  intro m g _
  exact (θ_run Cert.Reference28Ideal.defs _ _).mono (fun r h => ⟨fun c => (h c).2.2.2.2, sem_eq_zero_of_no_sems (by decide) r.2⟩)
    (Cert.Reference28Ideal.Value.run m g)

/-- The kernel and the reference end with the same four arrays. -/
theorem algebraic : Cert.algebraic_Kernel28Ideal_Reference28Ideal := by
  intro m g m' g' _ hagree
  refine ⟨fun c => resG (argP m c), fun c => resD (argP m c) (argW m c) (argM m c) (argV m c), fun c => resM (argP m c) (argM m c), fun c => resV (argP m c) (argV m c), ?_, ?_⟩
  · refine (θ_run Cert.Kernel28Ideal.defs _ _).mono (fun r h c => ?_) (Cert.Kernel28Ideal.Value.run_blocks m g)
    have hc := h c
    exact ⟨hc.1.trans (final4 m c), hc.2.1.trans (final5 m c), hc.2.2.1.trans (final6 m c), hc.2.2.2.1.trans (final7 m c), hc.2.2.2.2⟩
  · refine (θ_run Cert.Reference28Ideal.defs _ _).mono (fun r h c => ?_) (Cert.Reference28Ideal.Value.run m' g')
    have hc := h c
    refine ⟨hc.1.trans ?_, hc.2.1.trans ?_, hc.2.2.1.trans ?_, hc.2.2.2.1.trans ?_, hc.2.2.2.2⟩
    · rw [(hagree c).1]
      exact g_res (argP m c)
    · rw [(hagree c).1, (hagree c).2.1, (hagree c).2.2.1, (hagree c).2.2.2]
      exact d_res (argP m c) (argW m c) (argM m c) (argV m c)
    · rw [(hagree c).1, (hagree c).2.2.1]
      exact m_res (argP m c) (argM m c)
    · rw [(hagree c).1, (hagree c).2.2.2]
      exact v_res (argP m c) (argV m c)

end Cert.Adam28

end
-- ==== Proof.Adam29.lean ====
/- The optimiser's step on the weights of the dilated attention's projection: the kernel and the reference leave the same arrays. -/
module

public import proofs.«01_k».proof.Defs
public import proofs.«01_k».proof.Proof.Gen.Kernel29Ideal.Value
public import proofs.«01_k».proof.Proof.Gen.Reference29Ideal.Run
public import proofs.«01_k».proof.Proof.AdamSpec
public import Idealize.ShloMosaic.Lib.Claim

@[expose] public section

set_option maxRecDepth 16384

noncomputable section

namespace Cert.Adam29

open Idealize.ShloMosaic Idealize.ShloMosaic.TcCoe Idealize.SL.Sem Cert.Adam

section Kernel

open Cert.Kernel29Ideal Cert.Kernel29Ideal.Gen

variable (m : (ℓ : Loc nD τ sig) → Buf (Elt Ideal) ℓ)

/-- The arrays of device `c`: the parts of the gradient, the weights and the two moments. -/
abbrev argP (c : Dev nD) : Cube 8 256 128 := m ((c : Thread nD τ).loc main_arg0)
abbrev argW (c : Dev nD) : Cube 1 256 128 := m ((c : Thread nD τ).loc main_arg1)
abbrev argM (c : Dev nD) : Cube 1 256 128 := m ((c : Thread nD τ).loc main_arg2)
abbrev argV (c : Dev nD) : Cube 1 256 128 := m ((c : Thread nD τ).loc main_arg3)

/-- Grid point `t` reads and writes the rows `256 t …` of every array. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] := by decide +kernel

/-- The row of the arrays that row `r` of point `t`'s blocks is. -/
abbrev row (t : Fin cfg0.N) (r : Fin 256) : Fin 256 := ⟨256 * t.val + r.val, by have : t.val < 1 := t.isLt; omega⟩

section Payloads

variable (x0 x1 x2 x3 x4 x5 x6 x7 : Vec Ideal S1x256x128 .bf16) (g : FVec Ideal S256x128 .f32) (w u v : Vec Ideal S1x256x128 .f32) (r : Fin 256) (q : Fin 128)

/-- What each store takes, element by element. -/
theorem pay3_apply : k0_pay3 (F := Ideal) x0 x1 x2 x3 x4 x5 x6 x7 (ix2 r q) = (x0 (ix3 0 r q) + x1 (ix3 0 r q) + x2 (ix3 0 r q) + x3 (ix3 0 r q) + x4 (ix3 0 r q)
    + x5 (ix3 0 r q) + x6 (ix3 0 r q) + x7 (ix3 0 r q) : EReal) := by
  pointwise [k0_pay3]

theorem pay4_apply : k0_pay4 (F := Ideal) g (ix3 0 r q) = g (ix2 r q) := by
  pointwise [k0_pay4]

theorem pay5_apply : k0_pay5 (F := Ideal) g u (ix2 r q) = first (u (ix3 0 r q)) (g (ix2 r q)) := by
  pointwise [k0_pay5, first]

theorem pay6_apply : k0_pay6 (F := Ideal) g v (ix2 r q) = second (v (ix3 0 r q)) (g (ix2 r q)) := by
  pointwise [k0_pay6, second]

theorem pay7_apply : k0_pay7 (F := Ideal) g w u v (ix3 0 r q)
    = delta (w (ix3 0 r q)) (first (u (ix3 0 r q)) (g (ix2 r q))) (second (v (ix3 0 r q)) (g (ix2 r q))) := by
  pointwise [k0_pay7, delta, pay5_apply, pay6_apply]

theorem pay1_apply : k0_pay1 (F := Ideal) g (ix3 0 r q) = g (ix2 r q) := by
  pointwise [k0_pay1]

theorem pay2_apply : k0_pay2 (F := Ideal) g (ix3 0 r q) = g (ix2 r q) := by
  pointwise [k0_pay2]

end Payloads

/-- Point `t`'s blocks of the arguments. -/
theorem part_eq (c : Dev nD) (t : Fin cfg0.N) (s : ℕ) (s' : Fin 8) (hs : (s' : ℕ) = s)
    (inb : ∀ a, (![s, 0, 0] : Fin 3 → ℕ) a + (![1, 256, 128] : Fin 3 → ℕ) a ≤ S8x256x128.size a) (r : Fin 256) (q : Fin 128) :
    (View.ld (iblk m c 0 t) (Rect.unit (s := S8x256x128) ![s, 0, 0] ![1, 256, 128] inb) (ix3 0 r q) : EReal) = argP m c (ix3 s' (row t r) q) := by
  refine (ld_apply inb _ r q s' hs).trans (?_ : (iblk m c 0 t : S8x256x128.Idx → EReal) (ix3 s' r q) = argP m c (ix3 s' (row t r) q))
  blk_ext [iblk, V, idx t]

theorem w_eq (c : Dev nD) (t : Fin cfg0.N) (r : Fin 256) (q : Fin 128) : (iblk m c 1 t : S1x256x128.Idx → EReal) (ix3 0 r q) = argW m c (ix3 0 (row t r) q) := by
  blk_ext [iblk, V, idx t]

theorem mo_eq (c : Dev nD) (t : Fin cfg0.N) (r : Fin 256) (q : Fin 128) : (iblk m c 2 t : S1x256x128.Idx → EReal) (ix3 0 r q) = argM m c (ix3 0 (row t r) q) := by
  blk_ext [iblk, V, idx t]

theorem vo_eq (c : Dev nD) (t : Fin cfg0.N) (r : Fin 256) (q : Fin 128) : (iblk m c 3 t : S1x256x128.Idx → EReal) (ix3 0 r q) = argV m c (ix3 0 (row t r) q) := by
  blk_ext [iblk, V, idx t]

/-- The sum of the parts at point `t`, the gradient of its rows. -/
abbrev total (c : Dev nD) (t : Fin cfg0.N) : FVec Ideal S256x128 .f32 := k0_pay8 (F := Ideal) (iblk m c 0 t) (iblk m c 1 t) (iblk m c 2 t) (iblk m c 3 t)

theorem total_apply (c : Dev nD) (t : Fin cfg0.N) (r : Fin 256) (q : Fin 128) : total m c t (ix2 r q) = grad (argP m c) (row t r) q := by
  unfold total k0_pay8
  rw [pay3_apply, grad_eq]
  rw [part_eq m c t 0 0 rfl _ r q, part_eq m c t 1 1 rfl _ r q, part_eq m c t 2 2 rfl _ r q, part_eq m c t 3 3 rfl _ r q,
    part_eq m c t 4 4 rfl _ r q, part_eq m c t 5 5 rfl _ r q, part_eq m c t 6 6 rfl _ r q, part_eq m c t 7 7 rfl _ r q]

/-- What point `t` leaves in each output block. -/
theorem g_eq (c : Dev nD) (t : Fin cfg0.N) (r : Fin 256) (q : Fin 128) :
    k0_pay4 (F := Ideal) (total m c t) (ix3 0 r q) = resG (argP m c) (ix3 0 (row t r) q) :=
  (pay4_apply ..).trans (total_apply m c t r q)

theorem m_eq (c : Dev nD) (t : Fin cfg0.N) (r : Fin 256) (q : Fin 128) :
    k0_pay1 (F := Ideal) (k0_pay5 (total m c t) (iblk m c 2 t)) (ix3 0 r q) = resM (argP m c) (argM m c) (ix3 0 (row t r) q) := by
  refine (pay1_apply ..).trans ((pay5_apply ..).trans ?_)
  rw [total_apply]
  exact congrArg (fun u => first u _) (mo_eq m c t r q)

theorem v_eq (c : Dev nD) (t : Fin cfg0.N) (r : Fin 256) (q : Fin 128) :
    k0_pay2 (F := Ideal) (k0_pay6 (total m c t) (iblk m c 3 t)) (ix3 0 r q) = resV (argP m c) (argV m c) (ix3 0 (row t r) q) := by
  refine (pay2_apply ..).trans ((pay6_apply ..).trans ?_)
  rw [total_apply]
  exact congrArg (fun u => second u _) (vo_eq m c t r q)

theorem d_eq (c : Dev nD) (t : Fin cfg0.N) (r : Fin 256) (q : Fin 128) :
    k0_pay7 (F := Ideal) (total m c t) (iblk m c 1 t) (iblk m c 2 t) (iblk m c 3 t) (ix3 0 r q)
      = resD (argP m c) (argW m c) (argM m c) (argV m c) (ix3 0 (row t r) q) := by
  refine (pay7_apply ..).trans ?_
  rw [total_apply]
  refine (congrArg (fun w => delta w _ _) (w_eq m c t r q)).trans ?_
  exact congrArg₂ (fun u v => delta _ (first u _) (second v _)) (mo_eq m c t r q) (vo_eq m c t r q)

/-- The output array of window 4 is the gradient. -/
theorem final4 (c : Dev nD) : (dats m 0 c).arrAt 4 cfg0.N = resG (argP m c) := by
  refine (dats m 0 c).arrAt_eq_of_covers 4 _ (by decide +kernel) fun t hf y => ?_
  blk_simp
  rw [after0_4]
  frame_out
  change S1x256x128.Idx at y
  idx_vars y
  obtain rfl : y0 = 0 := Subsingleton.elim _ _
  have ht : t.val < 1 := t.isLt
  have h0 : win0_4.index t 0 = 0 := by rw [(idx t).2.2.2.2.1]; rfl
  have h1 : win0_4.index t 1 = t.val := by rw [(idx t).2.2.2.2.1]; rfl
  have h2 : win0_4.index t 2 = 0 := by rw [(idx t).2.2.2.2.1]; rfl
  have e : resG (argP m c) (ix3 0 (row t y1) y2) = resG (argP m c) (((View.whole main_v0_0).slice (win0_4.rect t)).emb (ix3 0 y1 y2)) := by
    refine congrArg (resG (argP m c)) (funext fun x => Fin.ext ?_)
    match x with
    | 0 => show 0 = win0_4.index t 0 * 1 + 1 * 0; omega
    | 1 => show 256 * t.val + y1.val = win0_4.index t 1 * 256 + 1 * y1.val; omega
    | 2 => show y2.val = win0_4.index t 2 * 128 + 1 * y2.val; omega
  exact Eq.trans (g_eq m c t y1 y2) e

/-- The output array of window 5 is the change of the weights. -/
theorem final5 (c : Dev nD) : (dats m 0 c).arrAt 5 cfg0.N = resD (argP m c) (argW m c) (argM m c) (argV m c) := by
  refine (dats m 0 c).arrAt_eq_of_covers 5 _ (by decide +kernel) fun t hf y => ?_
  blk_simp
  rw [after0_5]
  frame_out
  change S1x256x128.Idx at y
  idx_vars y
  obtain rfl : y0 = 0 := Subsingleton.elim _ _
  have ht : t.val < 1 := t.isLt
  have h0 : win0_5.index t 0 = 0 := by rw [(idx t).2.2.2.2.2.1]; rfl
  have h1 : win0_5.index t 1 = t.val := by rw [(idx t).2.2.2.2.2.1]; rfl
  have h2 : win0_5.index t 2 = 0 := by rw [(idx t).2.2.2.2.2.1]; rfl
  have e : resD (argP m c) (argW m c) (argM m c) (argV m c) (ix3 0 (row t y1) y2) = resD (argP m c) (argW m c) (argM m c) (argV m c) (((View.whole main_v0_1).slice (win0_5.rect t)).emb (ix3 0 y1 y2)) := by
    refine congrArg (resD (argP m c) (argW m c) (argM m c) (argV m c)) (funext fun x => Fin.ext ?_)
    match x with
    | 0 => show 0 = win0_5.index t 0 * 1 + 1 * 0; omega
    | 1 => show 256 * t.val + y1.val = win0_5.index t 1 * 256 + 1 * y1.val; omega
    | 2 => show y2.val = win0_5.index t 2 * 128 + 1 * y2.val; omega
  exact Eq.trans (d_eq m c t y1 y2) e

/-- The output array of window 6 is the new first moment. -/
theorem final6 (c : Dev nD) : (dats m 0 c).arrAt 6 cfg0.N = resM (argP m c) (argM m c) := by
  refine (dats m 0 c).arrAt_eq_of_covers 6 _ (by decide +kernel) fun t hf y => ?_
  blk_simp
  rw [after0_6]
  frame_out
  change S1x256x128.Idx at y
  idx_vars y
  obtain rfl : y0 = 0 := Subsingleton.elim _ _
  have ht : t.val < 1 := t.isLt
  have h0 : win0_6.index t 0 = 0 := by rw [(idx t).2.2.2.2.2.2.1]; rfl
  have h1 : win0_6.index t 1 = t.val := by rw [(idx t).2.2.2.2.2.2.1]; rfl
  have h2 : win0_6.index t 2 = 0 := by rw [(idx t).2.2.2.2.2.2.1]; rfl
  have e : resM (argP m c) (argM m c) (ix3 0 (row t y1) y2) = resM (argP m c) (argM m c) (((View.whole main_v0_2).slice (win0_6.rect t)).emb (ix3 0 y1 y2)) := by
    refine congrArg (resM (argP m c) (argM m c)) (funext fun x => Fin.ext ?_)
    match x with
    | 0 => show 0 = win0_6.index t 0 * 1 + 1 * 0; omega
    | 1 => show 256 * t.val + y1.val = win0_6.index t 1 * 256 + 1 * y1.val; omega
    | 2 => show y2.val = win0_6.index t 2 * 128 + 1 * y2.val; omega
  exact Eq.trans (m_eq m c t y1 y2) e

/-- The output array of window 7 is the new second moment. -/
theorem final7 (c : Dev nD) : (dats m 0 c).arrAt 7 cfg0.N = resV (argP m c) (argV m c) := by
  refine (dats m 0 c).arrAt_eq_of_covers 7 _ (by decide +kernel) fun t hf y => ?_
  blk_simp
  rw [after0_7]
  frame_out
  change S1x256x128.Idx at y
  idx_vars y
  obtain rfl : y0 = 0 := Subsingleton.elim _ _
  have ht : t.val < 1 := t.isLt
  have h0 : win0_7.index t 0 = 0 := by rw [(idx t).2.2.2.2.2.2.2]; rfl
  have h1 : win0_7.index t 1 = t.val := by rw [(idx t).2.2.2.2.2.2.2]; rfl
  have h2 : win0_7.index t 2 = 0 := by rw [(idx t).2.2.2.2.2.2.2]; rfl
  have e : resV (argP m c) (argV m c) (ix3 0 (row t y1) y2) = resV (argP m c) (argV m c) (((View.whole main_v0_3).slice (win0_7.rect t)).emb (ix3 0 y1 y2)) := by
    refine congrArg (resV (argP m c) (argV m c)) (funext fun x => Fin.ext ?_)
    match x with
    | 0 => show 0 = win0_7.index t 0 * 1 + 1 * 0; omega
    | 1 => show 256 * t.val + y1.val = win0_7.index t 1 * 256 + 1 * y1.val; omega
    | 2 => show y2.val = win0_7.index t 2 * 128 + 1 * y2.val; omega
  exact Eq.trans (v_eq m c t y1 y2) e

end Kernel

section Reference

open Cert.Reference29Ideal Cert.Reference29Ideal.Gen Cert.Reference29Ideal.Facts

variable (P : Cube 8 256 128) (W M V : Cube 1 256 128)

/-- The gradient of the reference. -/
def gradArr : FVec Ideal S1x256x128 .f32 := broadcastInDim S1x256x128 ![1, 2] bcast_S256x128_S1x256x128_1_2 (Host.reduceAdd (extf (φ := .bf16) .f32 P bitsLt_bf16_f32) (constant S_ .f32 0x00000000#32) reducesTo_S8x256x128_S256x128_d0 h_S_)

theorem gradArr_apply (i : Fin 256) (j : Fin 128) : gradArr P (ix3 0 i j) = grad P i j := by
  pointwise [gradArr, grad]

/-- The new moments and the change of the weights of the reference, from the gradient. -/
def firstArr (g : FVec Ideal S1x256x128 .f32) : FVec Ideal S1x256x128 .f32 := addf (mulf (broadcastInDim S1x256x128 ![] bcast_S_S1x256x128 (constant S_ .f32 0x3F666666#32)) M) (mulf (broadcastInDim S1x256x128 ![] bcast_S_S1x256x128 (constant S_ .f32 0x3DCCCCCD#32)) g)

def secondArr (g : FVec Ideal S1x256x128 .f32) : FVec Ideal S1x256x128 .f32 := addf (mulf (broadcastInDim S1x256x128 ![] bcast_S_S1x256x128 (constant S_ .f32 0x3F7FBE77#32)) V) (mulf (broadcastInDim S1x256x128 ![] bcast_S_S1x256x128 (constant S_ .f32 0x3A83126F#32)) (mulf g g))

def deltaArr (u v : FVec Ideal S1x256x128 .f32) : FVec Ideal S1x256x128 .f32 := mulf (broadcastInDim S1x256x128 ![] bcast_S_S1x256x128 (constant S_ .f32 0xBA83126F#32)) (addf (Host.divf (Host.divf u (broadcastInDim S1x256x128 ![] bcast_S_S1x256x128 (constant S_ .f32 0x3F26BD02#32))) (addf (Host.sqrt (Host.divf v (broadcastInDim S1x256x128 ![] bcast_S_S1x256x128 (constant S_ .f32 0x3C231ACC#32)))) (broadcastInDim S1x256x128 ![] bcast_S_S1x256x128 (constant S_ .f32 0x322BCC77#32)))) (mulf (broadcastInDim S1x256x128 ![] bcast_S_S1x256x128 (constant S_ .f32 0x3C23D70A#32)) W))

theorem firstArr_apply (g : FVec Ideal S1x256x128 .f32) (i : Fin 256) (j : Fin 128) : firstArr M g (ix3 0 i j) = first (M (ix3 0 i j)) (g (ix3 0 i j)) := by
  pointwise [firstArr, first]

theorem secondArr_apply (g : FVec Ideal S1x256x128 .f32) (i : Fin 256) (j : Fin 128) : secondArr V g (ix3 0 i j) = second (V (ix3 0 i j)) (g (ix3 0 i j)) := by
  pointwise [secondArr, second]

theorem deltaArr_apply (u v : FVec Ideal S1x256x128 .f32) (i : Fin 256) (j : Fin 128) :
    deltaArr W u v (ix3 0 i j) = delta (W (ix3 0 i j)) (u (ix3 0 i j)) (v (ix3 0 i j)) := by
  pointwise [deltaArr, delta]

/-- The four results of the reference. -/
theorem g_res : gradArr P = resG P := by
  funext x
  change S1x256x128.Idx at x
  idx_vars x
  obtain rfl : x0 = 0 := Subsingleton.elim _ _
  exact gradArr_apply P x1 x2

theorem m_res : firstArr M (gradArr P) = resM P M := by
  funext x
  change S1x256x128.Idx at x
  idx_vars x
  obtain rfl : x0 = 0 := Subsingleton.elim _ _
  rw [firstArr_apply, gradArr_apply]
  rfl

theorem v_res : secondArr V (gradArr P) = resV P V := by
  funext x
  change S1x256x128.Idx at x
  idx_vars x
  obtain rfl : x0 = 0 := Subsingleton.elim _ _
  rw [secondArr_apply, gradArr_apply]
  rfl

theorem d_res : deltaArr W (firstArr M (gradArr P)) (secondArr V (gradArr P)) = resD P W M V := by
  rw [m_res, v_res]
  funext x
  change S1x256x128.Idx at x
  idx_vars x
  obtain rfl : x0 = 0 := Subsingleton.elim _ _
  rw [deltaArr_apply]
  rfl

end Reference

/-- The reference's frame: it ends with its arguments unchanged and every counter at zero. -/
theorem frameR : Cert.quiescent_Reference29Ideal := by
  intro m g _
  exact (θ_run Cert.Reference29Ideal.defs _ _).mono (fun r h => ⟨fun c => (h c).2.2.2.2, sem_eq_zero_of_no_sems (by decide) r.2⟩)
    (Cert.Reference29Ideal.Value.run m g)

/-- The kernel and the reference end with the same four arrays. -/
theorem algebraic : Cert.algebraic_Kernel29Ideal_Reference29Ideal := by
  intro m g m' g' _ hagree
  refine ⟨fun c => resG (argP m c), fun c => resD (argP m c) (argW m c) (argM m c) (argV m c), fun c => resM (argP m c) (argM m c), fun c => resV (argP m c) (argV m c), ?_, ?_⟩
  · refine (θ_run Cert.Kernel29Ideal.defs _ _).mono (fun r h c => ?_) (Cert.Kernel29Ideal.Value.run_blocks m g)
    have hc := h c
    exact ⟨hc.1.trans (final4 m c), hc.2.1.trans (final5 m c), hc.2.2.1.trans (final6 m c), hc.2.2.2.1.trans (final7 m c), hc.2.2.2.2⟩
  · refine (θ_run Cert.Reference29Ideal.defs _ _).mono (fun r h c => ?_) (Cert.Reference29Ideal.Value.run m' g')
    have hc := h c
    refine ⟨hc.1.trans ?_, hc.2.1.trans ?_, hc.2.2.1.trans ?_, hc.2.2.2.1.trans ?_, hc.2.2.2.2⟩
    · rw [(hagree c).1]
      exact g_res (argP m c)
    · rw [(hagree c).1, (hagree c).2.1, (hagree c).2.2.1, (hagree c).2.2.2]
      exact d_res (argP m c) (argW m c) (argM m c) (argV m c)
    · rw [(hagree c).1, (hagree c).2.2.1]
      exact m_res (argP m c) (argM m c)
    · rw [(hagree c).1, (hagree c).2.2.2]
      exact v_res (argP m c) (argV m c)

end Cert.Adam29

end
-- ==== Proof.Adam30.lean ====
/- The optimiser's step on the weights of the gate: the kernel and the reference leave the same arrays. -/
module

public import proofs.«01_k».proof.Defs
public import proofs.«01_k».proof.Proof.Gen.Kernel30Ideal.Value
public import proofs.«01_k».proof.Proof.Gen.Reference30Ideal.Run
public import proofs.«01_k».proof.Proof.AdamSpec
public import Idealize.ShloMosaic.Lib.Claim

@[expose] public section

set_option maxRecDepth 16384

noncomputable section

namespace Cert.Adam30

open Idealize.ShloMosaic Idealize.ShloMosaic.TcCoe Idealize.SL.Sem Cert.Adam

section Kernel

open Cert.Kernel30Ideal Cert.Kernel30Ideal.Gen

variable (m : (ℓ : Loc nD τ sig) → Buf (Elt Ideal) ℓ)

/-- The arrays of device `c`: the parts of the gradient, the weights and the two moments. -/
abbrev argP (c : Dev nD) : Cube 8 1024 384 := m ((c : Thread nD τ).loc main_arg0)
abbrev argW (c : Dev nD) : Cube 1 1024 384 := m ((c : Thread nD τ).loc main_arg1)
abbrev argM (c : Dev nD) : Cube 1 1024 384 := m ((c : Thread nD τ).loc main_arg2)
abbrev argV (c : Dev nD) : Cube 1 1024 384 := m ((c : Thread nD τ).loc main_arg3)

/-- Grid point `t` reads and writes the rows `256 t …` of every array. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] := by decide +kernel

/-- The row of the arrays that row `r` of point `t`'s blocks is. -/
abbrev row (t : Fin cfg0.N) (r : Fin 256) : Fin 1024 := ⟨256 * t.val + r.val, by have : t.val < 4 := t.isLt; omega⟩

section Payloads

variable (x0 x1 x2 x3 x4 x5 x6 x7 : Vec Ideal S1x256x384 .bf16) (g : FVec Ideal S256x384 .f32) (w u v : Vec Ideal S1x256x384 .f32) (r : Fin 256) (q : Fin 384)

/-- What each store takes, element by element. -/
theorem pay3_apply : k0_pay3 (F := Ideal) x0 x1 x2 x3 x4 x5 x6 x7 (ix2 r q) = (x0 (ix3 0 r q) + x1 (ix3 0 r q) + x2 (ix3 0 r q) + x3 (ix3 0 r q) + x4 (ix3 0 r q)
    + x5 (ix3 0 r q) + x6 (ix3 0 r q) + x7 (ix3 0 r q) : EReal) := by
  pointwise [k0_pay3]

theorem pay4_apply : k0_pay4 (F := Ideal) g (ix3 0 r q) = g (ix2 r q) := by
  pointwise [k0_pay4]

theorem pay5_apply : k0_pay5 (F := Ideal) g u (ix2 r q) = first (u (ix3 0 r q)) (g (ix2 r q)) := by
  pointwise [k0_pay5, first]

theorem pay6_apply : k0_pay6 (F := Ideal) g v (ix2 r q) = second (v (ix3 0 r q)) (g (ix2 r q)) := by
  pointwise [k0_pay6, second]

theorem pay7_apply : k0_pay7 (F := Ideal) g w u v (ix3 0 r q)
    = delta (w (ix3 0 r q)) (first (u (ix3 0 r q)) (g (ix2 r q))) (second (v (ix3 0 r q)) (g (ix2 r q))) := by
  pointwise [k0_pay7, delta, pay5_apply, pay6_apply]

theorem pay1_apply : k0_pay1 (F := Ideal) g (ix3 0 r q) = g (ix2 r q) := by
  pointwise [k0_pay1]

theorem pay2_apply : k0_pay2 (F := Ideal) g (ix3 0 r q) = g (ix2 r q) := by
  pointwise [k0_pay2]

end Payloads

/-- Point `t`'s blocks of the arguments. -/
theorem part_eq (c : Dev nD) (t : Fin cfg0.N) (s : ℕ) (s' : Fin 8) (hs : (s' : ℕ) = s)
    (inb : ∀ a, (![s, 0, 0] : Fin 3 → ℕ) a + (![1, 256, 384] : Fin 3 → ℕ) a ≤ S8x256x384.size a) (r : Fin 256) (q : Fin 384) :
    (View.ld (iblk m c 0 t) (Rect.unit (s := S8x256x384) ![s, 0, 0] ![1, 256, 384] inb) (ix3 0 r q) : EReal) = argP m c (ix3 s' (row t r) q) := by
  refine (ld_apply inb _ r q s' hs).trans (?_ : (iblk m c 0 t : S8x256x384.Idx → EReal) (ix3 s' r q) = argP m c (ix3 s' (row t r) q))
  blk_ext [iblk, V, idx t]

theorem w_eq (c : Dev nD) (t : Fin cfg0.N) (r : Fin 256) (q : Fin 384) : (iblk m c 1 t : S1x256x384.Idx → EReal) (ix3 0 r q) = argW m c (ix3 0 (row t r) q) := by
  blk_ext [iblk, V, idx t]

theorem mo_eq (c : Dev nD) (t : Fin cfg0.N) (r : Fin 256) (q : Fin 384) : (iblk m c 2 t : S1x256x384.Idx → EReal) (ix3 0 r q) = argM m c (ix3 0 (row t r) q) := by
  blk_ext [iblk, V, idx t]

theorem vo_eq (c : Dev nD) (t : Fin cfg0.N) (r : Fin 256) (q : Fin 384) : (iblk m c 3 t : S1x256x384.Idx → EReal) (ix3 0 r q) = argV m c (ix3 0 (row t r) q) := by
  blk_ext [iblk, V, idx t]

/-- The sum of the parts at point `t`, the gradient of its rows. -/
abbrev total (c : Dev nD) (t : Fin cfg0.N) : FVec Ideal S256x384 .f32 := k0_pay8 (F := Ideal) (iblk m c 0 t) (iblk m c 1 t) (iblk m c 2 t) (iblk m c 3 t)

theorem total_apply (c : Dev nD) (t : Fin cfg0.N) (r : Fin 256) (q : Fin 384) : total m c t (ix2 r q) = grad (argP m c) (row t r) q := by
  unfold total k0_pay8
  rw [pay3_apply, grad_eq]
  rw [part_eq m c t 0 0 rfl _ r q, part_eq m c t 1 1 rfl _ r q, part_eq m c t 2 2 rfl _ r q, part_eq m c t 3 3 rfl _ r q,
    part_eq m c t 4 4 rfl _ r q, part_eq m c t 5 5 rfl _ r q, part_eq m c t 6 6 rfl _ r q, part_eq m c t 7 7 rfl _ r q]

/-- What point `t` leaves in each output block. -/
theorem g_eq (c : Dev nD) (t : Fin cfg0.N) (r : Fin 256) (q : Fin 384) :
    k0_pay4 (F := Ideal) (total m c t) (ix3 0 r q) = resG (argP m c) (ix3 0 (row t r) q) :=
  (pay4_apply ..).trans (total_apply m c t r q)

theorem m_eq (c : Dev nD) (t : Fin cfg0.N) (r : Fin 256) (q : Fin 384) :
    k0_pay1 (F := Ideal) (k0_pay5 (total m c t) (iblk m c 2 t)) (ix3 0 r q) = resM (argP m c) (argM m c) (ix3 0 (row t r) q) := by
  refine (pay1_apply ..).trans ((pay5_apply ..).trans ?_)
  rw [total_apply]
  exact congrArg (fun u => first u _) (mo_eq m c t r q)

theorem v_eq (c : Dev nD) (t : Fin cfg0.N) (r : Fin 256) (q : Fin 384) :
    k0_pay2 (F := Ideal) (k0_pay6 (total m c t) (iblk m c 3 t)) (ix3 0 r q) = resV (argP m c) (argV m c) (ix3 0 (row t r) q) := by
  refine (pay2_apply ..).trans ((pay6_apply ..).trans ?_)
  rw [total_apply]
  exact congrArg (fun u => second u _) (vo_eq m c t r q)

theorem d_eq (c : Dev nD) (t : Fin cfg0.N) (r : Fin 256) (q : Fin 384) :
    k0_pay7 (F := Ideal) (total m c t) (iblk m c 1 t) (iblk m c 2 t) (iblk m c 3 t) (ix3 0 r q)
      = resD (argP m c) (argW m c) (argM m c) (argV m c) (ix3 0 (row t r) q) := by
  refine (pay7_apply ..).trans ?_
  rw [total_apply]
  refine (congrArg (fun w => delta w _ _) (w_eq m c t r q)).trans ?_
  exact congrArg₂ (fun u v => delta _ (first u _) (second v _)) (mo_eq m c t r q) (vo_eq m c t r q)

/-- The output array of window 4 is the gradient. -/
theorem final4 (c : Dev nD) : (dats m 0 c).arrAt 4 cfg0.N = resG (argP m c) := by
  refine (dats m 0 c).arrAt_eq_of_covers 4 _ (by decide +kernel) fun t hf y => ?_
  blk_simp
  rw [after0_4]
  frame_out
  change S1x256x384.Idx at y
  idx_vars y
  obtain rfl : y0 = 0 := Subsingleton.elim _ _
  have ht : t.val < 4 := t.isLt
  have h0 : win0_4.index t 0 = 0 := by rw [(idx t).2.2.2.2.1]; rfl
  have h1 : win0_4.index t 1 = t.val := by rw [(idx t).2.2.2.2.1]; rfl
  have h2 : win0_4.index t 2 = 0 := by rw [(idx t).2.2.2.2.1]; rfl
  have e : resG (argP m c) (ix3 0 (row t y1) y2) = resG (argP m c) (((View.whole main_v0_0).slice (win0_4.rect t)).emb (ix3 0 y1 y2)) := by
    refine congrArg (resG (argP m c)) (funext fun x => Fin.ext ?_)
    match x with
    | 0 => show 0 = win0_4.index t 0 * 1 + 1 * 0; omega
    | 1 => show 256 * t.val + y1.val = win0_4.index t 1 * 256 + 1 * y1.val; omega
    | 2 => show y2.val = win0_4.index t 2 * 384 + 1 * y2.val; omega
  exact Eq.trans (g_eq m c t y1 y2) e

/-- The output array of window 5 is the change of the weights. -/
theorem final5 (c : Dev nD) : (dats m 0 c).arrAt 5 cfg0.N = resD (argP m c) (argW m c) (argM m c) (argV m c) := by
  refine (dats m 0 c).arrAt_eq_of_covers 5 _ (by decide +kernel) fun t hf y => ?_
  blk_simp
  rw [after0_5]
  frame_out
  change S1x256x384.Idx at y
  idx_vars y
  obtain rfl : y0 = 0 := Subsingleton.elim _ _
  have ht : t.val < 4 := t.isLt
  have h0 : win0_5.index t 0 = 0 := by rw [(idx t).2.2.2.2.2.1]; rfl
  have h1 : win0_5.index t 1 = t.val := by rw [(idx t).2.2.2.2.2.1]; rfl
  have h2 : win0_5.index t 2 = 0 := by rw [(idx t).2.2.2.2.2.1]; rfl
  have e : resD (argP m c) (argW m c) (argM m c) (argV m c) (ix3 0 (row t y1) y2) = resD (argP m c) (argW m c) (argM m c) (argV m c) (((View.whole main_v0_1).slice (win0_5.rect t)).emb (ix3 0 y1 y2)) := by
    refine congrArg (resD (argP m c) (argW m c) (argM m c) (argV m c)) (funext fun x => Fin.ext ?_)
    match x with
    | 0 => show 0 = win0_5.index t 0 * 1 + 1 * 0; omega
    | 1 => show 256 * t.val + y1.val = win0_5.index t 1 * 256 + 1 * y1.val; omega
    | 2 => show y2.val = win0_5.index t 2 * 384 + 1 * y2.val; omega
  exact Eq.trans (d_eq m c t y1 y2) e

/-- The output array of window 6 is the new first moment. -/
theorem final6 (c : Dev nD) : (dats m 0 c).arrAt 6 cfg0.N = resM (argP m c) (argM m c) := by
  refine (dats m 0 c).arrAt_eq_of_covers 6 _ (by decide +kernel) fun t hf y => ?_
  blk_simp
  rw [after0_6]
  frame_out
  change S1x256x384.Idx at y
  idx_vars y
  obtain rfl : y0 = 0 := Subsingleton.elim _ _
  have ht : t.val < 4 := t.isLt
  have h0 : win0_6.index t 0 = 0 := by rw [(idx t).2.2.2.2.2.2.1]; rfl
  have h1 : win0_6.index t 1 = t.val := by rw [(idx t).2.2.2.2.2.2.1]; rfl
  have h2 : win0_6.index t 2 = 0 := by rw [(idx t).2.2.2.2.2.2.1]; rfl
  have e : resM (argP m c) (argM m c) (ix3 0 (row t y1) y2) = resM (argP m c) (argM m c) (((View.whole main_v0_2).slice (win0_6.rect t)).emb (ix3 0 y1 y2)) := by
    refine congrArg (resM (argP m c) (argM m c)) (funext fun x => Fin.ext ?_)
    match x with
    | 0 => show 0 = win0_6.index t 0 * 1 + 1 * 0; omega
    | 1 => show 256 * t.val + y1.val = win0_6.index t 1 * 256 + 1 * y1.val; omega
    | 2 => show y2.val = win0_6.index t 2 * 384 + 1 * y2.val; omega
  exact Eq.trans (m_eq m c t y1 y2) e

/-- The output array of window 7 is the new second moment. -/
theorem final7 (c : Dev nD) : (dats m 0 c).arrAt 7 cfg0.N = resV (argP m c) (argV m c) := by
  refine (dats m 0 c).arrAt_eq_of_covers 7 _ (by decide +kernel) fun t hf y => ?_
  blk_simp
  rw [after0_7]
  frame_out
  change S1x256x384.Idx at y
  idx_vars y
  obtain rfl : y0 = 0 := Subsingleton.elim _ _
  have ht : t.val < 4 := t.isLt
  have h0 : win0_7.index t 0 = 0 := by rw [(idx t).2.2.2.2.2.2.2]; rfl
  have h1 : win0_7.index t 1 = t.val := by rw [(idx t).2.2.2.2.2.2.2]; rfl
  have h2 : win0_7.index t 2 = 0 := by rw [(idx t).2.2.2.2.2.2.2]; rfl
  have e : resV (argP m c) (argV m c) (ix3 0 (row t y1) y2) = resV (argP m c) (argV m c) (((View.whole main_v0_3).slice (win0_7.rect t)).emb (ix3 0 y1 y2)) := by
    refine congrArg (resV (argP m c) (argV m c)) (funext fun x => Fin.ext ?_)
    match x with
    | 0 => show 0 = win0_7.index t 0 * 1 + 1 * 0; omega
    | 1 => show 256 * t.val + y1.val = win0_7.index t 1 * 256 + 1 * y1.val; omega
    | 2 => show y2.val = win0_7.index t 2 * 384 + 1 * y2.val; omega
  exact Eq.trans (v_eq m c t y1 y2) e

end Kernel

section Reference

open Cert.Reference30Ideal Cert.Reference30Ideal.Gen Cert.Reference30Ideal.Facts

variable (P : Cube 8 1024 384) (W M V : Cube 1 1024 384)

/-- The gradient of the reference. -/
def gradArr : FVec Ideal S1x1024x384 .f32 := broadcastInDim S1x1024x384 ![1, 2] bcast_S1024x384_S1x1024x384_1_2 (Host.reduceAdd (extf (φ := .bf16) .f32 P bitsLt_bf16_f32) (constant S_ .f32 0x00000000#32) reducesTo_S8x1024x384_S1024x384_d0 h_S_)

theorem gradArr_apply (i : Fin 1024) (j : Fin 384) : gradArr P (ix3 0 i j) = grad P i j := by
  pointwise [gradArr, grad]

/-- The new moments and the change of the weights of the reference, from the gradient. -/
def firstArr (g : FVec Ideal S1x1024x384 .f32) : FVec Ideal S1x1024x384 .f32 := addf (mulf (broadcastInDim S1x1024x384 ![] bcast_S_S1x1024x384 (constant S_ .f32 0x3F666666#32)) M) (mulf (broadcastInDim S1x1024x384 ![] bcast_S_S1x1024x384 (constant S_ .f32 0x3DCCCCCD#32)) g)

def secondArr (g : FVec Ideal S1x1024x384 .f32) : FVec Ideal S1x1024x384 .f32 := addf (mulf (broadcastInDim S1x1024x384 ![] bcast_S_S1x1024x384 (constant S_ .f32 0x3F7FBE77#32)) V) (mulf (broadcastInDim S1x1024x384 ![] bcast_S_S1x1024x384 (constant S_ .f32 0x3A83126F#32)) (mulf g g))

def deltaArr (u v : FVec Ideal S1x1024x384 .f32) : FVec Ideal S1x1024x384 .f32 := mulf (broadcastInDim S1x1024x384 ![] bcast_S_S1x1024x384 (constant S_ .f32 0xBA83126F#32)) (addf (Host.divf (Host.divf u (broadcastInDim S1x1024x384 ![] bcast_S_S1x1024x384 (constant S_ .f32 0x3F26BD02#32))) (addf (Host.sqrt (Host.divf v (broadcastInDim S1x1024x384 ![] bcast_S_S1x1024x384 (constant S_ .f32 0x3C231ACC#32)))) (broadcastInDim S1x1024x384 ![] bcast_S_S1x1024x384 (constant S_ .f32 0x322BCC77#32)))) (mulf (broadcastInDim S1x1024x384 ![] bcast_S_S1x1024x384 (constant S_ .f32 0x3C23D70A#32)) W))

theorem firstArr_apply (g : FVec Ideal S1x1024x384 .f32) (i : Fin 1024) (j : Fin 384) : firstArr M g (ix3 0 i j) = first (M (ix3 0 i j)) (g (ix3 0 i j)) := by
  pointwise [firstArr, first]

theorem secondArr_apply (g : FVec Ideal S1x1024x384 .f32) (i : Fin 1024) (j : Fin 384) : secondArr V g (ix3 0 i j) = second (V (ix3 0 i j)) (g (ix3 0 i j)) := by
  pointwise [secondArr, second]

theorem deltaArr_apply (u v : FVec Ideal S1x1024x384 .f32) (i : Fin 1024) (j : Fin 384) :
    deltaArr W u v (ix3 0 i j) = delta (W (ix3 0 i j)) (u (ix3 0 i j)) (v (ix3 0 i j)) := by
  pointwise [deltaArr, delta]

/-- The four results of the reference. -/
theorem g_res : gradArr P = resG P := by
  funext x
  change S1x1024x384.Idx at x
  idx_vars x
  obtain rfl : x0 = 0 := Subsingleton.elim _ _
  exact gradArr_apply P x1 x2

theorem m_res : firstArr M (gradArr P) = resM P M := by
  funext x
  change S1x1024x384.Idx at x
  idx_vars x
  obtain rfl : x0 = 0 := Subsingleton.elim _ _
  rw [firstArr_apply, gradArr_apply]
  rfl

theorem v_res : secondArr V (gradArr P) = resV P V := by
  funext x
  change S1x1024x384.Idx at x
  idx_vars x
  obtain rfl : x0 = 0 := Subsingleton.elim _ _
  rw [secondArr_apply, gradArr_apply]
  rfl

theorem d_res : deltaArr W (firstArr M (gradArr P)) (secondArr V (gradArr P)) = resD P W M V := by
  rw [m_res, v_res]
  funext x
  change S1x1024x384.Idx at x
  idx_vars x
  obtain rfl : x0 = 0 := Subsingleton.elim _ _
  rw [deltaArr_apply]
  rfl

end Reference

/-- The reference's frame: it ends with its arguments unchanged and every counter at zero. -/
theorem frameR : Cert.quiescent_Reference30Ideal := by
  intro m g _
  exact (θ_run Cert.Reference30Ideal.defs _ _).mono (fun r h => ⟨fun c => (h c).2.2.2.2, sem_eq_zero_of_no_sems (by decide) r.2⟩)
    (Cert.Reference30Ideal.Value.run m g)

/-- The kernel and the reference end with the same four arrays. -/
theorem algebraic : Cert.algebraic_Kernel30Ideal_Reference30Ideal := by
  intro m g m' g' _ hagree
  refine ⟨fun c => resG (argP m c), fun c => resD (argP m c) (argW m c) (argM m c) (argV m c), fun c => resM (argP m c) (argM m c), fun c => resV (argP m c) (argV m c), ?_, ?_⟩
  · refine (θ_run Cert.Kernel30Ideal.defs _ _).mono (fun r h c => ?_) (Cert.Kernel30Ideal.Value.run_blocks m g)
    have hc := h c
    exact ⟨hc.1.trans (final4 m c), hc.2.1.trans (final5 m c), hc.2.2.1.trans (final6 m c), hc.2.2.2.1.trans (final7 m c), hc.2.2.2.2⟩
  · refine (θ_run Cert.Reference30Ideal.defs _ _).mono (fun r h c => ?_) (Cert.Reference30Ideal.Value.run m' g')
    have hc := h c
    refine ⟨hc.1.trans ?_, hc.2.1.trans ?_, hc.2.2.1.trans ?_, hc.2.2.2.1.trans ?_, hc.2.2.2.2⟩
    · rw [(hagree c).1]
      exact g_res (argP m c)
    · rw [(hagree c).1, (hagree c).2.1, (hagree c).2.2.1, (hagree c).2.2.2]
      exact d_res (argP m c) (argW m c) (argM m c) (argV m c)
    · rw [(hagree c).1, (hagree c).2.2.1]
      exact m_res (argP m c) (argM m c)
    · rw [(hagree c).1, (hagree c).2.2.2]
      exact v_res (argP m c) (argV m c)

end Cert.Adam30

end
-- ==== Proof.Adam31.lean ====
/- The optimiser's step on the weights of the feed-forward layer's input: the kernel and the reference leave the same arrays. -/
module

public import proofs.«01_k».proof.Defs
public import proofs.«01_k».proof.Proof.Gen.Kernel31Ideal.Value
public import proofs.«01_k».proof.Proof.Gen.Reference31Ideal.Run
public import proofs.«01_k».proof.Proof.AdamSpec
public import Idealize.ShloMosaic.Lib.Claim

@[expose] public section

set_option maxRecDepth 16384

noncomputable section

namespace Cert.Adam31

open Idealize.ShloMosaic Idealize.ShloMosaic.TcCoe Idealize.SL.Sem Cert.Adam

section Kernel

open Cert.Kernel31Ideal Cert.Kernel31Ideal.Gen

variable (m : (ℓ : Loc nD τ sig) → Buf (Elt Ideal) ℓ)

/-- The arrays of device `c`: the parts of the gradient, the weights and the two moments. -/
abbrev argP (c : Dev nD) : Cube 8 1024 704 := m ((c : Thread nD τ).loc main_arg0)
abbrev argW (c : Dev nD) : Cube 1 1024 704 := m ((c : Thread nD τ).loc main_arg1)
abbrev argM (c : Dev nD) : Cube 1 1024 704 := m ((c : Thread nD τ).loc main_arg2)
abbrev argV (c : Dev nD) : Cube 1 1024 704 := m ((c : Thread nD τ).loc main_arg3)

/-- Grid point `t` reads and writes the rows `256 t …` of every array. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] := by decide +kernel

/-- The row of the arrays that row `r` of point `t`'s blocks is. -/
abbrev row (t : Fin cfg0.N) (r : Fin 256) : Fin 1024 := ⟨256 * t.val + r.val, by have : t.val < 4 := t.isLt; omega⟩

section Payloads

variable (x0 x1 x2 x3 x4 x5 x6 x7 : Vec Ideal S1x256x704 .bf16) (g : FVec Ideal S256x704 .f32) (w u v : Vec Ideal S1x256x704 .f32) (r : Fin 256) (q : Fin 704)

/-- What each store takes, element by element. -/
theorem pay3_apply : k0_pay3 (F := Ideal) x0 x1 x2 x3 x4 x5 x6 x7 (ix2 r q) = (x0 (ix3 0 r q) + x1 (ix3 0 r q) + x2 (ix3 0 r q) + x3 (ix3 0 r q) + x4 (ix3 0 r q)
    + x5 (ix3 0 r q) + x6 (ix3 0 r q) + x7 (ix3 0 r q) : EReal) := by
  pointwise [k0_pay3]

theorem pay4_apply : k0_pay4 (F := Ideal) g (ix3 0 r q) = g (ix2 r q) := by
  pointwise [k0_pay4]

theorem pay5_apply : k0_pay5 (F := Ideal) g u (ix2 r q) = first (u (ix3 0 r q)) (g (ix2 r q)) := by
  pointwise [k0_pay5, first]

theorem pay6_apply : k0_pay6 (F := Ideal) g v (ix2 r q) = second (v (ix3 0 r q)) (g (ix2 r q)) := by
  pointwise [k0_pay6, second]

theorem pay7_apply : k0_pay7 (F := Ideal) g w u v (ix3 0 r q)
    = delta (w (ix3 0 r q)) (first (u (ix3 0 r q)) (g (ix2 r q))) (second (v (ix3 0 r q)) (g (ix2 r q))) := by
  pointwise [k0_pay7, delta, pay5_apply, pay6_apply]

theorem pay1_apply : k0_pay1 (F := Ideal) g (ix3 0 r q) = g (ix2 r q) := by
  pointwise [k0_pay1]

theorem pay2_apply : k0_pay2 (F := Ideal) g (ix3 0 r q) = g (ix2 r q) := by
  pointwise [k0_pay2]

end Payloads

/-- Point `t`'s blocks of the arguments. -/
theorem part_eq (c : Dev nD) (t : Fin cfg0.N) (s : ℕ) (s' : Fin 8) (hs : (s' : ℕ) = s)
    (inb : ∀ a, (![s, 0, 0] : Fin 3 → ℕ) a + (![1, 256, 704] : Fin 3 → ℕ) a ≤ S8x256x704.size a) (r : Fin 256) (q : Fin 704) :
    (View.ld (iblk m c 0 t) (Rect.unit (s := S8x256x704) ![s, 0, 0] ![1, 256, 704] inb) (ix3 0 r q) : EReal) = argP m c (ix3 s' (row t r) q) := by
  refine (ld_apply inb _ r q s' hs).trans (?_ : (iblk m c 0 t : S8x256x704.Idx → EReal) (ix3 s' r q) = argP m c (ix3 s' (row t r) q))
  blk_ext [iblk, V, idx t]

theorem w_eq (c : Dev nD) (t : Fin cfg0.N) (r : Fin 256) (q : Fin 704) : (iblk m c 1 t : S1x256x704.Idx → EReal) (ix3 0 r q) = argW m c (ix3 0 (row t r) q) := by
  blk_ext [iblk, V, idx t]

theorem mo_eq (c : Dev nD) (t : Fin cfg0.N) (r : Fin 256) (q : Fin 704) : (iblk m c 2 t : S1x256x704.Idx → EReal) (ix3 0 r q) = argM m c (ix3 0 (row t r) q) := by
  blk_ext [iblk, V, idx t]

theorem vo_eq (c : Dev nD) (t : Fin cfg0.N) (r : Fin 256) (q : Fin 704) : (iblk m c 3 t : S1x256x704.Idx → EReal) (ix3 0 r q) = argV m c (ix3 0 (row t r) q) := by
  blk_ext [iblk, V, idx t]

/-- The sum of the parts at point `t`, the gradient of its rows. -/
abbrev total (c : Dev nD) (t : Fin cfg0.N) : FVec Ideal S256x704 .f32 := k0_pay8 (F := Ideal) (iblk m c 0 t) (iblk m c 1 t) (iblk m c 2 t) (iblk m c 3 t)

theorem total_apply (c : Dev nD) (t : Fin cfg0.N) (r : Fin 256) (q : Fin 704) : total m c t (ix2 r q) = grad (argP m c) (row t r) q := by
  unfold total k0_pay8
  rw [pay3_apply, grad_eq]
  rw [part_eq m c t 0 0 rfl _ r q, part_eq m c t 1 1 rfl _ r q, part_eq m c t 2 2 rfl _ r q, part_eq m c t 3 3 rfl _ r q,
    part_eq m c t 4 4 rfl _ r q, part_eq m c t 5 5 rfl _ r q, part_eq m c t 6 6 rfl _ r q, part_eq m c t 7 7 rfl _ r q]

/-- What point `t` leaves in each output block. -/
theorem g_eq (c : Dev nD) (t : Fin cfg0.N) (r : Fin 256) (q : Fin 704) :
    k0_pay4 (F := Ideal) (total m c t) (ix3 0 r q) = resG (argP m c) (ix3 0 (row t r) q) :=
  (pay4_apply ..).trans (total_apply m c t r q)

theorem m_eq (c : Dev nD) (t : Fin cfg0.N) (r : Fin 256) (q : Fin 704) :
    k0_pay1 (F := Ideal) (k0_pay5 (total m c t) (iblk m c 2 t)) (ix3 0 r q) = resM (argP m c) (argM m c) (ix3 0 (row t r) q) := by
  refine (pay1_apply ..).trans ((pay5_apply ..).trans ?_)
  rw [total_apply]
  exact congrArg (fun u => first u _) (mo_eq m c t r q)

theorem v_eq (c : Dev nD) (t : Fin cfg0.N) (r : Fin 256) (q : Fin 704) :
    k0_pay2 (F := Ideal) (k0_pay6 (total m c t) (iblk m c 3 t)) (ix3 0 r q) = resV (argP m c) (argV m c) (ix3 0 (row t r) q) := by
  refine (pay2_apply ..).trans ((pay6_apply ..).trans ?_)
  rw [total_apply]
  exact congrArg (fun u => second u _) (vo_eq m c t r q)

theorem d_eq (c : Dev nD) (t : Fin cfg0.N) (r : Fin 256) (q : Fin 704) :
    k0_pay7 (F := Ideal) (total m c t) (iblk m c 1 t) (iblk m c 2 t) (iblk m c 3 t) (ix3 0 r q)
      = resD (argP m c) (argW m c) (argM m c) (argV m c) (ix3 0 (row t r) q) := by
  refine (pay7_apply ..).trans ?_
  rw [total_apply]
  refine (congrArg (fun w => delta w _ _) (w_eq m c t r q)).trans ?_
  exact congrArg₂ (fun u v => delta _ (first u _) (second v _)) (mo_eq m c t r q) (vo_eq m c t r q)

/-- The output array of window 4 is the gradient. -/
theorem final4 (c : Dev nD) : (dats m 0 c).arrAt 4 cfg0.N = resG (argP m c) := by
  refine (dats m 0 c).arrAt_eq_of_covers 4 _ (by decide +kernel) fun t hf y => ?_
  blk_simp
  rw [after0_4]
  frame_out
  change S1x256x704.Idx at y
  idx_vars y
  obtain rfl : y0 = 0 := Subsingleton.elim _ _
  have ht : t.val < 4 := t.isLt
  have h0 : win0_4.index t 0 = 0 := by rw [(idx t).2.2.2.2.1]; rfl
  have h1 : win0_4.index t 1 = t.val := by rw [(idx t).2.2.2.2.1]; rfl
  have h2 : win0_4.index t 2 = 0 := by rw [(idx t).2.2.2.2.1]; rfl
  have e : resG (argP m c) (ix3 0 (row t y1) y2) = resG (argP m c) (((View.whole main_v0_0).slice (win0_4.rect t)).emb (ix3 0 y1 y2)) := by
    refine congrArg (resG (argP m c)) (funext fun x => Fin.ext ?_)
    match x with
    | 0 => show 0 = win0_4.index t 0 * 1 + 1 * 0; omega
    | 1 => show 256 * t.val + y1.val = win0_4.index t 1 * 256 + 1 * y1.val; omega
    | 2 => show y2.val = win0_4.index t 2 * 704 + 1 * y2.val; omega
  exact Eq.trans (g_eq m c t y1 y2) e

/-- The output array of window 5 is the change of the weights. -/
theorem final5 (c : Dev nD) : (dats m 0 c).arrAt 5 cfg0.N = resD (argP m c) (argW m c) (argM m c) (argV m c) := by
  refine (dats m 0 c).arrAt_eq_of_covers 5 _ (by decide +kernel) fun t hf y => ?_
  blk_simp
  rw [after0_5]
  frame_out
  change S1x256x704.Idx at y
  idx_vars y
  obtain rfl : y0 = 0 := Subsingleton.elim _ _
  have ht : t.val < 4 := t.isLt
  have h0 : win0_5.index t 0 = 0 := by rw [(idx t).2.2.2.2.2.1]; rfl
  have h1 : win0_5.index t 1 = t.val := by rw [(idx t).2.2.2.2.2.1]; rfl
  have h2 : win0_5.index t 2 = 0 := by rw [(idx t).2.2.2.2.2.1]; rfl
  have e : resD (argP m c) (argW m c) (argM m c) (argV m c) (ix3 0 (row t y1) y2) = resD (argP m c) (argW m c) (argM m c) (argV m c) (((View.whole main_v0_1).slice (win0_5.rect t)).emb (ix3 0 y1 y2)) := by
    refine congrArg (resD (argP m c) (argW m c) (argM m c) (argV m c)) (funext fun x => Fin.ext ?_)
    match x with
    | 0 => show 0 = win0_5.index t 0 * 1 + 1 * 0; omega
    | 1 => show 256 * t.val + y1.val = win0_5.index t 1 * 256 + 1 * y1.val; omega
    | 2 => show y2.val = win0_5.index t 2 * 704 + 1 * y2.val; omega
  exact Eq.trans (d_eq m c t y1 y2) e

/-- The output array of window 6 is the new first moment. -/
theorem final6 (c : Dev nD) : (dats m 0 c).arrAt 6 cfg0.N = resM (argP m c) (argM m c) := by
  refine (dats m 0 c).arrAt_eq_of_covers 6 _ (by decide +kernel) fun t hf y => ?_
  blk_simp
  rw [after0_6]
  frame_out
  change S1x256x704.Idx at y
  idx_vars y
  obtain rfl : y0 = 0 := Subsingleton.elim _ _
  have ht : t.val < 4 := t.isLt
  have h0 : win0_6.index t 0 = 0 := by rw [(idx t).2.2.2.2.2.2.1]; rfl
  have h1 : win0_6.index t 1 = t.val := by rw [(idx t).2.2.2.2.2.2.1]; rfl
  have h2 : win0_6.index t 2 = 0 := by rw [(idx t).2.2.2.2.2.2.1]; rfl
  have e : resM (argP m c) (argM m c) (ix3 0 (row t y1) y2) = resM (argP m c) (argM m c) (((View.whole main_v0_2).slice (win0_6.rect t)).emb (ix3 0 y1 y2)) := by
    refine congrArg (resM (argP m c) (argM m c)) (funext fun x => Fin.ext ?_)
    match x with
    | 0 => show 0 = win0_6.index t 0 * 1 + 1 * 0; omega
    | 1 => show 256 * t.val + y1.val = win0_6.index t 1 * 256 + 1 * y1.val; omega
    | 2 => show y2.val = win0_6.index t 2 * 704 + 1 * y2.val; omega
  exact Eq.trans (m_eq m c t y1 y2) e

/-- The output array of window 7 is the new second moment. -/
theorem final7 (c : Dev nD) : (dats m 0 c).arrAt 7 cfg0.N = resV (argP m c) (argV m c) := by
  refine (dats m 0 c).arrAt_eq_of_covers 7 _ (by decide +kernel) fun t hf y => ?_
  blk_simp
  rw [after0_7]
  frame_out
  change S1x256x704.Idx at y
  idx_vars y
  obtain rfl : y0 = 0 := Subsingleton.elim _ _
  have ht : t.val < 4 := t.isLt
  have h0 : win0_7.index t 0 = 0 := by rw [(idx t).2.2.2.2.2.2.2]; rfl
  have h1 : win0_7.index t 1 = t.val := by rw [(idx t).2.2.2.2.2.2.2]; rfl
  have h2 : win0_7.index t 2 = 0 := by rw [(idx t).2.2.2.2.2.2.2]; rfl
  have e : resV (argP m c) (argV m c) (ix3 0 (row t y1) y2) = resV (argP m c) (argV m c) (((View.whole main_v0_3).slice (win0_7.rect t)).emb (ix3 0 y1 y2)) := by
    refine congrArg (resV (argP m c) (argV m c)) (funext fun x => Fin.ext ?_)
    match x with
    | 0 => show 0 = win0_7.index t 0 * 1 + 1 * 0; omega
    | 1 => show 256 * t.val + y1.val = win0_7.index t 1 * 256 + 1 * y1.val; omega
    | 2 => show y2.val = win0_7.index t 2 * 704 + 1 * y2.val; omega
  exact Eq.trans (v_eq m c t y1 y2) e

end Kernel

section Reference

open Cert.Reference31Ideal Cert.Reference31Ideal.Gen Cert.Reference31Ideal.Facts

variable (P : Cube 8 1024 704) (W M V : Cube 1 1024 704)

/-- The gradient of the reference. -/
def gradArr : FVec Ideal S1x1024x704 .f32 := broadcastInDim S1x1024x704 ![1, 2] bcast_S1024x704_S1x1024x704_1_2 (Host.reduceAdd (extf (φ := .bf16) .f32 P bitsLt_bf16_f32) (constant S_ .f32 0x00000000#32) reducesTo_S8x1024x704_S1024x704_d0 h_S_)

theorem gradArr_apply (i : Fin 1024) (j : Fin 704) : gradArr P (ix3 0 i j) = grad P i j := by
  pointwise [gradArr, grad]

/-- The new moments and the change of the weights of the reference, from the gradient. -/
def firstArr (g : FVec Ideal S1x1024x704 .f32) : FVec Ideal S1x1024x704 .f32 := addf (mulf (broadcastInDim S1x1024x704 ![] bcast_S_S1x1024x704 (constant S_ .f32 0x3F666666#32)) M) (mulf (broadcastInDim S1x1024x704 ![] bcast_S_S1x1024x704 (constant S_ .f32 0x3DCCCCCD#32)) g)

def secondArr (g : FVec Ideal S1x1024x704 .f32) : FVec Ideal S1x1024x704 .f32 := addf (mulf (broadcastInDim S1x1024x704 ![] bcast_S_S1x1024x704 (constant S_ .f32 0x3F7FBE77#32)) V) (mulf (broadcastInDim S1x1024x704 ![] bcast_S_S1x1024x704 (constant S_ .f32 0x3A83126F#32)) (mulf g g))

def deltaArr (u v : FVec Ideal S1x1024x704 .f32) : FVec Ideal S1x1024x704 .f32 := mulf (broadcastInDim S1x1024x704 ![] bcast_S_S1x1024x704 (constant S_ .f32 0xBA83126F#32)) (addf (Host.divf (Host.divf u (broadcastInDim S1x1024x704 ![] bcast_S_S1x1024x704 (constant S_ .f32 0x3F26BD02#32))) (addf (Host.sqrt (Host.divf v (broadcastInDim S1x1024x704 ![] bcast_S_S1x1024x704 (constant S_ .f32 0x3C231ACC#32)))) (broadcastInDim S1x1024x704 ![] bcast_S_S1x1024x704 (constant S_ .f32 0x322BCC77#32)))) (mulf (broadcastInDim S1x1024x704 ![] bcast_S_S1x1024x704 (constant S_ .f32 0x3C23D70A#32)) W))

theorem firstArr_apply (g : FVec Ideal S1x1024x704 .f32) (i : Fin 1024) (j : Fin 704) : firstArr M g (ix3 0 i j) = first (M (ix3 0 i j)) (g (ix3 0 i j)) := by
  pointwise [firstArr, first]

theorem secondArr_apply (g : FVec Ideal S1x1024x704 .f32) (i : Fin 1024) (j : Fin 704) : secondArr V g (ix3 0 i j) = second (V (ix3 0 i j)) (g (ix3 0 i j)) := by
  pointwise [secondArr, second]

theorem deltaArr_apply (u v : FVec Ideal S1x1024x704 .f32) (i : Fin 1024) (j : Fin 704) :
    deltaArr W u v (ix3 0 i j) = delta (W (ix3 0 i j)) (u (ix3 0 i j)) (v (ix3 0 i j)) := by
  pointwise [deltaArr, delta]

/-- The four results of the reference. -/
theorem g_res : gradArr P = resG P := by
  funext x
  change S1x1024x704.Idx at x
  idx_vars x
  obtain rfl : x0 = 0 := Subsingleton.elim _ _
  exact gradArr_apply P x1 x2

theorem m_res : firstArr M (gradArr P) = resM P M := by
  funext x
  change S1x1024x704.Idx at x
  idx_vars x
  obtain rfl : x0 = 0 := Subsingleton.elim _ _
  rw [firstArr_apply, gradArr_apply]
  rfl

theorem v_res : secondArr V (gradArr P) = resV P V := by
  funext x
  change S1x1024x704.Idx at x
  idx_vars x
  obtain rfl : x0 = 0 := Subsingleton.elim _ _
  rw [secondArr_apply, gradArr_apply]
  rfl

theorem d_res : deltaArr W (firstArr M (gradArr P)) (secondArr V (gradArr P)) = resD P W M V := by
  rw [m_res, v_res]
  funext x
  change S1x1024x704.Idx at x
  idx_vars x
  obtain rfl : x0 = 0 := Subsingleton.elim _ _
  rw [deltaArr_apply]
  rfl

end Reference

/-- The reference's frame: it ends with its arguments unchanged and every counter at zero. -/
theorem frameR : Cert.quiescent_Reference31Ideal := by
  intro m g _
  exact (θ_run Cert.Reference31Ideal.defs _ _).mono (fun r h => ⟨fun c => (h c).2.2.2.2, sem_eq_zero_of_no_sems (by decide) r.2⟩)
    (Cert.Reference31Ideal.Value.run m g)

/-- The kernel and the reference end with the same four arrays. -/
theorem algebraic : Cert.algebraic_Kernel31Ideal_Reference31Ideal := by
  intro m g m' g' _ hagree
  refine ⟨fun c => resG (argP m c), fun c => resD (argP m c) (argW m c) (argM m c) (argV m c), fun c => resM (argP m c) (argM m c), fun c => resV (argP m c) (argV m c), ?_, ?_⟩
  · refine (θ_run Cert.Kernel31Ideal.defs _ _).mono (fun r h c => ?_) (Cert.Kernel31Ideal.Value.run_blocks m g)
    have hc := h c
    exact ⟨hc.1.trans (final4 m c), hc.2.1.trans (final5 m c), hc.2.2.1.trans (final6 m c), hc.2.2.2.1.trans (final7 m c), hc.2.2.2.2⟩
  · refine (θ_run Cert.Reference31Ideal.defs _ _).mono (fun r h c => ?_) (Cert.Reference31Ideal.Value.run m' g')
    have hc := h c
    refine ⟨hc.1.trans ?_, hc.2.1.trans ?_, hc.2.2.1.trans ?_, hc.2.2.2.1.trans ?_, hc.2.2.2.2⟩
    · rw [(hagree c).1]
      exact g_res (argP m c)
    · rw [(hagree c).1, (hagree c).2.1, (hagree c).2.2.1, (hagree c).2.2.2]
      exact d_res (argP m c) (argW m c) (argM m c) (argV m c)
    · rw [(hagree c).1, (hagree c).2.2.1]
      exact m_res (argP m c) (argM m c)
    · rw [(hagree c).1, (hagree c).2.2.2]
      exact v_res (argP m c) (argV m c)

end Cert.Adam31

end
-- ==== Proof.Adam32.lean ====
/- The optimiser's step on the weights of the feed-forward layer's output: the kernel and the reference leave the same arrays. -/
module

public import proofs.«01_k».proof.Defs
public import proofs.«01_k».proof.Proof.Gen.Kernel32Ideal.Value
public import proofs.«01_k».proof.Proof.Gen.Reference32Ideal.Run
public import proofs.«01_k».proof.Proof.AdamSpec
public import Idealize.ShloMosaic.Lib.Claim

@[expose] public section

set_option maxRecDepth 16384

noncomputable section

namespace Cert.Adam32

open Idealize.ShloMosaic Idealize.ShloMosaic.TcCoe Idealize.SL.Sem Cert.Adam

section Kernel

open Cert.Kernel32Ideal Cert.Kernel32Ideal.Gen

variable (m : (ℓ : Loc nD τ sig) → Buf (Elt Ideal) ℓ)

/-- The arrays of device `c`: the parts of the gradient, the weights and the two moments. -/
abbrev argP (c : Dev nD) : Cube 8 352 1024 := m ((c : Thread nD τ).loc main_arg0)
abbrev argW (c : Dev nD) : Cube 1 352 1024 := m ((c : Thread nD τ).loc main_arg1)
abbrev argM (c : Dev nD) : Cube 1 352 1024 := m ((c : Thread nD τ).loc main_arg2)
abbrev argV (c : Dev nD) : Cube 1 352 1024 := m ((c : Thread nD τ).loc main_arg3)

/-- Grid point `t` reads and writes the rows `176 t …` of every array. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] := by decide +kernel

/-- The row of the arrays that row `r` of point `t`'s blocks is. -/
abbrev row (t : Fin cfg0.N) (r : Fin 176) : Fin 352 := ⟨176 * t.val + r.val, by have : t.val < 2 := t.isLt; omega⟩

section Payloads

variable (x0 x1 x2 x3 x4 x5 x6 x7 : Vec Ideal S1x176x1024 .bf16) (g : FVec Ideal S176x1024 .f32) (w u v : Vec Ideal S1x176x1024 .f32) (r : Fin 176) (q : Fin 1024)

/-- What each store takes, element by element. -/
theorem pay3_apply : k0_pay3 (F := Ideal) x0 x1 x2 x3 x4 x5 x6 x7 (ix2 r q) = (x0 (ix3 0 r q) + x1 (ix3 0 r q) + x2 (ix3 0 r q) + x3 (ix3 0 r q) + x4 (ix3 0 r q)
    + x5 (ix3 0 r q) + x6 (ix3 0 r q) + x7 (ix3 0 r q) : EReal) := by
  pointwise [k0_pay3]

theorem pay4_apply : k0_pay4 (F := Ideal) g (ix3 0 r q) = g (ix2 r q) := by
  pointwise [k0_pay4]

theorem pay5_apply : k0_pay5 (F := Ideal) g u (ix2 r q) = first (u (ix3 0 r q)) (g (ix2 r q)) := by
  pointwise [k0_pay5, first]

theorem pay6_apply : k0_pay6 (F := Ideal) g v (ix2 r q) = second (v (ix3 0 r q)) (g (ix2 r q)) := by
  pointwise [k0_pay6, second]

theorem pay7_apply : k0_pay7 (F := Ideal) g w u v (ix3 0 r q)
    = delta (w (ix3 0 r q)) (first (u (ix3 0 r q)) (g (ix2 r q))) (second (v (ix3 0 r q)) (g (ix2 r q))) := by
  pointwise [k0_pay7, delta, pay5_apply, pay6_apply]

theorem pay1_apply : k0_pay1 (F := Ideal) g (ix3 0 r q) = g (ix2 r q) := by
  pointwise [k0_pay1]

theorem pay2_apply : k0_pay2 (F := Ideal) g (ix3 0 r q) = g (ix2 r q) := by
  pointwise [k0_pay2]

end Payloads

/-- Point `t`'s blocks of the arguments. -/
theorem part_eq (c : Dev nD) (t : Fin cfg0.N) (s : ℕ) (s' : Fin 8) (hs : (s' : ℕ) = s)
    (inb : ∀ a, (![s, 0, 0] : Fin 3 → ℕ) a + (![1, 176, 1024] : Fin 3 → ℕ) a ≤ S8x176x1024.size a) (r : Fin 176) (q : Fin 1024) :
    (View.ld (iblk m c 0 t) (Rect.unit (s := S8x176x1024) ![s, 0, 0] ![1, 176, 1024] inb) (ix3 0 r q) : EReal) = argP m c (ix3 s' (row t r) q) := by
  refine (ld_apply inb _ r q s' hs).trans (?_ : (iblk m c 0 t : S8x176x1024.Idx → EReal) (ix3 s' r q) = argP m c (ix3 s' (row t r) q))
  blk_ext [iblk, V, idx t]

theorem w_eq (c : Dev nD) (t : Fin cfg0.N) (r : Fin 176) (q : Fin 1024) : (iblk m c 1 t : S1x176x1024.Idx → EReal) (ix3 0 r q) = argW m c (ix3 0 (row t r) q) := by
  blk_ext [iblk, V, idx t]

theorem mo_eq (c : Dev nD) (t : Fin cfg0.N) (r : Fin 176) (q : Fin 1024) : (iblk m c 2 t : S1x176x1024.Idx → EReal) (ix3 0 r q) = argM m c (ix3 0 (row t r) q) := by
  blk_ext [iblk, V, idx t]

theorem vo_eq (c : Dev nD) (t : Fin cfg0.N) (r : Fin 176) (q : Fin 1024) : (iblk m c 3 t : S1x176x1024.Idx → EReal) (ix3 0 r q) = argV m c (ix3 0 (row t r) q) := by
  blk_ext [iblk, V, idx t]

/-- The sum of the parts at point `t`, the gradient of its rows. -/
abbrev total (c : Dev nD) (t : Fin cfg0.N) : FVec Ideal S176x1024 .f32 := k0_pay8 (F := Ideal) (iblk m c 0 t) (iblk m c 1 t) (iblk m c 2 t) (iblk m c 3 t)

theorem total_apply (c : Dev nD) (t : Fin cfg0.N) (r : Fin 176) (q : Fin 1024) : total m c t (ix2 r q) = grad (argP m c) (row t r) q := by
  unfold total k0_pay8
  rw [pay3_apply, grad_eq]
  rw [part_eq m c t 0 0 rfl _ r q, part_eq m c t 1 1 rfl _ r q, part_eq m c t 2 2 rfl _ r q, part_eq m c t 3 3 rfl _ r q,
    part_eq m c t 4 4 rfl _ r q, part_eq m c t 5 5 rfl _ r q, part_eq m c t 6 6 rfl _ r q, part_eq m c t 7 7 rfl _ r q]

/-- What point `t` leaves in each output block. -/
theorem g_eq (c : Dev nD) (t : Fin cfg0.N) (r : Fin 176) (q : Fin 1024) :
    k0_pay4 (F := Ideal) (total m c t) (ix3 0 r q) = resG (argP m c) (ix3 0 (row t r) q) :=
  (pay4_apply ..).trans (total_apply m c t r q)

theorem m_eq (c : Dev nD) (t : Fin cfg0.N) (r : Fin 176) (q : Fin 1024) :
    k0_pay1 (F := Ideal) (k0_pay5 (total m c t) (iblk m c 2 t)) (ix3 0 r q) = resM (argP m c) (argM m c) (ix3 0 (row t r) q) := by
  refine (pay1_apply ..).trans ((pay5_apply ..).trans ?_)
  rw [total_apply]
  exact congrArg (fun u => first u _) (mo_eq m c t r q)

theorem v_eq (c : Dev nD) (t : Fin cfg0.N) (r : Fin 176) (q : Fin 1024) :
    k0_pay2 (F := Ideal) (k0_pay6 (total m c t) (iblk m c 3 t)) (ix3 0 r q) = resV (argP m c) (argV m c) (ix3 0 (row t r) q) := by
  refine (pay2_apply ..).trans ((pay6_apply ..).trans ?_)
  rw [total_apply]
  exact congrArg (fun u => second u _) (vo_eq m c t r q)

theorem d_eq (c : Dev nD) (t : Fin cfg0.N) (r : Fin 176) (q : Fin 1024) :
    k0_pay7 (F := Ideal) (total m c t) (iblk m c 1 t) (iblk m c 2 t) (iblk m c 3 t) (ix3 0 r q)
      = resD (argP m c) (argW m c) (argM m c) (argV m c) (ix3 0 (row t r) q) := by
  refine (pay7_apply ..).trans ?_
  rw [total_apply]
  refine (congrArg (fun w => delta w _ _) (w_eq m c t r q)).trans ?_
  exact congrArg₂ (fun u v => delta _ (first u _) (second v _)) (mo_eq m c t r q) (vo_eq m c t r q)

/-- The output array of window 4 is the gradient. -/
theorem final4 (c : Dev nD) : (dats m 0 c).arrAt 4 cfg0.N = resG (argP m c) := by
  refine (dats m 0 c).arrAt_eq_of_covers 4 _ (by decide +kernel) fun t hf y => ?_
  blk_simp
  rw [after0_4]
  frame_out
  change S1x176x1024.Idx at y
  idx_vars y
  obtain rfl : y0 = 0 := Subsingleton.elim _ _
  have ht : t.val < 2 := t.isLt
  have h0 : win0_4.index t 0 = 0 := by rw [(idx t).2.2.2.2.1]; rfl
  have h1 : win0_4.index t 1 = t.val := by rw [(idx t).2.2.2.2.1]; rfl
  have h2 : win0_4.index t 2 = 0 := by rw [(idx t).2.2.2.2.1]; rfl
  have e : resG (argP m c) (ix3 0 (row t y1) y2) = resG (argP m c) (((View.whole main_v0_0).slice (win0_4.rect t)).emb (ix3 0 y1 y2)) := by
    refine congrArg (resG (argP m c)) (funext fun x => Fin.ext ?_)
    match x with
    | 0 => show 0 = win0_4.index t 0 * 1 + 1 * 0; omega
    | 1 => show 176 * t.val + y1.val = win0_4.index t 1 * 176 + 1 * y1.val; omega
    | 2 => show y2.val = win0_4.index t 2 * 1024 + 1 * y2.val; omega
  exact Eq.trans (g_eq m c t y1 y2) e

/-- The output array of window 5 is the change of the weights. -/
theorem final5 (c : Dev nD) : (dats m 0 c).arrAt 5 cfg0.N = resD (argP m c) (argW m c) (argM m c) (argV m c) := by
  refine (dats m 0 c).arrAt_eq_of_covers 5 _ (by decide +kernel) fun t hf y => ?_
  blk_simp
  rw [after0_5]
  frame_out
  change S1x176x1024.Idx at y
  idx_vars y
  obtain rfl : y0 = 0 := Subsingleton.elim _ _
  have ht : t.val < 2 := t.isLt
  have h0 : win0_5.index t 0 = 0 := by rw [(idx t).2.2.2.2.2.1]; rfl
  have h1 : win0_5.index t 1 = t.val := by rw [(idx t).2.2.2.2.2.1]; rfl
  have h2 : win0_5.index t 2 = 0 := by rw [(idx t).2.2.2.2.2.1]; rfl
  have e : resD (argP m c) (argW m c) (argM m c) (argV m c) (ix3 0 (row t y1) y2) = resD (argP m c) (argW m c) (argM m c) (argV m c) (((View.whole main_v0_1).slice (win0_5.rect t)).emb (ix3 0 y1 y2)) := by
    refine congrArg (resD (argP m c) (argW m c) (argM m c) (argV m c)) (funext fun x => Fin.ext ?_)
    match x with
    | 0 => show 0 = win0_5.index t 0 * 1 + 1 * 0; omega
    | 1 => show 176 * t.val + y1.val = win0_5.index t 1 * 176 + 1 * y1.val; omega
    | 2 => show y2.val = win0_5.index t 2 * 1024 + 1 * y2.val; omega
  exact Eq.trans (d_eq m c t y1 y2) e

/-- The output array of window 6 is the new first moment. -/
theorem final6 (c : Dev nD) : (dats m 0 c).arrAt 6 cfg0.N = resM (argP m c) (argM m c) := by
  refine (dats m 0 c).arrAt_eq_of_covers 6 _ (by decide +kernel) fun t hf y => ?_
  blk_simp
  rw [after0_6]
  frame_out
  change S1x176x1024.Idx at y
  idx_vars y
  obtain rfl : y0 = 0 := Subsingleton.elim _ _
  have ht : t.val < 2 := t.isLt
  have h0 : win0_6.index t 0 = 0 := by rw [(idx t).2.2.2.2.2.2.1]; rfl
  have h1 : win0_6.index t 1 = t.val := by rw [(idx t).2.2.2.2.2.2.1]; rfl
  have h2 : win0_6.index t 2 = 0 := by rw [(idx t).2.2.2.2.2.2.1]; rfl
  have e : resM (argP m c) (argM m c) (ix3 0 (row t y1) y2) = resM (argP m c) (argM m c) (((View.whole main_v0_2).slice (win0_6.rect t)).emb (ix3 0 y1 y2)) := by
    refine congrArg (resM (argP m c) (argM m c)) (funext fun x => Fin.ext ?_)
    match x with
    | 0 => show 0 = win0_6.index t 0 * 1 + 1 * 0; omega
    | 1 => show 176 * t.val + y1.val = win0_6.index t 1 * 176 + 1 * y1.val; omega
    | 2 => show y2.val = win0_6.index t 2 * 1024 + 1 * y2.val; omega
  exact Eq.trans (m_eq m c t y1 y2) e

/-- The output array of window 7 is the new second moment. -/
theorem final7 (c : Dev nD) : (dats m 0 c).arrAt 7 cfg0.N = resV (argP m c) (argV m c) := by
  refine (dats m 0 c).arrAt_eq_of_covers 7 _ (by decide +kernel) fun t hf y => ?_
  blk_simp
  rw [after0_7]
  frame_out
  change S1x176x1024.Idx at y
  idx_vars y
  obtain rfl : y0 = 0 := Subsingleton.elim _ _
  have ht : t.val < 2 := t.isLt
  have h0 : win0_7.index t 0 = 0 := by rw [(idx t).2.2.2.2.2.2.2]; rfl
  have h1 : win0_7.index t 1 = t.val := by rw [(idx t).2.2.2.2.2.2.2]; rfl
  have h2 : win0_7.index t 2 = 0 := by rw [(idx t).2.2.2.2.2.2.2]; rfl
  have e : resV (argP m c) (argV m c) (ix3 0 (row t y1) y2) = resV (argP m c) (argV m c) (((View.whole main_v0_3).slice (win0_7.rect t)).emb (ix3 0 y1 y2)) := by
    refine congrArg (resV (argP m c) (argV m c)) (funext fun x => Fin.ext ?_)
    match x with
    | 0 => show 0 = win0_7.index t 0 * 1 + 1 * 0; omega
    | 1 => show 176 * t.val + y1.val = win0_7.index t 1 * 176 + 1 * y1.val; omega
    | 2 => show y2.val = win0_7.index t 2 * 1024 + 1 * y2.val; omega
  exact Eq.trans (v_eq m c t y1 y2) e

end Kernel

section Reference

open Cert.Reference32Ideal Cert.Reference32Ideal.Gen Cert.Reference32Ideal.Facts

variable (P : Cube 8 352 1024) (W M V : Cube 1 352 1024)

/-- The gradient of the reference. -/
def gradArr : FVec Ideal S1x352x1024 .f32 := broadcastInDim S1x352x1024 ![1, 2] bcast_S352x1024_S1x352x1024_1_2 (Host.reduceAdd (extf (φ := .bf16) .f32 P bitsLt_bf16_f32) (constant S_ .f32 0x00000000#32) reducesTo_S8x352x1024_S352x1024_d0 h_S_)

theorem gradArr_apply (i : Fin 352) (j : Fin 1024) : gradArr P (ix3 0 i j) = grad P i j := by
  pointwise [gradArr, grad]

/-- The new moments and the change of the weights of the reference, from the gradient. -/
def firstArr (g : FVec Ideal S1x352x1024 .f32) : FVec Ideal S1x352x1024 .f32 := addf (mulf (broadcastInDim S1x352x1024 ![] bcast_S_S1x352x1024 (constant S_ .f32 0x3F666666#32)) M) (mulf (broadcastInDim S1x352x1024 ![] bcast_S_S1x352x1024 (constant S_ .f32 0x3DCCCCCD#32)) g)

def secondArr (g : FVec Ideal S1x352x1024 .f32) : FVec Ideal S1x352x1024 .f32 := addf (mulf (broadcastInDim S1x352x1024 ![] bcast_S_S1x352x1024 (constant S_ .f32 0x3F7FBE77#32)) V) (mulf (broadcastInDim S1x352x1024 ![] bcast_S_S1x352x1024 (constant S_ .f32 0x3A83126F#32)) (mulf g g))

def deltaArr (u v : FVec Ideal S1x352x1024 .f32) : FVec Ideal S1x352x1024 .f32 := mulf (broadcastInDim S1x352x1024 ![] bcast_S_S1x352x1024 (constant S_ .f32 0xBA83126F#32)) (addf (Host.divf (Host.divf u (broadcastInDim S1x352x1024 ![] bcast_S_S1x352x1024 (constant S_ .f32 0x3F26BD02#32))) (addf (Host.sqrt (Host.divf v (broadcastInDim S1x352x1024 ![] bcast_S_S1x352x1024 (constant S_ .f32 0x3C231ACC#32)))) (broadcastInDim S1x352x1024 ![] bcast_S_S1x352x1024 (constant S_ .f32 0x322BCC77#32)))) (mulf (broadcastInDim S1x352x1024 ![] bcast_S_S1x352x1024 (constant S_ .f32 0x3C23D70A#32)) W))

theorem firstArr_apply (g : FVec Ideal S1x352x1024 .f32) (i : Fin 352) (j : Fin 1024) : firstArr M g (ix3 0 i j) = first (M (ix3 0 i j)) (g (ix3 0 i j)) := by
  pointwise [firstArr, first]

theorem secondArr_apply (g : FVec Ideal S1x352x1024 .f32) (i : Fin 352) (j : Fin 1024) : secondArr V g (ix3 0 i j) = second (V (ix3 0 i j)) (g (ix3 0 i j)) := by
  pointwise [secondArr, second]

theorem deltaArr_apply (u v : FVec Ideal S1x352x1024 .f32) (i : Fin 352) (j : Fin 1024) :
    deltaArr W u v (ix3 0 i j) = delta (W (ix3 0 i j)) (u (ix3 0 i j)) (v (ix3 0 i j)) := by
  pointwise [deltaArr, delta]

/-- The four results of the reference. -/
theorem g_res : gradArr P = resG P := by
  funext x
  change S1x352x1024.Idx at x
  idx_vars x
  obtain rfl : x0 = 0 := Subsingleton.elim _ _
  exact gradArr_apply P x1 x2

theorem m_res : firstArr M (gradArr P) = resM P M := by
  funext x
  change S1x352x1024.Idx at x
  idx_vars x
  obtain rfl : x0 = 0 := Subsingleton.elim _ _
  rw [firstArr_apply, gradArr_apply]
  rfl

theorem v_res : secondArr V (gradArr P) = resV P V := by
  funext x
  change S1x352x1024.Idx at x
  idx_vars x
  obtain rfl : x0 = 0 := Subsingleton.elim _ _
  rw [secondArr_apply, gradArr_apply]
  rfl

theorem d_res : deltaArr W (firstArr M (gradArr P)) (secondArr V (gradArr P)) = resD P W M V := by
  rw [m_res, v_res]
  funext x
  change S1x352x1024.Idx at x
  idx_vars x
  obtain rfl : x0 = 0 := Subsingleton.elim _ _
  rw [deltaArr_apply]
  rfl

end Reference

/-- The reference's frame: it ends with its arguments unchanged and every counter at zero. -/
theorem frameR : Cert.quiescent_Reference32Ideal := by
  intro m g _
  exact (θ_run Cert.Reference32Ideal.defs _ _).mono (fun r h => ⟨fun c => (h c).2.2.2.2, sem_eq_zero_of_no_sems (by decide) r.2⟩)
    (Cert.Reference32Ideal.Value.run m g)

/-- The kernel and the reference end with the same four arrays. -/
theorem algebraic : Cert.algebraic_Kernel32Ideal_Reference32Ideal := by
  intro m g m' g' _ hagree
  refine ⟨fun c => resG (argP m c), fun c => resD (argP m c) (argW m c) (argM m c) (argV m c), fun c => resM (argP m c) (argM m c), fun c => resV (argP m c) (argV m c), ?_, ?_⟩
  · refine (θ_run Cert.Kernel32Ideal.defs _ _).mono (fun r h c => ?_) (Cert.Kernel32Ideal.Value.run_blocks m g)
    have hc := h c
    exact ⟨hc.1.trans (final4 m c), hc.2.1.trans (final5 m c), hc.2.2.1.trans (final6 m c), hc.2.2.2.1.trans (final7 m c), hc.2.2.2.2⟩
  · refine (θ_run Cert.Reference32Ideal.defs _ _).mono (fun r h c => ?_) (Cert.Reference32Ideal.Value.run m' g')
    have hc := h c
    refine ⟨hc.1.trans ?_, hc.2.1.trans ?_, hc.2.2.1.trans ?_, hc.2.2.2.1.trans ?_, hc.2.2.2.2⟩
    · rw [(hagree c).1]
      exact g_res (argP m c)
    · rw [(hagree c).1, (hagree c).2.1, (hagree c).2.2.1, (hagree c).2.2.2]
      exact d_res (argP m c) (argW m c) (argM m c) (argV m c)
    · rw [(hagree c).1, (hagree c).2.2.1]
      exact m_res (argP m c) (argM m c)
    · rw [(hagree c).1, (hagree c).2.2.2]
      exact v_res (argP m c) (argV m c)

end Cert.Adam32

end
-- ==== Proof.RowPieces.lean ====
/- Reading an array stored a band of rows at a time: a band's element, and an element outside the band. -/
module

public import Idealize.ShloMosaic.Lib.Pipeline
public import Idealize.ShloMosaic.Lib.Pipeline.Value
public import proofs.«01_k».proof.Proof.ProdSpec

@[expose] public section

noncomputable section

namespace Cert.Rows

open Idealize.ShloMosaic

variable {Val : EltTy → Type} {e : EltTy} {a n w o : ℕ}

/-- A load of the band of `w` rows from row `o` on reads the array at the shifted row. -/
theorem ld_apply (inb : ∀ x, (![o, 0] : Fin 2 → ℕ) x + (![w, n] : Fin 2 → ℕ) x ≤ (⟨2, ![a, n]⟩ : Shape).size x)
    (X : (⟨2, ![a, n]⟩ : Shape).Idx → Val e) (i : Fin w) (q : Fin n) (j : Fin a) (hj : (j : ℕ) = o + i) :
    View.ld X (Rect.unit (s := ⟨2, ![a, n]⟩) ![o, 0] ![w, n] inb) (ix2 i q) = X (ix2 j q) := by
  refine congrArg X (funext fun x => Fin.ext ?_)
  match x with
  | 0 => show o + 1 * (i : ℕ) = (j : ℕ); omega
  | 1 => show 0 + 1 * (q : ℕ) = (q : ℕ); omega

/-- An element of the band stored last is that store's payload. -/
theorem canon_hit [∀ e, Nonempty (Val e)] (inb : ∀ x, (![o, 0] : Fin 2 → ℕ) x + (![w, n] : Fin 2 → ℕ) x ≤ (⟨2, ![a, n]⟩ : Shape).size x)
    (p : (⟨2, ![w, n]⟩ : Shape).Idx → Val e) (L : List (View.Piece Val ⟨2, ![a, n]⟩ e)) (i : Fin w) (q : Fin n) (j : Fin a) (hj : (j : ℕ) = o + i) :
    View.canon ((⟨Rect.unit (s := ⟨2, ![a, n]⟩) ![o, 0] ![w, n] inb, p⟩ : View.Piece Val ⟨2, ![a, n]⟩ e) :: L) (ix2 j q) = p (ix2 i q) := by
  have h : (Rect.unit (s := ⟨2, ![a, n]⟩) ![o, 0] ![w, n] inb).emb (ix2 i q) = ix2 j q := by
    refine funext fun x => Fin.ext ?_
    match x with
    | 0 => show o + 1 * (i : ℕ) = (j : ℕ); omega
    | 1 => show 0 + 1 * (q : ℕ) = (q : ℕ); omega
  rw [← h]
  exact View.canon_cons_emb (Rect.unit (s := ⟨2, ![a, n]⟩) ![o, 0] ![w, n] inb) p L (ix2 i q)

/-- An element outside the band stored last is what the older stores left. -/
theorem canon_miss [∀ e, Nonempty (Val e)] (inb : ∀ x, (![o, 0] : Fin 2 → ℕ) x + (![w, n] : Fin 2 → ℕ) x ≤ (⟨2, ![a, n]⟩ : Shape).size x)
    (p : (⟨2, ![w, n]⟩ : Shape).Idx → Val e) (L : List (View.Piece Val ⟨2, ![a, n]⟩ e)) (q : Fin n) (j : Fin a) (hj : (j : ℕ) < o ∨ o + w ≤ (j : ℕ)) :
    View.canon ((⟨Rect.unit (s := ⟨2, ![a, n]⟩) ![o, 0] ![w, n] inb, p⟩ : View.Piece Val ⟨2, ![a, n]⟩ e) :: L) (ix2 j q) = View.canon L (ix2 j q) := by
  refine View.canon_cons_of_not_mem _ _ fun hm => ?_
  obtain ⟨x, hx⟩ := LoadRect.exists_idx_of_mem (Rect.unit (s := ⟨2, ![a, n]⟩) ![o, 0] ![w, n] inb).toLoadRect hm
  have h1 : o + 1 * ((x 0 : Fin w) : ℕ) = (j : ℕ) := congrArg (fun y : (⟨2, ![a, n]⟩ : Shape).Idx => (y 0 : ℕ)) hx
  have h2 : ((x 0 : Fin w) : ℕ) < w := (x 0).isLt
  omega

/-- A covered load of a band reads what the stores left at the shifted row. -/
theorem readCov_apply [∀ e, Nonempty (Val e)] {sig : RefSig} {κ : Kind} {sp : Space} (v : View sig κ sp ⟨2, ![a, n]⟩ e)
    (inb : ∀ x, (![o, 0] : Fin 2 → ℕ) x + (![w, n] : Fin 2 → ℕ) x ≤ (⟨2, ![a, n]⟩ : Shape).size x)
    (L : List (View.Piece Val ⟨2, ![a, n]⟩ e)) (i : Fin w) (q : Fin n) (j : Fin a) (hj : (j : ℕ) = o + i) :
    v.readCov L (Rect.unit (s := ⟨2, ![a, n]⟩) ![o, 0] ![w, n] inb).toLoadRect (ix2 i q) = View.canon L (ix2 j q) := by
  refine (congrFun (View.readCov_eq_canon' v L (Rect.unit (s := ⟨2, ![a, n]⟩) ![o, 0] ![w, n] inb).toLoadRect) (ix2 i q)).trans (congrArg (View.canon L) (funext fun x => Fin.ext ?_))
  match x with
  | 0 => show o + 1 * (i : ℕ) = (j : ℕ); omega
  | 1 => show 0 + 1 * (q : ℕ) = (q : ℕ); omega

end Cert.Rows

end
-- ==== Proof.DhClaim.lean ====
/- The gradient through the three projections and the norm before them: the kernel and the reference leave the same arrays. -/
module

public import proofs.«01_k».proof.Defs
public import proofs.«01_k».proof.Proof.Gen.Kernel33Ideal.Frame
public import proofs.«01_k».proof.Proof.Gen.Reference33Ideal.Run
public import proofs.«01_k».proof.Proof.NormsClaim
public import proofs.«01_k».proof.Proof.RowPieces
public import Idealize.ShloMosaic.Lib.Claim
public import Idealize.ShloMosaic.Lib.Pipeline.ReadBack

@[expose] public section

set_option maxRecDepth 16384

noncomputable section

namespace Cert.Dh

open Idealize.ShloMosaic Idealize.ShloMosaic.TcCoe Idealize.SL.Sem
open Cert.Norms (nrm back)

section Spec

variable (G : Prod.Mat 8192 3072) (U : Prod.Mat 1024 3072) (A : Prod.Mat 8192 2048) (Wa : Prod.Mat 1024 2048) (B : Prod.Mat 8192 2304)
  (Wb : Prod.Mat 1024 2304) (X Y : Prod.Mat 8192 1024) (g : Prod.Mat 1 1024)

/-- The gradient of the normed input: the three products with the projections' weights. -/
def dH (i : Fin 8192) (q : Fin 1024) : EReal :=
  ∑ k : Fin 3072, G (ix2 i k) * U (ix2 q k) + ∑ k : Fin 2048, A (ix2 i k) * Wa (ix2 q k) + ∑ k : Fin 2304, B (ix2 i k) * Wb (ix2 q k)

/-- The gradient of the input: the gradient that passes by, and the one through the norm. -/
def dX (i : Fin 8192) (q : Fin 1024) : EReal := Y (ix2 i q) + back X (fun i k => dH G U A Wa B Wb i k * g (ix2 0 k)) i q

/-- The two results as arrays. -/
def resX : Prod.Mat 8192 1024 := fun x => dX G U A Wa B Wb X Y g (x 0) (x 1)
def resG : Prod.Mat 1 1024 := fun x => ∑ i : Fin 8192, dH G U A Wa B Wb i (x 1) * nrm X i (x 1)

end Spec

section Kernel

open Cert.Kernel33Ideal Cert.Kernel33Ideal.Gen

variable (m : (ℓ : Loc nD τ sig) → Buf (Elt Ideal) ℓ)

/-- The arrays of device `c`. -/
abbrev argG (c : Dev nD) : Prod.Mat 8192 3072 := m ((c : Thread nD τ).loc main_arg0)
abbrev argU (c : Dev nD) : Prod.Mat 1024 3072 := m ((c : Thread nD τ).loc main_arg1)
abbrev argA (c : Dev nD) : Prod.Mat 8192 2048 := m ((c : Thread nD τ).loc main_arg2)
abbrev argWa (c : Dev nD) : Prod.Mat 1024 2048 := m ((c : Thread nD τ).loc main_arg3)
abbrev argB (c : Dev nD) : Prod.Mat 8192 2304 := m ((c : Thread nD τ).loc main_arg4)
abbrev argWb (c : Dev nD) : Prod.Mat 1024 2304 := m ((c : Thread nD τ).loc main_arg5)
abbrev argX (c : Dev nD) : Prod.Mat 8192 1024 := m ((c : Thread nD τ).loc main_arg6)
abbrev argY (c : Dev nD) : Prod.Mat 8192 1024 := m ((c : Thread nD τ).loc main_arg7)
abbrev argg (c : Dev nD) : Prod.Mat 1 1024 := m ((c : Thread nD τ).loc main_arg8)

/-- The blocks that grid point `t` reads and writes: rows `1024 (t / 8) …` of the tall arrays; of the products' operands the columns of
    the step `t % 8`, which goes through the three products one after the other. -/
theorem idx : ∀ t : Fin cfg0.N, win0_0.index t = ![t.val / 8, min (t.val % 8) 2] ∧ win0_1.index t = ![0, min (t.val % 8) 2]
    ∧ win0_2.index t = ![t.val / 8, min (t.val % 8 - 3) 1] ∧ win0_3.index t = ![0, min (t.val % 8 - 3) 1]
    ∧ win0_4.index t = ![t.val / 8, min (t.val % 8 - 5) 2] ∧ win0_5.index t = ![0, min (t.val % 8 - 5) 2]
    ∧ win0_6.index t = ![t.val / 8, 0] ∧ win0_7.index t = ![t.val / 8, 0] ∧ win0_8.index t = ![0, 0]
    ∧ win0_9.index t = ![t.val / 8, 0] ∧ win0_10.index t = ![0, 0] := by decide +kernel

/-- The row of the arrays that row `r` of point `t`'s blocks is, and the columns of the products' operands. -/
abbrev row (t : Fin cfg0.N) (r : Fin 1024) : Fin 8192 := ⟨1024 * (t.val / 8) + r.val, by have : t.val < 64 := t.isLt; omega⟩
abbrev gcol (t : Fin cfg0.N) (k : Fin 1024) : Fin 3072 := ⟨1024 * min (t.val % 8) 2 + k.val, by omega⟩
abbrev acol (t : Fin cfg0.N) (k : Fin 1024) : Fin 2048 := ⟨1024 * min (t.val % 8 - 3) 1 + k.val, by omega⟩
abbrev bcol (t : Fin cfg0.N) (k : Fin 768) : Fin 2304 := ⟨768 * min (t.val % 8 - 5) 2 + k.val, by omega⟩

/-! ## The product, step by step -/

section Payloads

variable (a w : Vec Ideal S1024x1024 .bf16) (b u : Vec Ideal S1024x768 .bf16) (p : Vec Ideal S1024x1024 .f32) (r q : Fin 1024)

theorem pay2_apply : k0_pay2 (F := Ideal) a w (ix2 r q) = ∑ k : Fin 1024, a (ix2 r k) * w (ix2 q k) := by
  pointwise [k0_pay2]

theorem pay3_apply : k0_pay3 (F := Ideal) a w p (ix2 r q) = (p (ix2 r q) + ∑ k : Fin 1024, a (ix2 r k) * w (ix2 q k) : EReal) := by
  rw [add_comm]
  pointwise [k0_pay3]

theorem pay4_apply : k0_pay4 (F := Ideal) a w p (ix2 r q) = (p (ix2 r q) + ∑ k : Fin 1024, a (ix2 r k) * w (ix2 q k) : EReal) := by
  rw [add_comm]
  pointwise [k0_pay4]

theorem pay5_apply : k0_pay5 (F := Ideal) b u p (ix2 r q) = (p (ix2 r q) + ∑ k : Fin 768, b (ix2 r k) * u (ix2 q k) : EReal) := by
  rw [add_comm]
  pointwise [k0_pay5]

theorem pay7_apply : k0_pay7 (F := Ideal) b u p (ix2 r q) = (p (ix2 r q) + ∑ k : Fin 768, b (ix2 r k) * u (ix2 q k) : EReal) := by
  rw [add_comm]
  pointwise [k0_pay7]

end Payloads

section Steps

variable (c : Dev nD) (t : Fin cfg0.N) (r q : Fin 1024)

/-- The pieces of the three products that point `t`'s blocks give. -/
def gpart : EReal := ∑ k : Fin 1024, argG m c (ix2 (row t r) (gcol t k)) * argU m c (ix2 q (gcol t k))
def apart : EReal := ∑ k : Fin 1024, argA m c (ix2 (row t r) (acol t k)) * argWa m c (ix2 q (acol t k))
def bpart : EReal := ∑ k : Fin 768, argB m c (ix2 (row t r) (bcol t k)) * argWb m c (ix2 q (bcol t k))

/-- The piece that point `t` adds. -/
def part : EReal := if t.val % 8 ≤ 2 then gpart m c t r q else if t.val % 8 ≤ 4 then apart m c t r q else bpart m c t r q

theorem gpart_eq : (∑ k : Fin 1024, @HMul.hMul EReal EReal EReal _ ((iblk m c 0 t : S1024x1024.Idx → EReal) (ix2 r k)) ((iblk m c 1 t : S1024x1024.Idx → EReal) (ix2 q k))) = gpart m c t r q := by
  refine Prod.sum_mul_congr (fun k => ?_) fun k => ?_
  · blk_ext [iblk, V, idx t]
  · blk_ext [iblk, V, idx t]

theorem apart_eq : (∑ k : Fin 1024, @HMul.hMul EReal EReal EReal _ ((iblk m c 2 t : S1024x1024.Idx → EReal) (ix2 r k)) ((iblk m c 3 t : S1024x1024.Idx → EReal) (ix2 q k))) = apart m c t r q := by
  refine Prod.sum_mul_congr (fun k => ?_) fun k => ?_
  · blk_ext [iblk, V, idx t]
  · blk_ext [iblk, V, idx t]

theorem bpart_eq : (∑ k : Fin 768, @HMul.hMul EReal EReal EReal _ ((iblk m c 4 t : S1024x768.Idx → EReal) (ix2 r k)) ((iblk m c 5 t : S1024x768.Idx → EReal) (ix2 q k))) = bpart m c t r q := by
  refine Prod.sum_mul_congr (fun k => ?_) fun k => ?_
  · blk_ext [iblk, V, idx t]
  · blk_ext [iblk, V, idx t]

end Steps

/-- What the scratch holds after point `n`. -/
def kept (c : Dev nD) (n : ℕ) (h : n < cfg0.N) (x : Fin 1024 × Fin 1024) : EReal := (outsAt0 m c n h).2.2 (ix2 x.1 x.2)

theorem kept_first (c : Dev nD) (t : Fin cfg0.N) (h : t.val % 8 = 0) (x : Fin 1024 × Fin 1024) : kept m c t.val t.isLt x = 0 + part m c t x.1 x.2 := by
  unfold kept part
  rw [if_pos (by omega), zero_add]
  by_cases h0 : t.val % 64 = 0
  · rw [outsAt0_A m c t h0 h (by omega) (by omega) (by omega) (by omega)]
    frame_out
    exact (pay2_apply ..).trans (gpart_eq m c t x.1 x.2)
  · rw [outsAt0_F m c t h0 h (by omega) (by omega) (by omega) (by omega)]
    frame_out
    exact (pay2_apply ..).trans (gpart_eq m c t x.1 x.2)

/-- The last step's sum, as the point stores it. -/
theorem stored (c : Dev nD) (t : Fin cfg0.N) (h : t.val % 8 = 7) (r q : Fin 1024) : (outsAt0 m c t.val t.isLt).2.2 (ix2 r q)
    = k0_pay7 (F := Ideal) (iblk m c 4 t) (iblk m c 5 t) (outsAt0 m c (t.val - 1) (Nat.lt_of_le_of_lt (Nat.sub_le _ _) t.isLt)).2.2 (ix2 r q) := by
  rw [outsAt0_E m c t (by omega) (by omega) (by omega) (by omega) (by omega) h]
  frame_out
  simp only [read_unread_whole]

theorem kept_next (c : Dev nD) (t : Fin cfg0.N) (h : ¬t.val % 8 = 0) (x : Fin 1024 × Fin 1024) :
    kept m c t.val t.isLt x = kept m c (t.val - 1) (Nat.lt_of_le_of_lt (Nat.sub_le _ _) t.isLt) x + part m c t x.1 x.2 := by
  unfold part
  by_cases h1 : t.val % 8 ≤ 2
  · rw [if_pos h1]
    unfold kept
    rw [outsAt0_B m c t (by omega) h ⟨by omega, h1⟩ (by omega) (by omega) (by omega)]
    frame_out
    simp only [read_unread_whole]
    exact (pay3_apply ..).trans (congrArg (fun s : EReal => _ + s) (gpart_eq m c t x.1 x.2))
  · rw [if_neg h1]
    by_cases h2 : t.val % 8 ≤ 4
    · rw [if_pos h2]
      unfold kept
      rw [outsAt0_C m c t (by omega) h (by omega) ⟨by omega, h2⟩ (by omega) (by omega)]
      frame_out
      simp only [read_unread_whole]
      exact (pay4_apply ..).trans (congrArg (fun s : EReal => _ + s) (apart_eq m c t x.1 x.2))
    · rw [if_neg h2]
      unfold kept
      by_cases h3 : t.val % 8 = 7
      · rw [stored m c t h3]
        exact (pay7_apply ..).trans (congrArg (fun s : EReal => _ + s) (bpart_eq m c t x.1 x.2))
      · rw [outsAt0_D m c t (by omega) h (by omega) (by omega) ⟨by omega, by omega⟩ h3]
        frame_out
        simp only [read_unread_whole]
        exact (pay5_apply ..).trans (congrArg (fun s : EReal => _ + s) (bpart_eq m c t x.1 x.2))

/-- After the last step the scratch holds the gradient of the normed input. -/
theorem kept_last (c : Dev nD) (t : Fin cfg0.N) (h : t.val % 8 = 7) (r q : Fin 1024) : kept m c t.val t.isLt (r, q) = dH (argG m c) (argU m c) (argA m c) (argWa m c) (argB m c) (argWb m c) (row t r) q := by
  have e := Pipeline.eq_sum_fin_of_reset_step_apply_of_flush (kept m c) 8 (fun _ => 0) (fun t x => part m c t x.1 x.2)
    (fun t h x => kept_first m c t h x) (fun t h x => kept_next m c t h x) t h (r, q)
  rw [e, zero_add]
  have ht : t.val < 64 := t.isLt
  refine (Fin.sum_univ_eight _).trans ?_
  have hG : ∀ a : Fin 3, part m c ⟨8 * (t.val / 8) + a.val, by show _ < 64; omega⟩ r q
      = ∑ k : Fin 1024, (fun j : Fin 3072 => argG m c (ix2 (row t r) j) * argU m c (ix2 q j)) ⟨1024 * a.val + k.val, by omega⟩ := by
    intro a
    unfold part
    rw [if_pos (by show (8 * (t.val / 8) + a.val) % 8 ≤ 2; omega)]
    unfold gpart
    refine Fin.sum_fin_congr fun k => ?_
    refine congrArg₂ (fun (i : Fin 8192) (j : Fin 3072) => argG m c (ix2 i j) * argU m c (ix2 q j)) (Fin.ext ?_) (Fin.ext ?_)
    · show 1024 * ((8 * (t.val / 8) + a.val) / 8) + r.val = 1024 * (t.val / 8) + r.val; omega
    · show 1024 * min ((8 * (t.val / 8) + a.val) % 8) 2 + k.val = 1024 * a.val + k.val; omega
  have hA : ∀ a : Fin 2, part m c ⟨8 * (t.val / 8) + (3 + a.val), by show _ < 64; omega⟩ r q
      = ∑ k : Fin 1024, (fun j : Fin 2048 => argA m c (ix2 (row t r) j) * argWa m c (ix2 q j)) ⟨1024 * a.val + k.val, by omega⟩ := by
    intro a
    unfold part
    rw [if_neg (by show ¬(8 * (t.val / 8) + (3 + a.val)) % 8 ≤ 2; omega), if_pos (by show (8 * (t.val / 8) + (3 + a.val)) % 8 ≤ 4; omega)]
    unfold apart
    refine Fin.sum_fin_congr fun k => ?_
    refine congrArg₂ (fun (i : Fin 8192) (j : Fin 2048) => argA m c (ix2 i j) * argWa m c (ix2 q j)) (Fin.ext ?_) (Fin.ext ?_)
    · show 1024 * ((8 * (t.val / 8) + (3 + a.val)) / 8) + r.val = 1024 * (t.val / 8) + r.val; omega
    · show 1024 * min ((8 * (t.val / 8) + (3 + a.val)) % 8 - 3) 1 + k.val = 1024 * a.val + k.val; omega
  have hB : ∀ a : Fin 3, part m c ⟨8 * (t.val / 8) + (5 + a.val), by show _ < 64; omega⟩ r q
      = ∑ k : Fin 768, (fun j : Fin 2304 => argB m c (ix2 (row t r) j) * argWb m c (ix2 q j)) ⟨768 * a.val + k.val, by omega⟩ := by
    intro a
    unfold part
    rw [if_neg (by show ¬(8 * (t.val / 8) + (5 + a.val)) % 8 ≤ 2; omega), if_neg (by show ¬(8 * (t.val / 8) + (5 + a.val)) % 8 ≤ 4; omega)]
    unfold bpart
    refine Fin.sum_fin_congr fun k => ?_
    refine congrArg₂ (fun (i : Fin 8192) (j : Fin 2304) => argB m c (ix2 i j) * argWb m c (ix2 q j)) (Fin.ext ?_) (Fin.ext ?_)
    · show 1024 * ((8 * (t.val / 8) + (5 + a.val)) / 8) + r.val = 1024 * (t.val / 8) + r.val; omega
    · show 768 * min ((8 * (t.val / 8) + (5 + a.val)) % 8 - 5) 2 + k.val = 768 * a.val + k.val; omega
  have sG := (Fin.sum_univ_three _).symm.trans (Fin.sum_mul_add_congr (F := fun (a : Fin 3) (k : Fin 1024) => (fun j : Fin 3072 => argG m c (ix2 (row t r) j) * argU m c (ix2 q j)) ⟨1024 * a.val + k.val, by omega⟩)
    (f := fun j : Fin 3072 => argG m c (ix2 (row t r) j) * argU m c (ix2 q j))
    fun a k hl => congrArg (fun j : Fin 3072 => argG m c (ix2 (row t r) j) * argU m c (ix2 q j)) (Fin.ext (by show 1024 * a.val + k.val = a.val * 1024 + k.val; omega)))
  have sA := (Fin.sum_univ_two _).symm.trans (Fin.sum_mul_add_congr (F := fun (a : Fin 2) (k : Fin 1024) => (fun j : Fin 2048 => argA m c (ix2 (row t r) j) * argWa m c (ix2 q j)) ⟨1024 * a.val + k.val, by omega⟩)
    (f := fun j : Fin 2048 => argA m c (ix2 (row t r) j) * argWa m c (ix2 q j))
    fun a k hl => congrArg (fun j : Fin 2048 => argA m c (ix2 (row t r) j) * argWa m c (ix2 q j)) (Fin.ext (by show 1024 * a.val + k.val = a.val * 1024 + k.val; omega)))
  have sB := (Fin.sum_univ_three _).symm.trans (Fin.sum_mul_add_congr (F := fun (a : Fin 3) (k : Fin 768) => (fun j : Fin 2304 => argB m c (ix2 (row t r) j) * argWb m c (ix2 q j)) ⟨768 * a.val + k.val, by omega⟩)
    (f := fun j : Fin 2304 => argB m c (ix2 (row t r) j) * argWb m c (ix2 q j))
    fun a k hl => congrArg (fun j : Fin 2304 => argB m c (ix2 (row t r) j) * argWb m c (ix2 q j)) (Fin.ext (by show 768 * a.val + k.val = a.val * 768 + k.val; omega)))
  have group : ∀ p0 p1 p2 p3 p4 p5 p6 p7 : EReal, p0 + p1 + p2 + p3 + p4 + p5 + p6 + p7 = p0 + p1 + p2 + (p3 + p4) + (p5 + p6 + p7) := fun _ _ _ _ _ _ _ _ => by
    simp only [add_assoc]
  refine (group _ _ _ _ _ _ _ _).trans ?_
  refine congrArg₂ (fun a b : EReal => a + b) (congrArg₂ (fun a b : EReal => a + b) (Eq.trans ?_ sG) (Eq.trans ?_ sA)) (Eq.trans ?_ sB)
  · exact congrArg₂ (fun a b : EReal => a + b) (congrArg₂ (fun a b : EReal => a + b) (hG 0) (hG 1)) (hG 2)
  · exact congrArg₂ (fun a b : EReal => a + b) (hA 0) (hA 1)
  · exact congrArg₂ (fun a b : EReal => a + b) (congrArg₂ (fun a b : EReal => a + b) (hB 0) (hB 1)) (hB 2)

/-! ## The last step: the norm's gradient, 256 rows at a time -/

/-- The gradient of the input on a band of rows, from the bands of the products' sum, of the input and of the gradient that passes by. -/
def band (h x y : Vec Ideal S256x1024 .f32) (g : Vec Ideal S1x1024 .f32) (r : Fin 256) (q : Fin 1024) : EReal :=
  y (ix2 r q) + Rms.rstd (fun k => x (ix2 r k)) * (h (ix2 r q) * g (ix2 0 q) - x (ix2 r q) * Rms.rstd (fun k => x (ix2 r k))
    * Ideal.div (∑ k : Fin 1024, h (ix2 r k) * g (ix2 0 k) * (x (ix2 r k) * Rms.rstd (fun k => x (ix2 r k)))) (Ideal.ofBits .f32 0x44800000#32))

section Bands

variable (h x y : Vec Ideal S256x1024 .f32) (g v : Vec Ideal S1x1024 .f32) (a s : FVec Ideal S256x1 .f32) (n u w : FVec Ideal S256x1024 .f32)
  (d : Ideal .f32) (r : Fin 256) (q : Fin 1024)

/-- The reciprocal root of the mean square and the normed rows, the four times they are computed. -/
theorem pay8_apply (z : Fin 1) : k0_pay8 (F := Ideal) x (ix2 r z) = Rms.rstd (fun k => x (ix2 r k)) := by
  pointwise [k0_pay8]
  rfl

theorem pay9_apply : k0_pay9 (F := Ideal) x (ix2 r q) = (x (ix2 r q) * Rms.rstd (fun k => x (ix2 r k)) : EReal) := by
  have e : k0_pay9 (F := Ideal) x (ix2 r q) = (x (ix2 r q) * k0_pay8 (F := Ideal) x (ix2 r 0) : EReal) := by
    pointwise [k0_pay9]
  rw [e, pay8_apply]

theorem pay14_apply (z : Fin 1) : k0_pay14 (F := Ideal) x (ix2 r z) = Rms.rstd (fun k => x (ix2 r k)) := by
  pointwise [k0_pay14]
  rfl

theorem pay15_apply : k0_pay15 (F := Ideal) x (ix2 r q) = (x (ix2 r q) * Rms.rstd (fun k => x (ix2 r k)) : EReal) := by
  have e : k0_pay15 (F := Ideal) x (ix2 r q) = (x (ix2 r q) * k0_pay14 (F := Ideal) x (ix2 r 0) : EReal) := by
    pointwise [k0_pay15]
  rw [e, pay14_apply]

theorem pay20_apply (z : Fin 1) : k0_pay20 (F := Ideal) x (ix2 r z) = Rms.rstd (fun k => x (ix2 r k)) := by
  pointwise [k0_pay20]
  rfl

theorem pay21_apply : k0_pay21 (F := Ideal) x (ix2 r q) = (x (ix2 r q) * Rms.rstd (fun k => x (ix2 r k)) : EReal) := by
  have e : k0_pay21 (F := Ideal) x (ix2 r q) = (x (ix2 r q) * k0_pay20 (F := Ideal) x (ix2 r 0) : EReal) := by
    pointwise [k0_pay21]
  rw [e, pay20_apply]

theorem pay26_apply (z : Fin 1) : k0_pay26 (F := Ideal) x (ix2 r z) = Rms.rstd (fun k => x (ix2 r k)) := by
  pointwise [k0_pay26]
  rfl

theorem pay27_apply : k0_pay27 (F := Ideal) x (ix2 r q) = (x (ix2 r q) * Rms.rstd (fun k => x (ix2 r k)) : EReal) := by
  have e : k0_pay27 (F := Ideal) x (ix2 r q) = (x (ix2 r q) * k0_pay26 (F := Ideal) x (ix2 r 0) : EReal) := by
    pointwise [k0_pay27]
  rw [e, pay26_apply]

/-- What each band adds to the gain's gradient. -/
theorem pay10_apply : k0_pay10 (F := Ideal) h x v (ix2 0 q)
    = (v (ix2 0 q) + ∑ r : Fin 256, h (ix2 r q) * (x (ix2 r q) * Rms.rstd (fun k => x (ix2 r k))) : EReal) := by
  have e : k0_pay10 (F := Ideal) h x v (ix2 0 q) = (v (ix2 0 q) + ∑ r : Fin 256, h (ix2 r q) * k0_pay9 (F := Ideal) x (ix2 r q) : EReal) := by
    pointwise [k0_pay10]
  rw [e]
  exact congrArg (fun s : EReal => @HAdd.hAdd EReal EReal EReal _ (v (ix2 0 q)) s) (Fin.sum_fin_congr fun r => by rw [pay9_apply])

theorem pay16_apply : k0_pay16 (F := Ideal) h x v (ix2 0 q)
    = (v (ix2 0 q) + ∑ r : Fin 256, h (ix2 r q) * (x (ix2 r q) * Rms.rstd (fun k => x (ix2 r k))) : EReal) := by
  have e : k0_pay16 (F := Ideal) h x v (ix2 0 q) = (v (ix2 0 q) + ∑ r : Fin 256, h (ix2 r q) * k0_pay15 (F := Ideal) x (ix2 r q) : EReal) := by
    pointwise [k0_pay16]
  rw [e]
  exact congrArg (fun s : EReal => @HAdd.hAdd EReal EReal EReal _ (v (ix2 0 q)) s) (Fin.sum_fin_congr fun r => by rw [pay15_apply])

theorem pay22_apply : k0_pay22 (F := Ideal) h x v (ix2 0 q)
    = (v (ix2 0 q) + ∑ r : Fin 256, h (ix2 r q) * (x (ix2 r q) * Rms.rstd (fun k => x (ix2 r k))) : EReal) := by
  have e : k0_pay22 (F := Ideal) h x v (ix2 0 q) = (v (ix2 0 q) + ∑ r : Fin 256, h (ix2 r q) * k0_pay21 (F := Ideal) x (ix2 r q) : EReal) := by
    pointwise [k0_pay22]
  rw [e]
  exact congrArg (fun s : EReal => @HAdd.hAdd EReal EReal EReal _ (v (ix2 0 q)) s) (Fin.sum_fin_congr fun r => by rw [pay21_apply])

theorem pay28_apply : k0_pay28 (F := Ideal) h x v (ix2 0 q)
    = (v (ix2 0 q) + ∑ r : Fin 256, h (ix2 r q) * (x (ix2 r q) * Rms.rstd (fun k => x (ix2 r k))) : EReal) := by
  have e : k0_pay28 (F := Ideal) h x v (ix2 0 q) = (v (ix2 0 q) + ∑ r : Fin 256, h (ix2 r q) * k0_pay27 (F := Ideal) x (ix2 r q) : EReal) := by
    pointwise [k0_pay28]
  rw [e]
  exact congrArg (fun s : EReal => @HAdd.hAdd EReal EReal EReal _ (v (ix2 0 q)) s) (Fin.sum_fin_congr fun r => by rw [pay27_apply])

theorem pay11_apply : k0_pay11 (F := Ideal) h g (ix2 r q) = (h (ix2 r q) * g (ix2 0 q) : EReal) := by
  pointwise [k0_pay11]

theorem pay12_apply : k0_pay12 (F := Ideal) h x g (ix2 r q) = (h (ix2 r q) * g (ix2 0 q) * (x (ix2 r q) * Rms.rstd (fun k => x (ix2 r k))) : EReal) := by
  have e : k0_pay12 (F := Ideal) h x g (ix2 r q) = (k0_pay11 (F := Ideal) h g (ix2 r q) * k0_pay9 (F := Ideal) x (ix2 r q) : EReal) := by
    pointwise [k0_pay12]
  rw [e, pay11_apply, pay9_apply]

theorem pay13_apply : k0_pay13 (F := Ideal) a n y u w (ix2 r q) = (y (ix2 r q) + a (ix2 r 0) * (u (ix2 r q) - n (ix2 r q)
    * Ideal.div (∑ k : Fin 1024, w (ix2 r k)) (Ideal.ofBits .f32 0x44800000#32)) : EReal) := by
  pointwise [k0_pay13]

theorem pay17_apply : k0_pay17 (F := Ideal) h g (ix2 r q) = (h (ix2 r q) * g (ix2 0 q) : EReal) := by
  pointwise [k0_pay17]

theorem pay18_apply (z : Fin 1) : k0_pay18 (F := Ideal) h x g (ix2 r z) = ∑ k : Fin 1024, h (ix2 r k) * g (ix2 0 k) * (x (ix2 r k) * Rms.rstd (fun k => x (ix2 r k))) := by
  have e : k0_pay18 (F := Ideal) h x g (ix2 r z) = ∑ k : Fin 1024, k0_pay17 (F := Ideal) h g (ix2 r k) * k0_pay15 (F := Ideal) x (ix2 r k) := by
    pointwise [k0_pay18]
  rw [e]
  exact Fin.sum_fin_congr fun k => by rw [pay17_apply, pay15_apply]

theorem pay19_apply : k0_pay19 (F := Ideal) a n y u s d (ix2 r q) = (y (ix2 r q) + a (ix2 r 0) * (u (ix2 r q) - n (ix2 r q)
    * Ideal.div (s (ix2 r 0)) d) : EReal) := by
  pointwise [k0_pay19]

theorem pay23_apply : k0_pay23 (F := Ideal) h g (ix2 r q) = (h (ix2 r q) * g (ix2 0 q) : EReal) := by
  pointwise [k0_pay23]

theorem pay24_apply : k0_pay24 (F := Ideal) h x g (ix2 r q)
    = Ideal.div (∑ k : Fin 1024, h (ix2 r k) * g (ix2 0 k) * (x (ix2 r k) * Rms.rstd (fun k => x (ix2 r k)))) (Ideal.ofBits .f32 0x44800000#32) := by
  have e : k0_pay24 (F := Ideal) h x g (ix2 r q)
      = Ideal.div (∑ k : Fin 1024, k0_pay23 (F := Ideal) h g (ix2 r k) * k0_pay21 (F := Ideal) x (ix2 r k)) (Ideal.ofBits .f32 0x44800000#32) := by
    pointwise [k0_pay24]
  rw [e]
  exact congrArg (fun s : EReal => Ideal.div s (Ideal.ofBits .f32 0x44800000#32)) (Fin.sum_fin_congr fun k => by rw [pay23_apply, pay21_apply])

theorem pay25_apply : k0_pay25 (F := Ideal) a n y u w (ix2 r q) = (y (ix2 r q) + a (ix2 r 0) * (u (ix2 r q) - n (ix2 r q) * w (ix2 r q)) : EReal) := by
  pointwise [k0_pay25]

theorem pay29_apply : k0_pay29 (F := Ideal) h x g (ix2 r q) = (h (ix2 r q) * g (ix2 0 q) - x (ix2 r q) * Rms.rstd (fun k => x (ix2 r k))
    * Ideal.div (∑ k : Fin 1024, h (ix2 r k) * g (ix2 0 k) * (x (ix2 r k) * Rms.rstd (fun k => x (ix2 r k)))) (Ideal.ofBits .f32 0x44800000#32) : EReal) := by
  have e : k0_pay29 (F := Ideal) h x g (ix2 r q) = (h (ix2 r q) * g (ix2 0 q) - k0_pay27 (F := Ideal) x (ix2 r q)
      * Ideal.div (∑ k : Fin 1024, h (ix2 r k) * g (ix2 0 k) * k0_pay27 (F := Ideal) x (ix2 r k)) (Ideal.ofBits .f32 0x44800000#32) : EReal) := by
    pointwise [k0_pay29]
  rw [e, pay27_apply]
  exact congrArg (fun s : EReal => @HSub.hSub EReal EReal EReal _ (@HMul.hMul EReal EReal EReal _ (h (ix2 r q)) (g (ix2 0 q)))
    (@HMul.hMul EReal EReal EReal _ (x (ix2 r q)) (Rms.rstd (fun k => x (ix2 r k))) * Ideal.div s (Ideal.ofBits .f32 0x44800000#32)))
    (Fin.sum_fin_congr fun k => by rw [pay27_apply])

theorem pay30_apply : k0_pay30 (F := Ideal) x (ix2 r q) = Rms.rstd (fun k => x (ix2 r k)) := by
  have e : k0_pay30 (F := Ideal) x (ix2 r q) = k0_pay26 (F := Ideal) x (ix2 r 0) := by
    pointwise [k0_pay30]
  rw [e, pay26_apply]

theorem pay6_apply : k0_pay6 (F := Ideal) y u w (ix2 r q) = (y (ix2 r q) + w (ix2 r q) * u (ix2 r q) : EReal) := by
  pointwise [k0_pay6]

/-- Each of the four bands is the gradient of the input there. -/
theorem band1 : k0_pay13 (F := Ideal) (k0_pay8 x) (k0_pay9 x) y (k0_pay11 h g) (k0_pay12 h x g) (ix2 r q) = band h x y g r q := by
  rw [pay13_apply, pay8_apply, pay9_apply, pay11_apply, Fin.sum_fin_congr fun k => pay12_apply h x g r k]
  rfl

theorem band2 : k0_pay19 (F := Ideal) (k0_pay14 x) (k0_pay15 x) y (k0_pay17 h g) (k0_pay18 h x g) (FloatOps.ofBits .f32 0x44800000#32) (ix2 r q) = band h x y g r q := by
  rw [pay19_apply, pay14_apply, pay15_apply, pay17_apply, pay18_apply]
  rfl

theorem band3 : k0_pay25 (F := Ideal) (k0_pay20 x) (k0_pay21 x) y (k0_pay23 h g) (k0_pay24 h x g) (ix2 r q) = band h x y g r q := by
  rw [pay25_apply, pay20_apply, pay21_apply, pay23_apply, pay24_apply]
  rfl

theorem band4 : k0_pay6 (F := Ideal) y (k0_pay29 h x g) (k0_pay30 x) (ix2 r q) = band h x y g r q := by
  rw [pay6_apply, pay29_apply, pay30_apply]
  rfl

end Bands

theorem zero_apply (q : Fin 1024) : k0_pay1 (F := Ideal) (ix2 0 q) = (0 : EReal) := by
  pointwise [k0_pay1]

theorem x_eq (c : Dev nD) (t : Fin cfg0.N) (r q : Fin 1024) : (iblk m c 6 t : S1024x1024.Idx → EReal) (ix2 r q) = argX m c (ix2 (row t r) q) := by
  blk_ext [iblk, V, idx t]

theorem y_eq (c : Dev nD) (t : Fin cfg0.N) (r q : Fin 1024) : (iblk m c 7 t : S1024x1024.Idx → EReal) (ix2 r q) = argY m c (ix2 (row t r) q) := by
  blk_ext [iblk, V, idx t]

theorem g_eq (c : Dev nD) (t : Fin cfg0.N) (q : Fin 1024) : (iblk m c 8 t : S1x1024.Idx → EReal) (ix2 0 q) = argg m c (ix2 0 q) := by
  blk_ext [iblk, V, idx t]

section Last

variable (c : Dev nD) (t : Fin cfg0.N) (h : t.val % 8 = 7) (o : ℕ)
  (inb : ∀ a, (![o, 0] : Fin 2 → ℕ) a + (![256, 1024] : Fin 2 → ℕ) a ≤ S1024x1024.size a) (r : Fin 256) (q : Fin 1024) (j : Fin 1024) (hj : (j : ℕ) = o + r)

/-- The products' sum at the last step, as stored, and the band of it from row `o` on as loaded again. -/
abbrev sumAt : Vec Ideal S1024x1024 .f32 :=
  k0_pay7 (F := Ideal) (iblk m c 4 t) (iblk m c 5 t) (outsAt0 m c (t.val - 1) (Nat.lt_of_le_of_lt (Nat.sub_le _ _) t.isLt)).2.2
abbrev hBand : Vec Ideal S256x1024 .f32 :=
  (View.whole cc0_scratch0).readCov [(⟨Rect.unit (s := S1024x1024) ![0, 0] ![1024, 1024] inb_S1024x1024_S1024x1024_0_0, sumAt m c t⟩ : View.Piece (Elt Ideal) S1024x1024 .f32)]
    (Rect.unit (s := S1024x1024) ![o, 0] ![256, 1024] inb).toLoadRect
abbrev xBand : Vec Ideal S256x1024 .f32 := View.ld (iblk m c 6 t) (Rect.unit (s := S1024x1024) ![o, 0] ![256, 1024] inb)
abbrev yBand : Vec Ideal S256x1024 .f32 := View.ld (iblk m c 7 t) (Rect.unit (s := S1024x1024) ![o, 0] ![256, 1024] inb)

include h hj in
theorem hBand_apply : hBand m c t o inb (ix2 r q) = dH (argG m c) (argU m c) (argA m c) (argWa m c) (argB m c) (argWb m c) (row t j) q := by
  refine (Rows.readCov_apply (View.whole cc0_scratch0) inb _ r q j hj).trans ?_
  refine (Rows.canon_hit inb_S1024x1024_S1024x1024_0_0 (sumAt m c t) [] j q j (Nat.zero_add _).symm).trans ?_
  exact (stored m c t h j q).symm.trans (kept_last m c t h j q)

include hj in
theorem xBand_apply : xBand m c t o inb (ix2 r q) = argX m c (ix2 (row t j) q) :=
  (Rows.ld_apply inb _ r q j hj).trans (x_eq m c t j q)

include hj in
theorem yBand_apply : yBand m c t o inb (ix2 r q) = argY m c (ix2 (row t j) q) :=
  (Rows.ld_apply inb _ r q j hj).trans (y_eq m c t j q)

include hj in
theorem xBand_rstd : Rms.rstd (fun k => xBand m c t o inb (ix2 r k)) = Rms.rstd (fun k => argX m c (ix2 (row t j) k)) :=
  congrArg Rms.rstd (funext fun k => xBand_apply m c t o inb r k j hj)

include h hj in
theorem band_eq : band (hBand m c t o inb) (xBand m c t o inb) (yBand m c t o inb) (iblk m c 8 t) r q = dX (argG m c) (argU m c) (argA m c) (argWa m c) (argB m c) (argWb m c) (argX m c) (argY m c) (argg m c) (row t j) q := by
  unfold band
  rw [xBand_rstd m c t o inb r j hj, hBand_apply m c t h o inb r q j hj, xBand_apply m c t o inb r q j hj, yBand_apply m c t o inb r q j hj, g_eq]
  refine congrArg (fun s : EReal => argY m c (ix2 (row t j) q) + Rms.rstd (fun k => argX m c (ix2 (row t j) k)) * (dH (argG m c) (argU m c) (argA m c) (argWa m c) (argB m c) (argWb m c) (row t j) q * argg m c (ix2 0 q)
    - nrm (argX m c) (row t j) q * Ideal.div s (Ideal.ofBits .f32 0x44800000#32))) (Fin.sum_fin_congr fun k => ?_)
  rw [hBand_apply m c t h o inb r k j hj, xBand_apply m c t o inb r k j hj, g_eq]
  rfl

end Last

theorem after9 (c : Dev nD) (t : Fin cfg0.N) (h : t.val % 8 = 7) (r q : Fin 1024) : (outsAt0 m c t.val t.isLt).1 (ix2 r q) = dX (argG m c) (argU m c) (argA m c) (argWa m c) (argB m c) (argWb m c) (argX m c) (argY m c) (argg m c) (row t r) q := by
  rw [outsAt0_E m c t (by omega) (by omega) (by omega) (by omega) (by omega) h]
  frame_out
  simp only [read_unread_whole]
  by_cases h1 : r.val < 256
  · have hj : (r : ℕ) = 0 + (⟨r.val, h1⟩ : Fin 256).val := by show r.val = 0 + r.val; omega
    refine (Rows.canon_miss _ _ _ _ _ (Or.inl (by omega))).trans ((Rows.canon_miss _ _ _ _ _ (Or.inl (by omega))).trans ((Rows.canon_miss _ _ _ _ _ (Or.inl (by omega))).trans ?_))
    exact (Rows.canon_hit _ _ _ _ _ _ hj).trans ((band1 ..).trans (band_eq m c t h 0 _ _ q r hj))
  · by_cases h2 : r.val < 512
    · have hj : (r : ℕ) = 256 + (⟨r.val - 256, by omega⟩ : Fin 256).val := by show r.val = 256 + (r.val - 256); omega
      refine (Rows.canon_miss _ _ _ _ _ (Or.inl (by omega))).trans ((Rows.canon_miss _ _ _ _ _ (Or.inl (by omega))).trans ?_)
      exact (Rows.canon_hit _ _ _ _ _ _ hj).trans ((band2 ..).trans (band_eq m c t h 256 _ _ q r hj))
    · by_cases h3 : r.val < 768
      · have hj : (r : ℕ) = 512 + (⟨r.val - 512, by omega⟩ : Fin 256).val := by show r.val = 512 + (r.val - 512); omega
        refine (Rows.canon_miss _ _ _ _ _ (Or.inl (by omega))).trans ?_
        exact (Rows.canon_hit _ _ _ _ _ _ hj).trans ((band3 ..).trans (band_eq m c t h 512 _ _ q r hj))
      · have hj : (r : ℕ) = 768 + (⟨r.val - 768, by omega⟩ : Fin 256).val := by show r.val = 768 + (r.val - 768); omega
        exact (Rows.canon_hit _ _ _ _ _ _ hj).trans ((band4 ..).trans (band_eq m c t h 768 _ _ q r hj))

/-! ## The gain's gradient -/

/-- What the accumulator holds after point `n`, and what point `t` adds to it: the rows of its block, at the last steps. -/
def keptG (c : Dev nD) (n : ℕ) (h : n < cfg0.N) (q : Fin 1024) : EReal := (outsAt0 m c n h).2.1 (ix2 0 q)
def rowG (c : Dev nD) (q : Fin 1024) (i : Fin 8192) : EReal := dH (argG m c) (argU m c) (argA m c) (argWa m c) (argB m c) (argWb m c) i q * nrm (argX m c) i q
def rowsG (c : Dev nD) (t : Fin cfg0.N) (q : Fin 1024) : EReal := ∑ r : Fin 1024, rowG m c q (row t r)
def termG (c : Dev nD) (t : Fin cfg0.N) (q : Fin 1024) : EReal := if t.val % 8 = 7 then rowsG m c t q else 0

/-- The rows of one band, as the kernel sums them. -/
theorem bandG (c : Dev nD) (t : Fin cfg0.N) (h : t.val % 8 = 7) (s : Fin 4)
    (inb : ∀ a, (![256 * s.val, 0] : Fin 2 → ℕ) a + (![256, 1024] : Fin 2 → ℕ) a ≤ S1024x1024.size a) (q : Fin 1024) :
    (∑ r : Fin 256, hBand m c t (256 * s.val) inb (ix2 r q) * (xBand m c t (256 * s.val) inb (ix2 r q) * Rms.rstd (fun k => xBand m c t (256 * s.val) inb (ix2 r k))) : EReal)
      = ∑ r : Fin 256, rowG m c q (row t ⟨256 * s.val + r.val, by omega⟩) := by
  refine Fin.sum_fin_congr fun r => ?_
  rw [xBand_rstd m c t _ inb r ⟨256 * s.val + r.val, by omega⟩ rfl, hBand_apply m c t h _ inb r q ⟨256 * s.val + r.val, by omega⟩ rfl,
    xBand_apply m c t _ inb r q ⟨256 * s.val + r.val, by omega⟩ rfl]
  rfl

theorem bandsG (c : Dev nD) (t : Fin cfg0.N) (q : Fin 1024) :
    ∑ s : Fin 4, ∑ r : Fin 256, rowG m c q (row t ⟨256 * s.val + r.val, by omega⟩) = rowsG m c t q :=
  Fin.sum_mul_add_congr (f := fun r : Fin 1024 => rowG m c q (row t r)) fun s k hl =>
    congrArg (fun r : Fin 1024 => rowG m c q (row t r)) (Fin.ext (by show 256 * s.val + k.val = s.val * 256 + k.val; omega))

theorem keptG_first (c : Dev nD) (t : Fin cfg0.N) (h : t.val % 64 = 0) (q : Fin 1024) : keptG m c t.val t.isLt q = 0 + termG m c t q := by
  unfold keptG termG
  rw [if_neg (by omega), outsAt0_A m c t h (by omega) (by omega) (by omega) (by omega) (by omega)]
  frame_out
  rw [zero_apply, zero_add]

theorem keptG_next (c : Dev nD) (t : Fin cfg0.N) (h : ¬t.val % 64 = 0) (q : Fin 1024) :
    keptG m c t.val t.isLt q = keptG m c (t.val - 1) (Nat.lt_of_le_of_lt (Nat.sub_le _ _) t.isLt) q + termG m c t q := by
  unfold keptG termG
  by_cases h7 : t.val % 8 = 7
  · rw [if_pos h7, outsAt0_E m c t (by omega) (by omega) (by omega) (by omega) (by omega) h7]
    frame_out
    simp only [read_unread_whole]
    rw [← bandsG, Fin.sum_univ_four, ← bandG m c t h7 0 inb_S1024x1024_S256x1024_0_0 q, ← bandG m c t h7 1 inb_S1024x1024_S256x1024_256_0 q,
      ← bandG m c t h7 2 inb_S1024x1024_S256x1024_512_0 q, ← bandG m c t h7 3 inb_S1024x1024_S256x1024_768_0 q]
    have group : ∀ p a b d e : EReal, p + a + b + d + e = p + (a + b + d + e) := fun _ _ _ _ _ => by simp only [add_assoc]
    refine Eq.trans ?_ (group _ _ _ _ _)
    refine (pay28_apply ..).trans (congrArg₂ (fun a b : EReal => a + b) ?_ rfl)
    refine (pay22_apply ..).trans (congrArg₂ (fun a b : EReal => a + b) ?_ rfl)
    refine (pay16_apply ..).trans (congrArg₂ (fun a b : EReal => a + b) ?_ rfl)
    exact pay10_apply ..
  · rw [if_neg h7, add_zero]
    by_cases h0 : t.val % 8 = 0
    · rw [outsAt0_F m c t h h0 (by omega) (by omega) (by omega) (by omega)]
      rfl
    · by_cases h2 : t.val % 8 ≤ 2
      · rw [outsAt0_B m c t h h0 ⟨by omega, h2⟩ (by omega) (by omega) (by omega)]
        rfl
      · by_cases h4 : t.val % 8 ≤ 4
        · rw [outsAt0_C m c t h h0 (by omega) ⟨by omega, h4⟩ (by omega) (by omega)]
          rfl
        · rw [outsAt0_D m c t h h0 (by omega) (by omega) ⟨by omega, by omega⟩ h7]
          rfl

theorem keptG_last (c : Dev nD) (t : Fin cfg0.N) (hr : t.val % 64 = 63) (q : Fin 1024) : keptG m c t.val t.isLt q = resG (argG m c) (argU m c) (argA m c) (argWa m c) (argB m c) (argWb m c) (argX m c) (ix2 0 q) := by
  have e := Pipeline.eq_sum_fin_of_reset_step_apply_of_flush (keptG m c) 64 (fun _ => 0) (termG m c)
    (fun t h j => keptG_first m c t h j) (fun t h j => keptG_next m c t h j) t hr q
  rw [e, zero_add]
  have ht : t.val < 64 := t.isLt
  have e2 : ∑ a : Fin 8, ∑ b : Fin 8, termG m c ⟨8 * a.val + b.val, by show _ < 64; omega⟩ q
      = ∑ s : Fin 64, termG m c ⟨64 * (t.val / 64) + s.val, Pipeline.run_point_lt_of_flush t hr s⟩ q :=
    Fin.sum_mul_add_congr (f := fun s : Fin 64 => termG m c ⟨64 * (t.val / 64) + s.val, Pipeline.run_point_lt_of_flush t hr s⟩ q) fun a b hl =>
      congrArg (fun u => termG m c u q) (Fin.ext (by show 8 * a.val + b.val = 64 * (t.val / 64) + (a.val * 8 + b.val); omega))
  refine e2.symm.trans ?_
  have e3 : ∀ a : Fin 8, ∑ b : Fin 8, termG m c ⟨8 * a.val + b.val, by show _ < 64; omega⟩ q
      = ∑ r : Fin 1024, rowG m c q ⟨1024 * a.val + r.val, by omega⟩ := by
    intro a
    rw [Fin.sum_univ_eight]
    unfold termG
    rw [if_neg (by show ¬(8 * a.val + 0) % 8 = 7; omega), if_neg (by show ¬(8 * a.val + 1) % 8 = 7; omega), if_neg (by show ¬(8 * a.val + 2) % 8 = 7; omega),
      if_neg (by show ¬(8 * a.val + 3) % 8 = 7; omega), if_neg (by show ¬(8 * a.val + 4) % 8 = 7; omega), if_neg (by show ¬(8 * a.val + 5) % 8 = 7; omega),
      if_neg (by show ¬(8 * a.val + 6) % 8 = 7; omega), if_pos (by show (8 * a.val + 7) % 8 = 7; omega)]
    simp only [zero_add]
    unfold rowsG
    exact Fin.sum_fin_congr fun r => congrArg (rowG m c q) (Fin.ext (by show 1024 * ((8 * a.val + 7) / 8) + r.val = 1024 * a.val + r.val; omega))
  refine (Fin.sum_fin_congr e3).trans ?_
  exact Fin.sum_mul_add_congr (f := rowG m c q) fun s k hl =>
    congrArg (rowG m c q) (Fin.ext (by show 1024 * s.val + k.val = s.val * 1024 + k.val; omega))

/-! ## The output arrays -/

/-- The output array of window 9 is the gradient of the input. -/
theorem final9 (c : Dev nD) : (dats m 0 c).arrAt 9 cfg0.N = resX (argG m c) (argU m c) (argA m c) (argWa m c) (argB m c) (argWb m c) (argX m c) (argY m c) (argg m c) := by
  refine (dats m 0 c).arrAt_eq_of_covers 9 _ (by decide +kernel) fun t hf y => ?_
  have hr := (flush0_9 t).mp hf
  blk_simp
  rw [after0_9]
  change S1024x1024.Idx at y
  idx_vars y
  have ht : t.val < 64 := t.isLt
  have h0 : win0_9.index t 0 = t.val / 8 := by rw [(idx t).2.2.2.2.2.2.2.2.2.1]; rfl
  have h1 : win0_9.index t 1 = 0 := by rw [(idx t).2.2.2.2.2.2.2.2.2.1]; rfl
  have e : (outsAt0 m c t.val t.isLt).1 (ix2 y0 y1) = resX (argG m c) (argU m c) (argA m c) (argWa m c) (argB m c) (argWb m c) (argX m c) (argY m c) (argg m c) (ix2 (row t y0) y1) := after9 m c t hr y0 y1
  refine e.trans (congrArg (resX (argG m c) (argU m c) (argA m c) (argWa m c) (argB m c) (argWb m c) (argX m c) (argY m c) (argg m c)) (funext fun a => Fin.ext ?_))
  match a with
  | 0 => show 1024 * (t.val / 8) + y0.val = win0_9.index t 0 * 1024 + 1 * y0.val; omega
  | 1 => show y1.val = win0_9.index t 1 * 1024 + 1 * y1.val; omega

/-- The output array of window 10 is the gain's gradient. -/
theorem final10 (c : Dev nD) : (dats m 0 c).arrAt 10 cfg0.N = resG (argG m c) (argU m c) (argA m c) (argWa m c) (argB m c) (argWb m c) (argX m c) := by
  refine (dats m 0 c).arrAt_eq_of_covers 10 _ (by decide +kernel) fun t hf y => ?_
  have hr := (flush0_10 t).mp hf
  blk_simp
  rw [after0_10]
  change S1x1024.Idx at y
  idx_vars y
  have h0 : win0_10.index t 0 = 0 := by rw [(idx t).2.2.2.2.2.2.2.2.2.2]; rfl
  have h1 : win0_10.index t 1 = 0 := by rw [(idx t).2.2.2.2.2.2.2.2.2.2]; rfl
  obtain rfl : y0 = 0 := Subsingleton.elim _ _
  have e : (outsAt0 m c t.val t.isLt).2.1 (ix2 0 y1) = resG (argG m c) (argU m c) (argA m c) (argWa m c) (argB m c) (argWb m c) (argX m c) (ix2 0 y1) := keptG_last m c t hr y1
  refine e.trans (congrArg (resG (argG m c) (argU m c) (argA m c) (argWa m c) (argB m c) (argWb m c) (argX m c)) (funext fun a => Fin.ext ?_))
  match a with
  | 0 => show 0 = win0_10.index t 0 * 1 + 1 * 0; omega
  | 1 => show y1.val = win0_10.index t 1 * 1024 + 1 * y1.val; omega

/-! ## The run: the argument arrays end as they were -/

theorem kept_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem kept_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

theorem kept_arg6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

theorem kept_arg7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

theorem kept_arg8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- Every run ends with the two arrays above and the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v0_0) = resX (argG m c) (argU m c) (argA m c) (argWa m c) (argB m c) (argWb m c) (argX m c) (argY m c) (argg m c)
      ∧ r.2.mem ((c : Thread nD τ).loc main_v0_1) = resG (argG m c) (argU m c) (argA m c) (argWa m c) (argB m c) (argWb m c) (argX m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 9).trans (final9 m c), ((h c).1 10).trans (final10 m c), kept_arg0 m r h c, kept_arg1 m r h c, kept_arg2 m r h c, kept_arg3 m r h c, kept_arg4 m r h c, kept_arg5 m r h c, kept_arg6 m r h c, kept_arg7 m r h c, kept_arg8 m r h c⟩)
    (run_main m ρ)

end Kernel

section Reference

open Cert.Reference33Ideal Cert.Reference33Ideal.Gen Cert.Reference33Ideal.Facts
open Cert.Norms (gradArr gradArr_apply dgArr dgArr_apply)

variable (G : Prod.Mat 8192 3072) (U : Prod.Mat 1024 3072) (A : Prod.Mat 8192 2048) (Wa : Prod.Mat 1024 2048) (B : Prod.Mat 8192 2304)
  (Wb : Prod.Mat 1024 2304) (X Y : Prod.Mat 8192 1024) (g : Prod.Mat 1 1024)

/-- The gradient of the normed input: the three products. -/
def hArr : FVec Ideal S8192x1024 .f32 :=
  addf (addf (Host.dotGeneral dot_S8192x2304_S1024x2304_S8192x1024_1_1_0_0_n_n none (extf (φ := .bf16) .f32 B bitsLt_bf16_f32) (extf (φ := .bf16) .f32 Wb bitsLt_bf16_f32))
    (Host.dotGeneral dot_S8192x2048_S1024x2048_S8192x1024_1_1_0_0_n_n none (extf (φ := .bf16) .f32 A bitsLt_bf16_f32) (extf (φ := .bf16) .f32 Wa bitsLt_bf16_f32)))
    (Host.dotGeneral dot_S8192x3072_S1024x3072_S8192x1024_1_1_0_0_n_n none (extf (φ := .bf16) .f32 G bitsLt_bf16_f32) (extf (φ := .bf16) .f32 U bitsLt_bf16_f32))

theorem hArr_apply (i : Fin 8192) (q : Fin 1024) : hArr G U A Wa B Wb (ix2 i q) = dH G U A Wa B Wb i q := by
  have e : hArr G U A Wa B Wb (ix2 i q)
      = ∑ k : Fin 2304, B (ix2 i k) * Wb (ix2 q k) + ∑ k : Fin 2048, A (ix2 i k) * Wa (ix2 q k) + ∑ k : Fin 3072, G (ix2 i k) * U (ix2 q k) := by
    pointwise [hArr]
  rw [e]
  unfold dH
  have order : ∀ a b d : EReal, a + b + d = d + b + a := fun a b d => by rw [add_comm (a + b) d, add_comm a b, ← add_assoc]
  exact order _ _ _

/-- The gradient of the input. -/
def dxArr : FVec Ideal S8192x1024 .f32 := addf (Y : FVec Ideal S8192x1024 .f32) (gradArr X (hArr G U A Wa B Wb) g)

theorem x_res : dxArr G U A Wa B Wb X Y g = resX G U A Wa B Wb X Y g := by
  funext x
  obtain ⟨i, q, rfl⟩ : ∃ i j, x = ix2 i j := ⟨x 0, x 1, eq_ix2 x⟩
  have e : dxArr G U A Wa B Wb X Y g (ix2 i q) = (Y (ix2 i q) + gradArr X (hArr G U A Wa B Wb) g (ix2 i q) : EReal) := rfl
  rw [e, gradArr_apply X (hArr G U A Wa B Wb) g (dH G U A Wa B Wb) (hArr_apply G U A Wa B Wb)]
  rfl

theorem g_res : dgArr X (hArr G U A Wa B Wb) = resG G U A Wa B Wb X := by
  funext x
  obtain ⟨z, q, rfl⟩ : ∃ i j, x = ix2 i j := ⟨x 0, x 1, eq_ix2 x⟩
  exact dgArr_apply X (hArr G U A Wa B Wb) (dH G U A Wa B Wb) (hArr_apply G U A Wa B Wb) z q

end Reference

/-- The reference's frame: it ends with its arguments unchanged and every counter at zero. -/
theorem frameR : Cert.quiescent_Reference33Ideal := by
  intro m g _
  exact (θ_run Cert.Reference33Ideal.defs _ _).mono (fun r h => ⟨fun c => (h c).2.2, sem_eq_zero_of_no_sems (by decide) r.2⟩)
    (Cert.Reference33Ideal.Value.run m g)

/-- The kernel and the reference end with the same two arrays. -/
theorem algebraic : Cert.algebraic_Kernel33Ideal_Reference33Ideal := by
  intro m g m' g' _ hagree
  refine ⟨fun c => resX (argG m c) (argU m c) (argA m c) (argWa m c) (argB m c) (argWb m c) (argX m c) (argY m c) (argg m c), fun c => resG (argG m c) (argU m c) (argA m c) (argWa m c) (argB m c) (argWb m c) (argX m c), run_blocks m g, ?_⟩
  refine (θ_run Cert.Reference33Ideal.defs _ _).mono (fun r h c => ?_) (Cert.Reference33Ideal.Value.run m' g')
  have hc := h c
  obtain ⟨a0, a1, a2, a3, a4, a5, a6, a7, a8⟩ := hagree c
  refine ⟨hc.1.trans ?_, hc.2.1.trans ?_, hc.2.2⟩
  · refine Eq.trans (b := dxArr (m' ((c.tc : Thread _ _).loc Cert.Reference33Ideal.main_arg0)) (m' ((c.tc : Thread _ _).loc Cert.Reference33Ideal.main_arg1)) (m' ((c.tc : Thread _ _).loc Cert.Reference33Ideal.main_arg2)) (m' ((c.tc : Thread _ _).loc Cert.Reference33Ideal.main_arg3)) (m' ((c.tc : Thread _ _).loc Cert.Reference33Ideal.main_arg4)) (m' ((c.tc : Thread _ _).loc Cert.Reference33Ideal.main_arg5)) (m' ((c.tc : Thread _ _).loc Cert.Reference33Ideal.main_arg6)) (m' ((c.tc : Thread _ _).loc Cert.Reference33Ideal.main_arg7)) (m' ((c.tc : Thread _ _).loc Cert.Reference33Ideal.main_arg8))) rfl ?_
    rw [a0, a1, a2, a3, a4, a5, a6, a7, a8]
    exact x_res (argG m c) (argU m c) (argA m c) (argWa m c) (argB m c) (argWb m c) (argX m c) (argY m c) (argg m c)
  · refine Eq.trans (b := Norms.dgArr (m' ((c.tc : Thread _ _).loc Cert.Reference33Ideal.main_arg6)) (hArr (m' ((c.tc : Thread _ _).loc Cert.Reference33Ideal.main_arg0)) (m' ((c.tc : Thread _ _).loc Cert.Reference33Ideal.main_arg1)) (m' ((c.tc : Thread _ _).loc Cert.Reference33Ideal.main_arg2)) (m' ((c.tc : Thread _ _).loc Cert.Reference33Ideal.main_arg3)) (m' ((c.tc : Thread _ _).loc Cert.Reference33Ideal.main_arg4)) (m' ((c.tc : Thread _ _).loc Cert.Reference33Ideal.main_arg5)))) rfl ?_
    rw [a0, a1, a2, a3, a4, a5, a6]
    exact g_res (argG m c) (argU m c) (argA m c) (argWa m c) (argB m c) (argWb m c) (argX m c)

end Cert.Dh

end
-- ==== Proof.SmallClaim.lean ====
/- The optimiser's step on the gains and on the gates' bias, and the loss: the kernel and the reference leave the same arrays. -/
module

public import proofs.«01_k».proof.Defs
public import proofs.«01_k».proof.Proof.Gen.Kernel34Ideal.Value
public import proofs.«01_k».proof.Proof.Gen.Reference34Ideal.Run
public import proofs.«01_k».proof.Proof.AdamSpec
public import proofs.«01_k».proof.Proof.RmsSpec
public import proofs.«01_k».proof.Proof.ProdSpec
public import Idealize.ShloMosaic.Lib.Claim

@[expose] public section

set_option maxRecDepth 16384

noncomputable section

namespace Cert.Small

open Idealize.ShloMosaic Idealize.ShloMosaic.TcCoe Idealize.SL.Sem

open Cert.Adam (Cube first second delta)

section Spec

variable (P : Cube 8 16 1024) (W M V : Prod.Mat 8 1024)

/-- The sum of the eight devices' rows: rows 0 to 4 are the gains' gradients, 5 to 7 the bias's, row 8 the loss by columns. -/
def total (i : Fin 16) (q : Fin 1024) : EReal := ∑ s : Fin 8, P (ix3 s i q)

/-- The gradient, the new moments, the change of the weights, and the loss, as arrays. -/
def resG : Prod.Mat 8 1024 := fun x => total P ⟨(x 0 : Fin 8).val, by have : (x 0 : Fin 8).val < 8 := (x 0 : Fin 8).isLt; omega⟩ (x 1)
def resM : Prod.Mat 8 1024 := fun x => first (M x) (resG P x)
def resV : Prod.Mat 8 1024 := fun x => second (V x) (resG P x)
def resD : Prod.Mat 8 1024 := fun x => delta (W x) (resM P M x) (resV P V x)
def resL : Prod.Mat 8 128 := fun _ => Ideal.ofBits .f32 0x3F000000#32 * Ideal.div (∑ k : Fin 1024, total P 8 k) (Ideal.ofBits .f32 0x44800000#32)

/-- The eight rows one by one. -/
theorem total_eq (i : Fin 16) (q : Fin 1024) : total P i q = P (ix3 0 i q) + P (ix3 1 i q) + P (ix3 2 i q) + P (ix3 3 i q) + P (ix3 4 i q)
    + P (ix3 5 i q) + P (ix3 6 i q) + P (ix3 7 i q) := Fin.sum_univ_eight _

/-- Half the mean of 1024 numbers is 1/2048 of their sum. -/
theorem half_mean (s : EReal) : Ideal.ofBits .f32 0x3A000000#32 * s = Ideal.ofBits .f32 0x3F000000#32 * Ideal.div s (Ideal.ofBits .f32 0x44800000#32) := by
  have h1 : Ideal.ofBits .f32 0x3A000000#32 = ((1 / 2048 : ℝ) : EReal) := by
    simp [Ideal.ofBits, Ideal.ieee, -EReal.coe_mul]; norm_num
  have h2 : Ideal.ofBits .f32 0x3F000000#32 = ((1 / 2 : ℝ) : EReal) := by
    simp [Ideal.ofBits, Ideal.ieee, -EReal.coe_mul]; norm_num
  rw [h1, h2, Rms.ofBits_1024, Rms.div_coe s (by norm_num : (1024 : ℝ) ≠ 0), mul_comm s, ← mul_assoc, ← EReal.coe_mul]
  norm_num

end Spec

section Kernel

open Cert.Kernel34Ideal Cert.Kernel34Ideal.Gen

variable (m : (ℓ : Loc nD τ sig) → Buf (Elt Ideal) ℓ)

/-- The arrays of device `c`: the gathered rows, the packed weights and the packed moments. -/
abbrev argP (c : Dev nD) : Cube 8 16 1024 := m ((c : Thread nD τ).loc main_arg0)
abbrev argW (c : Dev nD) : Prod.Mat 8 1024 := m ((c : Thread nD τ).loc main_arg1)
abbrev argM (c : Dev nD) : Prod.Mat 8 1024 := m ((c : Thread nD τ).loc main_arg2)
abbrev argV (c : Dev nD) : Prod.Mat 8 1024 := m ((c : Thread nD τ).loc main_arg3)

section Payloads

variable (x0 x1 x2 x3 x4 x5 x6 x7 : Vec Ideal S1x16x1024 .f32) (g : FVec Ideal S8x1024 .f32) (w u v : Vec Ideal S8x1024 .f32) (s : FVec Ideal S16x1024 .f32)

theorem pay1_apply (r : Fin 16) (q : Fin 1024) : k0_pay1 (F := Ideal) x0 x1 x2 x3 x4 x5 x6 x7 (ix2 r q) = (x0 (ix3 0 r q) + x1 (ix3 0 r q) + x2 (ix3 0 r q) + x3 (ix3 0 r q)
    + x4 (ix3 0 r q) + x5 (ix3 0 r q) + x6 (ix3 0 r q) + x7 (ix3 0 r q) : EReal) := by
  pointwise [k0_pay1]

theorem pay2_apply (r : Fin 8) (q : Fin 1024) : k0_pay2 (F := Ideal) x0 x1 x2 x3 x4 x5 x6 x7 (ix2 r q) = k0_pay1 (F := Ideal) x0 x1 x2 x3 x4 x5 x6 x7 (ix2 ⟨r.val, by omega⟩ q) := by
  pointwise [k0_pay2]

theorem pay3_apply (r : Fin 8) (q : Fin 1024) : k0_pay3 (F := Ideal) g u (ix2 r q) = first (u (ix2 r q)) (g (ix2 r q)) := by
  pointwise [k0_pay3, first]

theorem pay4_apply (r : Fin 8) (q : Fin 1024) : k0_pay4 (F := Ideal) g v (ix2 r q) = second (v (ix2 r q)) (g (ix2 r q)) := by
  pointwise [k0_pay4, second]

theorem pay5_apply (r : Fin 8) (q : Fin 1024) : k0_pay5 (F := Ideal) g w u v (ix2 r q)
    = delta (w (ix2 r q)) (first (u (ix2 r q)) (g (ix2 r q))) (second (v (ix2 r q)) (g (ix2 r q))) := by
  pointwise [k0_pay5, delta, pay3_apply, pay4_apply]

theorem pay6_apply (r : Fin 8) (z : Fin 128) : k0_pay6 (F := Ideal) s (ix2 r z) = (Ideal.ofBits .f32 0x3A000000#32 * ∑ k : Fin 1024, s (ix2 8 k) : EReal) := by
  pointwise [k0_pay6]

end Payloads

/-- The slabs of the gathered rows, as loaded. -/
abbrev slab (c : Dev nD) (s : ℕ) (inb : ∀ a, (![s, 0, 0] : Fin 3 → ℕ) a + (![1, 16, 1024] : Fin 3 → ℕ) a ≤ S8x16x1024.size a) : Vec Ideal S1x16x1024 .f32 :=
  View.ld (argP m c) (Rect.unit (s := S8x16x1024) ![s, 0, 0] ![1, 16, 1024] inb)

/-- The sum of the gathered rows, and its first eight rows. -/
abbrev sumArr (c : Dev nD) : FVec Ideal S16x1024 .f32 :=
  k0_pay1 (F := Ideal) (slab m c 0 inb_S8x16x1024_S1x16x1024_0_0_0) (slab m c 1 inb_S8x16x1024_S1x16x1024_1_0_0) (slab m c 2 inb_S8x16x1024_S1x16x1024_2_0_0) (slab m c 3 inb_S8x16x1024_S1x16x1024_3_0_0) (slab m c 4 inb_S8x16x1024_S1x16x1024_4_0_0) (slab m c 5 inb_S8x16x1024_S1x16x1024_5_0_0) (slab m c 6 inb_S8x16x1024_S1x16x1024_6_0_0) (slab m c 7 inb_S8x16x1024_S1x16x1024_7_0_0)
abbrev gArr (c : Dev nD) : FVec Ideal S8x1024 .f32 :=
  k0_pay2 (F := Ideal) (slab m c 0 inb_S8x16x1024_S1x16x1024_0_0_0) (slab m c 1 inb_S8x16x1024_S1x16x1024_1_0_0) (slab m c 2 inb_S8x16x1024_S1x16x1024_2_0_0) (slab m c 3 inb_S8x16x1024_S1x16x1024_3_0_0) (slab m c 4 inb_S8x16x1024_S1x16x1024_4_0_0) (slab m c 5 inb_S8x16x1024_S1x16x1024_5_0_0) (slab m c 6 inb_S8x16x1024_S1x16x1024_6_0_0) (slab m c 7 inb_S8x16x1024_S1x16x1024_7_0_0)

theorem slab_apply (c : Dev nD) (s : ℕ) (t : Fin 8) (ht : (t : ℕ) = s) (inb : ∀ a, (![s, 0, 0] : Fin 3 → ℕ) a + (![1, 16, 1024] : Fin 3 → ℕ) a ≤ S8x16x1024.size a)
    (r : Fin 16) (q : Fin 1024) : slab m c s inb (ix3 0 r q) = argP m c (ix3 t r q) := Adam.ld_apply (Val := Elt Ideal) (e := .f32) inb (argP m c) r q t ht

theorem sumArr_apply (c : Dev nD) (r : Fin 16) (q : Fin 1024) : sumArr m c (ix2 r q) = total (argP m c) r q := by
  unfold sumArr
  rw [pay1_apply, total_eq, slab_apply m c 0 0 rfl _ r q, slab_apply m c 1 1 rfl _ r q, slab_apply m c 2 2 rfl _ r q, slab_apply m c 3 3 rfl _ r q,
    slab_apply m c 4 4 rfl _ r q, slab_apply m c 5 5 rfl _ r q, slab_apply m c 6 6 rfl _ r q, slab_apply m c 7 7 rfl _ r q]

theorem gArr_apply (c : Dev nD) (r : Fin 8) (q : Fin 1024) : gArr m c (ix2 r q) = resG (argP m c) (ix2 r q) :=
  (pay2_apply ..).trans (sumArr_apply m c ⟨r.val, by omega⟩ q)

/-- Output 1 is the gradient. -/
theorem final4 (c : Dev nD) : Cert.Kernel34Ideal.Value.G4 (F := Ideal) (argP m c) (argW m c) (argM m c) (argV m c) = resG (argP m c) := by
  unfold Cert.Kernel34Ideal.Value.G4
  refine Eq.trans (b := gArr m c) rfl ?_
  funext y
  obtain ⟨y0, y1, rfl⟩ : ∃ i j, y = ix2 i j := ⟨y 0, y 1, eq_ix2 y⟩
  exact gArr_apply m c y0 y1

/-- Output 2 is the change of the weights. -/
theorem final5 (c : Dev nD) : Cert.Kernel34Ideal.Value.G5 (F := Ideal) (argP m c) (argW m c) (argM m c) (argV m c) = resD (argP m c) (argW m c) (argM m c) (argV m c) := by
  unfold Cert.Kernel34Ideal.Value.G5
  refine Eq.trans (b := k0_pay5 (F := Ideal) (gArr m c) (argW m c) (argM m c) (argV m c)) rfl ?_
  funext y
  obtain ⟨y0, y1, rfl⟩ : ∃ i j, y = ix2 i j := ⟨y 0, y 1, eq_ix2 y⟩
  exact (pay5_apply ..).trans (by rw [gArr_apply]; rfl)

/-- Output 3 is the new first moment. -/
theorem final6 (c : Dev nD) : Cert.Kernel34Ideal.Value.G6 (F := Ideal) (argP m c) (argW m c) (argM m c) (argV m c) = resM (argP m c) (argM m c) := by
  unfold Cert.Kernel34Ideal.Value.G6
  refine Eq.trans (b := k0_pay3 (F := Ideal) (gArr m c) (argM m c)) rfl ?_
  funext y
  obtain ⟨y0, y1, rfl⟩ : ∃ i j, y = ix2 i j := ⟨y 0, y 1, eq_ix2 y⟩
  exact (pay3_apply ..).trans (by rw [gArr_apply]; rfl)

/-- Output 4 is the new second moment. -/
theorem final7 (c : Dev nD) : Cert.Kernel34Ideal.Value.G7 (F := Ideal) (argP m c) (argW m c) (argM m c) (argV m c) = resV (argP m c) (argV m c) := by
  unfold Cert.Kernel34Ideal.Value.G7
  refine Eq.trans (b := k0_pay4 (F := Ideal) (gArr m c) (argV m c)) rfl ?_
  funext y
  obtain ⟨y0, y1, rfl⟩ : ∃ i j, y = ix2 i j := ⟨y 0, y 1, eq_ix2 y⟩
  exact (pay4_apply ..).trans (by rw [gArr_apply]; rfl)

/-- Output 5 is the loss, repeated. -/
theorem final8 (c : Dev nD) : Cert.Kernel34Ideal.Value.G8 (F := Ideal) (argP m c) (argW m c) (argM m c) (argV m c) = resL (argP m c) := by
  unfold Cert.Kernel34Ideal.Value.G8
  refine Eq.trans (b := k0_pay6 (F := Ideal) (sumArr m c)) rfl ?_
  funext y
  obtain ⟨y0, y1, rfl⟩ : ∃ i j, y = ix2 i j := ⟨y 0, y 1, eq_ix2 y⟩
  exact (pay6_apply ..).trans ((half_mean _).trans (congrArg (fun s : EReal => Ideal.ofBits .f32 0x3F000000#32 * Ideal.div s (Ideal.ofBits .f32 0x44800000#32)) (Fin.sum_fin_congr fun k => sumArr_apply m c 8 k)))

end Kernel

section Reference

open Cert.Reference34Ideal Cert.Reference34Ideal.Gen Cert.Reference34Ideal.Facts

variable (P : Cube 8 16 1024) (W M V : Prod.Mat 8 1024) (g u v : FVec Ideal S8x1024 .f32)

/-- The sum over the devices, and its first eight rows. -/
def totArr : FVec Ideal S16x1024 .f32 := Host.reduceAdd (P : FVec Ideal S8x16x1024 .f32) (constant S_ .f32 0x00000000#32) reducesTo_S8x16x1024_S16x1024_d0 h_S_
def gradArr : FVec Ideal S8x1024 .f32 := extractStridedSlice S8x1024 ![0, 0] (totArr P) slices_S16x1024_S8x1024_0_0

theorem totArr_apply (r : Fin 16) (q : Fin 1024) : totArr P (ix2 r q) = total P r q := by
  pointwise [totArr]
  rfl

theorem g_res : gradArr P = resG P := by
  funext x
  obtain ⟨r, q, rfl⟩ : ∃ i j, x = ix2 i j := ⟨x 0, x 1, eq_ix2 x⟩
  have e : gradArr P (ix2 r q) = totArr P (ix2 ⟨r.val, by omega⟩ q) := by
    pointwise [gradArr]
  exact e.trans (totArr_apply P ⟨r.val, by omega⟩ q)

/-- The new moments and the change of the weights, from the gradient. -/
def firstArr : FVec Ideal S8x1024 .f32 := addf (mulf (broadcastInDim S8x1024 ![] bcast_S_S8x1024 (constant S_ .f32 0x3F666666#32)) (M : FVec Ideal S8x1024 .f32)) (mulf (broadcastInDim S8x1024 ![] bcast_S_S8x1024 (constant S_ .f32 0x3DCCCCCD#32)) g)
def secondArr : FVec Ideal S8x1024 .f32 := addf (mulf (broadcastInDim S8x1024 ![] bcast_S_S8x1024 (constant S_ .f32 0x3F7FBE77#32)) (V : FVec Ideal S8x1024 .f32)) (mulf (broadcastInDim S8x1024 ![] bcast_S_S8x1024 (constant S_ .f32 0x3A83126F#32)) (mulf g g))
def deltaArr : FVec Ideal S8x1024 .f32 :=
  mulf (broadcastInDim S8x1024 ![] bcast_S_S8x1024 (constant S_ .f32 0xBA83126F#32)) (addf (Host.divf (Host.divf u (broadcastInDim S8x1024 ![] bcast_S_S8x1024 (constant S_ .f32 0x3F26BD02#32))) (addf (Host.sqrt (Host.divf v (broadcastInDim S8x1024 ![] bcast_S_S8x1024 (constant S_ .f32 0x3C231ACC#32)))) (broadcastInDim S8x1024 ![] bcast_S_S8x1024 (constant S_ .f32 0x322BCC77#32))))
    (mulf (broadcastInDim S8x1024 ![] bcast_S_S8x1024 (constant S_ .f32 0x3C23D70A#32)) (W : FVec Ideal S8x1024 .f32)))

theorem firstArr_apply (r : Fin 8) (q : Fin 1024) : firstArr M g (ix2 r q) = first (M (ix2 r q)) (g (ix2 r q)) := by
  pointwise [firstArr, first]

theorem secondArr_apply (r : Fin 8) (q : Fin 1024) : secondArr V g (ix2 r q) = second (V (ix2 r q)) (g (ix2 r q)) := by
  pointwise [secondArr, second]

theorem deltaArr_apply (r : Fin 8) (q : Fin 1024) : deltaArr W u v (ix2 r q) = delta (W (ix2 r q)) (u (ix2 r q)) (v (ix2 r q)) := by
  pointwise [deltaArr, delta]

theorem m_res : firstArr M (gradArr P) = resM P M := by
  funext x
  obtain ⟨r, q, rfl⟩ : ∃ i j, x = ix2 i j := ⟨x 0, x 1, eq_ix2 x⟩
  rw [firstArr_apply, g_res]
  rfl

theorem v_res : secondArr V (gradArr P) = resV P V := by
  funext x
  obtain ⟨r, q, rfl⟩ : ∃ i j, x = ix2 i j := ⟨x 0, x 1, eq_ix2 x⟩
  rw [secondArr_apply, g_res]
  rfl

theorem d_res : deltaArr W (firstArr M (gradArr P)) (secondArr V (gradArr P)) = resD P W M V := by
  funext x
  obtain ⟨r, q, rfl⟩ : ∃ i j, x = ix2 i j := ⟨x 0, x 1, eq_ix2 x⟩
  rw [deltaArr_apply, m_res, v_res]
  rfl

/-- The loss, repeated. -/
def lossArr : FVec Ideal S8x128 .f32 :=
  broadcastInDim S8x128 ![] bcast_S_S8x128 (mulf (constant S_ .f32 0x3F000000#32) (Host.divf (Host.reduceAdd (shapeCast _ (extractStridedSlice S1x1024 ![8, 0] (totArr P) slices_S16x1024_S1x1024_8_0) shapeCasts_S1x1024_S1024) (constant S_ .f32 0x00000000#32) reducesTo_S1024_S_d0 h_S_) (constant S_ .f32 0x44800000#32)))

theorem l_res : lossArr P = resL P := by
  funext x
  obtain ⟨r, q, rfl⟩ : ∃ i j, x = ix2 i j := ⟨x 0, x 1, eq_ix2 x⟩
  have e : lossArr P (ix2 r q) = (Ideal.ofBits .f32 0x3F000000#32 * Ideal.div (∑ k : Fin 1024, totArr P (ix2 8 k)) (Ideal.ofBits .f32 0x44800000#32) : EReal) := by
    pointwise [lossArr]
  exact e.trans (congrArg (fun s : EReal => Ideal.ofBits .f32 0x3F000000#32 * Ideal.div s (Ideal.ofBits .f32 0x44800000#32)) (Fin.sum_fin_congr fun k => totArr_apply P 8 k))

end Reference

/-- The reference's frame: it ends with its arguments unchanged and every counter at zero. -/
theorem frameR : Cert.quiescent_Reference34Ideal := by
  intro m g _
  exact (θ_run Cert.Reference34Ideal.defs _ _).mono (fun r h => ⟨fun c => (h c).2.2.2.2.2, sem_eq_zero_of_no_sems (by decide) r.2⟩)
    (Cert.Reference34Ideal.Value.run m g)

/-- The kernel and the reference end with the same five arrays. -/
theorem algebraic : Cert.algebraic_Kernel34Ideal_Reference34Ideal := by
  intro m g m' g' _ hagree
  refine ⟨fun c => resG (argP m c), fun c => resD (argP m c) (argW m c) (argM m c) (argV m c), fun c => resM (argP m c) (argM m c), fun c => resV (argP m c) (argV m c), fun c => resL (argP m c), ?_, ?_⟩
  · refine (θ_run Cert.Kernel34Ideal.defs _ _).mono (fun r h c => ?_) (Cert.Kernel34Ideal.Value.run m g)
    have hc := h c
    exact ⟨hc.1.trans (final4 m c), hc.2.1.trans (final5 m c), hc.2.2.1.trans (final6 m c), hc.2.2.2.1.trans (final7 m c), hc.2.2.2.2.1.trans (final8 m c), hc.2.2.2.2.2⟩
  · refine (θ_run Cert.Reference34Ideal.defs _ _).mono (fun r h c => ?_) (Cert.Reference34Ideal.Value.run m' g')
    have hc := h c
    obtain ⟨a0, a1, a2, a3⟩ := hagree c
    refine ⟨hc.1.trans ?_, hc.2.1.trans ?_, hc.2.2.1.trans ?_, hc.2.2.2.1.trans ?_, hc.2.2.2.2.1.trans ?_, hc.2.2.2.2.2⟩
    · refine Eq.trans (b := gradArr (m' ((c.tc : Thread _ _).loc Cert.Reference34Ideal.main_arg0))) rfl ?_
      rw [a0]
      exact g_res (argP m c)
    · refine Eq.trans (b := deltaArr (m' ((c.tc : Thread _ _).loc Cert.Reference34Ideal.main_arg1)) (firstArr (m' ((c.tc : Thread _ _).loc Cert.Reference34Ideal.main_arg2)) (gradArr (m' ((c.tc : Thread _ _).loc Cert.Reference34Ideal.main_arg0)))) (secondArr (m' ((c.tc : Thread _ _).loc Cert.Reference34Ideal.main_arg3)) (gradArr (m' ((c.tc : Thread _ _).loc Cert.Reference34Ideal.main_arg0))))) rfl ?_
      rw [a0, a1, a2, a3]
      exact d_res (argP m c) (argW m c) (argM m c) (argV m c)
    · refine Eq.trans (b := firstArr (m' ((c.tc : Thread _ _).loc Cert.Reference34Ideal.main_arg2)) (gradArr (m' ((c.tc : Thread _ _).loc Cert.Reference34Ideal.main_arg0)))) rfl ?_
      rw [a0, a2]
      exact m_res (argP m c) (argM m c)
    · refine Eq.trans (b := secondArr (m' ((c.tc : Thread _ _).loc Cert.Reference34Ideal.main_arg3)) (gradArr (m' ((c.tc : Thread _ _).loc Cert.Reference34Ideal.main_arg0)))) rfl ?_
      rw [a0, a3]
      exact v_res (argP m c) (argV m c)
    · refine Eq.trans (b := lossArr (m' ((c.tc : Thread _ _).loc Cert.Reference34Ideal.main_arg0))) rfl ?_
      rw [a0]
      exact l_res (argP m c)

end Cert.Small

end
-- ==== Proof.Norm35.lean ====
/- The norm before the projections: the kernel and the reference leave the same array. -/
module

public import proofs.«01_k».proof.Defs
public import proofs.«01_k».proof.Proof.Gen.Kernel35Ideal.Value
public import proofs.«01_k».proof.Proof.Gen.Reference35Ideal.Run
public import proofs.«01_k».proof.Proof.RmsSpec
public import proofs.«01_k».proof.Proof.ProdSpec
public import Idealize.ShloMosaic.Lib.Claim

@[expose] public section

set_option maxRecDepth 16384

noncomputable section

namespace Cert.Norm35

open Idealize.ShloMosaic Idealize.ShloMosaic.TcCoe Idealize.SL.Sem

/-- The rows of `X` over the root of their mean square, times the gain. -/
def res (X : Prod.Mat 8192 1024) (g : Prod.Mat 1 1024) : Prod.Mat 8192 1024 := fun x =>
  X x * Rms.rstd (fun k => X (ix2 (x 0 : Fin 8192) k)) * g (ix2 0 (x 1 : Fin 1024))

section Kernel

open Cert.Kernel35Ideal Cert.Kernel35Ideal.Gen

variable (m : (ℓ : Loc nD τ sig) → Buf (Elt Ideal) ℓ)

/-- The arrays of device `c`: the input and the gain. -/
abbrev argX (c : Dev nD) : Prod.Mat 8192 1024 := m ((c : Thread nD τ).loc main_arg0)
abbrev argg (c : Dev nD) : Prod.Mat 1 1024 := m ((c : Thread nD τ).loc main_arg1)

/-- Grid point `t` reads and writes the rows `512 t …`. -/
theorem idx : ∀ t : Fin cfg0.N, win0_0.index t = ![t.val, 0] ∧ win0_1.index t = ![0, 0] ∧ win0_2.index t = ![t.val, 0] := by decide +kernel

/-- The row of the arrays that row `r` of point `t`'s blocks is. -/
abbrev row (t : Fin cfg0.N) (r : Fin 512) : Fin 8192 := ⟨512 * t.val + r.val, by have : t.val < 16 := t.isLt; omega⟩

theorem pay1_apply (x : Vec Ideal S512x1024 .f32) (g : Vec Ideal S1x1024 .f32) (r : Fin 512) (q : Fin 1024) :
    k0_pay1 (F := Ideal) x g (ix2 r q) = (x (ix2 r q) * Rms.rstd (fun k => x (ix2 r k)) * g (ix2 0 q) : EReal) := by
  pointwise [k0_pay1]
  rfl

theorem x_eq (c : Dev nD) (t : Fin cfg0.N) (r : Fin 512) (q : Fin 1024) : (iblk m c 0 t : S512x1024.Idx → EReal) (ix2 r q) = argX m c (ix2 (row t r) q) := by
  blk_ext [iblk, V, idx t]

theorem g_eq (c : Dev nD) (t : Fin cfg0.N) (q : Fin 1024) : (iblk m c 1 t : S1x1024.Idx → EReal) (ix2 0 q) = argg m c (ix2 0 q) := by
  blk_ext [iblk, V, idx t]

/-- The rows that point `t` leaves. -/
theorem rows_eq (c : Dev nD) (t : Fin cfg0.N) (r : Fin 512) (q : Fin 1024) :
    k0_pay1 (F := Ideal) (iblk m c 0 t) (iblk m c 1 t) (ix2 r q) = res (argX m c) (argg m c) (ix2 (row t r) q) := by
  refine (pay1_apply ..).trans ?_
  have e : (fun k => (iblk m c 0 t : S512x1024.Idx → EReal) (ix2 r k)) = fun k => argX m c (ix2 (row t r) k) := funext fun k => x_eq m c t r k
  exact congrArg₂ (fun a b : EReal => a * b) (congrArg₂ (fun a b : EReal => a * b) (x_eq m c t r q) (congrArg Rms.rstd e)) (g_eq m c t q)

/-- The output array is the norm of the input. -/
theorem final (c : Dev nD) : (dats m 0 c).arrAt 2 cfg0.N = res (argX m c) (argg m c) := by
  refine (dats m 0 c).arrAt_eq_of_covers 2 _ (by decide +kernel) fun t hf y => ?_
  blk_simp
  rw [after0_2]
  frame_out
  change S512x1024.Idx at y
  idx_vars y
  have ht : t.val < 16 := t.isLt
  have h0 : win0_2.index t 0 = t.val := by rw [(idx t).2.2]; rfl
  have h1 : win0_2.index t 1 = 0 := by rw [(idx t).2.2]; rfl
  have e : res (argX m c) (argg m c) (ix2 (row t y0) y1) = res (argX m c) (argg m c) (((View.whole main_v0).slice (win0_2.rect t)).emb (ix2 y0 y1)) := by
    refine congrArg (res (argX m c) (argg m c)) (funext fun x => Fin.ext ?_)
    match x with
    | 0 => show 512 * t.val + y0.val = win0_2.index t 0 * 512 + 1 * y0.val; omega
    | 1 => show y1.val = win0_2.index t 1 * 1024 + 1 * y1.val; omega
  exact Eq.trans (rows_eq m c t y0 y1) e

end Kernel

section Reference

open Cert.Reference35Ideal Cert.Reference35Ideal.Gen Cert.Reference35Ideal.Facts

variable (X : Prod.Mat 8192 1024) (g : Prod.Mat 1 1024)

/-- The reference's array. -/
def resArr : FVec Ideal S8192x1024 .bf16 :=
  truncf .bf16 (mulf (mulf (X : FVec Ideal S8192x1024 .f32) (broadcastInDim S8192x1024 ![0, 1] bcast_S8192x1_S8192x1024_0_1 (Host.rsqrt (addf (Host.divf (broadcastInDim S8192x1 ![0] bcast_S8192_S8192x1_0 (Host.reduceAdd (mulf (X : FVec Ideal S8192x1024 .f32) (X : FVec Ideal S8192x1024 .f32)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ (g : FVec Ideal S1x1024 .f32) shapeCasts_S1x1024_S1024)))) bitsLt_bf16_f32

theorem resArr_eq : resArr X g = res X g := by
  funext x
  obtain ⟨i, q, rfl⟩ : ∃ i j, x = ix2 i j := ⟨x 0, x 1, eq_ix2 x⟩
  pointwise [resArr]
  rfl

end Reference

/-- The reference's frame: it ends with its arguments unchanged and every counter at zero. -/
theorem frameR : Cert.quiescent_Reference35Ideal := by
  intro m g _
  exact (θ_run Cert.Reference35Ideal.defs _ _).mono (fun r h => ⟨fun c => (h c).2, sem_eq_zero_of_no_sems (by decide) r.2⟩)
    (Cert.Reference35Ideal.Value.run m g)

/-- The kernel and the reference end with the same array. -/
theorem algebraic : Cert.algebraic_Kernel35Ideal_Reference35Ideal := by
  intro m g m' g' _ hagree
  refine ⟨fun c => res (argX m c) (argg m c), ?_, ?_⟩
  · refine (θ_run Cert.Kernel35Ideal.defs _ _).mono (fun r h c => ?_) (Cert.Kernel35Ideal.Value.run_blocks m g)
    exact ⟨(h c).1.trans (final m c), (h c).2⟩
  · refine (θ_run Cert.Reference35Ideal.defs _ _).mono (fun r h c => ⟨(h c).1.trans ?_, (h c).2⟩) (Cert.Reference35Ideal.Value.run m' g')
    refine Eq.trans (b := resArr (m' ((c.tc : Thread _ _).loc Cert.Reference35Ideal.main_arg0)) (m' ((c.tc : Thread _ _).loc Cert.Reference35Ideal.main_arg1))) rfl ?_
    rw [(hagree c).1, (hagree c).2]
    exact resArr_eq (argX m c) (argg m c)

end Cert.Norm35

end
-- ==== Proof.Norm36.lean ====
/- The norm before the memory's keys and values: the kernel and the reference leave the same array. -/
module

public import proofs.«01_k».proof.Defs
public import proofs.«01_k».proof.Proof.Gen.Kernel36Ideal.Value
public import proofs.«01_k».proof.Proof.Gen.Reference36Ideal.Run
public import proofs.«01_k».proof.Proof.RmsSpec
public import proofs.«01_k».proof.Proof.ProdSpec
public import Idealize.ShloMosaic.Lib.Claim

@[expose] public section

set_option maxRecDepth 16384

noncomputable section

namespace Cert.Norm36

open Idealize.ShloMosaic Idealize.ShloMosaic.TcCoe Idealize.SL.Sem

/-- The rows of `X` over the root of their mean square, times the gain. -/
def res (X : Prod.Mat 1024 1024) (g : Prod.Mat 1 1024) : Prod.Mat 1024 1024 := fun x =>
  X x * Rms.rstd (fun k => X (ix2 (x 0 : Fin 1024) k)) * g (ix2 0 (x 1 : Fin 1024))

section Kernel

open Cert.Kernel36Ideal Cert.Kernel36Ideal.Gen

variable (m : (ℓ : Loc nD τ sig) → Buf (Elt Ideal) ℓ)

/-- The arrays of device `c`: the input and the gain. -/
abbrev argX (c : Dev nD) : Prod.Mat 1024 1024 := m ((c : Thread nD τ).loc main_arg0)
abbrev argg (c : Dev nD) : Prod.Mat 1 1024 := m ((c : Thread nD τ).loc main_arg1)

/-- Grid point `t` reads and writes the rows `512 t …`. -/
theorem idx : ∀ t : Fin cfg0.N, win0_0.index t = ![t.val, 0] ∧ win0_1.index t = ![0, 0] ∧ win0_2.index t = ![t.val, 0] := by decide +kernel

/-- The row of the arrays that row `r` of point `t`'s blocks is. -/
abbrev row (t : Fin cfg0.N) (r : Fin 512) : Fin 1024 := ⟨512 * t.val + r.val, by have : t.val < 2 := t.isLt; omega⟩

theorem pay1_apply (x : Vec Ideal S512x1024 .f32) (g : Vec Ideal S1x1024 .f32) (r : Fin 512) (q : Fin 1024) :
    k0_pay1 (F := Ideal) x g (ix2 r q) = (x (ix2 r q) * Rms.rstd (fun k => x (ix2 r k)) * g (ix2 0 q) : EReal) := by
  pointwise [k0_pay1]
  rfl

theorem x_eq (c : Dev nD) (t : Fin cfg0.N) (r : Fin 512) (q : Fin 1024) : (iblk m c 0 t : S512x1024.Idx → EReal) (ix2 r q) = argX m c (ix2 (row t r) q) := by
  blk_ext [iblk, V, idx t]

theorem g_eq (c : Dev nD) (t : Fin cfg0.N) (q : Fin 1024) : (iblk m c 1 t : S1x1024.Idx → EReal) (ix2 0 q) = argg m c (ix2 0 q) := by
  blk_ext [iblk, V, idx t]

/-- The rows that point `t` leaves. -/
theorem rows_eq (c : Dev nD) (t : Fin cfg0.N) (r : Fin 512) (q : Fin 1024) :
    k0_pay1 (F := Ideal) (iblk m c 0 t) (iblk m c 1 t) (ix2 r q) = res (argX m c) (argg m c) (ix2 (row t r) q) := by
  refine (pay1_apply ..).trans ?_
  have e : (fun k => (iblk m c 0 t : S512x1024.Idx → EReal) (ix2 r k)) = fun k => argX m c (ix2 (row t r) k) := funext fun k => x_eq m c t r k
  exact congrArg₂ (fun a b : EReal => a * b) (congrArg₂ (fun a b : EReal => a * b) (x_eq m c t r q) (congrArg Rms.rstd e)) (g_eq m c t q)

/-- The output array is the norm of the input. -/
theorem final (c : Dev nD) : (dats m 0 c).arrAt 2 cfg0.N = res (argX m c) (argg m c) := by
  refine (dats m 0 c).arrAt_eq_of_covers 2 _ (by decide +kernel) fun t hf y => ?_
  blk_simp
  rw [after0_2]
  frame_out
  change S512x1024.Idx at y
  idx_vars y
  have ht : t.val < 2 := t.isLt
  have h0 : win0_2.index t 0 = t.val := by rw [(idx t).2.2]; rfl
  have h1 : win0_2.index t 1 = 0 := by rw [(idx t).2.2]; rfl
  have e : res (argX m c) (argg m c) (ix2 (row t y0) y1) = res (argX m c) (argg m c) (((View.whole main_v0).slice (win0_2.rect t)).emb (ix2 y0 y1)) := by
    refine congrArg (res (argX m c) (argg m c)) (funext fun x => Fin.ext ?_)
    match x with
    | 0 => show 512 * t.val + y0.val = win0_2.index t 0 * 512 + 1 * y0.val; omega
    | 1 => show y1.val = win0_2.index t 1 * 1024 + 1 * y1.val; omega
  exact Eq.trans (rows_eq m c t y0 y1) e

end Kernel

section Reference

open Cert.Reference36Ideal Cert.Reference36Ideal.Gen Cert.Reference36Ideal.Facts

variable (X : Prod.Mat 1024 1024) (g : Prod.Mat 1 1024)

/-- The reference's array. -/
def resArr : FVec Ideal S1024x1024 .bf16 :=
  truncf .bf16 (mulf (mulf (X : FVec Ideal S1024x1024 .f32) (broadcastInDim S1024x1024 ![0, 1] bcast_S1024x1_S1024x1024_0_1 (Host.rsqrt (addf (Host.divf (broadcastInDim S1024x1 ![0] bcast_S1024_S1024x1_0 (Host.reduceAdd (mulf (X : FVec Ideal S1024x1024 .f32) (X : FVec Ideal S1024x1024 .f32)) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 (broadcastInDim S1x1024 ![1] bcast_S1024_S1x1024_1 (shapeCast _ (g : FVec Ideal S1x1024 .f32) shapeCasts_S1x1024_S1024)))) bitsLt_bf16_f32

theorem resArr_eq : resArr X g = res X g := by
  funext x
  obtain ⟨i, q, rfl⟩ : ∃ i j, x = ix2 i j := ⟨x 0, x 1, eq_ix2 x⟩
  pointwise [resArr]
  rfl

end Reference

/-- The reference's frame: it ends with its arguments unchanged and every counter at zero. -/
theorem frameR : Cert.quiescent_Reference36Ideal := by
  intro m g _
  exact (θ_run Cert.Reference36Ideal.defs _ _).mono (fun r h => ⟨fun c => (h c).2, sem_eq_zero_of_no_sems (by decide) r.2⟩)
    (Cert.Reference36Ideal.Value.run m g)

/-- The kernel and the reference end with the same array. -/
theorem algebraic : Cert.algebraic_Kernel36Ideal_Reference36Ideal := by
  intro m g m' g' _ hagree
  refine ⟨fun c => res (argX m c) (argg m c), ?_, ?_⟩
  · refine (θ_run Cert.Kernel36Ideal.defs _ _).mono (fun r h c => ?_) (Cert.Kernel36Ideal.Value.run_blocks m g)
    exact ⟨(h c).1.trans (final m c), (h c).2⟩
  · refine (θ_run Cert.Reference36Ideal.defs _ _).mono (fun r h c => ⟨(h c).1.trans ?_, (h c).2⟩) (Cert.Reference36Ideal.Value.run m' g')
    refine Eq.trans (b := resArr (m' ((c.tc : Thread _ _).loc Cert.Reference36Ideal.main_arg0)) (m' ((c.tc : Thread _ _).loc Cert.Reference36Ideal.main_arg1))) rfl ?_
    rw [(hagree c).1, (hagree c).2]
    exact resArr_eq (argX m c) (argg m c)

end Cert.Norm36

end
-- ==== Proof.GainClaim.lean ====
/- The gradient of the memory's gain: the kernel and the reference leave the same array. -/
module

public import proofs.«01_k».proof.Defs
public import proofs.«01_k».proof.Proof.Gen.Kernel37Ideal.Value
public import proofs.«01_k».proof.Proof.Gen.Reference37Ideal.Run
public import proofs.«01_k».proof.Proof.RmsSpec
public import proofs.«01_k».proof.Proof.ProdSpec
public import Idealize.ShloMosaic.Lib.Claim

@[expose] public section

set_option maxRecDepth 16384

noncomputable section

namespace Cert.Gain

open Idealize.ShloMosaic Idealize.ShloMosaic.TcCoe Idealize.SL.Sem

/-- What row `i` gives at column `q`: the gradient there times the normed memory. -/
def rowG (D X : Prod.Mat 1024 1024) (q : Fin 1024) (i : Fin 1024) : EReal := D (ix2 i q) * (X (ix2 i q) * Rms.rstd (fun k => X (ix2 i k)))

/-- The gain's gradient: the sum over the rows. -/
def res (D X : Prod.Mat 1024 1024) : Prod.Mat 1 1024 := fun x => ∑ i : Fin 1024, rowG D X (x 1) i

section Kernel

open Cert.Kernel37Ideal Cert.Kernel37Ideal.Gen

variable (m : (ℓ : Loc nD τ sig) → Buf (Elt Ideal) ℓ)

/-- The arrays of device `c`: the gradient of the normed memory, and the memory. -/
abbrev argD (c : Dev nD) : Prod.Mat 1024 1024 := m ((c : Thread nD τ).loc main_arg0)
abbrev argX (c : Dev nD) : Prod.Mat 1024 1024 := m ((c : Thread nD τ).loc main_arg1)

/-- Grid point `t` reads the rows `256 t …`, and adds to the one output row. -/
theorem idx : ∀ t : Fin cfg0.N, win0_0.index t = ![t.val, 0] ∧ win0_1.index t = ![t.val, 0] ∧ win0_2.index t = ![0, 0] := by decide +kernel

/-- The row of the arrays that row `r` of point `t`'s blocks is. -/
abbrev row (t : Fin cfg0.N) (r : Fin 256) : Fin 1024 := ⟨256 * t.val + r.val, by have : t.val < 4 := t.isLt; omega⟩

theorem pay1_apply (q : Fin 1024) : k0_pay1 (F := Ideal) (ix2 0 q) = (0 : EReal) := by
  pointwise [k0_pay1]

theorem pay2_apply (x : Vec Ideal S256x1024 .f32) (v : Vec Ideal S1x1024 .f32) (d : Vec Ideal S256x1024 .f32) (q : Fin 1024) :
    k0_pay2 (F := Ideal) x v d (ix2 0 q) = (v (ix2 0 q) + ∑ r : Fin 256, d (ix2 r q) * (x (ix2 r q) * Rms.rstd (fun k => x (ix2 r k))) : EReal) := by
  pointwise [k0_pay2]
  rfl

theorem d_eq (c : Dev nD) (t : Fin cfg0.N) (r : Fin 256) (q : Fin 1024) : (iblk m c 0 t : S256x1024.Idx → EReal) (ix2 r q) = argD m c (ix2 (row t r) q) := by
  blk_ext [iblk, V, idx t]

theorem x_eq (c : Dev nD) (t : Fin cfg0.N) (r : Fin 256) (q : Fin 1024) : (iblk m c 1 t : S256x1024.Idx → EReal) (ix2 r q) = argX m c (ix2 (row t r) q) := by
  blk_ext [iblk, V, idx t]

/-- What the output row holds after point `n`, and what point `t` adds to it. -/
def kept (c : Dev nD) (n : ℕ) (h : n < cfg0.N) (q : Fin 1024) : EReal := outsAt0 m c n h (ix2 0 q)
def term (c : Dev nD) (t : Fin cfg0.N) (q : Fin 1024) : EReal := ∑ r : Fin 256, rowG (argD m c) (argX m c) q (row t r)

theorem term_eq (c : Dev nD) (t : Fin cfg0.N) (v : Vec Ideal S1x1024 .f32) (q : Fin 1024) :
    k0_pay2 (F := Ideal) (iblk m c 1 t) v (iblk m c 0 t) (ix2 0 q) = (v (ix2 0 q) + term m c t q : EReal) := by
  refine (pay2_apply ..).trans (congrArg (fun s : EReal => @HAdd.hAdd EReal EReal EReal _ (v (ix2 0 q)) s) (Fin.sum_fin_congr fun r => ?_))
  have e : (fun k => (iblk m c 1 t : S256x1024.Idx → EReal) (ix2 r k)) = fun k => argX m c (ix2 (row t r) k) := funext fun k => x_eq m c t r k
  exact congrArg₂ (fun a b : EReal => a * b) (d_eq m c t r q) (congrArg₂ (fun a b : EReal => a * b) (x_eq m c t r q) (congrArg Rms.rstd e))

theorem kept_first (c : Dev nD) (t : Fin cfg0.N) (h : t.val % 4 = 0) (q : Fin 1024) : kept m c t.val t.isLt q = 0 + term m c t q := by
  unfold kept
  rw [outsAt0_A m c t h]
  frame_out
  refine (term_eq m c t _ q).trans (congrArg (fun s : EReal => s + term m c t q) ?_)
  exact pay1_apply q

theorem kept_next (c : Dev nD) (t : Fin cfg0.N) (h : ¬t.val % 4 = 0) (q : Fin 1024) :
    kept m c t.val t.isLt q = kept m c (t.val - 1) (Nat.lt_of_le_of_lt (Nat.sub_le _ _) t.isLt) q + term m c t q := by
  unfold kept
  rw [outsAt0_B m c t h]
  frame_out
  exact term_eq m c t _ q

theorem kept_last (c : Dev nD) (t : Fin cfg0.N) (hr : t.val % 4 = 3) (q : Fin 1024) : kept m c t.val t.isLt q = res (argD m c) (argX m c) (ix2 0 q) := by
  have e := Pipeline.eq_sum_fin_of_reset_step_apply_of_flush (kept m c) 4 (fun _ => 0) (term m c)
    (fun t h j => kept_first m c t h j) (fun t h j => kept_next m c t h j) t hr q
  rw [e, zero_add]
  have ht : t.val < 4 := t.isLt
  exact Fin.sum_mul_add_congr (f := rowG (argD m c) (argX m c) q) fun s k hl =>
    congrArg (rowG (argD m c) (argX m c) q) (Fin.ext (by show 256 * (4 * (t.val / 4) + s.val) + k.val = s.val * 256 + k.val; omega))

/-- The output array is the gain's gradient. -/
theorem final (c : Dev nD) : (dats m 0 c).arrAt 2 cfg0.N = res (argD m c) (argX m c) := by
  refine (dats m 0 c).arrAt_eq_of_covers 2 _ (by decide +kernel) fun t hf y => ?_
  have hr := (flush0_2 t).mp hf
  blk_simp
  rw [after0_2]
  change S1x1024.Idx at y
  idx_vars y
  have h0 : win0_2.index t 0 = 0 := by rw [(idx t).2.2]; rfl
  have h1 : win0_2.index t 1 = 0 := by rw [(idx t).2.2]; rfl
  obtain rfl : y0 = 0 := Subsingleton.elim _ _
  have e : outsAt0 m c t.val t.isLt (ix2 0 y1) = res (argD m c) (argX m c) (ix2 0 y1) := kept_last m c t hr y1
  refine e.trans (congrArg (res (argD m c) (argX m c)) (funext fun a => Fin.ext ?_))
  match a with
  | 0 => show 0 = win0_2.index t 0 * 1 + 1 * 0; omega
  | 1 => show y1.val = win0_2.index t 1 * 1024 + 1 * y1.val; omega

end Kernel

section Reference

open Cert.Reference37Ideal Cert.Reference37Ideal.Gen Cert.Reference37Ideal.Facts

variable (D X : Prod.Mat 1024 1024)

/-- The normed memory. -/
def nArr : FVec Ideal S1024x1024 .f32 :=
  mulf (X : FVec Ideal S1024x1024 .f32) (broadcastInDim S1024x1024 ![0, 1] bcast_S1024x1_S1024x1024_0_1 (Host.rsqrt (addf (Host.divf (broadcastInDim S1024x1 ![0] bcast_S1024_S1024x1_0 (Host.reduceAdd (mulf (X : FVec Ideal S1024x1024 .f32) (X : FVec Ideal S1024x1024 .f32)) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))

theorem nArr_apply (i q : Fin 1024) : nArr X (ix2 i q) = (X (ix2 i q) * Rms.rstd (fun k => X (ix2 i k)) : EReal) := by
  pointwise [nArr]
  rfl

/-- The reference's array. -/
def resArr : FVec Ideal S1x1024 .f32 :=
  broadcastInDim S1x1024 ![1] bcast_S1024_S1x1024_1 (Host.reduceAdd (shapeCast _ (Host.reduceAdd (mulf (nArr X) (D : FVec Ideal S1024x1024 .f32)) (constant S_ .f32 0x00000000#32) reducesTo_S1024x1024_S1024_d0 h_S_) shapeCasts_S1024_S1x1024) (constant S_ .f32 0x00000000#32) reducesTo_S1x1024_S1024_d0 h_S_)

theorem resArr_eq : resArr D X = res D X := by
  funext x
  obtain ⟨z, q, rfl⟩ : ∃ i j, x = ix2 i j := ⟨x 0, x 1, eq_ix2 x⟩
  have e : resArr D X (ix2 z q) = ∑ z : Fin 1, ∑ i : Fin 1024, nArr X (ix2 i q) * D (ix2 i q) := by
    pointwise [resArr]
  rw [e, Fin.sum_univ_one]
  exact Fin.sum_fin_congr fun i => (congrArg (fun s : EReal => s * D (ix2 i q)) (nArr_apply X i q)).trans (mul_comm _ _)

end Reference

/-- The reference's frame: it ends with its arguments unchanged and every counter at zero. -/
theorem frameR : Cert.quiescent_Reference37Ideal := by
  intro m g _
  exact (θ_run Cert.Reference37Ideal.defs _ _).mono (fun r h => ⟨fun c => (h c).2, sem_eq_zero_of_no_sems (by decide) r.2⟩)
    (Cert.Reference37Ideal.Value.run m g)

/-- The kernel and the reference end with the same array. -/
theorem algebraic : Cert.algebraic_Kernel37Ideal_Reference37Ideal := by
  intro m g m' g' _ hagree
  refine ⟨fun c => res (argD m c) (argX m c), ?_, ?_⟩
  · refine (θ_run Cert.Kernel37Ideal.defs _ _).mono (fun r h c => ?_) (Cert.Kernel37Ideal.Value.run m g)
    exact ⟨(h c).1.trans ((Cert.Kernel37Ideal.Value.final2 m c).symm.trans (final m c)), (h c).2⟩
  · refine (θ_run Cert.Reference37Ideal.defs _ _).mono (fun r h c => ⟨(h c).1.trans ?_, (h c).2⟩) (Cert.Reference37Ideal.Value.run m' g')
    refine Eq.trans (b := resArr (m' ((c.tc : Thread _ _).loc Cert.Reference37Ideal.main_arg0)) (m' ((c.tc : Thread _ _).loc Cert.Reference37Ideal.main_arg1))) rfl ?_
    rw [(hagree c).1, (hagree c).2]
    exact resArr_eq (argD m c) (argX m c)

end Cert.Gain

end
-- ==== Proof.MemFwdClaim.lean ====
/- The memory's cross-attention: the kernel and the reference leave the same array. -/
module

public import proofs.«01_k».proof.Defs
public import proofs.«01_k».proof.Proof.Gen.Kernel38Ideal.Value
public import proofs.«01_k».proof.Proof.Gen.Reference38Ideal.Run
public import proofs.«01_k».proof.Proof.MemRef
public import proofs.«01_k».proof.Proof.ProdSpec
public import Idealize.ShloMosaic.Lib.Claim

@[expose] public section

set_option maxRecDepth 16384

noncomputable section

namespace Cert.MemFwd

open Idealize.ShloMosaic Idealize.ShloMosaic.TcCoe Idealize.SL.Sem

open Cert.Mem (score weights rowP hd ln hd_mk ln_mk scale)

/-- The attention's output at batch `b`, head `h`, query `i`, lane `d`. -/
def out (A : Mem.S4x2048x2048.Idx → EReal) (B : Mem.S4x256x1024.Idx → EReal) (b h : Fin 4) (i : Fin 2048) (d : Fin 128) : EReal :=
  ∑ j : Fin 256, weights A B b h i j * B (ix3 b j ⟨512 + 128 * h + d, by omega⟩)

/-- The output as an array, the heads packed. -/
def res (A : Mem.S4x2048x2048.Idx → EReal) (B : Mem.S4x256x1024.Idx → EReal) : Mem.S4x2048x512.Idx → EReal := fun x =>
  out A B (x 0) (hd (x 2)) (x 1) (ln (x 2))

theorem res_apply (A : Mem.S4x2048x2048.Idx → EReal) (B : Mem.S4x256x1024.Idx → EReal) (b h : Fin 4) (i : Fin 2048) (d : Fin 128) :
    res A B (ix3 b i ⟨128 * (h : ℕ) + d, by omega⟩) = out A B b h i d := by
  show out A B b (hd ⟨128 * (h : ℕ) + d, _⟩) i (ln ⟨128 * (h : ℕ) + d, _⟩) = _
  rw [hd_mk, ln_mk]

section Kernel

open Cert.Kernel38Ideal Cert.Kernel38Ideal.Gen

variable (m : (ℓ : Loc nD τ sig) → Buf (Elt Ideal) ℓ)

/-- The arrays of device `c`: the packed projection, and the memory's keys and values. -/
abbrev argA (c : Dev nD) : Mem.S4x2048x2048.Idx → EReal := m ((c : Thread nD τ).loc main_arg0)
abbrev argB (c : Dev nD) : Mem.S4x256x1024.Idx → EReal := m ((c : Thread nD τ).loc main_arg1)

/-- The offset at which the body reads the whole block of queries is zero. -/
theorem off1 : k0_off1 = ![0, 0, 0] := by decide +kernel

/-- The blocks that grid point `t` reads and writes: batch `t / 4`, head `t % 4`. -/
theorem idx : ∀ t : Fin cfg0.N, win0_0.index t = ![t.val / 4, 0, 12 + t.val % 4] ∧ win0_1.index t = ![t.val / 4, 0, t.val % 4]
    ∧ win0_2.index t = ![t.val / 4, 0, 4 + t.val % 4] ∧ win0_3.index t = ![t.val / 4, 0, t.val % 4] := by decide +kernel

/-- The batch and the head of grid point `t`. -/
def batch (t : Fin cfg0.N) : Fin 4 := ⟨t.val / 4, by have : t.val < 16 := t.isLt; omega⟩
def head (t : Fin cfg0.N) : Fin 4 := ⟨t.val % 4, by omega⟩

theorem blk0 (c : Dev nD) (t : Fin cfg0.N) (i : Fin 2048) (d : Fin 128) :
    iblk m c 0 t (ix3 0 i d) = argA m c (ix3 (batch t) i ⟨1536 + 128 * (head t : ℕ) + d, by have := (head t).isLt; omega⟩) := by
  blk_ext [iblk, V, idx t, batch, head]

theorem blk1 (c : Dev nD) (t : Fin cfg0.N) (j : Fin 256) (d : Fin 128) :
    iblk m c 1 t (ix3 0 j d) = argB m c (ix3 (batch t) j ⟨128 * (head t : ℕ) + d, by have := (head t).isLt; omega⟩) := by
  blk_ext [iblk, V, idx t, batch, head]

theorem blk2 (c : Dev nD) (t : Fin cfg0.N) (j : Fin 256) (d : Fin 128) :
    iblk m c 2 t (ix3 0 j d) = argB m c (ix3 (batch t) j ⟨512 + 128 * (head t : ℕ) + d, by have := (head t).isLt; omega⟩) := by
  blk_ext [iblk, V, idx t, batch, head]

theorem pay1_apply (k v : Vec Ideal S1x256x128 .bf16) (q : Vec Ideal S1x2048x128 .bf16) (i : Fin 2048) (d : Fin 128) :
    k0_pay1 (F := Ideal) k v q (ix3 0 i d) = ∑ j : Fin 256, rowP (fun j => (∑ d : Fin 128, q (ix3 0 i d) * k (ix3 0 j d)) * scale) j * v (ix3 0 j d) := by
  pointwise [k0_pay1, Mem.Ref.ofBits_ninf]
  rfl

theorem emb3 (t : Fin cfg0.N) (a : Fin 1) (i : Fin 2048) (d : Fin 128) :
    (((View.whole main_v0).slice (win0_3.rect t)).emb (ix3 a i d) : Mem.S4x2048x512.Idx)
      = ix3 (batch t) i ⟨128 * (head t : ℕ) + d, by have := (head t).isLt; omega⟩ := by
  blk_ext [idx t, batch, head]

/-- The output array is the attention's output. -/
theorem final (c : Dev nD) : (dats m 0 c).arrAt 3 cfg0.N = res (argA m c) (argB m c) := by
  refine (dats m 0 c).arrAt_eq_of_covers 3 _ (by decide +kernel) fun t hf y => ?_
  blk_simp
  rw [after0_3]
  frame_open
  simp only [off1]
  frame_out
  change S1x2048x128.Idx at y
  idx_vars y
  obtain rfl : y0 = 0 := Subsingleton.elim _ _
  refine Eq.trans ?_ (congrArg (res (argA m c) (argB m c)) (emb3 t 0 y1 y2)).symm
  refine Eq.trans ?_ (res_apply _ _ (batch t) (head t) y1 y2).symm
  refine (pay1_apply ..).trans ?_
  simp only [blk0, blk1, blk2]
  rfl

end Kernel

section Reference

open Cert.Reference38Ideal Cert.Reference38Ideal.Gen Cert.Reference38Ideal.Facts
open Cert.Mem.Ref (expArr expArr_apply lArr sumArr_apply vArr)

variable (A : Mem.S4x2048x2048.Idx → EReal) (B : Mem.S4x256x1024.Idx → EReal)

/-- The softmax weights as an array. -/
def pArr : FVec Ideal S4x4x2048x256 .f32 :=
  Host.divf (expArr A B) (broadcastInDim S4x4x2048x256 ![0, 1, 2, 3] bcast_S4x4x2048x1_S4x4x2048x256_0_1_2_3 (lArr (expArr A B)))

theorem pArr_apply (b h : Fin 4) (i : Fin 2048) (j : Fin 256) : pArr A B (ix4 b h i j) = weights A B b h i j := by
  have e : pArr A B (ix4 b h i j) = Ideal.div (expArr A B (ix4 b h i j)) (lArr (expArr A B) (ix4 b h i 0)) := by
    pointwise [pArr]
  rw [e, expArr_apply, sumArr_apply]
  rfl

/-- The reference's array from the weights and the values. -/
def outArr (p : FVec Ideal S4x4x2048x256 .f32) (v : FVec Ideal S4x256x4x128 .f32) : FVec Ideal S4x2048x512 .bf16 :=
  truncf .bf16 (shapeCast _ (transpose S4x2048x4x128 [0, 3, 1, 2] (Host.dotGeneral dot_S4x256x4x128_S4x4x2048x256_S4x4x128x2048_1_3_3_2_02_01 none v p) transposes_S4x4x128x2048_S4x2048x4x128_0_3_1_2) shapeCasts_S4x2048x4x128_S4x2048x512) bitsLt_bf16_f32

theorem outArr_apply (p : FVec Ideal S4x4x2048x256 .f32) (v : FVec Ideal S4x256x4x128 .f32) (b : Fin 4) (i : Fin 2048) (k : Fin 512) :
    outArr p v (ix3 b i k) = ∑ j : Fin 256, v (ix4 b j (hd k) (ln k)) * p (ix4 b (hd k) i j) := by
  pointwise [outArr]
  rfl

theorem vArr_apply (b h : Fin 4) (j : Fin 256) (d : Fin 128) : vArr B (ix4 b j h d) = B (ix3 b j ⟨512 + 128 * h + d, by omega⟩) := by
  pointwise [vArr]
  congr 2
  apply Fin.ext
  simp only []
  omega

theorem resArr_eq : outArr (pArr A B) (vArr B) = res A B := by
  funext x
  obtain ⟨b, i, k, rfl⟩ : ∃ i j k, x = ix3 i j k := ⟨x 0, x 1, x 2, eq_ix3 x⟩
  refine (outArr_apply ..).trans ?_
  show _ = ∑ j : Fin 256, weights A B b (hd k) i j * B (ix3 b j ⟨512 + 128 * (hd k : ℕ) + (ln k : ℕ), by omega⟩)
  refine Fin.sum_fin_congr fun j => ?_
  exact (congrArg₂ (fun a b : EReal => a * b) (vArr_apply B b (hd k) j (ln k)) (pArr_apply A B b (hd k) i j)).trans (mul_comm _ _)

end Reference

/-- The reference's frame: it ends with its arguments unchanged and every counter at zero. -/
theorem frameR : Cert.quiescent_Reference38Ideal := by
  intro m g _
  exact (θ_run Cert.Reference38Ideal.defs _ _).mono (fun r h => ⟨fun c => (h c).2, sem_eq_zero_of_no_sems (by decide) r.2⟩)
    (Cert.Reference38Ideal.Value.run m g)

/-- The kernel and the reference end with the same array. -/
theorem algebraic : Cert.algebraic_Kernel38Ideal_Reference38Ideal := by
  intro m g m' g' _ hagree
  refine ⟨fun c => res (argA m c) (argB m c), ?_, ?_⟩
  · refine (θ_run Cert.Kernel38Ideal.defs _ _).mono (fun r h c => ?_) (Cert.Kernel38Ideal.Value.run_blocks m g)
    exact ⟨(h c).1.trans (final m c), (h c).2⟩
  · refine (θ_run Cert.Reference38Ideal.defs _ _).mono (fun r h c => ⟨(h c).1.trans ?_, (h c).2⟩) (Cert.Reference38Ideal.Value.run m' g')
    refine Eq.trans (b := outArr (pArr (m' ((c.tc : Thread _ _).loc Cert.Reference38Ideal.main_arg0)) (m' ((c.tc : Thread _ _).loc Cert.Reference38Ideal.main_arg1))) (Mem.Ref.vArr (m' ((c.tc : Thread _ _).loc Cert.Reference38Ideal.main_arg1)))) rfl ?_
    rw [(hagree c).1, (hagree c).2]
    exact resArr_eq (argA m c) (argB m c)

end Cert.MemFwd

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Reference29Ideal.Run
public import proofs.«01_k».proof.Proof.Gen.Kernel30.Frame
public import proofs.«01_k».proof.Proof.Gen.Kernel30Ideal.Frame
public import proofs.«01_k».proof.Proof.Gen.Reference30Ideal.Run
public import proofs.«01_k».proof.Proof.Gen.Kernel31.Frame
public import proofs.«01_k».proof.Proof.Gen.Kernel31Ideal.Frame
public import proofs.«01_k».proof.Proof.Gen.Reference31Ideal.Run
public import proofs.«01_k».proof.Proof.Gen.Kernel32.Frame
public import proofs.«01_k».proof.Proof.Gen.Kernel32Ideal.Frame
public import proofs.«01_k».proof.Proof.Gen.Reference32Ideal.Run
public import proofs.«01_k».proof.Proof.Gen.Kernel33.Frame
public import proofs.«01_k».proof.Proof.Gen.Kernel33Ideal.Frame
public import proofs.«01_k».proof.Proof.Gen.Reference33Ideal.Run
public import proofs.«01_k».proof.Proof.Gen.Kernel34.Frame
public import proofs.«01_k».proof.Proof.Gen.Kernel34Ideal.Frame
public import proofs.«01_k».proof.Proof.Gen.Reference34Ideal.Run
public import proofs.«01_k».proof.Proof.Gen.Kernel35.Frame
public import proofs.«01_k».proof.Proof.Gen.Kernel35Ideal.Frame
public import proofs.«01_k».proof.Proof.Gen.Reference35Ideal.Run
public import proofs.«01_k».proof.Proof.Gen.Kernel36.Frame
public import proofs.«01_k».proof.Proof.Gen.Kernel36Ideal.Frame
public import proofs.«01_k».proof.Proof.Gen.Reference36Ideal.Run
public import proofs.«01_k».proof.Proof.Gen.Kernel37.Frame
public import proofs.«01_k».proof.Proof.Gen.Kernel37Ideal.Frame
public import proofs.«01_k».proof.Proof.Gen.Reference37Ideal.Run
public import proofs.«01_k».proof.Proof.Gen.Kernel38.Frame
public import proofs.«01_k».proof.Proof.Gen.Kernel38Ideal.Frame
public import proofs.«01_k».proof.Proof.Gen.Reference38Ideal.Run
public import proofs.«01_k».proof.Proof.Gen.Pre_finite_queries_keys
public import proofs.«01_k».proof.Proof.Gen.Pre_finite_swiglu
public import proofs.«01_k».proof.Proof.MemClaim
public import proofs.«01_k».proof.Proof.SwiClaim
public import proofs.«01_k».proof.Proof.NormsClaim
public import proofs.«01_k».proof.Proof.MergeBwdClaim
public import proofs.«01_k».proof.Proof.FfnInClaim
public import proofs.«01_k».proof.Proof.FfnOutClaim
public import proofs.«01_k».proof.Proof.MergeClaim
public import proofs.«01_k».proof.Proof.Prod8
public import proofs.«01_k».proof.Proof.Prod9
public import proofs.«01_k».proof.Proof.Prod10
public import proofs.«01_k».proof.Proof.Prod11
public import proofs.«01_k».proof.Proof.Prod12
public import proofs.«01_k».proof.Proof.Prod13
public import proofs.«01_k».proof.Proof.Prod14
public import proofs.«01_k».proof.Proof.Prod15
public import proofs.«01_k».proof.Proof.Prod16
public import proofs.«01_k».proof.Proof.Prod17
public import proofs.«01_k».proof.Proof.Prod18
public import proofs.«01_k».proof.Proof.Prod19
public import proofs.«01_k».proof.Proof.Prod20
public import proofs.«01_k».proof.Proof.Prod21
public import proofs.«01_k».proof.Proof.Prod22
public import proofs.«01_k».proof.Proof.Prod23
public import proofs.«01_k».proof.Proof.Prod24
public import proofs.«01_k».proof.Proof.Prod25
public import proofs.«01_k».proof.Proof.Adam26
public import proofs.«01_k».proof.Proof.Adam27
public import proofs.«01_k».proof.Proof.Adam28
public import proofs.«01_k».proof.Proof.Adam29
public import proofs.«01_k».proof.Proof.Adam30
public import proofs.«01_k».proof.Proof.Adam31
public import proofs.«01_k».proof.Proof.Adam32
public import proofs.«01_k».proof.Proof.DhClaim
public import proofs.«01_k».proof.Proof.SmallClaim
public import proofs.«01_k».proof.Proof.Norm35
public import proofs.«01_k».proof.Proof.Norm36
public import proofs.«01_k».proof.Proof.GainClaim
public import proofs.«01_k».proof.Proof.MemFwdClaim
public import Idealize.ShloMosaic.Adequacy
public import Idealize.ShloMosaic.Init

@[expose] public section

noncomputable section

namespace Cert.Proof

open Idealize.ShloMosaic Idealize.SL.Sem

/-- Every claim of the certificate: the side conditions of the programs, the frames, and for each program the kernel's agreement
    with its idealization and the idealization's agreement with the reference. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Pre_finite_queries_keys.Gen.facts,
  Cert.Pre_finite_swiglu.Gen.facts,
  fun m ρ _ => Cert.Kernel.Gen.frame m ρ, fun m ρ _ => Cert.KernelIdeal.Gen.frame m ρ, fun m ρ _ => Cert.KernelIdeal.Gen.frame m ρ,
  Cert.Mem.frameR, fun m ρ _ => Cert.Mem.frameR m ρ trivial,
  fun m ρ _ => Cert.Kernel2.Gen.frame m ρ, fun m ρ _ => Cert.Kernel2Ideal.Gen.frame m ρ, fun m ρ _ => Cert.Kernel2Ideal.Gen.frame m ρ,
  Cert.Swi.frameR, fun m ρ _ => Cert.Swi.frameR m ρ trivial,
  fun m ρ _ => Cert.Kernel3.Gen.frame m ρ, fun m ρ _ => Cert.Kernel3Ideal.Gen.frame m ρ, Cert.Norms.frameR,
  fun m ρ _ => Cert.Kernel4.Gen.frame m ρ, fun m ρ _ => Cert.Kernel4Ideal.Gen.frame m ρ, Cert.MergeBwd.frameR,
  fun m ρ _ => Cert.Kernel5.Gen.frame m ρ, fun m ρ _ => Cert.Kernel5Ideal.Gen.frame m ρ, Cert.FfnIn.frameR,
  fun m ρ _ => Cert.Kernel6.Gen.frame m ρ, fun m ρ _ => Cert.Kernel6Ideal.Gen.frame m ρ, Cert.FfnOut.frameR,
  fun m ρ _ => Cert.Kernel7.Gen.frame m ρ, fun m ρ _ => Cert.Kernel7Ideal.Gen.frame m ρ, Cert.Merge.frameR,
  fun m ρ _ => Cert.Kernel8.Gen.frame m ρ, fun m ρ _ => Cert.Kernel8Ideal.Gen.frame m ρ, Cert.Prod8.frameR,
  fun m ρ _ => Cert.Kernel9.Gen.frame m ρ, fun m ρ _ => Cert.Kernel9Ideal.Gen.frame m ρ, Cert.Prod9.frameR,
  fun m ρ _ => Cert.Kernel10.Gen.frame m ρ, fun m ρ _ => Cert.Kernel10Ideal.Gen.frame m ρ, Cert.Prod10.frameR,
  fun m ρ _ => Cert.Kernel11.Gen.frame m ρ, fun m ρ _ => Cert.Kernel11Ideal.Gen.frame m ρ, Cert.Prod11.frameR,
  fun m ρ _ => Cert.Kernel12.Gen.frame m ρ, fun m ρ _ => Cert.Kernel12Ideal.Gen.frame m ρ, Cert.Prod12.frameR,
  fun m ρ _ => Cert.Kernel13.Gen.frame m ρ, fun m ρ _ => Cert.Kernel13Ideal.Gen.frame m ρ, Cert.Prod13.frameR,
  fun m ρ _ => Cert.Kernel14.Gen.frame m ρ, fun m ρ _ => Cert.Kernel14Ideal.Gen.frame m ρ, Cert.Prod14.frameR,
  fun m ρ _ => Cert.Kernel15.Gen.frame m ρ, fun m ρ _ => Cert.Kernel15Ideal.Gen.frame m ρ, Cert.Prod15.frameR,
  fun m ρ _ => Cert.Kernel16.Gen.frame m ρ, fun m ρ _ => Cert.Kernel16Ideal.Gen.frame m ρ, Cert.Prod16.frameR,
  fun m ρ _ => Cert.Kernel17.Gen.frame m ρ, fun m ρ _ => Cert.Kernel17Ideal.Gen.frame m ρ, Cert.Prod17.frameR,
  fun m ρ _ => Cert.Kernel18.Gen.frame m ρ, fun m ρ _ => Cert.Kernel18Ideal.Gen.frame m ρ, Cert.Prod18.frameR,
  fun m ρ _ => Cert.Kernel19.Gen.frame m ρ, fun m ρ _ => Cert.Kernel19Ideal.Gen.frame m ρ, Cert.Prod19.frameR,
  fun m ρ _ => Cert.Kernel20.Gen.frame m ρ, fun m ρ _ => Cert.Kernel20Ideal.Gen.frame m ρ, Cert.Prod20.frameR,
  fun m ρ _ => Cert.Kernel21.Gen.frame m ρ, fun m ρ _ => Cert.Kernel21Ideal.Gen.frame m ρ, Cert.Prod21.frameR,
  fun m ρ _ => Cert.Kernel22.Gen.frame m ρ, fun m ρ _ => Cert.Kernel22Ideal.Gen.frame m ρ, Cert.Prod22.frameR,
  fun m ρ _ => Cert.Kernel23.Gen.frame m ρ, fun m ρ _ => Cert.Kernel23Ideal.Gen.frame m ρ, Cert.Prod23.frameR,
  fun m ρ _ => Cert.Kernel24.Gen.frame m ρ, fun m ρ _ => Cert.Kernel24Ideal.Gen.frame m ρ, Cert.Prod24.frameR,
  fun m ρ _ => Cert.Kernel25.Gen.frame m ρ, fun m ρ _ => Cert.Kernel25Ideal.Gen.frame m ρ, Cert.Prod25.frameR,
  fun m ρ _ => Cert.Kernel26.Gen.frame m ρ, fun m ρ _ => Cert.Kernel26Ideal.Gen.frame m ρ, Cert.Adam26.frameR,
  fun m ρ _ => Cert.Kernel27.Gen.frame m ρ, fun m ρ _ => Cert.Kernel27Ideal.Gen.frame m ρ, Cert.Adam27.frameR,
  fun m ρ _ => Cert.Kernel28.Gen.frame m ρ, fun m ρ _ => Cert.Kernel28Ideal.Gen.frame m ρ, Cert.Adam28.frameR,
  fun m ρ _ => Cert.Kernel29.Gen.frame m ρ, fun m ρ _ => Cert.Kernel29Ideal.Gen.frame m ρ, Cert.Adam29.frameR,
  fun m ρ _ => Cert.Kernel30.Gen.frame m ρ, fun m ρ _ => Cert.Kernel30Ideal.Gen.frame m ρ, Cert.Adam30.frameR,
  fun m ρ _ => Cert.Kernel31.Gen.frame m ρ, fun m ρ _ => Cert.Kernel31Ideal.Gen.frame m ρ, Cert.Adam31.frameR,
  fun m ρ _ => Cert.Kernel32.Gen.frame m ρ, fun m ρ _ => Cert.Kernel32Ideal.Gen.frame m ρ, Cert.Adam32.frameR,
  fun m ρ _ => Cert.Kernel33.Gen.frame m ρ, fun m ρ _ => Cert.Kernel33Ideal.Gen.frame m ρ, Cert.Dh.frameR,
  fun m ρ _ => Cert.Kernel34.Gen.frame m ρ, fun m ρ _ => Cert.Kernel34Ideal.Gen.frame m ρ, Cert.Small.frameR,
  fun m ρ _ => Cert.Kernel35.Gen.frame m ρ, fun m ρ _ => Cert.Kernel35Ideal.Gen.frame m ρ, Cert.Norm35.frameR,
  fun m ρ _ => Cert.Kernel36.Gen.frame m ρ, fun m ρ _ => Cert.Kernel36Ideal.Gen.frame m ρ, Cert.Norm36.frameR,
  fun m ρ _ => Cert.Kernel37.Gen.frame m ρ, fun m ρ _ => Cert.Kernel37Ideal.Gen.frame m ρ, Cert.Gain.frameR,
  fun m ρ _ => Cert.Kernel38.Gen.frame m ρ, fun m ρ _ => Cert.Kernel38Ideal.Gen.frame m ρ, Cert.MemFwd.frameR,
  trivial, Cert.Mem.algebraic,
  trivial, Cert.Swi.algebraic,
  trivial, Cert.Norms.algebraic,
  trivial, Cert.MergeBwd.algebraic,
  trivial, Cert.FfnIn.algebraic,
  trivial, Cert.FfnOut.algebraic,
  trivial, Cert.Merge.algebraic,
  trivial, Cert.Prod8.algebraic,
  trivial, Cert.Prod9.algebraic,
  trivial, Cert.Prod10.algebraic,
  trivial, Cert.Prod11.algebraic,
  trivial, Cert.Prod12.algebraic,
  trivial, Cert.Prod13.algebraic,
  trivial, Cert.Prod14.algebraic,
  trivial, Cert.Prod15.algebraic,
  trivial, Cert.Prod16.algebraic,
  trivial, Cert.Prod17.algebraic,
  trivial, Cert.Prod18.algebraic,
  trivial, Cert.Prod19.algebraic,
  trivial, Cert.Prod20.algebraic,
  trivial, Cert.Prod21.algebraic,
  trivial, Cert.Prod22.algebraic,
  trivial, Cert.Prod23.algebraic,
  trivial, Cert.Prod24.algebraic,
  trivial, Cert.Prod25.algebraic,
  trivial, Cert.Adam26.algebraic,
  trivial, Cert.Adam27.algebraic,
  trivial, Cert.Adam28.algebraic,
  trivial, Cert.Adam29.algebraic,
  trivial, Cert.Adam30.algebraic,
  trivial, Cert.Adam31.algebraic,
  trivial, Cert.Adam32.algebraic,
  trivial, Cert.Dh.algebraic,
  trivial, Cert.Small.algebraic,
  trivial, Cert.Norm35.algebraic,
  trivial, Cert.Norm36.algebraic,
  trivial, Cert.Gain.algebraic,
  trivial, Cert.MemFwd.algebraic⟩

end Cert.Proof

end
